-- ==== Defs.lean ====
def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_outproj_finite [hPre_outproj_finite : Cert.Pre_outproj_finite.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_outproj_finite.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4))) = (fun _ => 1#1)

def Pre_OutprojRefIdeal (m : (ℓ : Loc Cert.OutprojRefIdeal.nD Cert.OutprojRefIdeal.τ Cert.OutprojRefIdeal.sig) → Buf (Elt Ideal) ℓ) : Prop :=
  True

def Pre_OutprojRefIdeal_outproj_finite [hPre_outproj_finite : Cert.Pre_outproj_finite.Facts] (m : (ℓ : Loc Cert.OutprojRefIdeal.nD Cert.OutprojRefIdeal.τ Cert.OutprojRefIdeal.sig) → Buf (Elt Ideal) ℓ) : Prop :=
  ∀ c : Dev Cert.OutprojRefIdeal.nD,
    (Cert.Pre_outproj_finite.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3)) (m ((c.tc : Thread Cert.OutprojRefIdeal.nD Cert.OutprojRefIdeal.τ).loc Cert.OutprojRefIdeal.main_arg4))) = (fun _ => 1#1)

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_attnb_finite [hPre_attnb_finite : Cert.Pre_attnb_finite.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_attnb_finite.fn (F := Ideal) (m ((c.tc : Thread Cert.AttnBIdeal.nD Cert.AttnBIdeal.τ).loc Cert.AttnBIdeal.main_arg0)) (m ((c.tc : Thread Cert.AttnBIdeal.nD Cert.AttnBIdeal.τ).loc Cert.AttnBIdeal.main_arg1))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_attnb_finite [hPre_attnb_finite : Cert.Pre_attnb_finite.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_attnb_finite.fn (F := Ideal) (m ((c.tc : Thread Cert.AttnBRefIdeal.nD Cert.AttnBRefIdeal.τ).loc Cert.AttnBRefIdeal.main_arg0)) (m ((c.tc : Thread Cert.AttnBRefIdeal.nD Cert.AttnBRefIdeal.τ).loc Cert.AttnBRefIdeal.main_arg1))) = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwInA (m : (ℓ : Loc Cert.DwInA.nD Cert.DwInA.τ Cert.DwInA.sig) → Buf (Elt Bits) ℓ) : Prop :=
  True

def Pre_DwInAIdeal (m : (ℓ : Loc Cert.DwInAIdeal.nD Cert.DwInAIdeal.τ Cert.DwInAIdeal.sig) → Buf (Elt Ideal) ℓ) : Prop :=
  True

def Pre_DwInARefIdeal (m : (ℓ : Loc Cert.DwInARefIdeal.nD Cert.DwInARefIdeal.τ Cert.DwInARefIdeal.sig) → Buf (Elt Ideal) ℓ) : Prop :=
  True

def Pre_DwInB (m : (ℓ : Loc Cert.DwInB.nD Cert.DwInB.τ Cert.DwInB.sig) → Buf (Elt Bits) ℓ) : Prop :=
  True

def Pre_DwInBIdeal (m : (ℓ : Loc Cert.DwInBIdeal.nD Cert.DwInBIdeal.τ Cert.DwInBIdeal.sig) → Buf (Elt Ideal) ℓ) : Prop :=
  True

def Pre_DwInBRefIdeal (m : (ℓ : Loc Cert.DwInBRefIdeal.nD Cert.DwInBRefIdeal.τ Cert.DwInBRefIdeal.sig) → Buf (Elt Ideal) ℓ) : Prop :=
  True

def Pre_DwInC (m : (ℓ : Loc Cert.DwInC.nD Cert.DwInC.τ Cert.DwInC.sig) → Buf (Elt Bits) ℓ) : Prop :=
  True

def Pre_DwInCIdeal (m : (ℓ : Loc Cert.DwInCIdeal.nD Cert.DwInCIdeal.τ Cert.DwInCIdeal.sig) → Buf (Elt Ideal) ℓ) : Prop :=
  True

def Pre_DwInCRefIdeal (m : (ℓ : Loc Cert.DwInCRefIdeal.nD Cert.DwInCRefIdeal.τ Cert.DwInCRefIdeal.sig) → Buf (Elt Ideal) ℓ) : Prop :=
  True

def Pre_QkvA (m : (ℓ : Loc Cert.QkvA.nD Cert.QkvA.τ Cert.QkvA.sig) → Buf (Elt Bits) ℓ) : Prop :=
  True

def Pre_QkvAIdeal (m : (ℓ : Loc Cert.QkvAIdeal.nD Cert.QkvAIdeal.τ Cert.QkvAIdeal.sig) → Buf (Elt Ideal) ℓ) : Prop :=
  True

def Pre_QkvARefIdeal (m : (ℓ : Loc Cert.QkvARefIdeal.nD Cert.QkvARefIdeal.τ Cert.QkvARefIdeal.sig) → Buf (Elt Ideal) ℓ) : Prop :=
  True

def Pre_GateA (m : (ℓ : Loc Cert.GateA.nD Cert.GateA.τ Cert.GateA.sig) → Buf (Elt Bits) ℓ) : Prop :=
  True

def Pre_GateAIdeal (m : (ℓ : Loc Cert.GateAIdeal.nD Cert.GateAIdeal.τ Cert.GateAIdeal.sig) → Buf (Elt Ideal) ℓ) : Prop :=
  True

def Pre_GateARefIdeal (m : (ℓ : Loc Cert.GateARefIdeal.nD Cert.GateARefIdeal.τ Cert.GateARefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_AdamInA (m : (ℓ : Loc Cert.AdamInA.nD Cert.AdamInA.τ Cert.AdamInA.sig) → Buf (Elt Bits) ℓ) : Prop :=
  True

def Pre_AdamInAIdeal (m : (ℓ : Loc Cert.AdamInAIdeal.nD Cert.AdamInAIdeal.τ Cert.AdamInAIdeal.sig) → Buf (Elt Ideal) ℓ) : Prop :=
  True

def Pre_AdamInARefIdeal (m : (ℓ : Loc Cert.AdamInARefIdeal.nD Cert.AdamInARefIdeal.τ Cert.AdamInARefIdeal.sig) → Buf (Elt Ideal) ℓ) : Prop :=
  True

def Pre_AdamOutA (m : (ℓ : Loc Cert.AdamOutA.nD Cert.AdamOutA.τ Cert.AdamOutA.sig) → Buf (Elt Bits) ℓ) : Prop :=
  True

def Pre_AdamOutAIdeal (m : (ℓ : Loc Cert.AdamOutAIdeal.nD Cert.AdamOutAIdeal.τ Cert.AdamOutAIdeal.sig) → Buf (Elt Ideal) ℓ) : Prop :=
  True

def Pre_AdamOutARefIdeal (m : (ℓ : Loc Cert.AdamOutARefIdeal.nD Cert.AdamOutARefIdeal.τ Cert.AdamOutARefIdeal.sig) → Buf (Elt Ideal) ℓ) : Prop :=
  True

def Pre_AdamOutB (m : (ℓ : Loc Cert.AdamOutB.nD Cert.AdamOutB.τ Cert.AdamOutB.sig) → Buf (Elt Bits) ℓ) : Prop :=
  True

def Pre_AdamOutBIdeal (m : (ℓ : Loc Cert.AdamOutBIdeal.nD Cert.AdamOutBIdeal.τ Cert.AdamOutBIdeal.sig) → Buf (Elt Ideal) ℓ) : Prop :=
  True

def Pre_AdamOutBRefIdeal (m : (ℓ : Loc Cert.AdamOutBRefIdeal.nD Cert.AdamOutBRefIdeal.τ Cert.AdamOutBRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamMany (m : (ℓ : Loc Cert.AdamMany.nD Cert.AdamMany.τ Cert.AdamMany.sig) → Buf (Elt Bits) ℓ) : Prop :=
  True

def Pre_AdamManyIdeal (m : (ℓ : Loc Cert.AdamManyIdeal.nD Cert.AdamManyIdeal.τ Cert.AdamManyIdeal.sig) → Buf (Elt Ideal) ℓ) : Prop :=
  True

def Pre_AdamManyRefIdeal (m : (ℓ : Loc Cert.AdamManyRefIdeal.nD Cert.AdamManyRefIdeal.τ Cert.AdamManyRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojIdeal_pre_outproj_finite [hOutprojIdeal : Cert.OutprojIdeal.Facts] [hPre_outproj_finite : Cert.Pre_outproj_finite.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_outproj_finite m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_OutprojRefIdeal_pre_outproj_finite [hOutprojRefIdeal : Cert.OutprojRefIdeal.Facts] [hPre_outproj_finite : Cert.Pre_outproj_finite.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal_outproj_finite m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0)
      ∧ r.2.mem ((c.tc : Thread Cert.AttnB.nD Cert.AttnB.τ).loc Cert.AttnB.main_arg1) = m ((c.tc : Thread Cert.AttnB.nD Cert.AttnB.τ).loc Cert.AttnB.main_arg1))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ r.2.sem = fun _ => 0)

def quiescent_AttnBIdeal_pre_attnb_finite [hAttnBIdeal : Cert.AttnBIdeal.Facts] [hPre_attnb_finite : Cert.Pre_attnb_finite.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_attnb_finite m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
      ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1))
      ∧ r.2.sem = fun _ => 0)

def quiescent_AttnBRefIdeal_pre_attnb_finite [hAttnBRefIdeal : Cert.AttnBRefIdeal.Facts] [hPre_attnb_finite : Cert.Pre_attnb_finite.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_attnb_finite m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0)
      ∧ r.2.mem ((c.tc : Thread Cert.AttnBRefIdeal.nD Cert.AttnBRefIdeal.τ).loc Cert.AttnBRefIdeal.main_arg1) = m ((c.tc : Thread Cert.AttnBRefIdeal.nD Cert.AttnBRefIdeal.τ).loc Cert.AttnBRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwInA [hDwInA : Cert.DwInA.Facts] : Prop :=
  ∀ (m : (ℓ : Loc Cert.DwInA.nD Cert.DwInA.τ Cert.DwInA.sig) → Buf (Elt Bits) ℓ) (g : Dev Cert.DwInA.nD → PrngReg), Pre_DwInA m →
    θ_run (Cert.DwInA.defs (F := Bits)) (onTc (τ := Cert.DwInA.τ) (Cert.DwInA.main (F := Bits))) ⟨m, fun _ => 0, g⟩ (fun r => (∀ c : Dev Cert.DwInA.nD,
      r.2.mem ((c.tc : Thread Cert.DwInA.nD Cert.DwInA.τ).loc Cert.DwInA.main_arg0) = m ((c.tc : Thread Cert.DwInA.nD Cert.DwInA.τ).loc Cert.DwInA.main_arg0)
      ∧ r.2.mem ((c.tc : Thread Cert.DwInA.nD Cert.DwInA.τ).loc Cert.DwInA.main_arg1) = m ((c.tc : Thread Cert.DwInA.nD Cert.DwInA.τ).loc Cert.DwInA.main_arg1)
      ∧ r.2.mem ((c.tc : Thread Cert.DwInA.nD Cert.DwInA.τ).loc Cert.DwInA.main_arg2) = m ((c.tc : Thread Cert.DwInA.nD Cert.DwInA.τ).loc Cert.DwInA.main_arg2))
      ∧ r.2.sem = fun _ => 0)

def quiescent_DwInAIdeal [hDwInAIdeal : Cert.DwInAIdeal.Facts] : Prop :=
  ∀ (m : (ℓ : Loc Cert.DwInAIdeal.nD Cert.DwInAIdeal.τ Cert.DwInAIdeal.sig) → Buf (Elt Ideal) ℓ) (g : Dev Cert.DwInAIdeal.nD → PrngReg), Pre_DwInAIdeal m →
    θ_run (Cert.DwInAIdeal.defs (F := Ideal)) (onTc (τ := Cert.DwInAIdeal.τ) (Cert.DwInAIdeal.main (F := Ideal))) ⟨m, fun _ => 0, g⟩ (fun r => (∀ c : Dev Cert.DwInAIdeal.nD,
      r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
      ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
      ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ r.2.sem = fun _ => 0)

def quiescent_DwInARefIdeal [hDwInARefIdeal : Cert.DwInARefIdeal.Facts] : Prop :=
  ∀ (m : (ℓ : Loc Cert.DwInARefIdeal.nD Cert.DwInARefIdeal.τ Cert.DwInARefIdeal.sig) → Buf (Elt Ideal) ℓ) (g : Dev Cert.DwInARefIdeal.nD → PrngReg), Pre_DwInARefIdeal m →
    θ_run (Cert.DwInARefIdeal.defs (F := Ideal)) (onTc (τ := Cert.DwInARefIdeal.τ) (Cert.DwInARefIdeal.main (F := Ideal))) ⟨m, fun _ => 0, g⟩ (fun r => (∀ c : Dev Cert.DwInARefIdeal.nD,
      r.2.mem ((c.tc : Thread Cert.DwInARefIdeal.nD Cert.DwInARefIdeal.τ).loc Cert.DwInARefIdeal.main_arg0) = m ((c.tc : Thread Cert.DwInARefIdeal.nD Cert.DwInARefIdeal.τ).loc Cert.DwInARefIdeal.main_arg0)
      ∧ r.2.mem ((c.tc : Thread Cert.DwInARefIdeal.nD Cert.DwInARefIdeal.τ).loc Cert.DwInARefIdeal.main_arg1) = m ((c.tc : Thread Cert.DwInARefIdeal.nD Cert.DwInARefIdeal.τ).loc Cert.DwInARefIdeal.main_arg1)
      ∧ r.2.mem ((c.tc : Thread Cert.DwInARefIdeal.nD Cert.DwInARefIdeal.τ).loc Cert.DwInARefIdeal.main_arg2) = m ((c.tc : Thread Cert.DwInARefIdeal.nD Cert.DwInARefIdeal.τ).loc Cert.DwInARefIdeal.main_arg2))
      ∧ r.2.sem = fun _ => 0)

def quiescent_DwInB [hDwInB : Cert.DwInB.Facts] : Prop :=
  ∀ (m : (ℓ : Loc Cert.DwInB.nD Cert.DwInB.τ Cert.DwInB.sig) → Buf (Elt Bits) ℓ) (g : Dev Cert.DwInB.nD → PrngReg), Pre_DwInB m →
    θ_run (Cert.DwInB.defs (F := Bits)) (onTc (τ := Cert.DwInB.τ) (Cert.DwInB.main (F := Bits))) ⟨m, fun _ => 0, g⟩ (fun r => (∀ c : Dev Cert.DwInB.nD,
      r.2.mem ((c.tc : Thread Cert.DwInB.nD Cert.DwInB.τ).loc Cert.DwInB.main_arg0) = m ((c.tc : Thread Cert.DwInB.nD Cert.DwInB.τ).loc Cert.DwInB.main_arg0)
      ∧ r.2.mem ((c.tc : Thread Cert.DwInB.nD Cert.DwInB.τ).loc Cert.DwInB.main_arg1) = m ((c.tc : Thread Cert.DwInB.nD Cert.DwInB.τ).loc Cert.DwInB.main_arg1)
      ∧ r.2.mem ((c.tc : Thread Cert.DwInB.nD Cert.DwInB.τ).loc Cert.DwInB.main_arg2) = m ((c.tc : Thread Cert.DwInB.nD Cert.DwInB.τ).loc Cert.DwInB.main_arg2))
      ∧ r.2.sem = fun _ => 0)

def quiescent_DwInBIdeal [hDwInBIdeal : Cert.DwInBIdeal.Facts] : Prop :=
  ∀ (m : (ℓ : Loc Cert.DwInBIdeal.nD Cert.DwInBIdeal.τ Cert.DwInBIdeal.sig) → Buf (Elt Ideal) ℓ) (g : Dev Cert.DwInBIdeal.nD → PrngReg), Pre_DwInBIdeal m →
    θ_run (Cert.DwInBIdeal.defs (F := Ideal)) (onTc (τ := Cert.DwInBIdeal.τ) (Cert.DwInBIdeal.main (F := Ideal))) ⟨m, fun _ => 0, g⟩ (fun r => (∀ c : Dev Cert.DwInBIdeal.nD,
      r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
      ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
      ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2))
      ∧ r.2.sem = fun _ => 0)

def quiescent_DwInBRefIdeal [hDwInBRefIdeal : Cert.DwInBRefIdeal.Facts] : Prop :=
  ∀ (m : (ℓ : Loc Cert.DwInBRefIdeal.nD Cert.DwInBRefIdeal.τ Cert.DwInBRefIdeal.sig) → Buf (Elt Ideal) ℓ) (g : Dev Cert.DwInBRefIdeal.nD → PrngReg), Pre_DwInBRefIdeal m →
    θ_run (Cert.DwInBRefIdeal.defs (F := Ideal)) (onTc (τ := Cert.DwInBRefIdeal.τ) (Cert.DwInBRefIdeal.main (F := Ideal))) ⟨m, fun _ => 0, g⟩ (fun r => (∀ c : Dev Cert.DwInBRefIdeal.nD,
      r.2.mem ((c.tc : Thread Cert.DwInBRefIdeal.nD Cert.DwInBRefIdeal.τ).loc Cert.DwInBRefIdeal.main_arg0) = m ((c.tc : Thread Cert.DwInBRefIdeal.nD Cert.DwInBRefIdeal.τ).loc Cert.DwInBRefIdeal.main_arg0)
      ∧ r.2.mem ((c.tc : Thread Cert.DwInBRefIdeal.nD Cert.DwInBRefIdeal.τ).loc Cert.DwInBRefIdeal.main_arg1) = m ((c.tc : Thread Cert.DwInBRefIdeal.nD Cert.DwInBRefIdeal.τ).loc Cert.DwInBRefIdeal.main_arg1)
      ∧ r.2.mem ((c.tc : Thread Cert.DwInBRefIdeal.nD Cert.DwInBRefIdeal.τ).loc Cert.DwInBRefIdeal.main_arg2) = m ((c.tc : Thread Cert.DwInBRefIdeal.nD Cert.DwInBRefIdeal.τ).loc Cert.DwInBRefIdeal.main_arg2))
      ∧ r.2.sem = fun _ => 0)

def quiescent_DwInC [hDwInC : Cert.DwInC.Facts] : Prop :=
  ∀ (m : (ℓ : Loc Cert.DwInC.nD Cert.DwInC.τ Cert.DwInC.sig) → Buf (Elt Bits) ℓ) (g : Dev Cert.DwInC.nD → PrngReg), Pre_DwInC m →
    θ_run (Cert.DwInC.defs (F := Bits)) (onTc (τ := Cert.DwInC.τ) (Cert.DwInC.main (F := Bits))) ⟨m, fun _ => 0, g⟩ (fun r => (∀ c : Dev Cert.DwInC.nD,
      r.2.mem ((c.tc : Thread Cert.DwInC.nD Cert.DwInC.τ).loc Cert.DwInC.main_arg0) = m ((c.tc : Thread Cert.DwInC.nD Cert.DwInC.τ).loc Cert.DwInC.main_arg0)
      ∧ r.2.mem ((c.tc : Thread Cert.DwInC.nD Cert.DwInC.τ).loc Cert.DwInC.main_arg1) = m ((c.tc : Thread Cert.DwInC.nD Cert.DwInC.τ).loc Cert.DwInC.main_arg1)
      ∧ r.2.mem ((c.tc : Thread Cert.DwInC.nD Cert.DwInC.τ).loc Cert.DwInC.main_arg2) = m ((c.tc : Thread Cert.DwInC.nD Cert.DwInC.τ).loc Cert.DwInC.main_arg2))
      ∧ r.2.sem = fun _ => 0)

def quiescent_DwInCIdeal [hDwInCIdeal : Cert.DwInCIdeal.Facts] : Prop :=
  ∀ (m : (ℓ : Loc Cert.DwInCIdeal.nD Cert.DwInCIdeal.τ Cert.DwInCIdeal.sig) → Buf (Elt Ideal) ℓ) (g : Dev Cert.DwInCIdeal.nD → PrngReg), Pre_DwInCIdeal m →
    θ_run (Cert.DwInCIdeal.defs (F := Ideal)) (onTc (τ := Cert.DwInCIdeal.τ) (Cert.DwInCIdeal.main (F := Ideal))) ⟨m, fun _ => 0, g⟩ (fun r => (∀ c : Dev Cert.DwInCIdeal.nD,
      r.2.mem ((c.tc : Thread Cert.DwInCIdeal.nD Cert.DwInCIdeal.τ).loc Cert.DwInCIdeal.main_arg0) = m ((c.tc : Thread Cert.DwInCIdeal.nD Cert.DwInCIdeal.τ).loc Cert.DwInCIdeal.main_arg0)
      ∧ r.2.mem ((c.tc : Thread Cert.DwInCIdeal.nD Cert.DwInCIdeal.τ).loc Cert.DwInCIdeal.main_arg1) = m ((c.tc : Thread Cert.DwInCIdeal.nD Cert.DwInCIdeal.τ).loc Cert.DwInCIdeal.main_arg1)
      ∧ r.2.mem ((c.tc : Thread Cert.DwInCIdeal.nD Cert.DwInCIdeal.τ).loc Cert.DwInCIdeal.main_arg2) = m ((c.tc : Thread Cert.DwInCIdeal.nD Cert.DwInCIdeal.τ).loc Cert.DwInCIdeal.main_arg2))
      ∧ r.2.sem = fun _ => 0)

def quiescent_DwInCRefIdeal [hDwInCRefIdeal : Cert.DwInCRefIdeal.Facts] : Prop :=
  ∀ (m : (ℓ : Loc Cert.DwInCRefIdeal.nD Cert.DwInCRefIdeal.τ Cert.DwInCRefIdeal.sig) → Buf (Elt Ideal) ℓ) (g : Dev Cert.DwInCRefIdeal.nD → PrngReg), Pre_DwInCRefIdeal m →
    θ_run (Cert.DwInCRefIdeal.defs (F := Ideal)) (onTc (τ := Cert.DwInCRefIdeal.τ) (Cert.DwInCRefIdeal.main (F := Ideal))) ⟨m, fun _ => 0, g⟩ (fun r => (∀ c : Dev Cert.DwInCRefIdeal.nD,
      r.2.mem ((c.tc : Thread Cert.DwInCRefIdeal.nD Cert.DwInCRefIdeal.τ).loc Cert.DwInCRefIdeal.main_arg0) = m ((c.tc : Thread Cert.DwInCRefIdeal.nD Cert.DwInCRefIdeal.τ).loc Cert.DwInCRefIdeal.main_arg0)
      ∧ r.2.mem ((c.tc : Thread Cert.DwInCRefIdeal.nD Cert.DwInCRefIdeal.τ).loc Cert.DwInCRefIdeal.main_arg1) = m ((c.tc : Thread Cert.DwInCRefIdeal.nD Cert.DwInCRefIdeal.τ).loc Cert.DwInCRefIdeal.main_arg1)
      ∧ r.2.mem ((c.tc : Thread Cert.DwInCRefIdeal.nD Cert.DwInCRefIdeal.τ).loc Cert.DwInCRefIdeal.main_arg2) = m ((c.tc : Thread Cert.DwInCRefIdeal.nD Cert.DwInCRefIdeal.τ).loc Cert.DwInCRefIdeal.main_arg2))
      ∧ r.2.sem = fun _ => 0)

def quiescent_QkvA [hQkvA : Cert.QkvA.Facts] : Prop :=
  ∀ (m : (ℓ : Loc Cert.QkvA.nD Cert.QkvA.τ Cert.QkvA.sig) → Buf (Elt Bits) ℓ) (g : Dev Cert.QkvA.nD → PrngReg), Pre_QkvA m →
    θ_run (Cert.QkvA.defs (F := Bits)) (onTc (τ := Cert.QkvA.τ) (Cert.QkvA.main (F := Bits))) ⟨m, fun _ => 0, g⟩ (fun r => (∀ c : Dev Cert.QkvA.nD,
      r.2.mem ((c.tc : Thread Cert.QkvA.nD Cert.QkvA.τ).loc Cert.QkvA.main_arg0) = m ((c.tc : Thread Cert.QkvA.nD Cert.QkvA.τ).loc Cert.QkvA.main_arg0)
      ∧ r.2.mem ((c.tc : Thread Cert.QkvA.nD Cert.QkvA.τ).loc Cert.QkvA.main_arg1) = m ((c.tc : Thread Cert.QkvA.nD Cert.QkvA.τ).loc Cert.QkvA.main_arg1))
      ∧ r.2.sem = fun _ => 0)

def quiescent_QkvAIdeal [hQkvAIdeal : Cert.QkvAIdeal.Facts] : Prop :=
  ∀ (m : (ℓ : Loc Cert.QkvAIdeal.nD Cert.QkvAIdeal.τ Cert.QkvAIdeal.sig) → Buf (Elt Ideal) ℓ) (g : Dev Cert.QkvAIdeal.nD → PrngReg), Pre_QkvAIdeal m →
    θ_run (Cert.QkvAIdeal.defs (F := Ideal)) (onTc (τ := Cert.QkvAIdeal.τ) (Cert.QkvAIdeal.main (F := Ideal))) ⟨m, fun _ => 0, g⟩ (fun r => (∀ c : Dev Cert.QkvAIdeal.nD,
      r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
      ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ r.2.sem = fun _ => 0)

def quiescent_QkvARefIdeal [hQkvARefIdeal : Cert.QkvARefIdeal.Facts] : Prop :=
  ∀ (m : (ℓ : Loc Cert.QkvARefIdeal.nD Cert.QkvARefIdeal.τ Cert.QkvARefIdeal.sig) → Buf (Elt Ideal) ℓ) (g : Dev Cert.QkvARefIdeal.nD → PrngReg), Pre_QkvARefIdeal m →
    θ_run (Cert.QkvARefIdeal.defs (F := Ideal)) (onTc (τ := Cert.QkvARefIdeal.τ) (Cert.QkvARefIdeal.main (F := Ideal))) ⟨m, fun _ => 0, g⟩ (fun r => (∀ c : Dev Cert.QkvARefIdeal.nD,
      r.2.mem ((c.tc : Thread Cert.QkvARefIdeal.nD Cert.QkvARefIdeal.τ).loc Cert.QkvARefIdeal.main_arg0) = m ((c.tc : Thread Cert.QkvARefIdeal.nD Cert.QkvARefIdeal.τ).loc Cert.QkvARefIdeal.main_arg0)
      ∧ r.2.mem ((c.tc : Thread Cert.QkvARefIdeal.nD Cert.QkvARefIdeal.τ).loc Cert.QkvARefIdeal.main_arg1) = m ((c.tc : Thread Cert.QkvARefIdeal.nD Cert.QkvARefIdeal.τ).loc Cert.QkvARefIdeal.main_arg1))
      ∧ r.2.sem = fun _ => 0)

def quiescent_GateA [hGateA : Cert.GateA.Facts] : Prop :=
  ∀ (m : (ℓ : Loc Cert.GateA.nD Cert.GateA.τ Cert.GateA.sig) → Buf (Elt Bits) ℓ) (g : Dev Cert.GateA.nD → PrngReg), Pre_GateA m →
    θ_run (Cert.GateA.defs (F := Bits)) (onTc (τ := Cert.GateA.τ) (Cert.GateA.main (F := Bits))) ⟨m, fun _ => 0, g⟩ (fun r => (∀ c : Dev Cert.GateA.nD,
      r.2.mem ((c.tc : Thread Cert.GateA.nD Cert.GateA.τ).loc Cert.GateA.main_arg0) = m ((c.tc : Thread Cert.GateA.nD Cert.GateA.τ).loc Cert.GateA.main_arg0)
      ∧ r.2.mem ((c.tc : Thread Cert.GateA.nD Cert.GateA.τ).loc Cert.GateA.main_arg1) = m ((c.tc : Thread Cert.GateA.nD Cert.GateA.τ).loc Cert.GateA.main_arg1))
      ∧ r.2.sem = fun _ => 0)

def quiescent_GateAIdeal [hGateAIdeal : Cert.GateAIdeal.Facts] : Prop :=
  ∀ (m : (ℓ : Loc Cert.GateAIdeal.nD Cert.GateAIdeal.τ Cert.GateAIdeal.sig) → Buf (Elt Ideal) ℓ) (g : Dev Cert.GateAIdeal.nD → PrngReg), Pre_GateAIdeal m →
    θ_run (Cert.GateAIdeal.defs (F := Ideal)) (onTc (τ := Cert.GateAIdeal.τ) (Cert.GateAIdeal.main (F := Ideal))) ⟨m, fun _ => 0, g⟩ (fun r => (∀ c : Dev Cert.GateAIdeal.nD,
      r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
      ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1))
      ∧ r.2.sem = fun _ => 0)

def quiescent_GateARefIdeal [hGateARefIdeal : Cert.GateARefIdeal.Facts] : Prop :=
  ∀ (m : (ℓ : Loc Cert.GateARefIdeal.nD Cert.GateARefIdeal.τ Cert.GateARefIdeal.sig) → Buf (Elt Ideal) ℓ) (g : Dev Cert.GateARefIdeal.nD → PrngReg), Pre_GateARefIdeal m →
    θ_run (Cert.GateARefIdeal.defs (F := Ideal)) (onTc (τ := Cert.GateARefIdeal.τ) (Cert.GateARefIdeal.main (F := Ideal))) ⟨m, fun _ => 0, g⟩ (fun r => (∀ c : Dev Cert.GateARefIdeal.nD,
      r.2.mem ((c.tc : Thread Cert.GateARefIdeal.nD Cert.GateARefIdeal.τ).loc Cert.GateARefIdeal.main_arg0) = m ((c.tc : Thread Cert.GateARefIdeal.nD Cert.GateARefIdeal.τ).loc Cert.GateARefIdeal.main_arg0)
      ∧ r.2.mem ((c.tc : Thread Cert.GateARefIdeal.nD Cert.GateARefIdeal.τ).loc Cert.GateARefIdeal.main_arg1) = m ((c.tc : Thread Cert.GateARefIdeal.nD Cert.GateARefIdeal.τ).loc Cert.GateARefIdeal.main_arg1))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3)
      ∧ r.2.mem ((c.tc : Thread Cert.Gated.nD Cert.Gated.τ).loc Cert.Gated.main_arg4) = m ((c.tc : Thread Cert.Gated.nD Cert.Gated.τ).loc Cert.Gated.main_arg4))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
      ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3)
      ∧ r.2.mem ((c.tc : Thread Cert.GatedRefIdeal.nD Cert.GatedRefIdeal.τ).loc Cert.GatedRefIdeal.main_arg4) = m ((c.tc : Thread Cert.GatedRefIdeal.nD Cert.GatedRefIdeal.τ).loc Cert.GatedRefIdeal.main_arg4))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_AdamInA [hAdamInA : Cert.AdamInA.Facts] : Prop :=
  ∀ (m : (ℓ : Loc Cert.AdamInA.nD Cert.AdamInA.τ Cert.AdamInA.sig) → Buf (Elt Bits) ℓ) (g : Dev Cert.AdamInA.nD → PrngReg), Pre_AdamInA m →
    θ_run (Cert.AdamInA.defs (F := Bits)) (onTc (τ := Cert.AdamInA.τ) (Cert.AdamInA.main (F := Bits))) ⟨m, fun _ => 0, g⟩ (fun r => (∀ c : Dev Cert.AdamInA.nD,
      r.2.mem ((c.tc : Thread Cert.AdamInA.nD Cert.AdamInA.τ).loc Cert.AdamInA.main_arg0) = m ((c.tc : Thread Cert.AdamInA.nD Cert.AdamInA.τ).loc Cert.AdamInA.main_arg0)
      ∧ r.2.mem ((c.tc : Thread Cert.AdamInA.nD Cert.AdamInA.τ).loc Cert.AdamInA.main_arg1) = m ((c.tc : Thread Cert.AdamInA.nD Cert.AdamInA.τ).loc Cert.AdamInA.main_arg1)
      ∧ r.2.mem ((c.tc : Thread Cert.AdamInA.nD Cert.AdamInA.τ).loc Cert.AdamInA.main_arg2) = m ((c.tc : Thread Cert.AdamInA.nD Cert.AdamInA.τ).loc Cert.AdamInA.main_arg2)
      ∧ r.2.mem ((c.tc : Thread Cert.AdamInA.nD Cert.AdamInA.τ).loc Cert.AdamInA.main_arg3) = m ((c.tc : Thread Cert.AdamInA.nD Cert.AdamInA.τ).loc Cert.AdamInA.main_arg3))
      ∧ r.2.sem = fun _ => 0)

def quiescent_AdamInAIdeal [hAdamInAIdeal : Cert.AdamInAIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg), Pre_AdamInAIdeal m →
    θ_run (Cert.AdamInAIdeal.defs (F := Ideal)) (onTc (τ := Cert.AdamInAIdeal.τ) (Cert.AdamInAIdeal.main (F := Ideal))) ⟨m, fun _ => 0, g⟩ (fun r => (∀ c : Dev Cert.AdamInAIdeal.nD,
      r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
      ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
      ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
      ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ r.2.sem = fun _ => 0)

def quiescent_AdamInARefIdeal [hAdamInARefIdeal : Cert.AdamInARefIdeal.Facts] : Prop :=
  ∀ (m : (ℓ : Loc Cert.AdamInARefIdeal.nD Cert.AdamInARefIdeal.τ Cert.AdamInARefIdeal.sig) → Buf (Elt Ideal) ℓ) (g : Dev Cert.AdamInARefIdeal.nD → PrngReg), Pre_AdamInARefIdeal m →
    θ_run (Cert.AdamInARefIdeal.defs (F := Ideal)) (onTc (τ := Cert.AdamInARefIdeal.τ) (Cert.AdamInARefIdeal.main (F := Ideal))) ⟨m, fun _ => 0, g⟩ (fun r => (∀ c : Dev Cert.AdamInARefIdeal.nD,
      r.2.mem ((c.tc : Thread Cert.AdamInARefIdeal.nD Cert.AdamInARefIdeal.τ).loc Cert.AdamInARefIdeal.main_arg0) = m ((c.tc : Thread Cert.AdamInARefIdeal.nD Cert.AdamInARefIdeal.τ).loc Cert.AdamInARefIdeal.main_arg0)
      ∧ r.2.mem ((c.tc : Thread Cert.AdamInARefIdeal.nD Cert.AdamInARefIdeal.τ).loc Cert.AdamInARefIdeal.main_arg1) = m ((c.tc : Thread Cert.AdamInARefIdeal.nD Cert.AdamInARefIdeal.τ).loc Cert.AdamInARefIdeal.main_arg1)
      ∧ r.2.mem ((c.tc : Thread Cert.AdamInARefIdeal.nD Cert.AdamInARefIdeal.τ).loc Cert.AdamInARefIdeal.main_arg2) = m ((c.tc : Thread Cert.AdamInARefIdeal.nD Cert.AdamInARefIdeal.τ).loc Cert.AdamInARefIdeal.main_arg2)
      ∧ r.2.mem ((c.tc : Thread Cert.AdamInARefIdeal.nD Cert.AdamInARefIdeal.τ).loc Cert.AdamInARefIdeal.main_arg3) = m ((c.tc : Thread Cert.AdamInARefIdeal.nD Cert.AdamInARefIdeal.τ).loc Cert.AdamInARefIdeal.main_arg3))
      ∧ r.2.sem = fun _ => 0)

def quiescent_AdamOutA [hAdamOutA : Cert.AdamOutA.Facts] : Prop :=
  ∀ (m : (ℓ : Loc Cert.AdamOutA.nD Cert.AdamOutA.τ Cert.AdamOutA.sig) → Buf (Elt Bits) ℓ) (g : Dev Cert.AdamOutA.nD → PrngReg), Pre_AdamOutA m →
    θ_run (Cert.AdamOutA.defs (F := Bits)) (onTc (τ := Cert.AdamOutA.τ) (Cert.AdamOutA.main (F := Bits))) ⟨m, fun _ => 0, g⟩ (fun r => (∀ c : Dev Cert.AdamOutA.nD,
      r.2.mem ((c.tc : Thread Cert.AdamOutA.nD Cert.AdamOutA.τ).loc Cert.AdamOutA.main_arg0) = m ((c.tc : Thread Cert.AdamOutA.nD Cert.AdamOutA.τ).loc Cert.AdamOutA.main_arg0)
      ∧ r.2.mem ((c.tc : Thread Cert.AdamOutA.nD Cert.AdamOutA.τ).loc Cert.AdamOutA.main_arg1) = m ((c.tc : Thread Cert.AdamOutA.nD Cert.AdamOutA.τ).loc Cert.AdamOutA.main_arg1)
      ∧ r.2.mem ((c.tc : Thread Cert.AdamOutA.nD Cert.AdamOutA.τ).loc Cert.AdamOutA.main_arg2) = m ((c.tc : Thread Cert.AdamOutA.nD Cert.AdamOutA.τ).loc Cert.AdamOutA.main_arg2)
      ∧ r.2.mem ((c.tc : Thread Cert.AdamOutA.nD Cert.AdamOutA.τ).loc Cert.AdamOutA.main_arg3) = m ((c.tc : Thread Cert.AdamOutA.nD Cert.AdamOutA.τ).loc Cert.AdamOutA.main_arg3))
      ∧ r.2.sem = fun _ => 0)

def quiescent_AdamOutAIdeal [hAdamOutAIdeal : Cert.AdamOutAIdeal.Facts] : Prop :=
  ∀ (m : (ℓ : Loc Cert.AdamOutAIdeal.nD Cert.AdamOutAIdeal.τ Cert.AdamOutAIdeal.sig) → Buf (Elt Ideal) ℓ) (g : Dev Cert.AdamOutAIdeal.nD → PrngReg), Pre_AdamOutAIdeal m →
    θ_run (Cert.AdamOutAIdeal.defs (F := Ideal)) (onTc (τ := Cert.AdamOutAIdeal.τ) (Cert.AdamOutAIdeal.main (F := Ideal))) ⟨m, fun _ => 0, g⟩ (fun r => (∀ c : Dev Cert.AdamOutAIdeal.nD,
      r.2.mem ((c.tc : Thread Cert.AdamOutAIdeal.nD Cert.AdamOutAIdeal.τ).loc Cert.AdamOutAIdeal.main_arg0) = m ((c.tc : Thread Cert.AdamOutAIdeal.nD Cert.AdamOutAIdeal.τ).loc Cert.AdamOutAIdeal.main_arg0)
      ∧ r.2.mem ((c.tc : Thread Cert.AdamOutAIdeal.nD Cert.AdamOutAIdeal.τ).loc Cert.AdamOutAIdeal.main_arg1) = m ((c.tc : Thread Cert.AdamOutAIdeal.nD Cert.AdamOutAIdeal.τ).loc Cert.AdamOutAIdeal.main_arg1)
      ∧ r.2.mem ((c.tc : Thread Cert.AdamOutAIdeal.nD Cert.AdamOutAIdeal.τ).loc Cert.AdamOutAIdeal.main_arg2) = m ((c.tc : Thread Cert.AdamOutAIdeal.nD Cert.AdamOutAIdeal.τ).loc Cert.AdamOutAIdeal.main_arg2)
      ∧ r.2.mem ((c.tc : Thread Cert.AdamOutAIdeal.nD Cert.AdamOutAIdeal.τ).loc Cert.AdamOutAIdeal.main_arg3) = m ((c.tc : Thread Cert.AdamOutAIdeal.nD Cert.AdamOutAIdeal.τ).loc Cert.AdamOutAIdeal.main_arg3))
      ∧ r.2.sem = fun _ => 0)

def quiescent_AdamOutARefIdeal [hAdamOutARefIdeal : Cert.AdamOutARefIdeal.Facts] : Prop :=
  ∀ (m : (ℓ : Loc Cert.AdamOutARefIdeal.nD Cert.AdamOutARefIdeal.τ Cert.AdamOutARefIdeal.sig) → Buf (Elt Ideal) ℓ) (g : Dev Cert.AdamOutARefIdeal.nD → PrngReg), Pre_AdamOutARefIdeal m →
    θ_run (Cert.AdamOutARefIdeal.defs (F := Ideal)) (onTc (τ := Cert.AdamOutARefIdeal.τ) (Cert.AdamOutARefIdeal.main (F := Ideal))) ⟨m, fun _ => 0, g⟩ (fun r => (∀ c : Dev Cert.AdamOutARefIdeal.nD,
      r.2.mem ((c.tc : Thread Cert.AdamOutARefIdeal.nD Cert.AdamOutARefIdeal.τ).loc Cert.AdamOutARefIdeal.main_arg0) = m ((c.tc : Thread Cert.AdamOutARefIdeal.nD Cert.AdamOutARefIdeal.τ).loc Cert.AdamOutARefIdeal.main_arg0)
      ∧ r.2.mem ((c.tc : Thread Cert.AdamOutARefIdeal.nD Cert.AdamOutARefIdeal.τ).loc Cert.AdamOutARefIdeal.main_arg1) = m ((c.tc : Thread Cert.AdamOutARefIdeal.nD Cert.AdamOutARefIdeal.τ).loc Cert.AdamOutARefIdeal.main_arg1)
      ∧ r.2.mem ((c.tc : Thread Cert.AdamOutARefIdeal.nD Cert.AdamOutARefIdeal.τ).loc Cert.AdamOutARefIdeal.main_arg2) = m ((c.tc : Thread Cert.AdamOutARefIdeal.nD Cert.AdamOutARefIdeal.τ).loc Cert.AdamOutARefIdeal.main_arg2)
      ∧ r.2.mem ((c.tc : Thread Cert.AdamOutARefIdeal.nD Cert.AdamOutARefIdeal.τ).loc Cert.AdamOutARefIdeal.main_arg3) = m ((c.tc : Thread Cert.AdamOutARefIdeal.nD Cert.AdamOutARefIdeal.τ).loc Cert.AdamOutARefIdeal.main_arg3))
      ∧ r.2.sem = fun _ => 0)

def quiescent_AdamOutB [hAdamOutB : Cert.AdamOutB.Facts] : Prop :=
  ∀ (m : (ℓ : Loc Cert.AdamOutB.nD Cert.AdamOutB.τ Cert.AdamOutB.sig) → Buf (Elt Bits) ℓ) (g : Dev Cert.AdamOutB.nD → PrngReg), Pre_AdamOutB m →
    θ_run (Cert.AdamOutB.defs (F := Bits)) (onTc (τ := Cert.AdamOutB.τ) (Cert.AdamOutB.main (F := Bits))) ⟨m, fun _ => 0, g⟩ (fun r => (∀ c : Dev Cert.AdamOutB.nD,
      r.2.mem ((c.tc : Thread Cert.AdamOutB.nD Cert.AdamOutB.τ).loc Cert.AdamOutB.main_arg0) = m ((c.tc : Thread Cert.AdamOutB.nD Cert.AdamOutB.τ).loc Cert.AdamOutB.main_arg0)
      ∧ r.2.mem ((c.tc : Thread Cert.AdamOutB.nD Cert.AdamOutB.τ).loc Cert.AdamOutB.main_arg1) = m ((c.tc : Thread Cert.AdamOutB.nD Cert.AdamOutB.τ).loc Cert.AdamOutB.main_arg1)
      ∧ r.2.mem ((c.tc : Thread Cert.AdamOutB.nD Cert.AdamOutB.τ).loc Cert.AdamOutB.main_arg2) = m ((c.tc : Thread Cert.AdamOutB.nD Cert.AdamOutB.τ).loc Cert.AdamOutB.main_arg2)
      ∧ r.2.mem ((c.tc : Thread Cert.AdamOutB.nD Cert.AdamOutB.τ).loc Cert.AdamOutB.main_arg3) = m ((c.tc : Thread Cert.AdamOutB.nD Cert.AdamOutB.τ).loc Cert.AdamOutB.main_arg3))
      ∧ r.2.sem = fun _ => 0)

def quiescent_AdamOutBIdeal [hAdamOutBIdeal : Cert.AdamOutBIdeal.Facts] : Prop :=
  ∀ (m : (ℓ : Loc Cert.AdamOutBIdeal.nD Cert.AdamOutBIdeal.τ Cert.AdamOutBIdeal.sig) → Buf (Elt Ideal) ℓ) (g : Dev Cert.AdamOutBIdeal.nD → PrngReg), Pre_AdamOutBIdeal m →
    θ_run (Cert.AdamOutBIdeal.defs (F := Ideal)) (onTc (τ := Cert.AdamOutBIdeal.τ) (Cert.AdamOutBIdeal.main (F := Ideal))) ⟨m, fun _ => 0, g⟩ (fun r => (∀ c : Dev Cert.AdamOutBIdeal.nD,
      r.2.mem ((c.tc : Thread Cert.AdamOutBIdeal.nD Cert.AdamOutBIdeal.τ).loc Cert.AdamOutBIdeal.main_arg0) = m ((c.tc : Thread Cert.AdamOutBIdeal.nD Cert.AdamOutBIdeal.τ).loc Cert.AdamOutBIdeal.main_arg0)
      ∧ r.2.mem ((c.tc : Thread Cert.AdamOutBIdeal.nD Cert.AdamOutBIdeal.τ).loc Cert.AdamOutBIdeal.main_arg1) = m ((c.tc : Thread Cert.AdamOutBIdeal.nD Cert.AdamOutBIdeal.τ).loc Cert.AdamOutBIdeal.main_arg1)
      ∧ r.2.mem ((c.tc : Thread Cert.AdamOutBIdeal.nD Cert.AdamOutBIdeal.τ).loc Cert.AdamOutBIdeal.main_arg2) = m ((c.tc : Thread Cert.AdamOutBIdeal.nD Cert.AdamOutBIdeal.τ).loc Cert.AdamOutBIdeal.main_arg2)
      ∧ r.2.mem ((c.tc : Thread Cert.AdamOutBIdeal.nD Cert.AdamOutBIdeal.τ).loc Cert.AdamOutBIdeal.main_arg3) = m ((c.tc : Thread Cert.AdamOutBIdeal.nD Cert.AdamOutBIdeal.τ).loc Cert.AdamOutBIdeal.main_arg3))
      ∧ r.2.sem = fun _ => 0)

def quiescent_AdamOutBRefIdeal [hAdamOutBRefIdeal : Cert.AdamOutBRefIdeal.Facts] : Prop :=
  ∀ (m : (ℓ : Loc Cert.AdamOutBRefIdeal.nD Cert.AdamOutBRefIdeal.τ Cert.AdamOutBRefIdeal.sig) → Buf (Elt Ideal) ℓ) (g : Dev Cert.AdamOutBRefIdeal.nD → PrngReg), Pre_AdamOutBRefIdeal m →
    θ_run (Cert.AdamOutBRefIdeal.defs (F := Ideal)) (onTc (τ := Cert.AdamOutBRefIdeal.τ) (Cert.AdamOutBRefIdeal.main (F := Ideal))) ⟨m, fun _ => 0, g⟩ (fun r => (∀ c : Dev Cert.AdamOutBRefIdeal.nD,
      r.2.mem ((c.tc : Thread Cert.AdamOutBRefIdeal.nD Cert.AdamOutBRefIdeal.τ).loc Cert.AdamOutBRefIdeal.main_arg0) = m ((c.tc : Thread Cert.AdamOutBRefIdeal.nD Cert.AdamOutBRefIdeal.τ).loc Cert.AdamOutBRefIdeal.main_arg0)
      ∧ r.2.mem ((c.tc : Thread Cert.AdamOutBRefIdeal.nD Cert.AdamOutBRefIdeal.τ).loc Cert.AdamOutBRefIdeal.main_arg1) = m ((c.tc : Thread Cert.AdamOutBRefIdeal.nD Cert.AdamOutBRefIdeal.τ).loc Cert.AdamOutBRefIdeal.main_arg1)
      ∧ r.2.mem ((c.tc : Thread Cert.AdamOutBRefIdeal.nD Cert.AdamOutBRefIdeal.τ).loc Cert.AdamOutBRefIdeal.main_arg2) = m ((c.tc : Thread Cert.AdamOutBRefIdeal.nD Cert.AdamOutBRefIdeal.τ).loc Cert.AdamOutBRefIdeal.main_arg2)
      ∧ r.2.mem ((c.tc : Thread Cert.AdamOutBRefIdeal.nD Cert.AdamOutBRefIdeal.τ).loc Cert.AdamOutBRefIdeal.main_arg3) = m ((c.tc : Thread Cert.AdamOutBRefIdeal.nD Cert.AdamOutBRefIdeal.τ).loc Cert.AdamOutBRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamMany [hAdamMany : Cert.AdamMany.Facts] : Prop :=
  ∀ (m : (ℓ : Loc Cert.AdamMany.nD Cert.AdamMany.τ Cert.AdamMany.sig) → Buf (Elt Bits) ℓ) (g : Dev Cert.AdamMany.nD → PrngReg), Pre_AdamMany m →
    θ_run (Cert.AdamMany.defs (F := Bits)) (onTc (τ := Cert.AdamMany.τ) (Cert.AdamMany.main (F := Bits))) ⟨m, fun _ => 0, g⟩ (fun r => (∀ c : Dev Cert.AdamMany.nD,
      r.2.mem ((c.tc : Thread Cert.AdamMany.nD Cert.AdamMany.τ).loc Cert.AdamMany.main_arg0) = m ((c.tc : Thread Cert.AdamMany.nD Cert.AdamMany.τ).loc Cert.AdamMany.main_arg0)
      ∧ r.2.mem ((c.tc : Thread Cert.AdamMany.nD Cert.AdamMany.τ).loc Cert.AdamMany.main_arg1) = m ((c.tc : Thread Cert.AdamMany.nD Cert.AdamMany.τ).loc Cert.AdamMany.main_arg1)
      ∧ r.2.mem ((c.tc : Thread Cert.AdamMany.nD Cert.AdamMany.τ).loc Cert.AdamMany.main_arg2) = m ((c.tc : Thread Cert.AdamMany.nD Cert.AdamMany.τ).loc Cert.AdamMany.main_arg2)
      ∧ r.2.mem ((c.tc : Thread Cert.AdamMany.nD Cert.AdamMany.τ).loc Cert.AdamMany.main_arg3) = m ((c.tc : Thread Cert.AdamMany.nD Cert.AdamMany.τ).loc Cert.AdamMany.main_arg3)
      ∧ r.2.mem ((c.tc : Thread Cert.AdamMany.nD Cert.AdamMany.τ).loc Cert.AdamMany.main_arg4) = m ((c.tc : Thread Cert.AdamMany.nD Cert.AdamMany.τ).loc Cert.AdamMany.main_arg4)
      ∧ r.2.mem ((c.tc : Thread Cert.AdamMany.nD Cert.AdamMany.τ).loc Cert.AdamMany.main_arg5) = m ((c.tc : Thread Cert.AdamMany.nD Cert.AdamMany.τ).loc Cert.AdamMany.main_arg5)
      ∧ r.2.mem ((c.tc : Thread Cert.AdamMany.nD Cert.AdamMany.τ).loc Cert.AdamMany.main_arg6) = m ((c.tc : Thread Cert.AdamMany.nD Cert.AdamMany.τ).loc Cert.AdamMany.main_arg6)
      ∧ r.2.mem ((c.tc : Thread Cert.AdamMany.nD Cert.AdamMany.τ).loc Cert.AdamMany.main_arg7) = m ((c.tc : Thread Cert.AdamMany.nD Cert.AdamMany.τ).loc Cert.AdamMany.main_arg7))
      ∧ r.2.sem = fun _ => 0)

def quiescent_AdamManyIdeal [hAdamManyIdeal : Cert.AdamManyIdeal.Facts] : Prop :=
  ∀ (m : (ℓ : Loc Cert.AdamManyIdeal.nD Cert.AdamManyIdeal.τ Cert.AdamManyIdeal.sig) → Buf (Elt Ideal) ℓ) (g : Dev Cert.AdamManyIdeal.nD → PrngReg), Pre_AdamManyIdeal m →
    θ_run (Cert.AdamManyIdeal.defs (F := Ideal)) (onTc (τ := Cert.AdamManyIdeal.τ) (Cert.AdamManyIdeal.main (F := Ideal))) ⟨m, fun _ => 0, g⟩ (fun r => (∀ c : Dev Cert.AdamManyIdeal.nD,
      r.2.mem ((c.tc : Thread Cert.AdamManyIdeal.nD Cert.AdamManyIdeal.τ).loc Cert.AdamManyIdeal.main_arg0) = m ((c.tc : Thread Cert.AdamManyIdeal.nD Cert.AdamManyIdeal.τ).loc Cert.AdamManyIdeal.main_arg0)
      ∧ r.2.mem ((c.tc : Thread Cert.AdamManyIdeal.nD Cert.AdamManyIdeal.τ).loc Cert.AdamManyIdeal.main_arg1) = m ((c.tc : Thread Cert.AdamManyIdeal.nD Cert.AdamManyIdeal.τ).loc Cert.AdamManyIdeal.main_arg1)
      ∧ r.2.mem ((c.tc : Thread Cert.AdamManyIdeal.nD Cert.AdamManyIdeal.τ).loc Cert.AdamManyIdeal.main_arg2) = m ((c.tc : Thread Cert.AdamManyIdeal.nD Cert.AdamManyIdeal.τ).loc Cert.AdamManyIdeal.main_arg2)
      ∧ r.2.mem ((c.tc : Thread Cert.AdamManyIdeal.nD Cert.AdamManyIdeal.τ).loc Cert.AdamManyIdeal.main_arg3) = m ((c.tc : Thread Cert.AdamManyIdeal.nD Cert.AdamManyIdeal.τ).loc Cert.AdamManyIdeal.main_arg3)
      ∧ r.2.mem ((c.tc : Thread Cert.AdamManyIdeal.nD Cert.AdamManyIdeal.τ).loc Cert.AdamManyIdeal.main_arg4) = m ((c.tc : Thread Cert.AdamManyIdeal.nD Cert.AdamManyIdeal.τ).loc Cert.AdamManyIdeal.main_arg4)
      ∧ r.2.mem ((c.tc : Thread Cert.AdamManyIdeal.nD Cert.AdamManyIdeal.τ).loc Cert.AdamManyIdeal.main_arg5) = m ((c.tc : Thread Cert.AdamManyIdeal.nD Cert.AdamManyIdeal.τ).loc Cert.AdamManyIdeal.main_arg5)
      ∧ r.2.mem ((c.tc : Thread Cert.AdamManyIdeal.nD Cert.AdamManyIdeal.τ).loc Cert.AdamManyIdeal.main_arg6) = m ((c.tc : Thread Cert.AdamManyIdeal.nD Cert.AdamManyIdeal.τ).loc Cert.AdamManyIdeal.main_arg6)
      ∧ r.2.mem ((c.tc : Thread Cert.AdamManyIdeal.nD Cert.AdamManyIdeal.τ).loc Cert.AdamManyIdeal.main_arg7) = m ((c.tc : Thread Cert.AdamManyIdeal.nD Cert.AdamManyIdeal.τ).loc Cert.AdamManyIdeal.main_arg7))
      ∧ r.2.sem = fun _ => 0)

def quiescent_AdamManyRefIdeal [hAdamManyRefIdeal : Cert.AdamManyRefIdeal.Facts] : Prop :=
  ∀ (m : (ℓ : Loc Cert.AdamManyRefIdeal.nD Cert.AdamManyRefIdeal.τ Cert.AdamManyRefIdeal.sig) → Buf (Elt Ideal) ℓ) (g : Dev Cert.AdamManyRefIdeal.nD → PrngReg), Pre_AdamManyRefIdeal m →
    θ_run (Cert.AdamManyRefIdeal.defs (F := Ideal)) (onTc (τ := Cert.AdamManyRefIdeal.τ) (Cert.AdamManyRefIdeal.main (F := Ideal))) ⟨m, fun _ => 0, g⟩ (fun r => (∀ c : Dev Cert.AdamManyRefIdeal.nD,
      r.2.mem ((c.tc : Thread Cert.AdamManyRefIdeal.nD Cert.AdamManyRefIdeal.τ).loc Cert.AdamManyRefIdeal.main_arg0) = m ((c.tc : Thread Cert.AdamManyRefIdeal.nD Cert.AdamManyRefIdeal.τ).loc Cert.AdamManyRefIdeal.main_arg0)
      ∧ r.2.mem ((c.tc : Thread Cert.AdamManyRefIdeal.nD Cert.AdamManyRefIdeal.τ).loc Cert.AdamManyRefIdeal.main_arg1) = m ((c.tc : Thread Cert.AdamManyRefIdeal.nD Cert.AdamManyRefIdeal.τ).loc Cert.AdamManyRefIdeal.main_arg1)
      ∧ r.2.mem ((c.tc : Thread Cert.AdamManyRefIdeal.nD Cert.AdamManyRefIdeal.τ).loc Cert.AdamManyRefIdeal.main_arg2) = m ((c.tc : Thread Cert.AdamManyRefIdeal.nD Cert.AdamManyRefIdeal.τ).loc Cert.AdamManyRefIdeal.main_arg2)
      ∧ r.2.mem ((c.tc : Thread Cert.AdamManyRefIdeal.nD Cert.AdamManyRefIdeal.τ).loc Cert.AdamManyRefIdeal.main_arg3) = m ((c.tc : Thread Cert.AdamManyRefIdeal.nD Cert.AdamManyRefIdeal.τ).loc Cert.AdamManyRefIdeal.main_arg3)
      ∧ r.2.mem ((c.tc : Thread Cert.AdamManyRefIdeal.nD Cert.AdamManyRefIdeal.τ).loc Cert.AdamManyRefIdeal.main_arg4) = m ((c.tc : Thread Cert.AdamManyRefIdeal.nD Cert.AdamManyRefIdeal.τ).loc Cert.AdamManyRefIdeal.main_arg4)
      ∧ r.2.mem ((c.tc : Thread Cert.AdamManyRefIdeal.nD Cert.AdamManyRefIdeal.τ).loc Cert.AdamManyRefIdeal.main_arg5) = m ((c.tc : Thread Cert.AdamManyRefIdeal.nD Cert.AdamManyRefIdeal.τ).loc Cert.AdamManyRefIdeal.main_arg5)
      ∧ r.2.mem ((c.tc : Thread Cert.AdamManyRefIdeal.nD Cert.AdamManyRefIdeal.τ).loc Cert.AdamManyRefIdeal.main_arg6) = m ((c.tc : Thread Cert.AdamManyRefIdeal.nD Cert.AdamManyRefIdeal.τ).loc Cert.AdamManyRefIdeal.main_arg6)
      ∧ r.2.mem ((c.tc : Thread Cert.AdamManyRefIdeal.nD Cert.AdamManyRefIdeal.τ).loc Cert.AdamManyRefIdeal.main_arg7) = m ((c.tc : Thread Cert.AdamManyRefIdeal.nD Cert.AdamManyRefIdeal.τ).loc Cert.AdamManyRefIdeal.main_arg7))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def preserves_Outproj_OutprojIdeal : Prop :=
  True

def algebraic_OutprojIdeal_OutprojRefIdeal_pre_outproj_finite [hOutprojIdeal : Cert.OutprojIdeal.Facts] [hOutprojRefIdeal : Cert.OutprojRefIdeal.Facts] [hPre_outproj_finite : Cert.Pre_outproj_finite.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal_outproj_finite m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v4_0)) (v1 : (c : Dev Cert.OutprojIdeal.nD) → Buf (Elt Ideal) ((c.tc : Thread Cert.OutprojIdeal.nD Cert.OutprojIdeal.τ).loc Cert.OutprojIdeal.main_v4_1)) (v2 : (c : Dev Cert.OutprojIdeal.nD) → Buf (Elt Ideal) ((c.tc : Thread Cert.OutprojIdeal.nD Cert.OutprojIdeal.τ).loc Cert.OutprojIdeal.main_v4_2)) (v3 : (c : Dev Cert.OutprojIdeal.nD) → Buf (Elt Ideal) ((c.tc : Thread Cert.OutprojIdeal.nD Cert.OutprojIdeal.τ).loc Cert.OutprojIdeal.main_v4_3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v4_0) = v0 c
          ∧ r.2.mem ((c.tc : Thread Cert.OutprojIdeal.nD Cert.OutprojIdeal.τ).loc Cert.OutprojIdeal.main_v4_1) = v1 c
          ∧ r.2.mem ((c.tc : Thread Cert.OutprojIdeal.nD Cert.OutprojIdeal.τ).loc Cert.OutprojIdeal.main_v4_2) = v2 c
          ∧ r.2.mem ((c.tc : Thread Cert.OutprojIdeal.nD Cert.OutprojIdeal.τ).loc Cert.OutprojIdeal.main_v4_3) = v3 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v42) = v0 c
          ∧ r.2.mem ((c.tc : Thread Cert.OutprojRefIdeal.nD Cert.OutprojRefIdeal.τ).loc Cert.OutprojRefIdeal.main_v21) = v1 c
          ∧ r.2.mem ((c.tc : Thread Cert.OutprojRefIdeal.nD Cert.OutprojRefIdeal.τ).loc Cert.OutprojRefIdeal.main_v43) = v2 c
          ∧ r.2.mem ((c.tc : Thread Cert.OutprojRefIdeal.nD Cert.OutprojRefIdeal.τ).loc Cert.OutprojRefIdeal.main_v44) = v3 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_AttnB_AttnBIdeal : Prop :=
  True

def algebraic_AttnBIdeal_AttnBRefIdeal_pre_attnb_finite [hAttnBIdeal : Cert.AttnBIdeal.Facts] [hAttnBRefIdeal : Cert.AttnBRefIdeal.Facts] [hPre_attnb_finite : Cert.Pre_attnb_finite.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_attnb_finite m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)
      ∧ m' ((c.tc : Thread Cert.AttnBRefIdeal.nD Cert.AttnBRefIdeal.τ).loc Cert.AttnBRefIdeal.main_arg1) = m ((c.tc : Thread Cert.AttnBIdeal.nD Cert.AttnBIdeal.τ).loc Cert.AttnBIdeal.main_arg1)) →
    ∃ (v0 : (c : Dev Cert.AttnBIdeal.nD) → Buf (Elt Ideal) ((c.tc : Thread Cert.AttnBIdeal.nD Cert.AttnBIdeal.τ).loc Cert.AttnBIdeal.main_v24_0)) (v1 : (c : Dev Cert.AttnBIdeal.nD) → Buf (Elt Ideal) ((c.tc : Thread Cert.AttnBIdeal.nD Cert.AttnBIdeal.τ).loc Cert.AttnBIdeal.main_v24_1)) (v2 : (c : Dev Cert.AttnBIdeal.nD) → Buf (Elt Ideal) ((c.tc : Thread Cert.AttnBIdeal.nD Cert.AttnBIdeal.τ).loc Cert.AttnBIdeal.main_v24_2)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v24_0) = v0 c
          ∧ r.2.mem ((c.tc : Thread Cert.AttnBIdeal.nD Cert.AttnBIdeal.τ).loc Cert.AttnBIdeal.main_v24_1) = v1 c
          ∧ r.2.mem ((c.tc : Thread Cert.AttnBIdeal.nD Cert.AttnBIdeal.τ).loc Cert.AttnBIdeal.main_v24_2) = v2 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0)
          ∧ r.2.mem ((c.tc : Thread Cert.AttnBIdeal.nD Cert.AttnBIdeal.τ).loc Cert.AttnBIdeal.main_arg1) = m ((c.tc : Thread Cert.AttnBIdeal.nD Cert.AttnBIdeal.τ).loc Cert.AttnBIdeal.main_arg1))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v59) = v0 c
          ∧ r.2.mem ((c.tc : Thread Cert.AttnBRefIdeal.nD Cert.AttnBRefIdeal.τ).loc Cert.AttnBRefIdeal.main_v60) = v1 c
          ∧ r.2.mem ((c.tc : Thread Cert.AttnBRefIdeal.nD Cert.AttnBRefIdeal.τ).loc Cert.AttnBRefIdeal.main_v61) = v2 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0)
          ∧ r.2.mem ((c.tc : Thread Cert.AttnBRefIdeal.nD Cert.AttnBRefIdeal.τ).loc Cert.AttnBRefIdeal.main_arg1) = m' ((c.tc : Thread Cert.AttnBRefIdeal.nD Cert.AttnBRefIdeal.τ).loc Cert.AttnBRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v4)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v4) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwInA_DwInAIdeal : Prop :=
  True

def algebraic_DwInAIdeal_DwInARefIdeal [hDwInAIdeal : Cert.DwInAIdeal.Facts] [hDwInARefIdeal : Cert.DwInARefIdeal.Facts] : Prop :=
  ∀ (m : (ℓ : Loc Cert.DwInAIdeal.nD Cert.DwInAIdeal.τ Cert.DwInAIdeal.sig) → Buf (Elt Ideal) ℓ) (g : Dev Cert.DwInAIdeal.nD → PrngReg)
    (m' : (ℓ : Loc Cert.DwInARefIdeal.nD Cert.DwInARefIdeal.τ Cert.DwInARefIdeal.sig) → Buf (Elt Ideal) ℓ) (g' : Dev Cert.DwInARefIdeal.nD → PrngReg), Pre_DwInAIdeal m →
    (∀ c : Dev Cert.DwInAIdeal.nD,
      m' ((c.tc : Thread Cert.DwInARefIdeal.nD Cert.DwInARefIdeal.τ).loc Cert.DwInARefIdeal.main_arg0) = m ((c.tc : Thread Cert.DwInAIdeal.nD Cert.DwInAIdeal.τ).loc Cert.DwInAIdeal.main_arg0)
      ∧ m' ((c.tc : Thread Cert.DwInARefIdeal.nD Cert.DwInARefIdeal.τ).loc Cert.DwInARefIdeal.main_arg1) = m ((c.tc : Thread Cert.DwInAIdeal.nD Cert.DwInAIdeal.τ).loc Cert.DwInAIdeal.main_arg1)
      ∧ m' ((c.tc : Thread Cert.DwInARefIdeal.nD Cert.DwInARefIdeal.τ).loc Cert.DwInARefIdeal.main_arg2) = m ((c.tc : Thread Cert.DwInAIdeal.nD Cert.DwInAIdeal.τ).loc Cert.DwInAIdeal.main_arg2)) →
    ∃ (v0 : (c : Dev Cert.DwInAIdeal.nD) → Buf (Elt Ideal) ((c.tc : Thread Cert.DwInAIdeal.nD Cert.DwInAIdeal.τ).loc Cert.DwInAIdeal.main_v14)),
      θ_run (Cert.DwInAIdeal.defs (F := Ideal)) (onTc (τ := Cert.DwInAIdeal.τ) (Cert.DwInAIdeal.main (F := Ideal))) ⟨m, fun _ => 0, g⟩ (fun r => ∀ c : Dev Cert.DwInAIdeal.nD,
          r.2.mem ((c.tc : Thread Cert.DwInAIdeal.nD Cert.DwInAIdeal.τ).loc Cert.DwInAIdeal.main_v14) = v0 c
          ∧ r.2.mem ((c.tc : Thread Cert.DwInAIdeal.nD Cert.DwInAIdeal.τ).loc Cert.DwInAIdeal.main_arg0) = m ((c.tc : Thread Cert.DwInAIdeal.nD Cert.DwInAIdeal.τ).loc Cert.DwInAIdeal.main_arg0)
          ∧ r.2.mem ((c.tc : Thread Cert.DwInAIdeal.nD Cert.DwInAIdeal.τ).loc Cert.DwInAIdeal.main_arg1) = m ((c.tc : Thread Cert.DwInAIdeal.nD Cert.DwInAIdeal.τ).loc Cert.DwInAIdeal.main_arg1)
          ∧ r.2.mem ((c.tc : Thread Cert.DwInAIdeal.nD Cert.DwInAIdeal.τ).loc Cert.DwInAIdeal.main_arg2) = m ((c.tc : Thread Cert.DwInAIdeal.nD Cert.DwInAIdeal.τ).loc Cert.DwInAIdeal.main_arg2))
      ∧ θ_run (Cert.DwInARefIdeal.defs (F := Ideal)) (onTc (τ := Cert.DwInARefIdeal.τ) (Cert.DwInARefIdeal.main (F := Ideal))) ⟨m', fun _ => 0, g'⟩ (fun r => ∀ c : Dev Cert.DwInARefIdeal.nD,
          r.2.mem ((c.tc : Thread Cert.DwInARefIdeal.nD Cert.DwInARefIdeal.τ).loc Cert.DwInARefIdeal.main_v19) = v0 c
          ∧ r.2.mem ((c.tc : Thread Cert.DwInARefIdeal.nD Cert.DwInARefIdeal.τ).loc Cert.DwInARefIdeal.main_arg0) = m' ((c.tc : Thread Cert.DwInARefIdeal.nD Cert.DwInARefIdeal.τ).loc Cert.DwInARefIdeal.main_arg0)
          ∧ r.2.mem ((c.tc : Thread Cert.DwInARefIdeal.nD Cert.DwInARefIdeal.τ).loc Cert.DwInARefIdeal.main_arg1) = m' ((c.tc : Thread Cert.DwInARefIdeal.nD Cert.DwInARefIdeal.τ).loc Cert.DwInARefIdeal.main_arg1)
          ∧ r.2.mem ((c.tc : Thread Cert.DwInARefIdeal.nD Cert.DwInARefIdeal.τ).loc Cert.DwInARefIdeal.main_arg2) = m' ((c.tc : Thread Cert.DwInARefIdeal.nD Cert.DwInARefIdeal.τ).loc Cert.DwInARefIdeal.main_arg2))

def preserves_DwInB_DwInBIdeal : Prop :=
  True

def algebraic_DwInBIdeal_DwInBRefIdeal [hDwInBIdeal : Cert.DwInBIdeal.Facts] [hDwInBRefIdeal : Cert.DwInBRefIdeal.Facts] : Prop :=
  ∀ (m : (ℓ : Loc Cert.DwInBIdeal.nD Cert.DwInBIdeal.τ Cert.DwInBIdeal.sig) → Buf (Elt Ideal) ℓ) (g : Dev Cert.DwInBIdeal.nD → PrngReg)
    (m' : (ℓ : Loc Cert.DwInBRefIdeal.nD Cert.DwInBRefIdeal.τ Cert.DwInBRefIdeal.sig) → Buf (Elt Ideal) ℓ) (g' : Dev Cert.DwInBRefIdeal.nD → PrngReg), Pre_DwInBIdeal m →
    (∀ c : Dev Cert.DwInBIdeal.nD,
      m' ((c.tc : Thread Cert.DwInBRefIdeal.nD Cert.DwInBRefIdeal.τ).loc Cert.DwInBRefIdeal.main_arg0) = m ((c.tc : Thread Cert.DwInBIdeal.nD Cert.DwInBIdeal.τ).loc Cert.DwInBIdeal.main_arg0)
      ∧ m' ((c.tc : Thread Cert.DwInBRefIdeal.nD Cert.DwInBRefIdeal.τ).loc Cert.DwInBRefIdeal.main_arg1) = m ((c.tc : Thread Cert.DwInBIdeal.nD Cert.DwInBIdeal.τ).loc Cert.DwInBIdeal.main_arg1)
      ∧ m' ((c.tc : Thread Cert.DwInBRefIdeal.nD Cert.DwInBRefIdeal.τ).loc Cert.DwInBRefIdeal.main_arg2) = m ((c.tc : Thread Cert.DwInBIdeal.nD Cert.DwInBIdeal.τ).loc Cert.DwInBIdeal.main_arg2)) →
    ∃ (v0 : (c : Dev Cert.DwInBIdeal.nD) → Buf (Elt Ideal) ((c.tc : Thread Cert.DwInBIdeal.nD Cert.DwInBIdeal.τ).loc Cert.DwInBIdeal.main_v14)),
      θ_run (Cert.DwInBIdeal.defs (F := Ideal)) (onTc (τ := Cert.DwInBIdeal.τ) (Cert.DwInBIdeal.main (F := Ideal))) ⟨m, fun _ => 0, g⟩ (fun r => ∀ c : Dev Cert.DwInBIdeal.nD,
          r.2.mem ((c.tc : Thread Cert.DwInBIdeal.nD Cert.DwInBIdeal.τ).loc Cert.DwInBIdeal.main_v14) = v0 c
          ∧ r.2.mem ((c.tc : Thread Cert.DwInBIdeal.nD Cert.DwInBIdeal.τ).loc Cert.DwInBIdeal.main_arg0) = m ((c.tc : Thread Cert.DwInBIdeal.nD Cert.DwInBIdeal.τ).loc Cert.DwInBIdeal.main_arg0)
          ∧ r.2.mem ((c.tc : Thread Cert.DwInBIdeal.nD Cert.DwInBIdeal.τ).loc Cert.DwInBIdeal.main_arg1) = m ((c.tc : Thread Cert.DwInBIdeal.nD Cert.DwInBIdeal.τ).loc Cert.DwInBIdeal.main_arg1)
          ∧ r.2.mem ((c.tc : Thread Cert.DwInBIdeal.nD Cert.DwInBIdeal.τ).loc Cert.DwInBIdeal.main_arg2) = m ((c.tc : Thread Cert.DwInBIdeal.nD Cert.DwInBIdeal.τ).loc Cert.DwInBIdeal.main_arg2))
      ∧ θ_run (Cert.DwInBRefIdeal.defs (F := Ideal)) (onTc (τ := Cert.DwInBRefIdeal.τ) (Cert.DwInBRefIdeal.main (F := Ideal))) ⟨m', fun _ => 0, g'⟩ (fun r => ∀ c : Dev Cert.DwInBRefIdeal.nD,
          r.2.mem ((c.tc : Thread Cert.DwInBRefIdeal.nD Cert.DwInBRefIdeal.τ).loc Cert.DwInBRefIdeal.main_v19) = v0 c
          ∧ r.2.mem ((c.tc : Thread Cert.DwInBRefIdeal.nD Cert.DwInBRefIdeal.τ).loc Cert.DwInBRefIdeal.main_arg0) = m' ((c.tc : Thread Cert.DwInBRefIdeal.nD Cert.DwInBRefIdeal.τ).loc Cert.DwInBRefIdeal.main_arg0)
          ∧ r.2.mem ((c.tc : Thread Cert.DwInBRefIdeal.nD Cert.DwInBRefIdeal.τ).loc Cert.DwInBRefIdeal.main_arg1) = m' ((c.tc : Thread Cert.DwInBRefIdeal.nD Cert.DwInBRefIdeal.τ).loc Cert.DwInBRefIdeal.main_arg1)
          ∧ r.2.mem ((c.tc : Thread Cert.DwInBRefIdeal.nD Cert.DwInBRefIdeal.τ).loc Cert.DwInBRefIdeal.main_arg2) = m' ((c.tc : Thread Cert.DwInBRefIdeal.nD Cert.DwInBRefIdeal.τ).loc Cert.DwInBRefIdeal.main_arg2))

def preserves_DwInC_DwInCIdeal : Prop :=
  True

def algebraic_DwInCIdeal_DwInCRefIdeal [hDwInCIdeal : Cert.DwInCIdeal.Facts] [hDwInCRefIdeal : Cert.DwInCRefIdeal.Facts] : Prop :=
  ∀ (m : (ℓ : Loc Cert.DwInCIdeal.nD Cert.DwInCIdeal.τ Cert.DwInCIdeal.sig) → Buf (Elt Ideal) ℓ) (g : Dev Cert.DwInCIdeal.nD → PrngReg)
    (m' : (ℓ : Loc Cert.DwInCRefIdeal.nD Cert.DwInCRefIdeal.τ Cert.DwInCRefIdeal.sig) → Buf (Elt Ideal) ℓ) (g' : Dev Cert.DwInCRefIdeal.nD → PrngReg), Pre_DwInCIdeal m →
    (∀ c : Dev Cert.DwInCIdeal.nD,
      m' ((c.tc : Thread Cert.DwInCRefIdeal.nD Cert.DwInCRefIdeal.τ).loc Cert.DwInCRefIdeal.main_arg0) = m ((c.tc : Thread Cert.DwInCIdeal.nD Cert.DwInCIdeal.τ).loc Cert.DwInCIdeal.main_arg0)
      ∧ m' ((c.tc : Thread Cert.DwInCRefIdeal.nD Cert.DwInCRefIdeal.τ).loc Cert.DwInCRefIdeal.main_arg1) = m ((c.tc : Thread Cert.DwInCIdeal.nD Cert.DwInCIdeal.τ).loc Cert.DwInCIdeal.main_arg1)
      ∧ m' ((c.tc : Thread Cert.DwInCRefIdeal.nD Cert.DwInCRefIdeal.τ).loc Cert.DwInCRefIdeal.main_arg2) = m ((c.tc : Thread Cert.DwInCIdeal.nD Cert.DwInCIdeal.τ).loc Cert.DwInCIdeal.main_arg2)) →
    ∃ (v0 : (c : Dev Cert.DwInCIdeal.nD) → Buf (Elt Ideal) ((c.tc : Thread Cert.DwInCIdeal.nD Cert.DwInCIdeal.τ).loc Cert.DwInCIdeal.main_v14)),
      θ_run (Cert.DwInCIdeal.defs (F := Ideal)) (onTc (τ := Cert.DwInCIdeal.τ) (Cert.DwInCIdeal.main (F := Ideal))) ⟨m, fun _ => 0, g⟩ (fun r => ∀ c : Dev Cert.DwInCIdeal.nD,
          r.2.mem ((c.tc : Thread Cert.DwInCIdeal.nD Cert.DwInCIdeal.τ).loc Cert.DwInCIdeal.main_v14) = v0 c
          ∧ r.2.mem ((c.tc : Thread Cert.DwInCIdeal.nD Cert.DwInCIdeal.τ).loc Cert.DwInCIdeal.main_arg0) = m ((c.tc : Thread Cert.DwInCIdeal.nD Cert.DwInCIdeal.τ).loc Cert.DwInCIdeal.main_arg0)
          ∧ r.2.mem ((c.tc : Thread Cert.DwInCIdeal.nD Cert.DwInCIdeal.τ).loc Cert.DwInCIdeal.main_arg1) = m ((c.tc : Thread Cert.DwInCIdeal.nD Cert.DwInCIdeal.τ).loc Cert.DwInCIdeal.main_arg1)
          ∧ r.2.mem ((c.tc : Thread Cert.DwInCIdeal.nD Cert.DwInCIdeal.τ).loc Cert.DwInCIdeal.main_arg2) = m ((c.tc : Thread Cert.DwInCIdeal.nD Cert.DwInCIdeal.τ).loc Cert.DwInCIdeal.main_arg2))
      ∧ θ_run (Cert.DwInCRefIdeal.defs (F := Ideal)) (onTc (τ := Cert.DwInCRefIdeal.τ) (Cert.DwInCRefIdeal.main (F := Ideal))) ⟨m', fun _ => 0, g'⟩ (fun r => ∀ c : Dev Cert.DwInCRefIdeal.nD,
          r.2.mem ((c.tc : Thread Cert.DwInCRefIdeal.nD Cert.DwInCRefIdeal.τ).loc Cert.DwInCRefIdeal.main_v16) = v0 c
          ∧ r.2.mem ((c.tc : Thread Cert.DwInCRefIdeal.nD Cert.DwInCRefIdeal.τ).loc Cert.DwInCRefIdeal.main_arg0) = m' ((c.tc : Thread Cert.DwInCRefIdeal.nD Cert.DwInCRefIdeal.τ).loc Cert.DwInCRefIdeal.main_arg0)
          ∧ r.2.mem ((c.tc : Thread Cert.DwInCRefIdeal.nD Cert.DwInCRefIdeal.τ).loc Cert.DwInCRefIdeal.main_arg1) = m' ((c.tc : Thread Cert.DwInCRefIdeal.nD Cert.DwInCRefIdeal.τ).loc Cert.DwInCRefIdeal.main_arg1)
          ∧ r.2.mem ((c.tc : Thread Cert.DwInCRefIdeal.nD Cert.DwInCRefIdeal.τ).loc Cert.DwInCRefIdeal.main_arg2) = m' ((c.tc : Thread Cert.DwInCRefIdeal.nD Cert.DwInCRefIdeal.τ).loc Cert.DwInCRefIdeal.main_arg2))

def preserves_QkvA_QkvAIdeal : Prop :=
  True

def algebraic_QkvAIdeal_QkvARefIdeal [hQkvAIdeal : Cert.QkvAIdeal.Facts] [hQkvARefIdeal : Cert.QkvARefIdeal.Facts] : Prop :=
  ∀ (m : (ℓ : Loc Cert.QkvAIdeal.nD Cert.QkvAIdeal.τ Cert.QkvAIdeal.sig) → Buf (Elt Ideal) ℓ) (g : Dev Cert.QkvAIdeal.nD → PrngReg)
    (m' : (ℓ : Loc Cert.QkvARefIdeal.nD Cert.QkvARefIdeal.τ Cert.QkvARefIdeal.sig) → Buf (Elt Ideal) ℓ) (g' : Dev Cert.QkvARefIdeal.nD → PrngReg), Pre_QkvAIdeal m →
    (∀ c : Dev Cert.QkvAIdeal.nD,
      m' ((c.tc : Thread Cert.QkvARefIdeal.nD Cert.QkvARefIdeal.τ).loc Cert.QkvARefIdeal.main_arg0) = m ((c.tc : Thread Cert.QkvAIdeal.nD Cert.QkvAIdeal.τ).loc Cert.QkvAIdeal.main_arg0)
      ∧ m' ((c.tc : Thread Cert.QkvARefIdeal.nD Cert.QkvARefIdeal.τ).loc Cert.QkvARefIdeal.main_arg1) = m ((c.tc : Thread Cert.QkvAIdeal.nD Cert.QkvAIdeal.τ).loc Cert.QkvAIdeal.main_arg1)) →
    ∃ (v0 : (c : Dev Cert.QkvAIdeal.nD) → Buf (Elt Ideal) ((c.tc : Thread Cert.QkvAIdeal.nD Cert.QkvAIdeal.τ).loc Cert.QkvAIdeal.main_v0)),
      θ_run (Cert.QkvAIdeal.defs (F := Ideal)) (onTc (τ := Cert.QkvAIdeal.τ) (Cert.QkvAIdeal.main (F := Ideal))) ⟨m, fun _ => 0, g⟩ (fun r => ∀ c : Dev Cert.QkvAIdeal.nD,
          r.2.mem ((c.tc : Thread Cert.QkvAIdeal.nD Cert.QkvAIdeal.τ).loc Cert.QkvAIdeal.main_v0) = v0 c
          ∧ r.2.mem ((c.tc : Thread Cert.QkvAIdeal.nD Cert.QkvAIdeal.τ).loc Cert.QkvAIdeal.main_arg0) = m ((c.tc : Thread Cert.QkvAIdeal.nD Cert.QkvAIdeal.τ).loc Cert.QkvAIdeal.main_arg0)
          ∧ r.2.mem ((c.tc : Thread Cert.QkvAIdeal.nD Cert.QkvAIdeal.τ).loc Cert.QkvAIdeal.main_arg1) = m ((c.tc : Thread Cert.QkvAIdeal.nD Cert.QkvAIdeal.τ).loc Cert.QkvAIdeal.main_arg1))
      ∧ θ_run (Cert.QkvARefIdeal.defs (F := Ideal)) (onTc (τ := Cert.QkvARefIdeal.τ) (Cert.QkvARefIdeal.main (F := Ideal))) ⟨m', fun _ => 0, g'⟩ (fun r => ∀ c : Dev Cert.QkvARefIdeal.nD,
          r.2.mem ((c.tc : Thread Cert.QkvARefIdeal.nD Cert.QkvARefIdeal.τ).loc Cert.QkvARefIdeal.main_v5) = v0 c
          ∧ r.2.mem ((c.tc : Thread Cert.QkvARefIdeal.nD Cert.QkvARefIdeal.τ).loc Cert.QkvARefIdeal.main_arg0) = m' ((c.tc : Thread Cert.QkvARefIdeal.nD Cert.QkvARefIdeal.τ).loc Cert.QkvARefIdeal.main_arg0)
          ∧ r.2.mem ((c.tc : Thread Cert.QkvARefIdeal.nD Cert.QkvARefIdeal.τ).loc Cert.QkvARefIdeal.main_arg1) = m' ((c.tc : Thread Cert.QkvARefIdeal.nD Cert.QkvARefIdeal.τ).loc Cert.QkvARefIdeal.main_arg1))

def preserves_GateA_GateAIdeal : Prop :=
  True

def algebraic_GateAIdeal_GateARefIdeal [hGateAIdeal : Cert.GateAIdeal.Facts] [hGateARefIdeal : Cert.GateARefIdeal.Facts] : Prop :=
  ∀ (m : (ℓ : Loc Cert.GateAIdeal.nD Cert.GateAIdeal.τ Cert.GateAIdeal.sig) → Buf (Elt Ideal) ℓ) (g : Dev Cert.GateAIdeal.nD → PrngReg)
    (m' : (ℓ : Loc Cert.GateARefIdeal.nD Cert.GateARefIdeal.τ Cert.GateARefIdeal.sig) → Buf (Elt Ideal) ℓ) (g' : Dev Cert.GateARefIdeal.nD → PrngReg), Pre_GateAIdeal m →
    (∀ c : Dev Cert.GateAIdeal.nD,
      m' ((c.tc : Thread Cert.GateARefIdeal.nD Cert.GateARefIdeal.τ).loc Cert.GateARefIdeal.main_arg0) = m ((c.tc : Thread Cert.GateAIdeal.nD Cert.GateAIdeal.τ).loc Cert.GateAIdeal.main_arg0)
      ∧ m' ((c.tc : Thread Cert.GateARefIdeal.nD Cert.GateARefIdeal.τ).loc Cert.GateARefIdeal.main_arg1) = m ((c.tc : Thread Cert.GateAIdeal.nD Cert.GateAIdeal.τ).loc Cert.GateAIdeal.main_arg1)) →
    ∃ (v0 : (c : Dev Cert.GateAIdeal.nD) → Buf (Elt Ideal) ((c.tc : Thread Cert.GateAIdeal.nD Cert.GateAIdeal.τ).loc Cert.GateAIdeal.main_v0)),
      θ_run (Cert.GateAIdeal.defs (F := Ideal)) (onTc (τ := Cert.GateAIdeal.τ) (Cert.GateAIdeal.main (F := Ideal))) ⟨m, fun _ => 0, g⟩ (fun r => ∀ c : Dev Cert.GateAIdeal.nD,
          r.2.mem ((c.tc : Thread Cert.GateAIdeal.nD Cert.GateAIdeal.τ).loc Cert.GateAIdeal.main_v0) = v0 c
          ∧ r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
          ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1))
      ∧ θ_run (Cert.GateARefIdeal.defs (F := Ideal)) (onTc (τ := Cert.GateARefIdeal.τ) (Cert.GateARefIdeal.main (F := Ideal))) ⟨m', fun _ => 0, g'⟩ (fun r => ∀ c : Dev Cert.GateARefIdeal.nD,
          r.2.mem ((c.tc : Thread Cert.GateARefIdeal.nD Cert.GateARefIdeal.τ).loc Cert.GateARefIdeal.main_v4) = v0 c
          ∧ r.2.mem ((c.tc : Thread Cert.GateARefIdeal.nD Cert.GateARefIdeal.τ).loc Cert.GateARefIdeal.main_arg0) = m' ((c.tc : Thread Cert.GateARefIdeal.nD Cert.GateARefIdeal.τ).loc Cert.GateARefIdeal.main_arg0)
          ∧ r.2.mem ((c.tc : Thread Cert.GateARefIdeal.nD Cert.GateARefIdeal.τ).loc Cert.GateARefIdeal.main_arg1) = m' ((c.tc : Thread Cert.GateARefIdeal.nD Cert.GateARefIdeal.τ).loc Cert.GateARefIdeal.main_arg1))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v0)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v0) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v5) = v0 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)) →
    ∃ (v0 : (c : Dev Cert.GateBIdeal.nD) → Buf (Elt Ideal) ((c.tc : Thread Cert.GateBIdeal.nD Cert.GateBIdeal.τ).loc Cert.GateBIdeal.main_v0)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0) = v0 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v4) = v0 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)
      ∧ m' ((c.tc : Thread Cert.GatedRefIdeal.nD Cert.GatedRefIdeal.τ).loc Cert.GatedRefIdeal.main_arg4) = m ((c.tc : Thread Cert.GatedIdeal.nD Cert.GatedIdeal.τ).loc Cert.GatedIdeal.main_arg4)) →
    ∃ (v0 : (c : Dev Cert.GatedIdeal.nD) → Buf (Elt Ideal) ((c.tc : Thread Cert.GatedIdeal.nD Cert.GatedIdeal.τ).loc Cert.GatedIdeal.main_v0_0)) (v1 : (c : Dev Cert.GatedIdeal.nD) → Buf (Elt Ideal) ((c.tc : Thread Cert.GatedIdeal.nD Cert.GatedIdeal.τ).loc Cert.GatedIdeal.main_v0_1)) (v2 : (c : Dev Cert.GatedIdeal.nD) → Buf (Elt Ideal) ((c.tc : Thread Cert.GatedIdeal.nD Cert.GatedIdeal.τ).loc Cert.GatedIdeal.main_v0_2)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0_0) = v0 c
          ∧ r.2.mem ((c.tc : Thread Cert.GatedIdeal.nD Cert.GatedIdeal.τ).loc Cert.GatedIdeal.main_v0_1) = v1 c
          ∧ r.2.mem ((c.tc : Thread Cert.GatedIdeal.nD Cert.GatedIdeal.τ).loc Cert.GatedIdeal.main_v0_2) = v2 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3)
          ∧ r.2.mem ((c.tc : Thread Cert.GatedIdeal.nD Cert.GatedIdeal.τ).loc Cert.GatedIdeal.main_arg4) = m ((c.tc : Thread Cert.GatedIdeal.nD Cert.GatedIdeal.τ).loc Cert.GatedIdeal.main_arg4))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v16) = v0 c
          ∧ r.2.mem ((c.tc : Thread Cert.GatedRefIdeal.nD Cert.GatedRefIdeal.τ).loc Cert.GatedRefIdeal.main_v3) = v1 c
          ∧ r.2.mem ((c.tc : Thread Cert.GatedRefIdeal.nD Cert.GatedRefIdeal.τ).loc Cert.GatedRefIdeal.main_v18) = v2 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3)
          ∧ r.2.mem ((c.tc : Thread Cert.GatedRefIdeal.nD Cert.GatedRefIdeal.τ).loc Cert.GatedRefIdeal.main_arg4) = m' ((c.tc : Thread Cert.GatedRefIdeal.nD Cert.GatedRefIdeal.τ).loc Cert.GatedRefIdeal.main_arg4))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v0_0)) (v1 : (c : Dev Cert.PrenormIdeal.nD) → Buf (Elt Ideal) ((c.tc : Thread Cert.PrenormIdeal.nD Cert.PrenormIdeal.τ).loc Cert.PrenormIdeal.main_v0_1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0_0) = v0 c
          ∧ r.2.mem ((c.tc : Thread Cert.PrenormIdeal.nD Cert.PrenormIdeal.τ).loc Cert.PrenormIdeal.main_v0_1) = v1 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v12) = v0 c
          ∧ r.2.mem ((c.tc : Thread Cert.PrenormRefIdeal.nD Cert.PrenormRefIdeal.τ).loc Cert.PrenormRefIdeal.main_v14) = v1 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_AdamInA_AdamInAIdeal : Prop :=
  True

def algebraic_AdamInAIdeal_AdamInARefIdeal [hAdamInAIdeal : Cert.AdamInAIdeal.Facts] [hAdamInARefIdeal : Cert.AdamInARefIdeal.Facts] : Prop :=
  ∀ (m : (ℓ : Loc Cert.AdamInAIdeal.nD Cert.AdamInAIdeal.τ Cert.AdamInAIdeal.sig) → Buf (Elt Ideal) ℓ) (g : Dev Cert.AdamInAIdeal.nD → PrngReg)
    (m' : (ℓ : Loc Cert.AdamInARefIdeal.nD Cert.AdamInARefIdeal.τ Cert.AdamInARefIdeal.sig) → Buf (Elt Ideal) ℓ) (g' : Dev Cert.AdamInARefIdeal.nD → PrngReg), Pre_AdamInAIdeal m →
    (∀ c : Dev Cert.AdamInAIdeal.nD,
      m' ((c.tc : Thread Cert.AdamInARefIdeal.nD Cert.AdamInARefIdeal.τ).loc Cert.AdamInARefIdeal.main_arg0) = m ((c.tc : Thread Cert.AdamInAIdeal.nD Cert.AdamInAIdeal.τ).loc Cert.AdamInAIdeal.main_arg0)
      ∧ m' ((c.tc : Thread Cert.AdamInARefIdeal.nD Cert.AdamInARefIdeal.τ).loc Cert.AdamInARefIdeal.main_arg1) = m ((c.tc : Thread Cert.AdamInAIdeal.nD Cert.AdamInAIdeal.τ).loc Cert.AdamInAIdeal.main_arg1)
      ∧ m' ((c.tc : Thread Cert.AdamInARefIdeal.nD Cert.AdamInARefIdeal.τ).loc Cert.AdamInARefIdeal.main_arg2) = m ((c.tc : Thread Cert.AdamInAIdeal.nD Cert.AdamInAIdeal.τ).loc Cert.AdamInAIdeal.main_arg2)
      ∧ m' ((c.tc : Thread Cert.AdamInARefIdeal.nD Cert.AdamInARefIdeal.τ).loc Cert.AdamInARefIdeal.main_arg3) = m ((c.tc : Thread Cert.AdamInAIdeal.nD Cert.AdamInAIdeal.τ).loc Cert.AdamInAIdeal.main_arg3)) →
    ∃ (v0 : (c : Dev Cert.AdamInAIdeal.nD) → Buf (Elt Ideal) ((c.tc : Thread Cert.AdamInAIdeal.nD Cert.AdamInAIdeal.τ).loc Cert.AdamInAIdeal.main_v0_0)) (v1 : (c : Dev Cert.AdamInAIdeal.nD) → Buf (Elt Ideal) ((c.tc : Thread Cert.AdamInAIdeal.nD Cert.AdamInAIdeal.τ).loc Cert.AdamInAIdeal.main_v0_1)) (v2 : (c : Dev Cert.AdamInAIdeal.nD) → Buf (Elt Ideal) ((c.tc : Thread Cert.AdamInAIdeal.nD Cert.AdamInAIdeal.τ).loc Cert.AdamInAIdeal.main_v0_2)),
      θ_run (Cert.AdamInAIdeal.defs (F := Ideal)) (onTc (τ := Cert.AdamInAIdeal.τ) (Cert.AdamInAIdeal.main (F := Ideal))) ⟨m, fun _ => 0, g⟩ (fun r => ∀ c : Dev Cert.AdamInAIdeal.nD,
          r.2.mem ((c.tc : Thread Cert.AdamInAIdeal.nD Cert.AdamInAIdeal.τ).loc Cert.AdamInAIdeal.main_v0_0) = v0 c
          ∧ r.2.mem ((c.tc : Thread Cert.AdamInAIdeal.nD Cert.AdamInAIdeal.τ).loc Cert.AdamInAIdeal.main_v0_1) = v1 c
          ∧ r.2.mem ((c.tc : Thread Cert.AdamInAIdeal.nD Cert.AdamInAIdeal.τ).loc Cert.AdamInAIdeal.main_v0_2) = v2 c
          ∧ r.2.mem ((c.tc : Thread Cert.AdamInAIdeal.nD Cert.AdamInAIdeal.τ).loc Cert.AdamInAIdeal.main_arg0) = m ((c.tc : Thread Cert.AdamInAIdeal.nD Cert.AdamInAIdeal.τ).loc Cert.AdamInAIdeal.main_arg0)
          ∧ r.2.mem ((c.tc : Thread Cert.AdamInAIdeal.nD Cert.AdamInAIdeal.τ).loc Cert.AdamInAIdeal.main_arg1) = m ((c.tc : Thread Cert.AdamInAIdeal.nD Cert.AdamInAIdeal.τ).loc Cert.AdamInAIdeal.main_arg1)
          ∧ r.2.mem ((c.tc : Thread Cert.AdamInAIdeal.nD Cert.AdamInAIdeal.τ).loc Cert.AdamInAIdeal.main_arg2) = m ((c.tc : Thread Cert.AdamInAIdeal.nD Cert.AdamInAIdeal.τ).loc Cert.AdamInAIdeal.main_arg2)
          ∧ r.2.mem ((c.tc : Thread Cert.AdamInAIdeal.nD Cert.AdamInAIdeal.τ).loc Cert.AdamInAIdeal.main_arg3) = m ((c.tc : Thread Cert.AdamInAIdeal.nD Cert.AdamInAIdeal.τ).loc Cert.AdamInAIdeal.main_arg3))
      ∧ θ_run (Cert.AdamInARefIdeal.defs (F := Ideal)) (onTc (τ := Cert.AdamInARefIdeal.τ) (Cert.AdamInARefIdeal.main (F := Ideal))) ⟨m', fun _ => 0, g'⟩ (fun r => ∀ c : Dev Cert.AdamInARefIdeal.nD,
          r.2.mem ((c.tc : Thread Cert.AdamInARefIdeal.nD Cert.AdamInARefIdeal.τ).loc Cert.AdamInARefIdeal.main_v23) = v0 c
          ∧ r.2.mem ((c.tc : Thread Cert.AdamInARefIdeal.nD Cert.AdamInARefIdeal.τ).loc Cert.AdamInARefIdeal.main_v4) = v1 c
          ∧ r.2.mem ((c.tc : Thread Cert.AdamInARefIdeal.nD Cert.AdamInARefIdeal.τ).loc Cert.AdamInARefIdeal.main_v10) = v2 c
          ∧ r.2.mem ((c.tc : Thread Cert.AdamInARefIdeal.nD Cert.AdamInARefIdeal.τ).loc Cert.AdamInARefIdeal.main_arg0) = m' ((c.tc : Thread Cert.AdamInARefIdeal.nD Cert.AdamInARefIdeal.τ).loc Cert.AdamInARefIdeal.main_arg0)
          ∧ r.2.mem ((c.tc : Thread Cert.AdamInARefIdeal.nD Cert.AdamInARefIdeal.τ).loc Cert.AdamInARefIdeal.main_arg1) = m' ((c.tc : Thread Cert.AdamInARefIdeal.nD Cert.AdamInARefIdeal.τ).loc Cert.AdamInARefIdeal.main_arg1)
          ∧ r.2.mem ((c.tc : Thread Cert.AdamInARefIdeal.nD Cert.AdamInARefIdeal.τ).loc Cert.AdamInARefIdeal.main_arg2) = m' ((c.tc : Thread Cert.AdamInARefIdeal.nD Cert.AdamInARefIdeal.τ).loc Cert.AdamInARefIdeal.main_arg2)
          ∧ r.2.mem ((c.tc : Thread Cert.AdamInARefIdeal.nD Cert.AdamInARefIdeal.τ).loc Cert.AdamInARefIdeal.main_arg3) = m' ((c.tc : Thread Cert.AdamInARefIdeal.nD Cert.AdamInARefIdeal.τ).loc Cert.AdamInARefIdeal.main_arg3))

def preserves_AdamOutA_AdamOutAIdeal : Prop :=
  True

def algebraic_AdamOutAIdeal_AdamOutARefIdeal [hAdamOutAIdeal : Cert.AdamOutAIdeal.Facts] [hAdamOutARefIdeal : Cert.AdamOutARefIdeal.Facts] : Prop :=
  ∀ (m : (ℓ : Loc Cert.AdamOutAIdeal.nD Cert.AdamOutAIdeal.τ Cert.AdamOutAIdeal.sig) → Buf (Elt Ideal) ℓ) (g : Dev Cert.AdamOutAIdeal.nD → PrngReg)
    (m' : (ℓ : Loc Cert.AdamOutARefIdeal.nD Cert.AdamOutARefIdeal.τ Cert.AdamOutARefIdeal.sig) → Buf (Elt Ideal) ℓ) (g' : Dev Cert.AdamOutARefIdeal.nD → PrngReg), Pre_AdamOutAIdeal m →
    (∀ c : Dev Cert.AdamOutAIdeal.nD,
      m' ((c.tc : Thread Cert.AdamOutARefIdeal.nD Cert.AdamOutARefIdeal.τ).loc Cert.AdamOutARefIdeal.main_arg0) = m ((c.tc : Thread Cert.AdamOutAIdeal.nD Cert.AdamOutAIdeal.τ).loc Cert.AdamOutAIdeal.main_arg0)
      ∧ m' ((c.tc : Thread Cert.AdamOutARefIdeal.nD Cert.AdamOutARefIdeal.τ).loc Cert.AdamOutARefIdeal.main_arg1) = m ((c.tc : Thread Cert.AdamOutAIdeal.nD Cert.AdamOutAIdeal.τ).loc Cert.AdamOutAIdeal.main_arg1)
      ∧ m' ((c.tc : Thread Cert.AdamOutARefIdeal.nD Cert.AdamOutARefIdeal.τ).loc Cert.AdamOutARefIdeal.main_arg2) = m ((c.tc : Thread Cert.AdamOutAIdeal.nD Cert.AdamOutAIdeal.τ).loc Cert.AdamOutAIdeal.main_arg2)
      ∧ m' ((c.tc : Thread Cert.AdamOutARefIdeal.nD Cert.AdamOutARefIdeal.τ).loc Cert.AdamOutARefIdeal.main_arg3) = m ((c.tc : Thread Cert.AdamOutAIdeal.nD Cert.AdamOutAIdeal.τ).loc Cert.AdamOutAIdeal.main_arg3)) →
    ∃ (v0 : (c : Dev Cert.AdamOutAIdeal.nD) → Buf (Elt Ideal) ((c.tc : Thread Cert.AdamOutAIdeal.nD Cert.AdamOutAIdeal.τ).loc Cert.AdamOutAIdeal.main_v0_0)) (v1 : (c : Dev Cert.AdamOutAIdeal.nD) → Buf (Elt Ideal) ((c.tc : Thread Cert.AdamOutAIdeal.nD Cert.AdamOutAIdeal.τ).loc Cert.AdamOutAIdeal.main_v0_1)) (v2 : (c : Dev Cert.AdamOutAIdeal.nD) → Buf (Elt Ideal) ((c.tc : Thread Cert.AdamOutAIdeal.nD Cert.AdamOutAIdeal.τ).loc Cert.AdamOutAIdeal.main_v0_2)),
      θ_run (Cert.AdamOutAIdeal.defs (F := Ideal)) (onTc (τ := Cert.AdamOutAIdeal.τ) (Cert.AdamOutAIdeal.main (F := Ideal))) ⟨m, fun _ => 0, g⟩ (fun r => ∀ c : Dev Cert.AdamOutAIdeal.nD,
          r.2.mem ((c.tc : Thread Cert.AdamOutAIdeal.nD Cert.AdamOutAIdeal.τ).loc Cert.AdamOutAIdeal.main_v0_0) = v0 c
          ∧ r.2.mem ((c.tc : Thread Cert.AdamOutAIdeal.nD Cert.AdamOutAIdeal.τ).loc Cert.AdamOutAIdeal.main_v0_1) = v1 c
          ∧ r.2.mem ((c.tc : Thread Cert.AdamOutAIdeal.nD Cert.AdamOutAIdeal.τ).loc Cert.AdamOutAIdeal.main_v0_2) = v2 c
          ∧ r.2.mem ((c.tc : Thread Cert.AdamOutAIdeal.nD Cert.AdamOutAIdeal.τ).loc Cert.AdamOutAIdeal.main_arg0) = m ((c.tc : Thread Cert.AdamOutAIdeal.nD Cert.AdamOutAIdeal.τ).loc Cert.AdamOutAIdeal.main_arg0)
          ∧ r.2.mem ((c.tc : Thread Cert.AdamOutAIdeal.nD Cert.AdamOutAIdeal.τ).loc Cert.AdamOutAIdeal.main_arg1) = m ((c.tc : Thread Cert.AdamOutAIdeal.nD Cert.AdamOutAIdeal.τ).loc Cert.AdamOutAIdeal.main_arg1)
          ∧ r.2.mem ((c.tc : Thread Cert.AdamOutAIdeal.nD Cert.AdamOutAIdeal.τ).loc Cert.AdamOutAIdeal.main_arg2) = m ((c.tc : Thread Cert.AdamOutAIdeal.nD Cert.AdamOutAIdeal.τ).loc Cert.AdamOutAIdeal.main_arg2)
          ∧ r.2.mem ((c.tc : Thread Cert.AdamOutAIdeal.nD Cert.AdamOutAIdeal.τ).loc Cert.AdamOutAIdeal.main_arg3) = m ((c.tc : Thread Cert.AdamOutAIdeal.nD Cert.AdamOutAIdeal.τ).loc Cert.AdamOutAIdeal.main_arg3))
      ∧ θ_run (Cert.AdamOutARefIdeal.defs (F := Ideal)) (onTc (τ := Cert.AdamOutARefIdeal.τ) (Cert.AdamOutARefIdeal.main (F := Ideal))) ⟨m', fun _ => 0, g'⟩ (fun r => ∀ c : Dev Cert.AdamOutARefIdeal.nD,
          r.2.mem ((c.tc : Thread Cert.AdamOutARefIdeal.nD Cert.AdamOutARefIdeal.τ).loc Cert.AdamOutARefIdeal.main_v23) = v0 c
          ∧ r.2.mem ((c.tc : Thread Cert.AdamOutARefIdeal.nD Cert.AdamOutARefIdeal.τ).loc Cert.AdamOutARefIdeal.main_v4) = v1 c
          ∧ r.2.mem ((c.tc : Thread Cert.AdamOutARefIdeal.nD Cert.AdamOutARefIdeal.τ).loc Cert.AdamOutARefIdeal.main_v10) = v2 c
          ∧ r.2.mem ((c.tc : Thread Cert.AdamOutARefIdeal.nD Cert.AdamOutARefIdeal.τ).loc Cert.AdamOutARefIdeal.main_arg0) = m' ((c.tc : Thread Cert.AdamOutARefIdeal.nD Cert.AdamOutARefIdeal.τ).loc Cert.AdamOutARefIdeal.main_arg0)
          ∧ r.2.mem ((c.tc : Thread Cert.AdamOutARefIdeal.nD Cert.AdamOutARefIdeal.τ).loc Cert.AdamOutARefIdeal.main_arg1) = m' ((c.tc : Thread Cert.AdamOutARefIdeal.nD Cert.AdamOutARefIdeal.τ).loc Cert.AdamOutARefIdeal.main_arg1)
          ∧ r.2.mem ((c.tc : Thread Cert.AdamOutARefIdeal.nD Cert.AdamOutARefIdeal.τ).loc Cert.AdamOutARefIdeal.main_arg2) = m' ((c.tc : Thread Cert.AdamOutARefIdeal.nD Cert.AdamOutARefIdeal.τ).loc Cert.AdamOutARefIdeal.main_arg2)
          ∧ r.2.mem ((c.tc : Thread Cert.AdamOutARefIdeal.nD Cert.AdamOutARefIdeal.τ).loc Cert.AdamOutARefIdeal.main_arg3) = m' ((c.tc : Thread Cert.AdamOutARefIdeal.nD Cert.AdamOutARefIdeal.τ).loc Cert.AdamOutARefIdeal.main_arg3))

def preserves_AdamOutB_AdamOutBIdeal : Prop :=
  True

def algebraic_AdamOutBIdeal_AdamOutBRefIdeal [hAdamOutBIdeal : Cert.AdamOutBIdeal.Facts] [hAdamOutBRefIdeal : Cert.AdamOutBRefIdeal.Facts] : Prop :=
  ∀ (m : (ℓ : Loc Cert.AdamOutBIdeal.nD Cert.AdamOutBIdeal.τ Cert.AdamOutBIdeal.sig) → Buf (Elt Ideal) ℓ) (g : Dev Cert.AdamOutBIdeal.nD → PrngReg)
    (m' : (ℓ : Loc Cert.AdamOutBRefIdeal.nD Cert.AdamOutBRefIdeal.τ Cert.AdamOutBRefIdeal.sig) → Buf (Elt Ideal) ℓ) (g' : Dev Cert.AdamOutBRefIdeal.nD → PrngReg), Pre_AdamOutBIdeal m →
    (∀ c : Dev Cert.AdamOutBIdeal.nD,
      m' ((c.tc : Thread Cert.AdamOutBRefIdeal.nD Cert.AdamOutBRefIdeal.τ).loc Cert.AdamOutBRefIdeal.main_arg0) = m ((c.tc : Thread Cert.AdamOutBIdeal.nD Cert.AdamOutBIdeal.τ).loc Cert.AdamOutBIdeal.main_arg0)
      ∧ m' ((c.tc : Thread Cert.AdamOutBRefIdeal.nD Cert.AdamOutBRefIdeal.τ).loc Cert.AdamOutBRefIdeal.main_arg1) = m ((c.tc : Thread Cert.AdamOutBIdeal.nD Cert.AdamOutBIdeal.τ).loc Cert.AdamOutBIdeal.main_arg1)
      ∧ m' ((c.tc : Thread Cert.AdamOutBRefIdeal.nD Cert.AdamOutBRefIdeal.τ).loc Cert.AdamOutBRefIdeal.main_arg2) = m ((c.tc : Thread Cert.AdamOutBIdeal.nD Cert.AdamOutBIdeal.τ).loc Cert.AdamOutBIdeal.main_arg2)
      ∧ m' ((c.tc : Thread Cert.AdamOutBRefIdeal.nD Cert.AdamOutBRefIdeal.τ).loc Cert.AdamOutBRefIdeal.main_arg3) = m ((c.tc : Thread Cert.AdamOutBIdeal.nD Cert.AdamOutBIdeal.τ).loc Cert.AdamOutBIdeal.main_arg3)) →
    ∃ (v0 : (c : Dev Cert.AdamOutBIdeal.nD) → Buf (Elt Ideal) ((c.tc : Thread Cert.AdamOutBIdeal.nD Cert.AdamOutBIdeal.τ).loc Cert.AdamOutBIdeal.main_v0_0)) (v1 : (c : Dev Cert.AdamOutBIdeal.nD) → Buf (Elt Ideal) ((c.tc : Thread Cert.AdamOutBIdeal.nD Cert.AdamOutBIdeal.τ).loc Cert.AdamOutBIdeal.main_v0_1)) (v2 : (c : Dev Cert.AdamOutBIdeal.nD) → Buf (Elt Ideal) ((c.tc : Thread Cert.AdamOutBIdeal.nD Cert.AdamOutBIdeal.τ).loc Cert.AdamOutBIdeal.main_v0_2)),
      θ_run (Cert.AdamOutBIdeal.defs (F := Ideal)) (onTc (τ := Cert.AdamOutBIdeal.τ) (Cert.AdamOutBIdeal.main (F := Ideal))) ⟨m, fun _ => 0, g⟩ (fun r => ∀ c : Dev Cert.AdamOutBIdeal.nD,
          r.2.mem ((c.tc : Thread Cert.AdamOutBIdeal.nD Cert.AdamOutBIdeal.τ).loc Cert.AdamOutBIdeal.main_v0_0) = v0 c
          ∧ r.2.mem ((c.tc : Thread Cert.AdamOutBIdeal.nD Cert.AdamOutBIdeal.τ).loc Cert.AdamOutBIdeal.main_v0_1) = v1 c
          ∧ r.2.mem ((c.tc : Thread Cert.AdamOutBIdeal.nD Cert.AdamOutBIdeal.τ).loc Cert.AdamOutBIdeal.main_v0_2) = v2 c
          ∧ r.2.mem ((c.tc : Thread Cert.AdamOutBIdeal.nD Cert.AdamOutBIdeal.τ).loc Cert.AdamOutBIdeal.main_arg0) = m ((c.tc : Thread Cert.AdamOutBIdeal.nD Cert.AdamOutBIdeal.τ).loc Cert.AdamOutBIdeal.main_arg0)
          ∧ r.2.mem ((c.tc : Thread Cert.AdamOutBIdeal.nD Cert.AdamOutBIdeal.τ).loc Cert.AdamOutBIdeal.main_arg1) = m ((c.tc : Thread Cert.AdamOutBIdeal.nD Cert.AdamOutBIdeal.τ).loc Cert.AdamOutBIdeal.main_arg1)
          ∧ r.2.mem ((c.tc : Thread Cert.AdamOutBIdeal.nD Cert.AdamOutBIdeal.τ).loc Cert.AdamOutBIdeal.main_arg2) = m ((c.tc : Thread Cert.AdamOutBIdeal.nD Cert.AdamOutBIdeal.τ).loc Cert.AdamOutBIdeal.main_arg2)
          ∧ r.2.mem ((c.tc : Thread Cert.AdamOutBIdeal.nD Cert.AdamOutBIdeal.τ).loc Cert.AdamOutBIdeal.main_arg3) = m ((c.tc : Thread Cert.AdamOutBIdeal.nD Cert.AdamOutBIdeal.τ).loc Cert.AdamOutBIdeal.main_arg3))
      ∧ θ_run (Cert.AdamOutBRefIdeal.defs (F := Ideal)) (onTc (τ := Cert.AdamOutBRefIdeal.τ) (Cert.AdamOutBRefIdeal.main (F := Ideal))) ⟨m', fun _ => 0, g'⟩ (fun r => ∀ c : Dev Cert.AdamOutBRefIdeal.nD,
          r.2.mem ((c.tc : Thread Cert.AdamOutBRefIdeal.nD Cert.AdamOutBRefIdeal.τ).loc Cert.AdamOutBRefIdeal.main_v23) = v0 c
          ∧ r.2.mem ((c.tc : Thread Cert.AdamOutBRefIdeal.nD Cert.AdamOutBRefIdeal.τ).loc Cert.AdamOutBRefIdeal.main_v4) = v1 c
          ∧ r.2.mem ((c.tc : Thread Cert.AdamOutBRefIdeal.nD Cert.AdamOutBRefIdeal.τ).loc Cert.AdamOutBRefIdeal.main_v10) = v2 c
          ∧ r.2.mem ((c.tc : Thread Cert.AdamOutBRefIdeal.nD Cert.AdamOutBRefIdeal.τ).loc Cert.AdamOutBRefIdeal.main_arg0) = m' ((c.tc : Thread Cert.AdamOutBRefIdeal.nD Cert.AdamOutBRefIdeal.τ).loc Cert.AdamOutBRefIdeal.main_arg0)
          ∧ r.2.mem ((c.tc : Thread Cert.AdamOutBRefIdeal.nD Cert.AdamOutBRefIdeal.τ).loc Cert.AdamOutBRefIdeal.main_arg1) = m' ((c.tc : Thread Cert.AdamOutBRefIdeal.nD Cert.AdamOutBRefIdeal.τ).loc Cert.AdamOutBRefIdeal.main_arg1)
          ∧ r.2.mem ((c.tc : Thread Cert.AdamOutBRefIdeal.nD Cert.AdamOutBRefIdeal.τ).loc Cert.AdamOutBRefIdeal.main_arg2) = m' ((c.tc : Thread Cert.AdamOutBRefIdeal.nD Cert.AdamOutBRefIdeal.τ).loc Cert.AdamOutBRefIdeal.main_arg2)
          ∧ r.2.mem ((c.tc : Thread Cert.AdamOutBRefIdeal.nD Cert.AdamOutBRefIdeal.τ).loc Cert.AdamOutBRefIdeal.main_arg3) = m' ((c.tc : Thread Cert.AdamOutBRefIdeal.nD Cert.AdamOutBRefIdeal.τ).loc Cert.AdamOutBRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamMany_AdamManyIdeal : Prop :=
  True

def algebraic_AdamManyIdeal_AdamManyRefIdeal [hAdamManyIdeal : Cert.AdamManyIdeal.Facts] [hAdamManyRefIdeal : Cert.AdamManyRefIdeal.Facts] : Prop :=
  ∀ (m : (ℓ : Loc Cert.AdamManyIdeal.nD Cert.AdamManyIdeal.τ Cert.AdamManyIdeal.sig) → Buf (Elt Ideal) ℓ) (g : Dev Cert.AdamManyIdeal.nD → PrngReg)
    (m' : (ℓ : Loc Cert.AdamManyRefIdeal.nD Cert.AdamManyRefIdeal.τ Cert.AdamManyRefIdeal.sig) → Buf (Elt Ideal) ℓ) (g' : Dev Cert.AdamManyRefIdeal.nD → PrngReg), Pre_AdamManyIdeal m →
    (∀ c : Dev Cert.AdamManyIdeal.nD,
      m' ((c.tc : Thread Cert.AdamManyRefIdeal.nD Cert.AdamManyRefIdeal.τ).loc Cert.AdamManyRefIdeal.main_arg0) = m ((c.tc : Thread Cert.AdamManyIdeal.nD Cert.AdamManyIdeal.τ).loc Cert.AdamManyIdeal.main_arg0)
      ∧ m' ((c.tc : Thread Cert.AdamManyRefIdeal.nD Cert.AdamManyRefIdeal.τ).loc Cert.AdamManyRefIdeal.main_arg1) = m ((c.tc : Thread Cert.AdamManyIdeal.nD Cert.AdamManyIdeal.τ).loc Cert.AdamManyIdeal.main_arg1)
      ∧ m' ((c.tc : Thread Cert.AdamManyRefIdeal.nD Cert.AdamManyRefIdeal.τ).loc Cert.AdamManyRefIdeal.main_arg2) = m ((c.tc : Thread Cert.AdamManyIdeal.nD Cert.AdamManyIdeal.τ).loc Cert.AdamManyIdeal.main_arg2)
      ∧ m' ((c.tc : Thread Cert.AdamManyRefIdeal.nD Cert.AdamManyRefIdeal.τ).loc Cert.AdamManyRefIdeal.main_arg3) = m ((c.tc : Thread Cert.AdamManyIdeal.nD Cert.AdamManyIdeal.τ).loc Cert.AdamManyIdeal.main_arg3)
      ∧ m' ((c.tc : Thread Cert.AdamManyRefIdeal.nD Cert.AdamManyRefIdeal.τ).loc Cert.AdamManyRefIdeal.main_arg4) = m ((c.tc : Thread Cert.AdamManyIdeal.nD Cert.AdamManyIdeal.τ).loc Cert.AdamManyIdeal.main_arg4)
      ∧ m' ((c.tc : Thread Cert.AdamManyRefIdeal.nD Cert.AdamManyRefIdeal.τ).loc Cert.AdamManyRefIdeal.main_arg5) = m ((c.tc : Thread Cert.AdamManyIdeal.nD Cert.AdamManyIdeal.τ).loc Cert.AdamManyIdeal.main_arg5)
      ∧ m' ((c.tc : Thread Cert.AdamManyRefIdeal.nD Cert.AdamManyRefIdeal.τ).loc Cert.AdamManyRefIdeal.main_arg6) = m ((c.tc : Thread Cert.AdamManyIdeal.nD Cert.AdamManyIdeal.τ).loc Cert.AdamManyIdeal.main_arg6)
      ∧ m' ((c.tc : Thread Cert.AdamManyRefIdeal.nD Cert.AdamManyRefIdeal.τ).loc Cert.AdamManyRefIdeal.main_arg7) = m ((c.tc : Thread Cert.AdamManyIdeal.nD Cert.AdamManyIdeal.τ).loc Cert.AdamManyIdeal.main_arg7)) →
    ∃ (v0 : (c : Dev Cert.AdamManyIdeal.nD) → Buf (Elt Ideal) ((c.tc : Thread Cert.AdamManyIdeal.nD Cert.AdamManyIdeal.τ).loc Cert.AdamManyIdeal.main_v0_0)) (v1 : (c : Dev Cert.AdamManyIdeal.nD) → Buf (Elt Ideal) ((c.tc : Thread Cert.AdamManyIdeal.nD Cert.AdamManyIdeal.τ).loc Cert.AdamManyIdeal.main_v0_1)) (v2 : (c : Dev Cert.AdamManyIdeal.nD) → Buf (Elt Ideal) ((c.tc : Thread Cert.AdamManyIdeal.nD Cert.AdamManyIdeal.τ).loc Cert.AdamManyIdeal.main_v0_2)) (v3 : (c : Dev Cert.AdamManyIdeal.nD) → Buf (Elt Ideal) ((c.tc : Thread Cert.AdamManyIdeal.nD Cert.AdamManyIdeal.τ).loc Cert.AdamManyIdeal.main_v0_3)) (v4 : (c : Dev Cert.AdamManyIdeal.nD) → Buf (Elt Ideal) ((c.tc : Thread Cert.AdamManyIdeal.nD Cert.AdamManyIdeal.τ).loc Cert.AdamManyIdeal.main_v0_4)) (v5 : (c : Dev Cert.AdamManyIdeal.nD) → Buf (Elt Ideal) ((c.tc : Thread Cert.AdamManyIdeal.nD Cert.AdamManyIdeal.τ).loc Cert.AdamManyIdeal.main_v0_5)),
      θ_run (Cert.AdamManyIdeal.defs (F := Ideal)) (onTc (τ := Cert.AdamManyIdeal.τ) (Cert.AdamManyIdeal.main (F := Ideal))) ⟨m, fun _ => 0, g⟩ (fun r => ∀ c : Dev Cert.AdamManyIdeal.nD,
          r.2.mem ((c.tc : Thread Cert.AdamManyIdeal.nD Cert.AdamManyIdeal.τ).loc Cert.AdamManyIdeal.main_v0_0) = v0 c
          ∧ r.2.mem ((c.tc : Thread Cert.AdamManyIdeal.nD Cert.AdamManyIdeal.τ).loc Cert.AdamManyIdeal.main_v0_1) = v1 c
          ∧ r.2.mem ((c.tc : Thread Cert.AdamManyIdeal.nD Cert.AdamManyIdeal.τ).loc Cert.AdamManyIdeal.main_v0_2) = v2 c
          ∧ r.2.mem ((c.tc : Thread Cert.AdamManyIdeal.nD Cert.AdamManyIdeal.τ).loc Cert.AdamManyIdeal.main_v0_3) = v3 c
          ∧ r.2.mem ((c.tc : Thread Cert.AdamManyIdeal.nD Cert.AdamManyIdeal.τ).loc Cert.AdamManyIdeal.main_v0_4) = v4 c
          ∧ r.2.mem ((c.tc : Thread Cert.AdamManyIdeal.nD Cert.AdamManyIdeal.τ).loc Cert.AdamManyIdeal.main_v0_5) = v5 c
          ∧ r.2.mem ((c.tc : Thread Cert.AdamManyIdeal.nD Cert.AdamManyIdeal.τ).loc Cert.AdamManyIdeal.main_arg0) = m ((c.tc : Thread Cert.AdamManyIdeal.nD Cert.AdamManyIdeal.τ).loc Cert.AdamManyIdeal.main_arg0)
          ∧ r.2.mem ((c.tc : Thread Cert.AdamManyIdeal.nD Cert.AdamManyIdeal.τ).loc Cert.AdamManyIdeal.main_arg1) = m ((c.tc : Thread Cert.AdamManyIdeal.nD Cert.AdamManyIdeal.τ).loc Cert.AdamManyIdeal.main_arg1)
          ∧ r.2.mem ((c.tc : Thread Cert.AdamManyIdeal.nD Cert.AdamManyIdeal.τ).loc Cert.AdamManyIdeal.main_arg2) = m ((c.tc : Thread Cert.AdamManyIdeal.nD Cert.AdamManyIdeal.τ).loc Cert.AdamManyIdeal.main_arg2)
          ∧ r.2.mem ((c.tc : Thread Cert.AdamManyIdeal.nD Cert.AdamManyIdeal.τ).loc Cert.AdamManyIdeal.main_arg3) = m ((c.tc : Thread Cert.AdamManyIdeal.nD Cert.AdamManyIdeal.τ).loc Cert.AdamManyIdeal.main_arg3)
          ∧ r.2.mem ((c.tc : Thread Cert.AdamManyIdeal.nD Cert.AdamManyIdeal.τ).loc Cert.AdamManyIdeal.main_arg4) = m ((c.tc : Thread Cert.AdamManyIdeal.nD Cert.AdamManyIdeal.τ).loc Cert.AdamManyIdeal.main_arg4)
          ∧ r.2.mem ((c.tc : Thread Cert.AdamManyIdeal.nD Cert.AdamManyIdeal.τ).loc Cert.AdamManyIdeal.main_arg5) = m ((c.tc : Thread Cert.AdamManyIdeal.nD Cert.AdamManyIdeal.τ).loc Cert.AdamManyIdeal.main_arg5)
          ∧ r.2.mem ((c.tc : Thread Cert.AdamManyIdeal.nD Cert.AdamManyIdeal.τ).loc Cert.AdamManyIdeal.main_arg6) = m ((c.tc : Thread Cert.AdamManyIdeal.nD Cert.AdamManyIdeal.τ).loc Cert.AdamManyIdeal.main_arg6)
          ∧ r.2.mem ((c.tc : Thread Cert.AdamManyIdeal.nD Cert.AdamManyIdeal.τ).loc Cert.AdamManyIdeal.main_arg7) = m ((c.tc : Thread Cert.AdamManyIdeal.nD Cert.AdamManyIdeal.τ).loc Cert.AdamManyIdeal.main_arg7))
      ∧ θ_run (Cert.AdamManyRefIdeal.defs (F := Ideal)) (onTc (τ := Cert.AdamManyRefIdeal.τ) (Cert.AdamManyRefIdeal.main (F := Ideal))) ⟨m', fun _ => 0, g'⟩ (fun r => ∀ c : Dev Cert.AdamManyRefIdeal.nD,
          r.2.mem ((c.tc : Thread Cert.AdamManyRefIdeal.nD Cert.AdamManyRefIdeal.τ).loc Cert.AdamManyRefIdeal.main_v23) = v0 c
          ∧ r.2.mem ((c.tc : Thread Cert.AdamManyRefIdeal.nD Cert.AdamManyRefIdeal.τ).loc Cert.AdamManyRefIdeal.main_v4) = v1 c
          ∧ r.2.mem ((c.tc : Thread Cert.AdamManyRefIdeal.nD Cert.AdamManyRefIdeal.τ).loc Cert.AdamManyRefIdeal.main_v10) = v2 c
          ∧ r.2.mem ((c.tc : Thread Cert.AdamManyRefIdeal.nD Cert.AdamManyRefIdeal.τ).loc Cert.AdamManyRefIdeal.main_v47) = v3 c
          ∧ r.2.mem ((c.tc : Thread Cert.AdamManyRefIdeal.nD Cert.AdamManyRefIdeal.τ).loc Cert.AdamManyRefIdeal.main_v28) = v4 c
          ∧ r.2.mem ((c.tc : Thread Cert.AdamManyRefIdeal.nD Cert.AdamManyRefIdeal.τ).loc Cert.AdamManyRefIdeal.main_v34) = v5 c
          ∧ r.2.mem ((c.tc : Thread Cert.AdamManyRefIdeal.nD Cert.AdamManyRefIdeal.τ).loc Cert.AdamManyRefIdeal.main_arg0) = m' ((c.tc : Thread Cert.AdamManyRefIdeal.nD Cert.AdamManyRefIdeal.τ).loc Cert.AdamManyRefIdeal.main_arg0)
          ∧ r.2.mem ((c.tc : Thread Cert.AdamManyRefIdeal.nD Cert.AdamManyRefIdeal.τ).loc Cert.AdamManyRefIdeal.main_arg1) = m' ((c.tc : Thread Cert.AdamManyRefIdeal.nD Cert.AdamManyRefIdeal.τ).loc Cert.AdamManyRefIdeal.main_arg1)
          ∧ r.2.mem ((c.tc : Thread Cert.AdamManyRefIdeal.nD Cert.AdamManyRefIdeal.τ).loc Cert.AdamManyRefIdeal.main_arg2) = m' ((c.tc : Thread Cert.AdamManyRefIdeal.nD Cert.AdamManyRefIdeal.τ).loc Cert.AdamManyRefIdeal.main_arg2)
          ∧ r.2.mem ((c.tc : Thread Cert.AdamManyRefIdeal.nD Cert.AdamManyRefIdeal.τ).loc Cert.AdamManyRefIdeal.main_arg3) = m' ((c.tc : Thread Cert.AdamManyRefIdeal.nD Cert.AdamManyRefIdeal.τ).loc Cert.AdamManyRefIdeal.main_arg3)
          ∧ r.2.mem ((c.tc : Thread Cert.AdamManyRefIdeal.nD Cert.AdamManyRefIdeal.τ).loc Cert.AdamManyRefIdeal.main_arg4) = m' ((c.tc : Thread Cert.AdamManyRefIdeal.nD Cert.AdamManyRefIdeal.τ).loc Cert.AdamManyRefIdeal.main_arg4)
          ∧ r.2.mem ((c.tc : Thread Cert.AdamManyRefIdeal.nD Cert.AdamManyRefIdeal.τ).loc Cert.AdamManyRefIdeal.main_arg5) = m' ((c.tc : Thread Cert.AdamManyRefIdeal.nD Cert.AdamManyRefIdeal.τ).loc Cert.AdamManyRefIdeal.main_arg5)
          ∧ r.2.mem ((c.tc : Thread Cert.AdamManyRefIdeal.nD Cert.AdamManyRefIdeal.τ).loc Cert.AdamManyRefIdeal.main_arg6) = m' ((c.tc : Thread Cert.AdamManyRefIdeal.nD Cert.AdamManyRefIdeal.τ).loc Cert.AdamManyRefIdeal.main_arg6)
          ∧ r.2.mem ((c.tc : Thread Cert.AdamManyRefIdeal.nD Cert.AdamManyRefIdeal.τ).loc Cert.AdamManyRefIdeal.main_arg7) = m' ((c.tc : Thread Cert.AdamManyRefIdeal.nD Cert.AdamManyRefIdeal.τ).loc Cert.AdamManyRefIdeal.main_arg7))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def Claim : Prop :=
  ∃ (hOutproj : Cert.Outproj.Facts) (hOutprojIdeal : Cert.OutprojIdeal.Facts) (hOutprojRefIdeal : Cert.OutprojRefIdeal.Facts) (hAttnB : Cert.AttnB.Facts) (hAttnBIdeal : Cert.AttnBIdeal.Facts) (hAttnBRefIdeal : Cert.AttnBRefIdeal.Facts) (hDwOut : Cert.DwOut.Facts) (hDwOutIdeal : Cert.DwOutIdeal.Facts) (hDwOutRefIdeal : Cert.DwOutRefIdeal.Facts) (hDwInA : Cert.DwInA.Facts) (hDwInAIdeal : Cert.DwInAIdeal.Facts) (hDwInARefIdeal : Cert.DwInARefIdeal.Facts) (hDwInB : Cert.DwInB.Facts) (hDwInBIdeal : Cert.DwInBIdeal.Facts) (hDwInBRefIdeal : Cert.DwInBRefIdeal.Facts) (hDwInC : Cert.DwInC.Facts) (hDwInCIdeal : Cert.DwInCIdeal.Facts) (hDwInCRefIdeal : Cert.DwInCRefIdeal.Facts) (hQkvA : Cert.QkvA.Facts) (hQkvAIdeal : Cert.QkvAIdeal.Facts) (hQkvARefIdeal : Cert.QkvARefIdeal.Facts) (hGateA : Cert.GateA.Facts) (hGateAIdeal : Cert.GateAIdeal.Facts) (hGateARefIdeal : Cert.GateARefIdeal.Facts) (hQkvB : Cert.QkvB.Facts) (hQkvBIdeal : Cert.QkvBIdeal.Facts) (hQkvBRefIdeal : Cert.QkvBRefIdeal.Facts) (hGateB : Cert.GateB.Facts) (hGateBIdeal : Cert.GateBIdeal.Facts) (hGateBRefIdeal : Cert.GateBRefIdeal.Facts) (hGated : Cert.Gated.Facts) (hGatedIdeal : Cert.GatedIdeal.Facts) (hGatedRefIdeal : Cert.GatedRefIdeal.Facts) (hPrenorm : Cert.Prenorm.Facts) (hPrenormIdeal : Cert.PrenormIdeal.Facts) (hPrenormRefIdeal : Cert.PrenormRefIdeal.Facts) (hAdamInA : Cert.AdamInA.Facts) (hAdamInAIdeal : Cert.AdamInAIdeal.Facts) (hAdamInARefIdeal : Cert.AdamInARefIdeal.Facts) (hAdamOutA : Cert.AdamOutA.Facts) (hAdamOutAIdeal : Cert.AdamOutAIdeal.Facts) (hAdamOutARefIdeal : Cert.AdamOutARefIdeal.Facts) (hAdamOutB : Cert.AdamOutB.Facts) (hAdamOutBIdeal : Cert.AdamOutBIdeal.Facts) (hAdamOutBRefIdeal : Cert.AdamOutBRefIdeal.Facts) (hAdamSmall : Cert.AdamSmall.Facts) (hAdamSmallIdeal : Cert.AdamSmallIdeal.Facts) (hAdamSmallRefIdeal : Cert.AdamSmallRefIdeal.Facts) (hAdamMany : Cert.AdamMany.Facts) (hAdamManyIdeal : Cert.AdamManyIdeal.Facts) (hAdamManyRefIdeal : Cert.AdamManyRefIdeal.Facts) (hLossHead : Cert.LossHead.Facts) (hLossHeadIdeal : Cert.LossHeadIdeal.Facts) (hLossHeadRefIdeal : Cert.LossHeadRefIdeal.Facts) (hPre_outproj_finite : Cert.Pre_outproj_finite.Facts) (hPre_attnb_finite : Cert.Pre_attnb_finite.Facts),
    quiescent_Outproj (hOutproj := hOutproj)
    ∧ quiescent_OutprojIdeal (hOutprojIdeal := hOutprojIdeal)
    ∧ quiescent_OutprojIdeal_pre_outproj_finite (hOutprojIdeal := hOutprojIdeal) (hPre_outproj_finite := hPre_outproj_finite)
    ∧ quiescent_OutprojRefIdeal (hOutprojRefIdeal := hOutprojRefIdeal)
    ∧ quiescent_OutprojRefIdeal_pre_outproj_finite (hOutprojRefIdeal := hOutprojRefIdeal) (hPre_outproj_finite := hPre_outproj_finite)
    ∧ quiescent_AttnB (hAttnB := hAttnB)
    ∧ quiescent_AttnBIdeal (hAttnBIdeal := hAttnBIdeal)
    ∧ quiescent_AttnBIdeal_pre_attnb_finite (hAttnBIdeal := hAttnBIdeal) (hPre_attnb_finite := hPre_attnb_finite)
    ∧ quiescent_AttnBRefIdeal (hAttnBRefIdeal := hAttnBRefIdeal)
    ∧ quiescent_AttnBRefIdeal_pre_attnb_finite (hAttnBRefIdeal := hAttnBRefIdeal) (hPre_attnb_finite := hPre_attnb_finite)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwInA (hDwInA := hDwInA)
    ∧ quiescent_DwInAIdeal (hDwInAIdeal := hDwInAIdeal)
    ∧ quiescent_DwInARefIdeal (hDwInARefIdeal := hDwInARefIdeal)
    ∧ quiescent_DwInB (hDwInB := hDwInB)
    ∧ quiescent_DwInBIdeal (hDwInBIdeal := hDwInBIdeal)
    ∧ quiescent_DwInBRefIdeal (hDwInBRefIdeal := hDwInBRefIdeal)
    ∧ quiescent_DwInC (hDwInC := hDwInC)
    ∧ quiescent_DwInCIdeal (hDwInCIdeal := hDwInCIdeal)
    ∧ quiescent_DwInCRefIdeal (hDwInCRefIdeal := hDwInCRefIdeal)
    ∧ quiescent_QkvA (hQkvA := hQkvA)
    ∧ quiescent_QkvAIdeal (hQkvAIdeal := hQkvAIdeal)
    ∧ quiescent_QkvARefIdeal (hQkvARefIdeal := hQkvARefIdeal)
    ∧ quiescent_GateA (hGateA := hGateA)
    ∧ quiescent_GateAIdeal (hGateAIdeal := hGateAIdeal)
    ∧ quiescent_GateARefIdeal (hGateARefIdeal := hGateARefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ quiescent_GateB (hGateB := hGateB)
    ∧ quiescent_GateBIdeal (hGateBIdeal := hGateBIdeal)
    ∧ quiescent_GateBRefIdeal (hGateBRefIdeal := hGateBRefIdeal)
    ∧ quiescent_Gated (hGated := hGated)
    ∧ quiescent_GatedIdeal (hGatedIdeal := hGatedIdeal)
    ∧ quiescent_GatedRefIdeal (hGatedRefIdeal := hGatedRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_AdamInA (hAdamInA := hAdamInA)
    ∧ quiescent_AdamInAIdeal (hAdamInAIdeal := hAdamInAIdeal)
    ∧ quiescent_AdamInARefIdeal (hAdamInARefIdeal := hAdamInARefIdeal)
    ∧ quiescent_AdamOutA (hAdamOutA := hAdamOutA)
    ∧ quiescent_AdamOutAIdeal (hAdamOutAIdeal := hAdamOutAIdeal)
    ∧ quiescent_AdamOutARefIdeal (hAdamOutARefIdeal := hAdamOutARefIdeal)
    ∧ quiescent_AdamOutB (hAdamOutB := hAdamOutB)
    ∧ quiescent_AdamOutBIdeal (hAdamOutBIdeal := hAdamOutBIdeal)
    ∧ quiescent_AdamOutBRefIdeal (hAdamOutBRefIdeal := hAdamOutBRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamMany (hAdamMany := hAdamMany)
    ∧ quiescent_AdamManyIdeal (hAdamManyIdeal := hAdamManyIdeal)
    ∧ quiescent_AdamManyRefIdeal (hAdamManyRefIdeal := hAdamManyRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ preserves_Outproj_OutprojIdeal
    ∧ algebraic_OutprojIdeal_OutprojRefIdeal_pre_outproj_finite (hOutprojIdeal := hOutprojIdeal) (hOutprojRefIdeal := hOutprojRefIdeal) (hPre_outproj_finite := hPre_outproj_finite)
    ∧ preserves_AttnB_AttnBIdeal
    ∧ algebraic_AttnBIdeal_AttnBRefIdeal_pre_attnb_finite (hAttnBIdeal := hAttnBIdeal) (hAttnBRefIdeal := hAttnBRefIdeal) (hPre_attnb_finite := hPre_attnb_finite)
    ∧ preserves_DwOut_DwOutIdeal
    ∧ algebraic_DwOutIdeal_DwOutRefIdeal (hDwOutIdeal := hDwOutIdeal) (hDwOutRefIdeal := hDwOutRefIdeal)
    ∧ preserves_DwInA_DwInAIdeal
    ∧ algebraic_DwInAIdeal_DwInARefIdeal (hDwInAIdeal := hDwInAIdeal) (hDwInARefIdeal := hDwInARefIdeal)
    ∧ preserves_DwInB_DwInBIdeal
    ∧ algebraic_DwInBIdeal_DwInBRefIdeal (hDwInBIdeal := hDwInBIdeal) (hDwInBRefIdeal := hDwInBRefIdeal)
    ∧ preserves_DwInC_DwInCIdeal
    ∧ algebraic_DwInCIdeal_DwInCRefIdeal (hDwInCIdeal := hDwInCIdeal) (hDwInCRefIdeal := hDwInCRefIdeal)
    ∧ preserves_QkvA_QkvAIdeal
    ∧ algebraic_QkvAIdeal_QkvARefIdeal (hQkvAIdeal := hQkvAIdeal) (hQkvARefIdeal := hQkvARefIdeal)
    ∧ preserves_GateA_GateAIdeal
    ∧ algebraic_GateAIdeal_GateARefIdeal (hGateAIdeal := hGateAIdeal) (hGateARefIdeal := hGateARefIdeal)
    ∧ preserves_QkvB_QkvBIdeal
    ∧ algebraic_QkvBIdeal_QkvBRefIdeal (hQkvBIdeal := hQkvBIdeal) (hQkvBRefIdeal := hQkvBRefIdeal)
    ∧ preserves_GateB_GateBIdeal
    ∧ algebraic_GateBIdeal_GateBRefIdeal (hGateBIdeal := hGateBIdeal) (hGateBRefIdeal := hGateBRefIdeal)
    ∧ preserves_Gated_GatedIdeal
    ∧ algebraic_GatedIdeal_GatedRefIdeal (hGatedIdeal := hGatedIdeal) (hGatedRefIdeal := hGatedRefIdeal)
    ∧ preserves_Prenorm_PrenormIdeal
    ∧ algebraic_PrenormIdeal_PrenormRefIdeal (hPrenormIdeal := hPrenormIdeal) (hPrenormRefIdeal := hPrenormRefIdeal)
    ∧ preserves_AdamInA_AdamInAIdeal
    ∧ algebraic_AdamInAIdeal_AdamInARefIdeal (hAdamInAIdeal := hAdamInAIdeal) (hAdamInARefIdeal := hAdamInARefIdeal)
    ∧ preserves_AdamOutA_AdamOutAIdeal
    ∧ algebraic_AdamOutAIdeal_AdamOutARefIdeal (hAdamOutAIdeal := hAdamOutAIdeal) (hAdamOutARefIdeal := hAdamOutARefIdeal)
    ∧ preserves_AdamOutB_AdamOutBIdeal
    ∧ algebraic_AdamOutBIdeal_AdamOutBRefIdeal (hAdamOutBIdeal := hAdamOutBIdeal) (hAdamOutBRefIdeal := hAdamOutBRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamMany_AdamManyIdeal
    ∧ algebraic_AdamManyIdeal_AdamManyRefIdeal (hAdamManyIdeal := hAdamManyIdeal) (hAdamManyRefIdeal := hAdamManyRefIdeal)
    ∧ preserves_LossHead_LossHeadIdeal
    ∧ algebraic_LossHeadIdeal_LossHeadRefIdeal (hLossHeadIdeal := hLossHeadIdeal) (hLossHeadRefIdeal := hLossHeadRefIdeal)
-- ==== Pre_attnb_finite.lean ====
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  bcast_S_S2048x6144 : S_.BroadcastsInDim S2048x6144 (![] : Fin 0 → Fin S2048x6144.rank)
  reducesTo_S2048x6144_S_d0_1 : S2048x6144.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x6144 .bf16) (main_arg1 : FVec F S2048x2048 .bf16) : IVec S_ 1 :=
  let main_v0 : FVec F S2048x6144 .f32 := (extf .f32 · bitsLt_bf16_f32) main_arg0
  let main_v1 : FVec F S2048x6144 .f32 := Host.absf main_v0
  let main_cst : FVec F S_ .f32 := constant S_ .f32 0x7F800000#32
  let main_v2 : FVec F S2048x6144 .f32 := broadcastInDim S2048x6144 ![] bcast_S_S2048x6144 main_cst
  let main_v3 : IVec S2048x6144 1 := cmpf .olt main_v1 main_v2
  let main_c : IVec S_ 1 := constantI S_ 1 1#1
  let main_v4 : IVec S_ 1 := (fun x v => Host.reduce IntOp.andi x v reducesTo_S2048x6144_S_d0_1 h_S_) main_v3 main_c
  let main_v5 : FVec F S2048x2048 .f32 := (extf .f32 · bitsLt_bf16_f32) main_arg1
  let main_v6 : FVec F S2048x2048 .f32 := Host.absf main_v5
  let main_cst_0 : FVec F S_ .f32 := constant S_ .f32 0x7F800000#32
  let main_v7 : FVec F S2048x2048 .f32 := broadcastInDim S2048x2048 ![] bcast_S_S2048x2048 main_cst_0
  let main_v8 : IVec S2048x2048 1 := cmpf .olt main_v6 main_v7
  let main_c_1 : IVec S_ 1 := constantI S_ 1 1#1
  let main_v9 : IVec S_ 1 := (fun x v => Host.reduce IntOp.andi x v reducesTo_S2048x2048_S_d0_1 h_S_) main_v8 main_c_1
  let main_v10 : IVec S_ 1 := andi main_v4 main_v9
  main_v10
-- ==== Pre_outproj_finite.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bitsLt_bf16_f32 : FTy.bits .bf16 < FTy.bits .f32

variable [Facts]

def fn_part1 {F : FTy → Type} [FloatOps F] (main_arg4 : FVec F S2048x2048 .f32) (main_v14 : IVec S_ 1) (main_v15 : FVec F S2048x2048 .f32) (main_v16 : FVec F S2048x2048 .f32) : IVec S_ 1 :=
  let main_v17 : IVec S2048x2048 1 := cmpf .olt main_v15 main_v16
  let main_c_5 : IVec S_ 1 := constantI S_ 1 1#1
  let main_v18 : IVec S_ 1 := (fun x v => Host.reduce IntOp.andi x v reducesTo_S2048x2048_S_d0_1 h_S_) main_v17 main_c_5
  let main_v19 : IVec S_ 1 := andi main_v14 main_v18
  let main_v20 : FVec F S2048x2048 .f32 := Host.absf main_arg4
  let main_cst_6 : FVec F S_ .f32 := constant S_ .f32 0x7F800000#32
  let main_v21 : FVec F S2048x2048 .f32 := broadcastInDim S2048x2048 ![] bcast_S_S2048x2048 main_cst_6
  let main_v22 : IVec S2048x2048 1 := cmpf .olt main_v20 main_v21
  let main_c_7 : IVec S_ 1 := constantI S_ 1 1#1
  let main_v23 : IVec S_ 1 := (fun x v => Host.reduce IntOp.andi x v reducesTo_S2048x2048_S_d0_1 h_S_) main_v22 main_c_7
  let main_v24 : IVec S_ 1 := andi main_v19 main_v23
  main_v24

def fn {F : FTy → Type} [FloatOps F] (main_arg0 : FVec F S2048x2048 .f32) (main_arg1 : FVec F S1x2048 .f32) (main_arg2 : FVec F S2048x2048 .bf16) (main_arg3 : FVec F S2048x2048 .f32) (main_arg4 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x2048 .f32 := (extf .f32 · bitsLt_bf16_f32) main_arg2
  let main_v10 : FVec F S2048x2048 .f32 := Host.absf main_v9
  let main_cst_2 : FVec F S_ .f32 := constant S_ .f32 0x7F800000#32
  let main_v11 : FVec F S2048x2048 .f32 := broadcastInDim S2048x2048 ![] bcast_S_S2048x2048 main_cst_2
  let main_v12 : IVec S2048x2048 1 := cmpf .olt main_v10 main_v11
  let main_c_3 : IVec S_ 1 := constantI S_ 1 1#1
  let main_v13 : IVec S_ 1 := (fun x v => Host.reduce IntOp.andi x v reducesTo_S2048x2048_S_d0_1 h_S_) main_v12 main_c_3
  let main_v14 : IVec S_ 1 := andi main_v8 main_v13
  let main_v15 : FVec F S2048x2048 .f32 := Host.absf main_arg3
  let main_cst_4 : FVec F S_ .f32 := constant S_ .f32 0x7F800000#32
  let main_v16 : FVec F S2048x2048 .f32 := broadcastInDim S2048x2048 ![] bcast_S_S2048x2048 main_cst_4
  fn_part1 (F := F) main_arg4 main_v14 main_v15 main_v16
-- ==== Outproj.lean ====
abbrev S2048x2048 : Shape := ⟨2, ![2048, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 21
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S1x2048, .f32⟩
  | .hbm, ⟨19, _⟩ => ⟨S2048x2048, .bf16⟩
  | .hbm, ⟨20, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutprojRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x2048, .f32⟩
  | .hbm, ⟨51, _⟩ => ⟨S2048x2048, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .bf16⟩
  | .hbm, ⟨71, _⟩ => ⟨S2048x2048, .bf16⟩
  | .hbm, ⟨72, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]
-- ==== AttnB.lean ====
abbrev S2048x6144 : Shape := ⟨2, ![2048, 6144]⟩
abbrev S2048x2048 : Shape := ⟨2, ![2048, 2048]⟩
abbrev S2048x32x64 : Shape := ⟨3, ![2048, 32, 64]⟩
abbrev S32x2048x64 : Shape := ⟨3, ![32, 2048, 64]⟩
abbrev S2048 : Shape := ⟨1, ![2048]⟩
abbrev S32x2048x2048 : Shape := ⟨3, ![32, 2048, 2048]⟩
abbrev S_ : Shape := ⟨0, ![]⟩
abbrev S1x2048 : Shape := ⟨2, ![1, 2048]⟩
abbrev S2048x1 : Shape := ⟨2, ![2048, 1]⟩
abbrev S32x2048 : Shape := ⟨2, ![32, 2048]⟩
abbrev S2048x32 : Shape := ⟨2, ![2048, 32]⟩
abbrev S2048x32x1 : Shape := ⟨3, ![2048, 32, 1]⟩
abbrev S2048x32x128 : Shape := ⟨3, ![2048, 32, 128]⟩
abbrev S2048x4096 : Shape := ⟨2, ![2048, 4096]⟩
abbrev S2048x128 : Shape := ⟨2, ![2048, 128]⟩
abbrev S2048x256 : Shape := ⟨2, ![2048, 256]⟩
abbrev S1x128 : Shape := ⟨2, ![1, 128]⟩
abbrev S512x256 : Shape := ⟨2, ![512, 256]⟩
abbrev S256x256 : Shape := ⟨2, ![256, 256]⟩
abbrev S256x128 : Shape := ⟨2, ![256, 128]⟩
abbrev S512x128 : Shape := ⟨2, ![512, 128]⟩
abbrev S256x1 : Shape := ⟨2, ![256, 1]⟩
abbrev S512x1 : Shape := ⟨2, ![512, 1]⟩

abbrev nBuf : Space → Nat
  | .hbm => 50
  | .vmem => 18
  | .smem => 0
  | _ => 0

abbrev bufTy : (tb : Table) → Fin (tcTables nBuf tb) → BufTy
  | .hbm, ⟨0, _⟩ => ⟨S2048x6144, .bf16⟩
  | .hbm, ⟨1, _⟩ => ⟨S2048x2048, .bf16⟩
  | .hbm, ⟨2, _⟩ => ⟨S2048x6144, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x32x64, .f32⟩
  | .hbm, ⟨7, _⟩ => ⟨S32x2048x64, .f32⟩
  | .hbm, ⟨8, _⟩ => ⟨S2048x32x64, .f32⟩
  | .hbm, ⟨9, _⟩ => ⟨S2048, .i32⟩
  | .hbm, ⟨10, _⟩ => ⟨S32x2048x2048, .f32⟩
  | .hbm, ⟨11, _⟩ => ⟨S_, .f32⟩
  | .hbm, ⟨12, _⟩ => ⟨S32x2048x2048, .f32⟩
  | .hbm, ⟨13, _⟩ => ⟨S32x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S32x2048x2048, .f32⟩
  | .hbm, ⟨23, _⟩ => ⟨S32x2048x2048, .f32⟩
  | .hbm, ⟨24, _⟩ => ⟨S32x2048x2048, .f32⟩
  | .hbm, ⟨25, _⟩ => ⟨S32x2048x2048, .f32⟩
  | .hbm, ⟨26, _⟩ => ⟨S32x2048x2048, .i1⟩
  | .hbm, ⟨27, _⟩ => ⟨S32x2048x2048, .f32⟩
  | .hbm, ⟨28, _⟩ => ⟨S32x2048x2048, .f32⟩
  | .hbm, ⟨29, _⟩ => ⟨S32x2048x2048, .f32⟩
  | .hbm, ⟨30, _⟩ => ⟨S32x2048x2048, .f32⟩
  | .hbm, ⟨31, _⟩ => ⟨S32x2048x2048, .f32⟩
  | .hbm, ⟨32, _⟩ => ⟨S32x2048x2048, .f32⟩
  | .hbm, ⟨33, _⟩ => ⟨S32x2048x2048, .f32⟩
  | .hbm, ⟨34, _⟩ => ⟨S32x2048x2048, .f32⟩
  | .hbm, ⟨35, _⟩ => ⟨S32x2048x2048, .f32⟩
  | .hbm, ⟨36, _⟩ => ⟨S_, .f32⟩
  | .hbm, ⟨37, _⟩ => ⟨S_, .f32⟩
  | .hbm, ⟨38, _⟩ => ⟨S32x2048x2048, .i1⟩
  | .hbm, ⟨39, _⟩ => ⟨S32x2048x2048, .f32⟩
  | .hbm, ⟨40, _⟩ => ⟨S32x2048x2048, .f32⟩
  | .hbm, ⟨41, _⟩ => ⟨S_, .f32⟩
  | .hbm, ⟨42, _⟩ => ⟨S32x2048, .f32⟩
  | .hbm, ⟨43, _⟩ => ⟨S2048x32, .f32⟩
  | .hbm, ⟨44, _⟩ => ⟨S2048x32x1, .f32⟩
  | .hbm, ⟨45, _⟩ => ⟨S2048x32x128, .f32⟩
  | .hbm, ⟨46, _⟩ => ⟨S2048x4096, .f32⟩
  | .hbm, ⟨47, _⟩ => ⟨S2048x2048, .bf16⟩
  | .hbm, ⟨48, _⟩ => ⟨S2048x2048, .bf16⟩
  | .hbm, ⟨49, _⟩ => ⟨S2048x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x256, .f32⟩
  | .local _ .vmem, ⟨7, _⟩ => ⟨S2048x256, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v25 : BitVec 32 := Scalar.addi c0_i32 c8_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_14 : BitVec 32 := 256#32
  let v32 : BitVec 32 := Scalar.muli arg11 c256_i32_14
  v32
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_14 : BitVec 32 := 256#32
  let v32 : BitVec 32 := Scalar.muli arg11 c256_i32_14
  let v33 : BitVec 32 := v32
  let v34 : Index := Scalar.indexCast v33
  let c0_15 : Index := 0#32
  ![v34.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_14 : BitVec 32 := 256#32
  let v32 : BitVec 32 := Scalar.muli arg11 c256_i32_14
  let v33 : BitVec 32 := v32
  let v62 : Index := Scalar.indexCast v33
  let c0_22 : Index := 0#32
  ![v62.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c256_i32_14 : BitVec 32 := 256#32
  let v32 : BitVec 32 := Scalar.muli arg11 c256_i32_14
  let v33 : BitVec 32 := v32
  let v65 : Index := Scalar.indexCast v33
  let c128 : Index := 128#32
  ![v65.toNat, 128]
@[reducible] def k0_t2_loop (k0_t1 : Fin k0_t1_loop.trips) : Scf.Loop 32 :=
  let c0_i32_32 : BitVec 32 := 0#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v89 : BitVec 32 := Scalar.subi v88 c0_i32_32
  let c1_i32_33 : BitVec 32 := 1#32
  let v91 : BitVec 32 := Scalar.divsi v89 c1_i32_33
  let v92 : BitVec 32 := Scalar.muli v91 c1_i32_33
  let v93 : BitVec 32 := Scalar.addi c0_i32_32 v92
  let c1_i32_34 : BitVec 32 := 1#32
  ⟨c0_i32_32, v93, c1_i32_34⟩
def k0_mult2 (k0_t1 : Fin k0_t1_loop.trips) (k0_t2 : Fin (k0_t2_loop k0_t1).trips) : BitVec 32 :=
  let c0_i32_87 : BitVec 32 := 0#32
  let c4_i32_86 : BitVec 32 := 4#32
  let c0_i32_32 : BitVec 32 := 0#32
  let c1_i32_34 : BitVec 32 := 1#32
  let arg12 : BitVec 32 := Scf.iv c0_i32_32 c1_i32_34 k0_t2
  let v229 : BitVec 32 := Scalar.muli c4_i32_86 arg12
  let v230 : BitVec 32 := Scalar.addi c0_i32_87 v229
  let c0_i32_88 : BitVec 32 := 0#32
  let v231 : BitVec 32 := Scalar.addi v230 c0_i32_88
  let c256_i32_89 : BitVec 32 := 256#32
  let v232 : BitVec 32 := Scalar.muli v231 c256_i32_89
  v232
def k0_off4 (k0_t1 : Fin k0_t1_loop.trips) (k0_t2 : Fin (k0_t2_loop k0_t1).trips) (c0_i32_88 : BitVec 32) : Fin 2 → Nat :=
  let c0_i32_87 : BitVec 32 := 0#32
  let c4_i32_86 : BitVec 32 := 4#32
  let c0_i32_32 : BitVec 32 := 0#32
  let c1_i32_34 : BitVec 32 := 1#32
  let arg12 : BitVec 32 := Scf.iv c0_i32_32 c1_i32_34 k0_t2
  let v229 : BitVec 32 := Scalar.muli c4_i32_86 arg12
  let v230 : BitVec 32 := Scalar.addi c0_i32_87 v229
  let v231 : BitVec 32 := Scalar.addi v230 c0_i32_88
  let c256_i32_89 : BitVec 32 := 256#32
  let v232 : BitVec 32 := Scalar.muli v231 c256_i32_89
  let v233 : BitVec 32 := v232
  let v234 : Index := Scalar.indexCast v233
  let c0_90 : Index := 0#32
  ![v234.toNat, 0]
def k0_mult3 (k0_t1 : Fin k0_t1_loop.trips) (k0_t2 : Fin (k0_t2_loop k0_t1).trips) : BitVec 32 :=
  let c0_i32_111 : BitVec 32 := 0#32
  let c4_i32_110 : BitVec 32 := 4#32
  let c0_i32_32 : BitVec 32 := 0#32
  let c1_i32_34 : BitVec 32 := 1#32
  let arg12 : BitVec 32 := Scf.iv c0_i32_32 c1_i32_34 k0_t2
  let v304 : BitVec 32 := Scalar.muli c4_i32_110 arg12
  let v305 : BitVec 32 := Scalar.addi c0_i32_111 v304
  let c1_i32_112 : BitVec 32 := 1#32
  let v306 : BitVec 32 := Scalar.addi v305 c1_i32_112
  let c256_i32_113 : BitVec 32 := 256#32
  let v307 : BitVec 32 := Scalar.muli v306 c256_i32_113
  v307
def k0_mult4 (k0_t1 : Fin k0_t1_loop.trips) (k0_t2 : Fin (k0_t2_loop k0_t1).trips) : BitVec 32 :=
  let c0_i32_135 : BitVec 32 := 0#32
  let c4_i32_134 : BitVec 32 := 4#32
  let c0_i32_32 : BitVec 32 := 0#32
  let c1_i32_34 : BitVec 32 := 1#32
  let arg12 : BitVec 32 := Scf.iv c0_i32_32 c1_i32_34 k0_t2
  let v379 : BitVec 32 := Scalar.muli c4_i32_134 arg12
  let v380 : BitVec 32 := Scalar.addi c0_i32_135 v379
  let c2_i32_136 : BitVec 32 := 2#32
  let v381 : BitVec 32 := Scalar.addi v380 c2_i32_136
  let c256_i32_137 : BitVec 32 := 256#32
  let v382 : BitVec 32 := Scalar.muli v381 c256_i32_137
  v382
def k0_mult5 (k0_t1 : Fin k0_t1_loop.trips) (k0_t2 : Fin (k0_t2_loop k0_t1).trips) : BitVec 32 :=
  let c0_i32_159 : BitVec 32 := 0#32
  let c4_i32_158 : BitVec 32 := 4#32
  let c0_i32_32 : BitVec 32 := 0#32
  let c1_i32_34 : BitVec 32 := 1#32
  let arg12 : BitVec 32 := Scf.iv c0_i32_32 c1_i32_34 k0_t2
  let v454 : BitVec 32 := Scalar.muli c4_i32_158 arg12
  let v455 : BitVec 32 := Scalar.addi c0_i32_159 v454
  let c3_i32 : BitVec 32 := 3#32
  let v456 : BitVec 32 := Scalar.addi v455 c3_i32
  let c256_i32_160 : BitVec 32 := 256#32
  let v457 : BitVec 32 := Scalar.muli v456 c256_i32_160
  v457
@[reducible] def k0_t3_loop (k0_t1 : Fin k0_t1_loop.trips) : Scf.Loop 32 :=
  let c0_i32_32 : BitVec 32 := 0#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v89 : BitVec 32 := Scalar.subi v88 c0_i32_32
  let c1_i32_33 : BitVec 32 := 1#32
  let v91 : BitVec 32 := Scalar.divsi v89 c1_i32_33
  let v92 : BitVec 32 := Scalar.muli v91 c1_i32_33
  let v93 : BitVec 32 := Scalar.addi c0_i32_32 v92
  let v90 : BitVec 32 := Scalar.addi c0_i32_32 v89
  let c1_i32_35 : BitVec 32 := 1#32
  ⟨v93, v90, c1_i32_35⟩
def k0_mult6 (k0_t1 : Fin k0_t1_loop.trips) (k0_t3 : Fin (k0_t3_loop k0_t1).trips) : BitVec 32 :=
  let c0_i32_87 : BitVec 32 := 0#32
  let c4_i32_86 : BitVec 32 := 4#32
  let c0_i32_32 : BitVec 32 := 0#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v89 : BitVec 32 := Scalar.subi v88 c0_i32_32
  let c1_i32_33 : BitVec 32 := 1#32
  let v91 : BitVec 32 := Scalar.divsi v89 c1_i32_33
  let v92 : BitVec 32 := Scalar.muli v91 c1_i32_33
  let v93 : BitVec 32 := Scalar.addi c0_i32_32 v92
  let c1_i32_35 : BitVec 32 := 1#32
  let arg12 : BitVec 32 := Scf.iv v93 c1_i32_35 k0_t3
  let v229 : BitVec 32 := Scalar.muli c4_i32_86 arg12
  let v230 : BitVec 32 := Scalar.addi c0_i32_87 v229
  let c0_i32_88 : BitVec 32 := 0#32
  let v231 : BitVec 32 := Scalar.addi v230 c0_i32_88
  let c256_i32_89 : BitVec 32 := 256#32
  let v232 : BitVec 32 := Scalar.muli v231 c256_i32_89
  v232
def k0_off5 (k0_t1 : Fin k0_t1_loop.trips) (k0_t3 : Fin (k0_t3_loop k0_t1).trips) (c0_i32_88 : BitVec 32) : Fin 2 → Nat :=
  let c0_i32_87 : BitVec 32 := 0#32
  let c4_i32_86 : BitVec 32 := 4#32
  let c0_i32_32 : BitVec 32 := 0#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v89 : BitVec 32 := Scalar.subi v88 c0_i32_32
  let c1_i32_33 : BitVec 32 := 1#32
  let v91 : BitVec 32 := Scalar.divsi v89 c1_i32_33
  let v92 : BitVec 32 := Scalar.muli v91 c1_i32_33
  let v93 : BitVec 32 := Scalar.addi c0_i32_32 v92
  let c1_i32_35 : BitVec 32 := 1#32
  let arg12 : BitVec 32 := Scf.iv v93 c1_i32_35 k0_t3
  let v229 : BitVec 32 := Scalar.muli c4_i32_86 arg12
  let v230 : BitVec 32 := Scalar.addi c0_i32_87 v229
  let v231 : BitVec 32 := Scalar.addi v230 c0_i32_88
  let c256_i32_89 : BitVec 32 := 256#32
  let v232 : BitVec 32 := Scalar.muli v231 c256_i32_89
  let v233 : BitVec 32 := v232
  let v234 : Index := Scalar.indexCast v233
  let c0_90 : Index := 0#32
  ![v234.toNat, 0]
def k0_mult7 (k0_t1 : Fin k0_t1_loop.trips) (k0_t3 : Fin (k0_t3_loop k0_t1).trips) : BitVec 32 :=
  let c0_i32_111 : BitVec 32 := 0#32
  let c4_i32_110 : BitVec 32 := 4#32
  let c0_i32_32 : BitVec 32 := 0#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v89 : BitVec 32 := Scalar.subi v88 c0_i32_32
  let c1_i32_33 : BitVec 32 := 1#32
  let v91 : BitVec 32 := Scalar.divsi v89 c1_i32_33
  let v92 : BitVec 32 := Scalar.muli v91 c1_i32_33
  let v93 : BitVec 32 := Scalar.addi c0_i32_32 v92
  let c1_i32_35 : BitVec 32 := 1#32
  let arg12 : BitVec 32 := Scf.iv v93 c1_i32_35 k0_t3
  let v304 : BitVec 32 := Scalar.muli c4_i32_110 arg12
  let v305 : BitVec 32 := Scalar.addi c0_i32_111 v304
  let c1_i32_112 : BitVec 32 := 1#32
  let v306 : BitVec 32 := Scalar.addi v305 c1_i32_112
  let c256_i32_113 : BitVec 32 := 256#32
  let v307 : BitVec 32 := Scalar.muli v306 c256_i32_113
  v307
def k0_mult8 (k0_t1 : Fin k0_t1_loop.trips) (k0_t3 : Fin (k0_t3_loop k0_t1).trips) : BitVec 32 :=
  let c0_i32_135 : BitVec 32 := 0#32
  let c4_i32_134 : BitVec 32 := 4#32
  let c0_i32_32 : BitVec 32 := 0#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v89 : BitVec 32 := Scalar.subi v88 c0_i32_32
  let c1_i32_33 : BitVec 32 := 1#32
  let v91 : BitVec 32 := Scalar.divsi v89 c1_i32_33
  let v92 : BitVec 32 := Scalar.muli v91 c1_i32_33
  let v93 : BitVec 32 := Scalar.addi c0_i32_32 v92
  let c1_i32_35 : BitVec 32 := 1#32
  let arg12 : BitVec 32 := Scf.iv v93 c1_i32_35 k0_t3
  let v379 : BitVec 32 := Scalar.muli c4_i32_134 arg12
  let v380 : BitVec 32 := Scalar.addi c0_i32_135 v379
  let c2_i32_136 : BitVec 32 := 2#32
  let v381 : BitVec 32 := Scalar.addi v380 c2_i32_136
  let c256_i32_137 : BitVec 32 := 256#32
  let v382 : BitVec 32 := Scalar.muli v381 c256_i32_137
  v382
def k0_mult9 (k0_t1 : Fin k0_t1_loop.trips) (k0_t3 : Fin (k0_t3_loop k0_t1).trips) : BitVec 32 :=
  let c0_i32_159 : BitVec 32 := 0#32
  let c4_i32_158 : BitVec 32 := 4#32
  let c0_i32_32 : BitVec 32 := 0#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v89 : BitVec 32 := Scalar.subi v88 c0_i32_32
  let c1_i32_33 : BitVec 32 := 1#32
  let v91 : BitVec 32 := Scalar.divsi v89 c1_i32_33
  let v92 : BitVec 32 := Scalar.muli v91 c1_i32_33
  let v93 : BitVec 32 := Scalar.addi c0_i32_32 v92
  let c1_i32_35 : BitVec 32 := 1#32
  let arg12 : BitVec 32 := Scf.iv v93 c1_i32_35 k0_t3
  let v454 : BitVec 32 := Scalar.muli c4_i32_158 arg12
  let v455 : BitVec 32 := Scalar.addi c0_i32_159 v454
  let c3_i32 : BitVec 32 := 3#32
  let v456 : BitVec 32 := Scalar.addi v455 c3_i32
  let c256_i32_160 : BitVec 32 := 256#32
  let v457 : BitVec 32 := Scalar.muli v456 c256_i32_160
  v457
@[reducible] def k0_t4_loop (k0_t1 : Fin k0_t1_loop.trips) : Scf.Loop 32 :=
  let c0_i32_44 : BitVec 32 := 0#32
  let c0_i32 : BitVec 32 := 0#32
  let c1_i32 : BitVec 32 := 1#32
  let arg11 : BitVec 32 := Scf.iv c0_i32 c1_i32 k0_t1
  let c0_i32_37 : BitVec 32 := 0#32
  let c4_i32_36 : BitVec 32 := 4#32
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v116 : BitVec 32 := Scalar.subi v115 c0_i32_44
  let c1_i32_45 : BitVec 32 := 1#32
  let v118 : BitVec 32 := Scalar.divsi v116 c1_i32_45
  let v119 : BitVec 32 := Scalar.muli v118 c1_i32_45
  let v120 : BitVec 32 := Scalar.addi c0_i32_44 v119
  let c1_i32_46 : BitVec 32 := 1#32
  ⟨c0_i32_44, v120, c1_i32_46⟩
def k0_mult10 (k0_t1 : Fin k0_t1_loop.trips) (k0_t4 : Fin (k0_t4_loop k0_t1).trips) : BitVec 32 :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_86 : BitVec 32 := 2#32
  let c0_i32_44 : BitVec 32 := 0#32
  let c1_i32_46 : BitVec 32 := 1#32
  let arg12 : BitVec 32 := Scf.iv c0_i32_44 c1_i32_46 k0_t4
  let v229 : BitVec 32 := Scalar.muli c2_i32_86 arg12
  let v230 : BitVec 32 := Scalar.addi v97 v229
  let c0_i32_87 : BitVec 32 := 0#32
  let v231 : BitVec 32 := Scalar.addi v230 c0_i32_87
  let c256_i32_88 : BitVec 32 := 256#32
  let v232 : BitVec 32 := Scalar.muli v231 c256_i32_88
  v232
def k0_off6 (k0_t1 : Fin k0_t1_loop.trips) (k0_t4 : Fin (k0_t4_loop k0_t1).trips) (c0_i32_87 : BitVec 32) : Fin 2 → Nat :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_86 : BitVec 32 := 2#32
  let c0_i32_44 : BitVec 32 := 0#32
  let c1_i32_46 : BitVec 32 := 1#32
  let arg12 : BitVec 32 := Scf.iv c0_i32_44 c1_i32_46 k0_t4
  let v229 : BitVec 32 := Scalar.muli c2_i32_86 arg12
  let v230 : BitVec 32 := Scalar.addi v97 v229
  let v231 : BitVec 32 := Scalar.addi v230 c0_i32_87
  let c256_i32_88 : BitVec 32 := 256#32
  let v232 : BitVec 32 := Scalar.muli v231 c256_i32_88
  let v233 : BitVec 32 := v232
  let v234 : Index := Scalar.indexCast v233
  let c0_89 : Index := 0#32
  ![v234.toNat, 0]
def k0_mult11 (k0_t1 : Fin k0_t1_loop.trips) (k0_t4 : Fin (k0_t4_loop k0_t1).trips) : BitVec 32 :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_109 : BitVec 32 := 2#32
  let c0_i32_44 : BitVec 32 := 0#32
  let c1_i32_46 : BitVec 32 := 1#32
  let arg12 : BitVec 32 := Scf.iv c0_i32_44 c1_i32_46 k0_t4
  let v304 : BitVec 32 := Scalar.muli c2_i32_109 arg12
  let v305 : BitVec 32 := Scalar.addi v97 v304
  let c1_i32_110 : BitVec 32 := 1#32
  let v306 : BitVec 32 := Scalar.addi v305 c1_i32_110
  let c256_i32_111 : BitVec 32 := 256#32
  let v307 : BitVec 32 := Scalar.muli v306 c256_i32_111
  v307
@[reducible] def k0_t5_loop (k0_t1 : Fin k0_t1_loop.trips) : Scf.Loop 32 :=
  let c0_i32_44 : BitVec 32 := 0#32
  let c0_i32 : BitVec 32 := 0#32
  let c1_i32 : BitVec 32 := 1#32
  let arg11 : BitVec 32 := Scf.iv c0_i32 c1_i32 k0_t1
  let c0_i32_37 : BitVec 32 := 0#32
  let c4_i32_36 : BitVec 32 := 4#32
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v116 : BitVec 32 := Scalar.subi v115 c0_i32_44
  let c1_i32_45 : BitVec 32 := 1#32
  let v118 : BitVec 32 := Scalar.divsi v116 c1_i32_45
  let v119 : BitVec 32 := Scalar.muli v118 c1_i32_45
  let v120 : BitVec 32 := Scalar.addi c0_i32_44 v119
  let v117 : BitVec 32 := Scalar.addi c0_i32_44 v116
  let c1_i32_47 : BitVec 32 := 1#32
  ⟨v120, v117, c1_i32_47⟩
def k0_mult12 (k0_t1 : Fin k0_t1_loop.trips) (k0_t5 : Fin (k0_t5_loop k0_t1).trips) : BitVec 32 :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_86 : BitVec 32 := 2#32
  let c0_i32_44 : BitVec 32 := 0#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v116 : BitVec 32 := Scalar.subi v115 c0_i32_44
  let c1_i32_45 : BitVec 32 := 1#32
  let v118 : BitVec 32 := Scalar.divsi v116 c1_i32_45
  let v119 : BitVec 32 := Scalar.muli v118 c1_i32_45
  let v120 : BitVec 32 := Scalar.addi c0_i32_44 v119
  let c1_i32_47 : BitVec 32 := 1#32
  let arg12 : BitVec 32 := Scf.iv v120 c1_i32_47 k0_t5
  let v229 : BitVec 32 := Scalar.muli c2_i32_86 arg12
  let v230 : BitVec 32 := Scalar.addi v97 v229
  let c0_i32_87 : BitVec 32 := 0#32
  let v231 : BitVec 32 := Scalar.addi v230 c0_i32_87
  let c256_i32_88 : BitVec 32 := 256#32
  let v232 : BitVec 32 := Scalar.muli v231 c256_i32_88
  v232
def k0_off7 (k0_t1 : Fin k0_t1_loop.trips) (k0_t5 : Fin (k0_t5_loop k0_t1).trips) (c0_i32_87 : BitVec 32) : Fin 2 → Nat :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_86 : BitVec 32 := 2#32
  let c0_i32_44 : BitVec 32 := 0#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v116 : BitVec 32 := Scalar.subi v115 c0_i32_44
  let c1_i32_45 : BitVec 32 := 1#32
  let v118 : BitVec 32 := Scalar.divsi v116 c1_i32_45
  let v119 : BitVec 32 := Scalar.muli v118 c1_i32_45
  let v120 : BitVec 32 := Scalar.addi c0_i32_44 v119
  let c1_i32_47 : BitVec 32 := 1#32
  let arg12 : BitVec 32 := Scf.iv v120 c1_i32_47 k0_t5
  let v229 : BitVec 32 := Scalar.muli c2_i32_86 arg12
  let v230 : BitVec 32 := Scalar.addi v97 v229
  let v231 : BitVec 32 := Scalar.addi v230 c0_i32_87
  let c256_i32_88 : BitVec 32 := 256#32
  let v232 : BitVec 32 := Scalar.muli v231 c256_i32_88
  let v233 : BitVec 32 := v232
  let v234 : Index := Scalar.indexCast v233
  let c0_89 : Index := 0#32
  ![v234.toNat, 0]
def k0_mult13 (k0_t1 : Fin k0_t1_loop.trips) (k0_t5 : Fin (k0_t5_loop k0_t1).trips) : BitVec 32 :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_109 : BitVec 32 := 2#32
  let c0_i32_44 : BitVec 32 := 0#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v116 : BitVec 32 := Scalar.subi v115 c0_i32_44
  let c1_i32_45 : BitVec 32 := 1#32
  let v118 : BitVec 32 := Scalar.divsi v116 c1_i32_45
  let v119 : BitVec 32 := Scalar.muli v118 c1_i32_45
  let v120 : BitVec 32 := Scalar.addi c0_i32_44 v119
  let c1_i32_47 : BitVec 32 := 1#32
  let arg12 : BitVec 32 := Scf.iv v120 c1_i32_47 k0_t5
  let v304 : BitVec 32 := Scalar.muli c2_i32_109 arg12
  let v305 : BitVec 32 := Scalar.addi v97 v304
  let c1_i32_110 : BitVec 32 := 1#32
  let v306 : BitVec 32 := Scalar.addi v305 c1_i32_110
  let c256_i32_111 : BitVec 32 := 256#32
  let v307 : BitVec 32 := Scalar.muli v306 c256_i32_111
  v307
@[reducible] def k0_t6_loop (k0_t1 : Fin k0_t1_loop.trips) : Scf.Loop 32 :=
  let c0_i32_56 : BitVec 32 := 0#32
  let c0_i32 : BitVec 32 := 0#32
  let c1_i32 : BitVec 32 := 1#32
  let arg11 : BitVec 32 := Scf.iv c0_i32 c1_i32 k0_t1
  let c0_i32_37 : BitVec 32 := 0#32
  let c4_i32_36 : BitVec 32 := 4#32
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_48 : BitVec 32 := 2#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v123 : BitVec 32 := Scalar.muli c2_i32_48 v115
  let v124 : BitVec 32 := Scalar.addi v97 v123
  let v125 : BitVec 32 := Scalar.subi arg11 v124
  let c0_i32_50 : BitVec 32 := 0#32
  let v127 : BitVec 1 := Scalar.cmpi .sgt v125 c0_i32_50
  let v128 : BitVec 32 := Scalar.extui v127
  let c0_i32_51 : BitVec 32 := 0#32
  let v129 : BitVec 1 := Scalar.cmpi .slt v125 c0_i32_51
  let v130 : BitVec 32 := Scalar.extui v129
  let v131 : BitVec 32 := Scalar.subi v128 v130
  let c1_i32_49 : BitVec 32 := 1#32
  let c0_i32_52 : BitVec 32 := 0#32
  let v132 : BitVec 1 := Scalar.cmpi .sgt c1_i32_49 c0_i32_52
  let v133 : BitVec 32 := Scalar.extui v132
  let c0_i32_53 : BitVec 32 := 0#32
  let v134 : BitVec 1 := Scalar.cmpi .slt c1_i32_49 c0_i32_53
  let v135 : BitVec 32 := Scalar.extui v134
  let v136 : BitVec 32 := Scalar.subi v133 v135
  let v137 : BitVec 1 := Scalar.cmpi .ne v131 v136
  let v138 : BitVec 32 := Scalar.remsi v125 c1_i32_49
  let c0_i32_54 : BitVec 32 := 0#32
  let v139 : BitVec 1 := Scalar.cmpi .ne v138 c0_i32_54
  let v140 : BitVec 1 := Scalar.andi v137 v139
  let v126 : BitVec 32 := Scalar.divsi v125 c1_i32_49
  let c1_i32_55 : BitVec 32 := 1#32
  let v141 : BitVec 32 := Scalar.subi v126 c1_i32_55
  let v142 : BitVec 32 := Scalar.select v140 v141 v126
  let v143 : BitVec 32 := Scalar.subi v142 c0_i32_56
  let c1_i32_57 : BitVec 32 := 1#32
  let v145 : BitVec 32 := Scalar.divsi v143 c1_i32_57
  let v146 : BitVec 32 := Scalar.muli v145 c1_i32_57
  let v147 : BitVec 32 := Scalar.addi c0_i32_56 v146
  let c1_i32_58 : BitVec 32 := 1#32
  ⟨c0_i32_56, v147, c1_i32_58⟩
def k0_mult14 (k0_t1 : Fin k0_t1_loop.trips) (k0_t6 : Fin (k0_t6_loop k0_t1).trips) : BitVec 32 :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_48 : BitVec 32 := 2#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v123 : BitVec 32 := Scalar.muli c2_i32_48 v115
  let v124 : BitVec 32 := Scalar.addi v97 v123
  let c1_i32_86 : BitVec 32 := 1#32
  let c0_i32_56 : BitVec 32 := 0#32
  let c1_i32_58 : BitVec 32 := 1#32
  let arg12 : BitVec 32 := Scf.iv c0_i32_56 c1_i32_58 k0_t6
  let v229 : BitVec 32 := Scalar.muli c1_i32_86 arg12
  let v230 : BitVec 32 := Scalar.addi v124 v229
  let c0_i32_87 : BitVec 32 := 0#32
  let v231 : BitVec 32 := Scalar.addi v230 c0_i32_87
  let c256_i32_88 : BitVec 32 := 256#32
  let v232 : BitVec 32 := Scalar.muli v231 c256_i32_88
  v232
def k0_off8 (k0_t1 : Fin k0_t1_loop.trips) (k0_t6 : Fin (k0_t6_loop k0_t1).trips) : Fin 2 → Nat :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_48 : BitVec 32 := 2#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v123 : BitVec 32 := Scalar.muli c2_i32_48 v115
  let v124 : BitVec 32 := Scalar.addi v97 v123
  let c1_i32_86 : BitVec 32 := 1#32
  let c0_i32_56 : BitVec 32 := 0#32
  let c1_i32_58 : BitVec 32 := 1#32
  let arg12 : BitVec 32 := Scf.iv c0_i32_56 c1_i32_58 k0_t6
  let v229 : BitVec 32 := Scalar.muli c1_i32_86 arg12
  let v230 : BitVec 32 := Scalar.addi v124 v229
  let c0_i32_87 : BitVec 32 := 0#32
  let v231 : BitVec 32 := Scalar.addi v230 c0_i32_87
  let c256_i32_88 : BitVec 32 := 256#32
  let v232 : BitVec 32 := Scalar.muli v231 c256_i32_88
  let v233 : BitVec 32 := v232
  let v234 : Index := Scalar.indexCast v233
  let c0_89 : Index := 0#32
  ![v234.toNat, 0]
@[reducible] def k0_t7_loop (k0_t1 : Fin k0_t1_loop.trips) : Scf.Loop 32 :=
  let c0_i32_56 : BitVec 32 := 0#32
  let c0_i32 : BitVec 32 := 0#32
  let c1_i32 : BitVec 32 := 1#32
  let arg11 : BitVec 32 := Scf.iv c0_i32 c1_i32 k0_t1
  let c0_i32_37 : BitVec 32 := 0#32
  let c4_i32_36 : BitVec 32 := 4#32
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_48 : BitVec 32 := 2#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v123 : BitVec 32 := Scalar.muli c2_i32_48 v115
  let v124 : BitVec 32 := Scalar.addi v97 v123
  let v125 : BitVec 32 := Scalar.subi arg11 v124
  let c0_i32_50 : BitVec 32 := 0#32
  let v127 : BitVec 1 := Scalar.cmpi .sgt v125 c0_i32_50
  let v128 : BitVec 32 := Scalar.extui v127
  let c0_i32_51 : BitVec 32 := 0#32
  let v129 : BitVec 1 := Scalar.cmpi .slt v125 c0_i32_51
  let v130 : BitVec 32 := Scalar.extui v129
  let v131 : BitVec 32 := Scalar.subi v128 v130
  let c1_i32_49 : BitVec 32 := 1#32
  let c0_i32_52 : BitVec 32 := 0#32
  let v132 : BitVec 1 := Scalar.cmpi .sgt c1_i32_49 c0_i32_52
  let v133 : BitVec 32 := Scalar.extui v132
  let c0_i32_53 : BitVec 32 := 0#32
  let v134 : BitVec 1 := Scalar.cmpi .slt c1_i32_49 c0_i32_53
  let v135 : BitVec 32 := Scalar.extui v134
  let v136 : BitVec 32 := Scalar.subi v133 v135
  let v137 : BitVec 1 := Scalar.cmpi .ne v131 v136
  let v138 : BitVec 32 := Scalar.remsi v125 c1_i32_49
  let c0_i32_54 : BitVec 32 := 0#32
  let v139 : BitVec 1 := Scalar.cmpi .ne v138 c0_i32_54
  let v140 : BitVec 1 := Scalar.andi v137 v139
  let v126 : BitVec 32 := Scalar.divsi v125 c1_i32_49
  let c1_i32_55 : BitVec 32 := 1#32
  let v141 : BitVec 32 := Scalar.subi v126 c1_i32_55
  let v142 : BitVec 32 := Scalar.select v140 v141 v126
  let v143 : BitVec 32 := Scalar.subi v142 c0_i32_56
  let c1_i32_57 : BitVec 32 := 1#32
  let v145 : BitVec 32 := Scalar.divsi v143 c1_i32_57
  let v146 : BitVec 32 := Scalar.muli v145 c1_i32_57
  let v147 : BitVec 32 := Scalar.addi c0_i32_56 v146
  let v144 : BitVec 32 := Scalar.addi c0_i32_56 v143
  let c1_i32_59 : BitVec 32 := 1#32
  ⟨v147, v144, c1_i32_59⟩
def k0_mult15 (k0_t1 : Fin k0_t1_loop.trips) (k0_t7 : Fin (k0_t7_loop k0_t1).trips) : BitVec 32 :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_48 : BitVec 32 := 2#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v123 : BitVec 32 := Scalar.muli c2_i32_48 v115
  let v124 : BitVec 32 := Scalar.addi v97 v123
  let c1_i32_86 : BitVec 32 := 1#32
  let c0_i32_56 : BitVec 32 := 0#32
  let v125 : BitVec 32 := Scalar.subi arg11 v124
  let c0_i32_50 : BitVec 32 := 0#32
  let v127 : BitVec 1 := Scalar.cmpi .sgt v125 c0_i32_50
  let v128 : BitVec 32 := Scalar.extui v127
  let c0_i32_51 : BitVec 32 := 0#32
  let v129 : BitVec 1 := Scalar.cmpi .slt v125 c0_i32_51
  let v130 : BitVec 32 := Scalar.extui v129
  let v131 : BitVec 32 := Scalar.subi v128 v130
  let c1_i32_49 : BitVec 32 := 1#32
  let c0_i32_52 : BitVec 32 := 0#32
  let v132 : BitVec 1 := Scalar.cmpi .sgt c1_i32_49 c0_i32_52
  let v133 : BitVec 32 := Scalar.extui v132
  let c0_i32_53 : BitVec 32 := 0#32
  let v134 : BitVec 1 := Scalar.cmpi .slt c1_i32_49 c0_i32_53
  let v135 : BitVec 32 := Scalar.extui v134
  let v136 : BitVec 32 := Scalar.subi v133 v135
  let v137 : BitVec 1 := Scalar.cmpi .ne v131 v136
  let v138 : BitVec 32 := Scalar.remsi v125 c1_i32_49
  let c0_i32_54 : BitVec 32 := 0#32
  let v139 : BitVec 1 := Scalar.cmpi .ne v138 c0_i32_54
  let v140 : BitVec 1 := Scalar.andi v137 v139
  let v126 : BitVec 32 := Scalar.divsi v125 c1_i32_49
  let c1_i32_55 : BitVec 32 := 1#32
  let v141 : BitVec 32 := Scalar.subi v126 c1_i32_55
  let v142 : BitVec 32 := Scalar.select v140 v141 v126
  let v143 : BitVec 32 := Scalar.subi v142 c0_i32_56
  let c1_i32_57 : BitVec 32 := 1#32
  let v145 : BitVec 32 := Scalar.divsi v143 c1_i32_57
  let v146 : BitVec 32 := Scalar.muli v145 c1_i32_57
  let v147 : BitVec 32 := Scalar.addi c0_i32_56 v146
  let c1_i32_59 : BitVec 32 := 1#32
  let arg12 : BitVec 32 := Scf.iv v147 c1_i32_59 k0_t7
  let v229 : BitVec 32 := Scalar.muli c1_i32_86 arg12
  let v230 : BitVec 32 := Scalar.addi v124 v229
  let c0_i32_87 : BitVec 32 := 0#32
  let v231 : BitVec 32 := Scalar.addi v230 c0_i32_87
  let c256_i32_88 : BitVec 32 := 256#32
  let v232 : BitVec 32 := Scalar.muli v231 c256_i32_88
  v232
def k0_off9 (k0_t1 : Fin k0_t1_loop.trips) (k0_t7 : Fin (k0_t7_loop k0_t1).trips) : Fin 2 → Nat :=
  let c0_i32_37 : BitVec 32 := 0#32
  let c4_i32_36 : BitVec 32 := 4#32
  let c0_i32 : BitVec 32 := 0#32
  let c1_i32 : BitVec 32 := 1#32
  let arg11 : BitVec 32 := Scf.iv c0_i32 c1_i32 k0_t1
  let c0_i32_25 : BitVec 32 := 0#32
  let v71 : BitVec 32 := Scalar.subi arg11 c0_i32_25
  let c0_i32_26 : BitVec 32 := 0#32
  let v73 : BitVec 1 := Scalar.cmpi .sgt v71 c0_i32_26
  let v74 : BitVec 32 := Scalar.extui v73
  let c0_i32_27 : BitVec 32 := 0#32
  let v75 : BitVec 1 := Scalar.cmpi .slt v71 c0_i32_27
  let v76 : BitVec 32 := Scalar.extui v75
  let v77 : BitVec 32 := Scalar.subi v74 v76
  let c4_i32 : BitVec 32 := 4#32
  let c0_i32_28 : BitVec 32 := 0#32
  let v78 : BitVec 1 := Scalar.cmpi .sgt c4_i32 c0_i32_28
  let v79 : BitVec 32 := Scalar.extui v78
  let c0_i32_29 : BitVec 32 := 0#32
  let v80 : BitVec 1 := Scalar.cmpi .slt c4_i32 c0_i32_29
  let v81 : BitVec 32 := Scalar.extui v80
  let v82 : BitVec 32 := Scalar.subi v79 v81
  let v83 : BitVec 1 := Scalar.cmpi .ne v77 v82
  let v84 : BitVec 32 := Scalar.remsi v71 c4_i32
  let c0_i32_30 : BitVec 32 := 0#32
  let v85 : BitVec 1 := Scalar.cmpi .ne v84 c0_i32_30
  let v86 : BitVec 1 := Scalar.andi v83 v85
  let v72 : BitVec 32 := Scalar.divsi v71 c4_i32
  let c1_i32_31 : BitVec 32 := 1#32
  let v87 : BitVec 32 := Scalar.subi v72 c1_i32_31
  let v88 : BitVec 32 := Scalar.select v86 v87 v72
  let v96 : BitVec 32 := Scalar.muli c4_i32_36 v88
  let v97 : BitVec 32 := Scalar.addi c0_i32_37 v96
  let c2_i32_48 : BitVec 32 := 2#32
  let v98 : BitVec 32 := Scalar.subi arg11 v97
  let c0_i32_38 : BitVec 32 := 0#32
  let v100 : BitVec 1 := Scalar.cmpi .sgt v98 c0_i32_38
  let v101 : BitVec 32 := Scalar.extui v100
  let c0_i32_39 : BitVec 32 := 0#32
  let v102 : BitVec 1 := Scalar.cmpi .slt v98 c0_i32_39
  let v103 : BitVec 32 := Scalar.extui v102
  let v104 : BitVec 32 := Scalar.subi v101 v103
  let c2_i32 : BitVec 32 := 2#32
  let c0_i32_40 : BitVec 32 := 0#32
  let v105 : BitVec 1 := Scalar.cmpi .sgt c2_i32 c0_i32_40
  let v106 : BitVec 32 := Scalar.extui v105
  let c0_i32_41 : BitVec 32 := 0#32
  let v107 : BitVec 1 := Scalar.cmpi .slt c2_i32 c0_i32_41
  let v108 : BitVec 32 := Scalar.extui v107
  let v109 : BitVec 32 := Scalar.subi v106 v108
  let v110 : BitVec 1 := Scalar.cmpi .ne v104 v109
  let v111 : BitVec 32 := Scalar.remsi v98 c2_i32
  let c0_i32_42 : BitVec 32 := 0#32
  let v112 : BitVec 1 := Scalar.cmpi .ne v111 c0_i32_42
  let v113 : BitVec 1 := Scalar.andi v110 v112
  let v99 : BitVec 32 := Scalar.divsi v98 c2_i32
  let c1_i32_43 : BitVec 32 := 1#32
  let v114 : BitVec 32 := Scalar.subi v99 c1_i32_43
  let v115 : BitVec 32 := Scalar.select v113 v114 v99
  let v123 : BitVec 32 := Scalar.muli c2_i32_48 v115
  let v124 : BitVec 32 := Scalar.addi v97 v123
  let c1_i32_86 : BitVec 32 := 1#32
  let c0_i32_56 : BitVec 32 := 0#32
  let v125 : BitVec 32 := Scalar.subi arg11 v124
  let c0_i32_50 : BitVec 32 := 0#32
  let v127 : BitVec 1 := Scalar.cmpi .sgt v125 c0_i32_50
  let v128 : BitVec 32 := Scalar.extui v127
  let c0_i32_51 : BitVec 32 := 0#32
  let v129 : BitVec 1 := Scalar.cmpi .slt v125 c0_i32_51
  let v130 : BitVec 32 := Scalar.extui v129
  let v131 : BitVec 32 := Scalar.subi v128 v130
  let c1_i32_49 : BitVec 32 := 1#32
  let c0_i32_52 : BitVec 32 := 0#32
  let v132 : BitVec 1 := Scalar.cmpi .sgt c1_i32_49 c0_i32_52
  let v133 : BitVec 32 := Scalar.extui v132
  let c0_i32_53 : BitVec 32 := 0#32
  let v134 : BitVec 1 := Scalar.cmpi .slt c1_i32_49 c0_i32_53
  let v135 : BitVec 32 := Scalar.extui v134
  let v136 : BitVec 32 := Scalar.subi v133 v135
  let v137 : BitVec 1 := Scalar.cmpi .ne v131 v136
  let v138 : BitVec 32 := Scalar.remsi v125 c1_i32_49
  let c0_i32_54 : BitVec 32 := 0#32
  let v139 : BitVec 1 := Scalar.cmpi .ne v138 c0_i32_54
  let v140 : BitVec 1 := Scalar.andi v137 v139
  let v126 : BitVec 32 := Scalar.divsi v125 c1_i32_49
  let c1_i32_55 : BitVec 32 := 1#32
  let v141 : BitVec 32 := Scalar.subi v126 c1_i32_55
  let v142 : BitVec 32 := Scalar.select v140 v141 v126
  let v143 : BitVec 32 := Scalar.subi v142 c0_i32_56
  let c1_i32_57 : BitVec 32 := 1#32
  let v145 : BitVec 32 := Scalar.divsi v143 c1_i32_57
  let v146 : BitVec 32 := Scalar.muli v145 c1_i32_57
  let v147 : BitVec 32 := Scalar.addi c0_i32_56 v146
  let c1_i32_59 : BitVec 32 := 1#32
  let arg12 : BitVec 32 := Scf.iv v147 c1_i32_59 k0_t7
  let v229 : BitVec 32 := Scalar.muli c1_i32_86 arg12
  let v230 : BitVec 32 := Scalar.addi v124 v229
  let c0_i32_87 : BitVec 32 := 0#32
  let v231 : BitVec 32 := Scalar.addi v230 c0_i32_87
  let c256_i32_88 : BitVec 32 := 256#32
  let v232 : BitVec 32 := Scalar.muli v231 c256_i32_88
  let v233 : BitVec 32 := v232
  let v234 : Index := Scalar.indexCast v233
  let c0_89 : Index := 0#32
  ![v234.toNat, 0]
def k0_mult16 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_60 : BitVec 32 := 256#32
  let v150 : BitVec 32 := Scalar.muli arg11 c256_i32_60
  v150
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnBRefIdeal.lean ====
abbrev S2048x6144 : Shape := ⟨2, ![2048, 6144]⟩
abbrev S2048x2048 : Shape := ⟨2, ![2048, 2048]⟩
abbrev S2048x32x64 : Shape := ⟨3, ![2048, 32, 64]⟩
abbrev S32x2048x64 : Shape := ⟨3, ![32, 2048, 64]⟩
abbrev S2048 : Shape := ⟨1, ![2048]⟩
abbrev S32x2048x2048 : Shape := ⟨3, ![32, 2048, 2048]⟩
abbrev S_ : Shape := ⟨0, ![]⟩
abbrev S1x2048 : Shape := ⟨2, ![1, 2048]⟩
abbrev S2048x1 : Shape := ⟨2, ![2048, 1]⟩
abbrev S32x2048x2047 : Shape := ⟨3, ![32, 2048, 2047]⟩
abbrev S32x2048x1 : Shape := ⟨3, ![32, 2048, 1]⟩
abbrev S32x64x2048 : Shape := ⟨3, ![32, 64, 2048]⟩

abbrev nBuf : Space → Nat
  | .hbm => 187
  | .vmem => 0
  | .smem => 0
  | _ => 0

abbrev hbmTy0_0 (i : Nat) : BufTy := match i % 128 with
  | 0 => ⟨S2048x6144, .bf16⟩
  | 1 => ⟨S2048x2048, .bf16⟩
  | 2 => ⟨S2048x6144, .f32⟩
  | 3 => ⟨S2048x2048, .f32⟩
  | 4 => ⟨S2048x2048, .f32⟩
  | 5 => ⟨S2048x2048, .f32⟩
  | 6 => ⟨S2048x32x64, .f32⟩
  | 7 => ⟨S32x2048x64, .f32⟩
  | 8 => ⟨S2048x32x64, .f32⟩
  | 9 => ⟨S2048x32x64, .f32⟩
  | 10 => ⟨S2048, .i32⟩
  | 11 => ⟨S32x2048x2048, .f32⟩
  | 12 => ⟨S_, .f32⟩
  | 13 => ⟨S32x2048x2048, .f32⟩
  | 14 => ⟨S32x2048x2048, .f32⟩
  | 15 => ⟨S1x2048, .i32⟩
  | 16 => ⟨S2048x1, .i32⟩
  | 17 => ⟨S2048x2048, .i32⟩
  | 18 => ⟨S2048x2048, .i32⟩
  | 19 => ⟨S2048x2048, .i1⟩
  | 20 => ⟨S32x2048x2048, .f32⟩
  | 21 => ⟨S32x2048x2048, .f32⟩
  | 22 => ⟨S_, .f32⟩
  | 23 => ⟨S32x2048x2048, .f32⟩
  | 24 => ⟨S32x2048x2048, .f32⟩
  | 25 => ⟨S32x2048x2048, .f32⟩
  | 26 => ⟨S32x2048x2048, .f32⟩
  | 27 => ⟨S32x2048x2048, .i1⟩
  | 28 => ⟨S32x2048x2048, .f32⟩
  | 29 => ⟨S32x2048x2048, .f32⟩
  | 30 => ⟨S32x2048x2048, .f32⟩
  | 31 => ⟨S32x2048x2048, .f32⟩
  | 32 => ⟨S32x2048x2048, .f32⟩
  | 33 => ⟨S32x2048x2048, .f32⟩
  | 34 => ⟨S32x2048x2048, .f32⟩
  | 35 => ⟨S32x2048x2048, .f32⟩
  | 36 => ⟨S_, .f32⟩
  | 37 => ⟨S32x2048x2048, .f32⟩
  | 38 => ⟨S32x2048x2048, .i1⟩
  | 39 => ⟨S_, .f32⟩
  | 40 => ⟨S32x2048x2048, .f32⟩
  | 41 => ⟨S32x2048x2048, .f32⟩
  | 42 => ⟨S_, .f32⟩
  | 43 => ⟨S32x2048x2048, .f32⟩
  | 44 => ⟨S32x2048x2048, .i1⟩
  | 45 => ⟨S_, .f32⟩
  | 46 => ⟨S32x2048x2048, .f32⟩
  | 47 => ⟨S32x2048x2048, .f32⟩
  | 48 => ⟨S32x2048x2048, .f32⟩
  | 49 => ⟨S32x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S32x2048x2048, .f32⟩
  | 58 => ⟨S32x2048x2048, .i1⟩
  | 59 => ⟨S_, .f32⟩
  | 60 => ⟨S32x2048x2048, .f32⟩
  | 61 => ⟨S32x2048x2048, .f32⟩
  | 62 => ⟨S32x2048x2048, .f32⟩
  | 63 => ⟨S32x2048x2048, .f32⟩
  | 64 => ⟨S32x2048x2048, .f32⟩
  | 65 => ⟨S_, .f32⟩
  | 66 => ⟨S32x2048x2048, .f32⟩
  | 67 => ⟨S32x2048x2048, .f32⟩
  | 68 => ⟨S32x2048x2048, .f32⟩
  | 69 => ⟨S_, .f32⟩
  | 70 => ⟨S_, .f32⟩
  | 71 => ⟨S32x2048x2048, .i1⟩
  | 72 => ⟨S32x2048x2048, .f32⟩
  | 73 => ⟨S32x2048x2048, .f32⟩
  | 74 => ⟨S_, .f32⟩
  | 75 => ⟨S32x2048x2048, .f32⟩
  | 76 => ⟨S_, .f32⟩
  | 77 => ⟨S_, .f32⟩
  | 78 => ⟨S32x2048x2048, .f32⟩
  | 79 => ⟨S32x2048x2047, .f32⟩
  | 80 => ⟨S32x2048x1, .f32⟩
  | 81 => ⟨S_, .f32⟩
  | 82 => ⟨S32x2048x1, .f32⟩
  | 83 => ⟨S32x2048x2048, .f32⟩
  | 84 => ⟨S_, .f32⟩
  | 85 => ⟨S32x2048x1, .f32⟩
  | 86 => ⟨S32x2048x2048, .f32⟩
  | 87 => ⟨S_, .f32⟩
  | 88 => ⟨S32x2048x2048, .f32⟩
  | 89 => ⟨S32x2048x2048, .f32⟩
  | 90 => ⟨S32x2048x2048, .f32⟩
  | 91 => ⟨S32x2048x2048, .f32⟩
  | 92 => ⟨S32x2048x2048, .i1⟩
  | 93 => ⟨S32x2048x2048, .f32⟩
  | 94 => ⟨S32x2048x2048, .f32⟩
  | 95 => ⟨S32x2048x2048, .f32⟩
  | 96 => ⟨S32x2048x2048, .f32⟩
  | 97 => ⟨S32x2048x2048, .f32⟩
  | 98 => ⟨S32x2048x2048, .f32⟩
  | 99 => ⟨S32x2048x2048, .f32⟩
  | 100 => ⟨S32x2048x2048, .f32⟩
  | 101 => ⟨S_, .f32⟩
  | 102 => ⟨S32x2048x2048, .f32⟩
  | 103 => ⟨S32x2048x2048, .i1⟩
  | 104 => ⟨S_, .f32⟩
  | 105 => ⟨S32x2048x2048, .f32⟩
  | 106 => ⟨S32x2048x2048, .f32⟩
  | 107 => ⟨S_, .f32⟩
  | 108 => ⟨S32x2048x2048, .f32⟩
  | 109 => ⟨S32x2048x2048, .i1⟩
  | 110 => ⟨S_, .f32⟩
  | 111 => ⟨S32x2048x2048, .f32⟩
  | 112 => ⟨S32x2048x2048, .f32⟩
  | 113 => ⟨S32x2048x2048, .f32⟩
  | 114 => ⟨S32x2048x2048, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S32x2048x2048, .f32⟩
  | 123 => ⟨S32x2048x2048, .i1⟩
  | 124 => ⟨S_, .f32⟩
  | 125 => ⟨S32x2048x2048, .f32⟩
  | 126 => ⟨S32x2048x2048, .f32⟩
  | 127 => ⟨S32x2048x2048, .f32⟩
  | _ => ⟨S2048x6144, .bf16⟩

abbrev hbmTy0_1 (i : Nat) : BufTy := match i % 128 with
  | 0 => ⟨S32x2048x2048, .f32⟩
  | 1 => ⟨S32x2048x2048, .f32⟩
  | 2 => ⟨S_, .f32⟩
  | 3 => ⟨S32x2048x2048, .f32⟩
  | 4 => ⟨S32x2048x2048, .f32⟩
  | 5 => ⟨S32x2048x2048, .f32⟩
  | 6 => ⟨S32x2048x2048, .f32⟩
  | 7 => ⟨S32x2048x2048, .f32⟩
  | 8 => ⟨S_, .f32⟩
  | 9 => ⟨S_, .f32⟩
  | 10 => ⟨S32x2048x2048, .i1⟩
  | 11 => ⟨S32x2048x2048, .f32⟩
  | 12 => ⟨S32x2048x2048, .f32⟩
  | 13 => ⟨S_, .f32⟩
  | 14 => ⟨S32x2048x2048, .f32⟩
  | 15 => ⟨S32x64x2048, .f32⟩
  | 16 => ⟨S2048x32x64, .f32⟩
  | 17 => ⟨S2048x2048, .f32⟩
  | 18 => ⟨S2048x2048, .f32⟩
  | 19 => ⟨S2048x32x64, .f32⟩
  | 20 => ⟨S32x64x2048, .f32⟩
  | 21 => ⟨S32x2048x2048, .f32⟩
  | 22 => ⟨S32x64x2048, .f32⟩
  | 23 => ⟨S2048x32x64, .f32⟩
  | 24 => ⟨S_, .f32⟩
  | 25 => ⟨S32x2048x2048, .f32⟩
  | 26 => ⟨S32x2048x2048, .f32⟩
  | 27 => ⟨S32x2048x2048, .f32⟩
  | 28 => ⟨S32x2048x2048, .f32⟩
  | 29 => ⟨S32x2048x2048, .f32⟩
  | 30 => ⟨S32x2048x2048, .f32⟩
  | 31 => ⟨S32x2048x2047, .f32⟩
  | 32 => ⟨S32x2048x1, .f32⟩
  | 33 => ⟨S_, .f32⟩
  | 34 => ⟨S32x2048x2048, .f32⟩
  | 35 => ⟨S_, .f32⟩
  | 36 => ⟨S_, .f32⟩
  | 37 => ⟨S32x2048x2048, .f32⟩
  | 38 => ⟨S_, .f32⟩
  | 39 => ⟨S32x2048x2048, .f32⟩
  | 40 => ⟨S32x2048x2048, .f32⟩
  | 41 => ⟨S32x2048x2048, .f32⟩
  | 42 => ⟨S32x2048x2048, .f32⟩
  | 43 => ⟨S32x2048x2048, .f32⟩
  | 44 => ⟨S32x2048x2048, .f32⟩
  | 45 => ⟨S32x2048x2048, .f32⟩
  | 46 => ⟨S_, .f32⟩
  | 47 => ⟨S32x2048x2048, .f32⟩
  | 48 => ⟨S32x2048x2048, .f32⟩
  | 49 => ⟨S32x2048x64, .f32⟩
  | 50 => ⟨S2048x32x64, .f32⟩
  | 51 => ⟨S32x2048x64, .f32⟩
  | 52 => ⟨S2048x2048, .f32⟩
  | 53 => ⟨S2048x2048, .f32⟩
  | 54 => ⟨S2048x32x64, .f32⟩
  | 55 => ⟨S2048x2048, .f32⟩
  | 56 => ⟨S2048x2048, .bf16⟩
  | 57 => ⟨S2048x2048, .bf16⟩
  | 58 => ⟨S2048x2048, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_cst_1 : Ref sig .tc := ⟨.hbm, 81, rfl⟩
abbrev main_v23 : Ref sig .tc := ⟨.hbm, 82, rfl⟩
abbrev main_v24 : Ref sig .tc := ⟨.hbm, 83, rfl⟩
abbrev main_cst_2 : Ref sig .tc := ⟨.hbm, 84, rfl⟩
abbrev main_v25 : Ref sig .tc := ⟨.hbm, 85, rfl⟩
abbrev main_call3_v0 : Ref sig .tc := ⟨.hbm, 86, rfl⟩
abbrev main_call3_call0_cst : Ref sig .tc := ⟨.hbm, 87, rfl⟩
abbrev main_call3_call0_v0 : Ref sig .tc := ⟨.hbm, 88, rfl⟩
abbrev main_call3_call0_v1 : Ref sig .tc := ⟨.hbm, 89, rfl⟩
abbrev main_call3_call0_v2 : Ref sig .tc := ⟨.hbm, 90, rfl⟩
abbrev main_call3_call0_v3 : Ref sig .tc := ⟨.hbm, 91, rfl⟩
abbrev main_call3_call0_v4 : Ref sig .tc := ⟨.hbm, 92, rfl⟩
abbrev main_call3_call0_v5 : Ref sig .tc := ⟨.hbm, 93, rfl⟩
abbrev main_call3_call0_v6 : Ref sig .tc := ⟨.hbm, 94, rfl⟩
abbrev main_call3_call0_v7 : Ref sig .tc := ⟨.hbm, 95, rfl⟩
abbrev main_call3_call0_v8 : Ref sig .tc := ⟨.hbm, 96, rfl⟩
abbrev main_call3_call0_v9 : Ref sig .tc := ⟨.hbm, 97, rfl⟩
abbrev main_call3_call0_v10 : Ref sig .tc := ⟨.hbm, 98, rfl⟩
abbrev main_call3_call0_v11 : Ref sig .tc := ⟨.hbm, 99, rfl⟩
abbrev main_call3_v1_0 : Ref sig .tc := ⟨.hbm, 100, rfl⟩
abbrev main_call3_call0_cst_0 : Ref sig .tc := ⟨.hbm, 101, rfl⟩
abbrev main_call3_call0_v13 : Ref sig .tc := ⟨.hbm, 102, rfl⟩
abbrev main_call3_call0_v14 : Ref sig .tc := ⟨.hbm, 103, rfl⟩
abbrev main_call3_call0_cst_1 : Ref sig .tc := ⟨.hbm, 104, rfl⟩
abbrev main_call3_call0_v15 : Ref sig .tc := ⟨.hbm, 105, rfl⟩
abbrev main_call3_call0_v16 : Ref sig .tc := ⟨.hbm, 106, rfl⟩
abbrev main_call3_call0_cst_2 : Ref sig .tc := ⟨.hbm, 107, rfl⟩
abbrev main_call3_call0_v17 : Ref sig .tc := ⟨.hbm, 108, rfl⟩
abbrev main_call3_call0_v18 : Ref sig .tc := ⟨.hbm, 109, rfl⟩
abbrev main_call3_call0_cst_3 : Ref sig .tc := ⟨.hbm, 110, rfl⟩
abbrev main_call3_call0_v19 : Ref sig .tc := ⟨.hbm, 111, rfl⟩
abbrev main_call3_call0_v20 : Ref sig .tc := ⟨.hbm, 112, rfl⟩
abbrev main_call3_call0_v21 : Ref sig .tc := ⟨.hbm, 113, rfl⟩
abbrev main_v26_1 : Ref sig .tc := ⟨.hbm, 114, rfl⟩
abbrev main_call3_call0_cst_4 : Ref sig .tc := ⟨.hbm, 115, rfl⟩
abbrev main_call3_call0_cst_5 : Ref sig .tc := ⟨.hbm, 116, rfl⟩
abbrev main_call3_call0_v23 : Ref sig .tc := ⟨.hbm, 117, rfl⟩
abbrev main_call3_call0_cst_6 : Ref sig .tc := ⟨.hbm, 118, rfl⟩
abbrev main_call3_call0_cst_7 : Ref sig .tc := ⟨.hbm, 119, rfl⟩
abbrev main_call3_call0_v24 : Ref sig .tc := ⟨.hbm, 120, rfl⟩
abbrev main_call3_call0_cst_8 : Ref sig .tc := ⟨.hbm, 121, rfl⟩
abbrev main_call3_call0_v25 : Ref sig .tc := ⟨.hbm, 122, rfl⟩
abbrev main_call3_call0_v26 : Ref sig .tc := ⟨.hbm, 123, rfl⟩
abbrev main_call3_call0_cst_9 : Ref sig .tc := ⟨.hbm, 124, rfl⟩
abbrev main_call3_call0_v27 : Ref sig .tc := ⟨.hbm, 125, rfl⟩
abbrev main_call3_call0_v28 : Ref sig .tc := ⟨.hbm, 126, rfl⟩
abbrev main_call3_call0_v29 : Ref sig .tc := ⟨.hbm, 127, rfl⟩
abbrev main_call3_call0_v30 : Ref sig .tc := ⟨.hbm, 128, rfl⟩
abbrev main_call3_call0_v31 : Ref sig .tc := ⟨.hbm, 129, rfl⟩
abbrev main_call3_call0_cst_10 : Ref sig .tc := ⟨.hbm, 130, rfl⟩
abbrev main_call3_call0_v32 : Ref sig .tc := ⟨.hbm, 131, rfl⟩
abbrev main_v26_2 : Ref sig .tc := ⟨.hbm, 132, rfl⟩
abbrev main_v26_0 : Ref sig .tc := ⟨.hbm, 133, rfl⟩
abbrev main_v27 : Ref sig .tc := ⟨.hbm, 134, rfl⟩
abbrev main_v28 : Ref sig .tc := ⟨.hbm, 135, rfl⟩
abbrev main_cst_3 : Ref sig .tc := ⟨.hbm, 136, rfl⟩
abbrev main_call4_v0 : Ref sig .tc := ⟨.hbm, 137, rfl⟩
abbrev main_v29_1 : Ref sig .tc := ⟨.hbm, 138, rfl⟩
abbrev main_call4_v2 : Ref sig .tc := ⟨.hbm, 139, rfl⟩
abbrev main_v29_0 : Ref sig .tc := ⟨.hbm, 140, rfl⟩
abbrev main_call4_cst : Ref sig .tc := ⟨.hbm, 141, rfl⟩
abbrev main_v29_2 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call5_cst : Ref sig .tc := ⟨.hbm, 152, rfl⟩
abbrev main_call5_v0 : Ref sig .tc := ⟨.hbm, 153, rfl⟩
abbrev main_v39 : Ref sig .tc := ⟨.hbm, 154, rfl⟩
abbrev main_v40 : Ref sig .tc := ⟨.hbm, 155, rfl⟩
abbrev main_call6_v0 : Ref sig .tc := ⟨.hbm, 156, rfl⟩
abbrev main_call6_v1 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_cst_4 : Ref sig .tc := ⟨.hbm, 161, rfl⟩
abbrev main_v44 : Ref sig .tc := ⟨.hbm, 162, rfl⟩
abbrev main_call7_cst : Ref sig .tc := ⟨.hbm, 163, rfl⟩
abbrev main_call7_v0 : Ref sig .tc := ⟨.hbm, 164, rfl⟩
abbrev main_v45 : Ref sig .tc := ⟨.hbm, 165, rfl⟩
abbrev main_call8_cst : Ref sig .tc := ⟨.hbm, 166, rfl⟩
abbrev main_call8_v0 : Ref sig .tc := ⟨.hbm, 167, rfl⟩
abbrev main_v46 : Ref sig .tc := ⟨.hbm, 168, rfl⟩
abbrev main_call9_v0 : Ref sig .tc := ⟨.hbm, 169, rfl⟩
abbrev main_call9_v1 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_cst_5 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩

abbrev nD : Nat := 1
abbrev τ : Topo := Topo.v7x

variable {F : FTy → Type} [FloatOps F]
-- ==== DwOut.lean ====
abbrev S2048x2048 : Shape := ⟨2, ![2048, 2048]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 16
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwOutRefIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== DwInA.lean ====
abbrev S2048x2048 : Shape := ⟨2, ![2048, 2048]⟩
abbrev S1x2048 : Shape := ⟨2, ![1, 2048]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S4x2048x1152 : Shape := ⟨3, ![4, 2048, 1152]⟩
abbrev S1024x2048 : Shape := ⟨2, ![1024, 2048]⟩
abbrev S2048x1152 : Shape := ⟨2, ![2048, 1152]⟩
abbrev S1x1024x1152 : Shape := ⟨3, ![1, 1024, 1152]⟩
abbrev S1024x1152 : Shape := ⟨2, ![1024, 1152]⟩

abbrev nBuf : Space → Nat
  | .hbm => 21
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x4608, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S4x2048x1152, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1x1024x1152, .bf16⟩
  | .local _ .vmem, ⟨5, _⟩ => ⟨S1x1024x1152, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInARefIdeal.lean ====
abbrev S2048x2048 : Shape := ⟨2, ![2048, 2048]⟩
abbrev S1x2048 : Shape := ⟨2, ![1, 2048]⟩
abbrev S2048x4608 : Shape := ⟨2, ![2048, 4608]⟩
abbrev S_ : Shape := ⟨0, ![]⟩
abbrev S2048 : Shape := ⟨1, ![2048]⟩
abbrev S2048x1 : Shape := ⟨2, ![2048, 1]⟩
abbrev S4608x2048 : Shape := ⟨2, ![4608, 2048]⟩
abbrev S2048x4x1152 : Shape := ⟨3, ![2048, 4, 1152]⟩
abbrev S4x2048x1152 : Shape := ⟨3, ![4, 2048, 1152]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x4608, .bf16⟩
  | .hbm, ⟨3, _⟩ => ⟨S_, .f32⟩
  | .hbm, ⟨4, _⟩ => ⟨S2048x4608, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x4608, .f32⟩
  | .hbm, ⟨21, _⟩ => ⟨S2048x4608, .f32⟩
  | .hbm, ⟨22, _⟩ => ⟨S4608x2048, .f32⟩
  | .hbm, ⟨23, _⟩ => ⟨S2048x4608, .f32⟩
  | .hbm, ⟨24, _⟩ => ⟨S2048x4608, .bf16⟩
  | .hbm, ⟨25, _⟩ => ⟨S2048x4x1152, .bf16⟩
  | .hbm, ⟨26, _⟩ => ⟨S4x2048x1152, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DwInB.lean ====
abbrev S2048x2048 : Shape := ⟨2, ![2048, 2048]⟩
abbrev S1x2048 : Shape := ⟨2, ![1, 2048]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S4x2048x2048 : Shape := ⟨3, ![4, 2048, 2048]⟩
abbrev S1024x2048 : Shape := ⟨2, ![1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S4x2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInBRefIdeal.lean ====
abbrev S2048x2048 : Shape := ⟨2, ![2048, 2048]⟩
abbrev S1x2048 : Shape := ⟨2, ![1, 2048]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .bf16⟩
  | .hbm, ⟨3, _⟩ => ⟨S_, .f32⟩
  | .hbm, ⟨4, _⟩ => ⟨S2048x8192, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S2048x8192, .f32⟩
  | .hbm, ⟨22, _⟩ => ⟨S8192x2048, .f32⟩
  | .hbm, ⟨23, _⟩ => ⟨S2048x8192, .f32⟩
  | .hbm, ⟨24, _⟩ => ⟨S2048x8192, .bf16⟩
  | .hbm, ⟨25, _⟩ => ⟨S2048x4x2048, .bf16⟩
  | .hbm, ⟨26, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DwInC.lean ====
abbrev S2048x2048 : Shape := ⟨2, ![2048, 2048]⟩
abbrev S1x2048 : Shape := ⟨2, ![1, 2048]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 21
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInCRefIdeal.lean ====
abbrev S2048x2048 : Shape := ⟨2, ![2048, 2048]⟩
abbrev S1x2048 : Shape := ⟨2, ![1, 2048]⟩
abbrev S2048x8192 : Shape := ⟨2, ![2048, 8192]⟩
abbrev S_ : Shape := ⟨0, ![]⟩
abbrev S2048 : Shape := ⟨1, ![2048]⟩
abbrev S2048x1 : Shape := ⟨2, ![2048, 1]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x8192, .bf16⟩
  | .hbm, ⟨3, _⟩ => ⟨S_, .f32⟩
  | .hbm, ⟨4, _⟩ => ⟨S2048x8192, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x8192, .f32⟩
  | .hbm, ⟨21, _⟩ => ⟨S2048x8192, .f32⟩
  | .hbm, ⟨22, _⟩ => ⟨S8192x2048, .f32⟩
  | .hbm, ⟨23, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== QkvA.lean ====
abbrev S2048x2048 : Shape := ⟨2, ![2048, 2048]⟩
abbrev S2048x4608 : Shape := ⟨2, ![2048, 4608]⟩
abbrev S2048x2560 : Shape := ⟨2, ![2048, 2560]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x2560, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvARefIdeal.lean ====
abbrev S2048x2048 : Shape := ⟨2, ![2048, 2048]⟩
abbrev S2048x4608 : Shape := ⟨2, ![2048, 4608]⟩
abbrev S2048x2560 : Shape := ⟨2, ![2048, 2560]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x2048, .f32⟩
  | .hbm, ⟨3, _⟩ => ⟨S2048x4608, .f32⟩
  | .hbm, ⟨4, _⟩ => ⟨S2048x4608, .f32⟩
  | .hbm, ⟨5, _⟩ => ⟨S2048x2560, .f32⟩
  | .hbm, ⟨6, _⟩ => ⟨S2048x2048, .f32⟩
  | .hbm, ⟨7, _⟩ => ⟨S2048x2560, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GateA.lean ====
abbrev S2048x2048 : Shape := ⟨2, ![2048, 2048]⟩
abbrev S2048x4608 : Shape := ⟨2, ![2048, 4608]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi arg1 c5_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateARefIdeal.lean ====
abbrev S2048x2048 : Shape := ⟨2, ![2048, 2048]⟩
abbrev S2048x4608 : Shape := ⟨2, ![2048, 4608]⟩
abbrev S2048x2560 : Shape := ⟨2, ![2048, 2560]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4608, .bf16⟩
  | .hbm, ⟨2, _⟩ => ⟨S2048x2048, .f32⟩
  | .hbm, ⟨3, _⟩ => ⟨S2048x4608, .f32⟩
  | .hbm, ⟨4, _⟩ => ⟨S2048x4608, .f32⟩
  | .hbm, ⟨5, _⟩ => ⟨S2048x2560, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QkvB.lean ====
abbrev S2048x2048 : Shape := ⟨2, ![2048, 2048]⟩
abbrev S2048x8192 : Shape := ⟨2, ![2048, 8192]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvBRefIdeal.lean ====
abbrev S2048x2048 : Shape := ⟨2, ![2048, 2048]⟩
abbrev S2048x8192 : Shape := ⟨2, ![2048, 8192]⟩
abbrev S2048x6144 : Shape := ⟨2, ![2048, 6144]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S2048x6144, .f32⟩
  | .hbm, ⟨6, _⟩ => ⟨S2048x2048, .f32⟩
  | .hbm, ⟨7, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== GateB.lean ====
abbrev S2048x2048 : Shape := ⟨2, ![2048, 2048]⟩
abbrev S2048x8192 : Shape := ⟨2, ![2048, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateBRefIdeal.lean ====
abbrev S2048x2048 : Shape := ⟨2, ![2048, 2048]⟩
abbrev S2048x8192 : Shape := ⟨2, ![2048, 8192]⟩
abbrev S2048x6144 : Shape := ⟨2, ![2048, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x2048, .f32⟩
  | .hbm, ⟨3, _⟩ => ⟨S2048x8192, .f32⟩
  | .hbm, ⟨4, _⟩ => ⟨S2048x8192, .f32⟩
  | .hbm, ⟨5, _⟩ => ⟨S2048x6144, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gated.lean ====
abbrev S2048x2048 : Shape := ⟨2, ![2048, 2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 8
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S2048x256, .bf16⟩
  | .local _ .vmem, ⟨13, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GatedRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Prenorm.lean ====
abbrev S2048x2048 : Shape := ⟨2, ![2048, 2048]⟩
abbrev S1x2048 : Shape := ⟨2, ![1, 2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PrenormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AdamInA.lean ====
abbrev S2x2048x1152 : Shape := ⟨3, ![2, 2048, 1152]⟩
abbrev S1x256x1152 : Shape := ⟨3, ![1, 256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x1152, .f32⟩
  | .hbm, ⟨1, _⟩ => ⟨S2x2048x1152, .f32⟩
  | .hbm, ⟨2, _⟩ => ⟨S2x2048x1152, .f32⟩
  | .hbm, ⟨3, _⟩ => ⟨S2x2048x1152, .f32⟩
  | .hbm, ⟨4, _⟩ => ⟨S2x2048x1152, .f32⟩
  | .hbm, ⟨5, _⟩ => ⟨S2x2048x1152, .f32⟩
  | .hbm, ⟨6, _⟩ => ⟨S2x2048x1152, .f32⟩
  | .local _ .vmem, ⟨0, _⟩ => ⟨S1x256x1152, .f32⟩
  | .local _ .vmem, ⟨1, _⟩ => ⟨S1x256x1152, .f32⟩
  | .local _ .vmem, ⟨2, _⟩ => ⟨S1x256x1152, .f32⟩
  | .local _ .vmem, ⟨3, _⟩ => ⟨S1x256x1152, .f32⟩
  | .local _ .vmem, ⟨4, _⟩ => ⟨S1x256x1152, .f32⟩
  | .local _ .vmem, ⟨5, _⟩ => ⟨S1x256x1152, .f32⟩
  | .local _ .vmem, ⟨6, _⟩ => ⟨S1x256x1152, .f32⟩
  | .local _ .vmem, ⟨7, _⟩ => ⟨S1x256x1152, .f32⟩
  | .local _ .vmem, ⟨8, _⟩ => ⟨S1x256x1152, .f32⟩
  | .local _ .vmem, ⟨9, _⟩ => ⟨S1x256x1152, .f32⟩
  | .local _ .vmem, ⟨10, _⟩ => ⟨S1x256x1152, .f32⟩
  | .local _ .vmem, ⟨11, _⟩ => ⟨S1x256x1152, .f32⟩
  | .local _ .vmem, ⟨12, _⟩ => ⟨S1x256x1152, .f32⟩
  | .local _ .vmem, ⟨13, _⟩ => ⟨S1x256x1152, .f32⟩
  | _, _ => ⟨S2x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInARefIdeal.lean ====
abbrev S2x2048x1152 : Shape := ⟨3, ![2, 2048, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x1152, .f32⟩
  | .hbm, ⟨1, _⟩ => ⟨S2x2048x1152, .f32⟩
  | .hbm, ⟨2, _⟩ => ⟨S2x2048x1152, .f32⟩
  | .hbm, ⟨3, _⟩ => ⟨S2x2048x1152, .f32⟩
  | .hbm, ⟨4, _⟩ => ⟨S_, .f32⟩
  | .hbm, ⟨5, _⟩ => ⟨S2x2048x1152, .f32⟩
  | .hbm, ⟨6, _⟩ => ⟨S2x2048x1152, .f32⟩
  | .hbm, ⟨7, _⟩ => ⟨S_, .f32⟩
  | .hbm, ⟨8, _⟩ => ⟨S2x2048x1152, .f32⟩
  | .hbm, ⟨9, _⟩ => ⟨S2x2048x1152, .f32⟩
  | .hbm, ⟨10, _⟩ => ⟨S2x2048x1152, .f32⟩
  | .hbm, ⟨11, _⟩ => ⟨S_, .f32⟩
  | .hbm, ⟨12, _⟩ => ⟨S2x2048x1152, .f32⟩
  | .hbm, ⟨13, _⟩ => ⟨S2x2048x1152, .f32⟩
  | .hbm, ⟨14, _⟩ => ⟨S2x2048x1152, .f32⟩
  | .hbm, ⟨15, _⟩ => ⟨S_, .f32⟩
  | .hbm, ⟨16, _⟩ => ⟨S2x2048x1152, .f32⟩
  | .hbm, ⟨17, _⟩ => ⟨S2x2048x1152, .f32⟩
  | .hbm, ⟨18, _⟩ => ⟨S2x2048x1152, .f32⟩
  | .hbm, ⟨19, _⟩ => ⟨S_, .f32⟩
  | .hbm, ⟨20, _⟩ => ⟨S2x2048x1152, .f32⟩
  | .hbm, ⟨21, _⟩ => ⟨S2x2048x1152, .f32⟩
  | .hbm, ⟨22, _⟩ => ⟨S_, .f32⟩
  | .hbm, ⟨23, _⟩ => ⟨S2x2048x1152, .f32⟩
  | .hbm, ⟨24, _⟩ => ⟨S2x2048x1152, .f32⟩
  | .hbm, ⟨25, _⟩ => ⟨S2x2048x1152, .f32⟩
  | .hbm, ⟨26, _⟩ => ⟨S_, .f32⟩
  | .hbm, ⟨27, _⟩ => ⟨S2x2048x1152, .f32⟩
  | .hbm, ⟨28, _⟩ => ⟨S2x2048x1152, .f32⟩
  | .hbm, ⟨29, _⟩ => ⟨S2x2048x1152, .f32⟩
  | .hbm, ⟨30, _⟩ => ⟨S_, .f32⟩
  | .hbm, ⟨31, _⟩ => ⟨S2x2048x1152, .f32⟩
  | .hbm, ⟨32, _⟩ => ⟨S2x2048x1152, .f32⟩
  | .hbm, ⟨33, _⟩ => ⟨S2x2048x1152, .f32⟩
  | .hbm, ⟨34, _⟩ => ⟨S_, .f32⟩
  | .hbm, ⟨35, _⟩ => ⟨S2x2048x1152, .f32⟩
  | .hbm, ⟨36, _⟩ => ⟨S2x2048x1152, .f32⟩
  | _, _ => ⟨S2x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutA.lean ====
abbrev S2x512x2048 : Shape := ⟨3, ![2, 512, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutARefIdeal.lean ====
abbrev S2x512x2048 : Shape := ⟨3, ![2, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutB.lean ====
abbrev S1x512x2048 : Shape := ⟨3, ![1, 512, 2048]⟩
abbrev S1x256x2048 : Shape := ⟨3, ![1, 256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutBRefIdeal.lean ====
abbrev S1x512x2048 : Shape := ⟨3, ![1, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x136x128 : Shape := ⟨3, ![1, 136, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x136x128, .f32⟩
  | .hbm, ⟨1, _⟩ => ⟨S1x136x128, .f32⟩
  | .hbm, ⟨2, _⟩ => ⟨S1x136x128, .f32⟩
  | .hbm, ⟨3, _⟩ => ⟨S1x136x128, .f32⟩
  | .hbm, ⟨4, _⟩ => ⟨S1x136x128, .f32⟩
  | .hbm, ⟨5, _⟩ => ⟨S1x136x128, .f32⟩
  | .hbm, ⟨6, _⟩ => ⟨S1x136x128, .f32⟩
  | .local _ .vmem, ⟨0, _⟩ => ⟨S1x136x128, .f32⟩
  | .local _ .vmem, ⟨1, _⟩ => ⟨S1x136x128, .f32⟩
  | .local _ .vmem, ⟨2, _⟩ => ⟨S1x136x128, .f32⟩
  | .local _ .vmem, ⟨3, _⟩ => ⟨S1x136x128, .f32⟩
  | .local _ .vmem, ⟨4, _⟩ => ⟨S1x136x128, .f32⟩
  | .local _ .vmem, ⟨5, _⟩ => ⟨S1x136x128, .f32⟩
  | .local _ .vmem, ⟨6, _⟩ => ⟨S1x136x128, .f32⟩
  | _, _ => ⟨S1x136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSmallRefIdeal.lean ====
abbrev S1x136x128 : Shape := ⟨3, ![1, 136, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x136x128, .f32⟩
  | .hbm, ⟨1, _⟩ => ⟨S1x136x128, .f32⟩
  | .hbm, ⟨2, _⟩ => ⟨S1x136x128, .f32⟩
  | .hbm, ⟨3, _⟩ => ⟨S1x136x128, .f32⟩
  | .hbm, ⟨4, _⟩ => ⟨S_, .f32⟩
  | .hbm, ⟨5, _⟩ => ⟨S1x136x128, .f32⟩
  | .hbm, ⟨6, _⟩ => ⟨S1x136x128, .f32⟩
  | .hbm, ⟨7, _⟩ => ⟨S_, .f32⟩
  | .hbm, ⟨8, _⟩ => ⟨S1x136x128, .f32⟩
  | .hbm, ⟨9, _⟩ => ⟨S1x136x128, .f32⟩
  | .hbm, ⟨10, _⟩ => ⟨S1x136x128, .f32⟩
  | .hbm, ⟨11, _⟩ => ⟨S_, .f32⟩
  | .hbm, ⟨12, _⟩ => ⟨S1x136x128, .f32⟩
  | .hbm, ⟨13, _⟩ => ⟨S1x136x128, .f32⟩
  | .hbm, ⟨14, _⟩ => ⟨S1x136x128, .f32⟩
  | .hbm, ⟨15, _⟩ => ⟨S_, .f32⟩
  | .hbm, ⟨16, _⟩ => ⟨S1x136x128, .f32⟩
  | .hbm, ⟨17, _⟩ => ⟨S1x136x128, .f32⟩
  | .hbm, ⟨18, _⟩ => ⟨S1x136x128, .f32⟩
  | .hbm, ⟨19, _⟩ => ⟨S_, .f32⟩
  | .hbm, ⟨20, _⟩ => ⟨S1x136x128, .f32⟩
  | .hbm, ⟨21, _⟩ => ⟨S1x136x128, .f32⟩
  | .hbm, ⟨22, _⟩ => ⟨S_, .f32⟩
  | .hbm, ⟨23, _⟩ => ⟨S1x136x128, .f32⟩
  | .hbm, ⟨24, _⟩ => ⟨S1x136x128, .f32⟩
  | .hbm, ⟨25, _⟩ => ⟨S1x136x128, .f32⟩
  | .hbm, ⟨26, _⟩ => ⟨S_, .f32⟩
  | .hbm, ⟨27, _⟩ => ⟨S1x136x128, .f32⟩
  | .hbm, ⟨28, _⟩ => ⟨S1x136x128, .f32⟩
  | .hbm, ⟨29, _⟩ => ⟨S1x136x128, .f32⟩
  | .hbm, ⟨30, _⟩ => ⟨S_, .f32⟩
  | .hbm, ⟨31, _⟩ => ⟨S1x136x128, .f32⟩
  | .hbm, ⟨32, _⟩ => ⟨S1x136x128, .f32⟩
  | .hbm, ⟨33, _⟩ => ⟨S1x136x128, .f32⟩
  | .hbm, ⟨34, _⟩ => ⟨S_, .f32⟩
  | .hbm, ⟨35, _⟩ => ⟨S1x136x128, .f32⟩
  | .hbm, ⟨36, _⟩ => ⟨S1x136x128, .f32⟩
  | _, _ => ⟨S1x136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMany.lean ====
abbrev S1x2048x2048 : Shape := ⟨3, ![1, 2048, 2048]⟩
abbrev S1x2056x2048 : Shape := ⟨3, ![1, 2056, 2048]⟩
abbrev S1x128x2048 : Shape := ⟨3, ![1, 128, 2048]⟩
abbrev S1x2056x128 : Shape := ⟨3, ![1, 2056, 128]⟩

abbrev nBuf : Space → Nat
  | .hbm => 14
  | .vmem => 28
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x2056x2048, .f32⟩
  | .hbm, ⟨5, _⟩ => ⟨S1x2056x2048, .f32⟩
  | .hbm, ⟨6, _⟩ => ⟨S1x2056x2048, .f32⟩
  | .hbm, ⟨7, _⟩ => ⟨S1x2056x2048, .f32⟩
  | .hbm, ⟨8, _⟩ => ⟨S1x2048x2048, .f32⟩
  | .hbm, ⟨9, _⟩ => ⟨S1x2048x2048, .f32⟩
  | .hbm, ⟨10, _⟩ => ⟨S1x2048x2048, .f32⟩
  | .hbm, ⟨11, _⟩ => ⟨S1x2056x2048, .f32⟩
  | .hbm, ⟨12, _⟩ => ⟨S1x2056x2048, .f32⟩
  | .hbm, ⟨13, _⟩ => ⟨S1x2056x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x2056x128, .f32⟩
  | .local _ .vmem, ⟨9, _⟩ => ⟨S1x2056x128, .f32⟩
  | .local _ .vmem, ⟨10, _⟩ => ⟨S1x2056x128, .f32⟩
  | .local _ .vmem, ⟨11, _⟩ => ⟨S1x2056x128, .f32⟩
  | .local _ .vmem, ⟨12, _⟩ => ⟨S1x2056x128, .f32⟩
  | .local _ .vmem, ⟨13, _⟩ => ⟨S1x2056x128, .f32⟩
  | .local _ .vmem, ⟨14, _⟩ => ⟨S1x2056x128, .f32⟩
  | .local _ .vmem, ⟨15, _⟩ => ⟨S1x2056x128, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x2056x128, .f32⟩
  | .local _ .vmem, ⟨23, _⟩ => ⟨S1x2056x128, .f32⟩
  | .local _ .vmem, ⟨24, _⟩ => ⟨S1x2056x128, .f32⟩
  | .local _ .vmem, ⟨25, _⟩ => ⟨S1x2056x128, .f32⟩
  | .local _ .vmem, ⟨26, _⟩ => ⟨S1x2056x128, .f32⟩
  | .local _ .vmem, ⟨27, _⟩ => ⟨S1x2056x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2056x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2056x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2056x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2056x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2056x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2056x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2056x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AdamManyRefIdeal.lean ====
abbrev S1x2048x2048 : Shape := ⟨3, ![1, 2048, 2048]⟩
abbrev S1x2056x2048 : Shape := ⟨3, ![1, 2056, 2048]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x2056x2048, .f32⟩
  | .hbm, ⟨5, _⟩ => ⟨S1x2056x2048, .f32⟩
  | .hbm, ⟨6, _⟩ => ⟨S1x2056x2048, .f32⟩
  | .hbm, ⟨7, _⟩ => ⟨S1x2056x2048, .f32⟩
  | .hbm, ⟨8, _⟩ => ⟨S_, .f32⟩
  | .hbm, ⟨9, _⟩ => ⟨S1x2048x2048, .f32⟩
  | .hbm, ⟨10, _⟩ => ⟨S1x2048x2048, .f32⟩
  | .hbm, ⟨11, _⟩ => ⟨S_, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S_, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S_, .f32⟩
  | .hbm, ⟨20, _⟩ => ⟨S1x2048x2048, .f32⟩
  | .hbm, ⟨21, _⟩ => ⟨S1x2048x2048, .f32⟩
  | .hbm, ⟨22, _⟩ => ⟨S1x2048x2048, .f32⟩
  | .hbm, ⟨23, _⟩ => ⟨S_, .f32⟩
  | .hbm, ⟨24, _⟩ => ⟨S1x2048x2048, .f32⟩
  | .hbm, ⟨25, _⟩ => ⟨S1x2048x2048, .f32⟩
  | .hbm, ⟨26, _⟩ => ⟨S_, .f32⟩
  | .hbm, ⟨27, _⟩ => ⟨S1x2048x2048, .f32⟩
  | .hbm, ⟨28, _⟩ => ⟨S1x2048x2048, .f32⟩
  | .hbm, ⟨29, _⟩ => ⟨S1x2048x2048, .f32⟩
  | .hbm, ⟨30, _⟩ => ⟨S_, .f32⟩
  | .hbm, ⟨31, _⟩ => ⟨S1x2048x2048, .f32⟩
  | .hbm, ⟨32, _⟩ => ⟨S1x2048x2048, .f32⟩
  | .hbm, ⟨33, _⟩ => ⟨S1x2048x2048, .f32⟩
  | .hbm, ⟨34, _⟩ => ⟨S_, .f32⟩
  | .hbm, ⟨35, _⟩ => ⟨S1x2048x2048, .f32⟩
  | .hbm, ⟨36, _⟩ => ⟨S1x2048x2048, .f32⟩
  | .hbm, ⟨37, _⟩ => ⟨S1x2048x2048, .f32⟩
  | .hbm, ⟨38, _⟩ => ⟨S_, .f32⟩
  | .hbm, ⟨39, _⟩ => ⟨S1x2048x2048, .f32⟩
  | .hbm, ⟨40, _⟩ => ⟨S1x2048x2048, .f32⟩
  | .hbm, ⟨41, _⟩ => ⟨S_, .f32⟩
  | .hbm, ⟨42, _⟩ => ⟨S1x2056x2048, .f32⟩
  | .hbm, ⟨43, _⟩ => ⟨S1x2056x2048, .f32⟩
  | .hbm, ⟨44, _⟩ => ⟨S_, .f32⟩
  | .hbm, ⟨45, _⟩ => ⟨S1x2056x2048, .f32⟩
  | .hbm, ⟨46, _⟩ => ⟨S1x2056x2048, .f32⟩
  | .hbm, ⟨47, _⟩ => ⟨S1x2056x2048, .f32⟩
  | .hbm, ⟨48, _⟩ => ⟨S_, .f32⟩
  | .hbm, ⟨49, _⟩ => ⟨S1x2056x2048, .f32⟩
  | .hbm, ⟨50, _⟩ => ⟨S1x2056x2048, .f32⟩
  | .hbm, ⟨51, _⟩ => ⟨S1x2056x2048, .f32⟩
  | .hbm, ⟨52, _⟩ => ⟨S_, .f32⟩
  | .hbm, ⟨53, _⟩ => ⟨S1x2056x2048, .f32⟩
  | .hbm, ⟨54, _⟩ => ⟨S1x2056x2048, .f32⟩
  | .hbm, ⟨55, _⟩ => ⟨S1x2056x2048, .f32⟩
  | .hbm, ⟨56, _⟩ => ⟨S_, .f32⟩
  | .hbm, ⟨57, _⟩ => ⟨S1x2056x2048, .f32⟩
  | .hbm, ⟨58, _⟩ => ⟨S1x2056x2048, .f32⟩
  | .hbm, ⟨59, _⟩ => ⟨S_, .f32⟩
  | .hbm, ⟨60, _⟩ => ⟨S1x2056x2048, .f32⟩
  | .hbm, ⟨61, _⟩ => ⟨S1x2056x2048, .f32⟩
  | .hbm, ⟨62, _⟩ => ⟨S1x2056x2048, .f32⟩
  | .hbm, ⟨63, _⟩ => ⟨S_, .f32⟩
  | .hbm, ⟨64, _⟩ => ⟨S1x2056x2048, .f32⟩
  | .hbm, ⟨65, _⟩ => ⟨S1x2056x2048, .f32⟩
  | .hbm, ⟨66, _⟩ => ⟨S1x2056x2048, .f32⟩
  | .hbm, ⟨67, _⟩ => ⟨S_, .f32⟩
  | .hbm, ⟨68, _⟩ => ⟨S1x2056x2048, .f32⟩
  | .hbm, ⟨69, _⟩ => ⟨S1x2056x2048, .f32⟩
  | .hbm, ⟨70, _⟩ => ⟨S1x2056x2048, .f32⟩
  | .hbm, ⟨71, _⟩ => ⟨S_, .f32⟩
  | .hbm, ⟨72, _⟩ => ⟨S1x2056x2048, .f32⟩
  | .hbm, ⟨73, _⟩ => ⟨S1x2056x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== LossHead.lean ====
abbrev S2048x2048 : Shape := ⟨2, ![2048, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S2048x2048 : Shape := ⟨2, ![2048, 2048]⟩
abbrev S_ : Shape := ⟨0, ![]⟩
abbrev S2048 : Shape := ⟨1, ![2048]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | .hbm, ⟨25, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Reals.lean ====
/-
  The extended reals a finite computation stays in: every operation the two programs apply, read at real numbers, is the
  operation of the reals. Shared by all the value claims of this certificate.
-/
module

public import Idealize.ShloMosaic.Lib.IdealHost
public import Idealize.ShloMosaic.Lib.Pointwise
public import Idealize.ShloMosaic.Lib.ReduceAll
public import Idealize.ShloMosaic.PureOps.Ideal.Laws
public import Mathlib.Analysis.SpecialFunctions.Log.Basic

@[expose] public section

noncomputable section

namespace Cert.Reals

open Idealize.ShloMosaic
open scoped BigOperators

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of reals by a divisor that is not zero. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The logistic function of the reals. -/
def sgm (x : ℝ) : ℝ := 1 / (1 + Real.exp (-x))

theorem one_add_exp_pos (x : ℝ) : 0 < 1 + Real.exp x := by have := Real.exp_pos x; linarith

theorem logistic_coe (x : ℝ) : Ideal.logistic (x : EReal) = (sgm x : EReal) := by
  unfold Ideal.logistic sgm
  rw [← EReal.coe_neg, Ideal.exp_coe, ← EReal.coe_one, ← EReal.coe_add, div_coe _ (one_add_exp_pos _).ne']

/-- The reciprocal square root at a positive real. -/
theorem rsqrt_coe {x : ℝ} (hx : 0 < x) : Ideal.rsqrt (x : EReal) = (((Real.sqrt x)⁻¹ : ℝ) : EReal) := by
  rw [Ideal.rsqrt_coe, if_neg (not_lt.mpr hx.le), if_neg hx.ne']

/-- The constant added under the root, the binary32 number nearest to 1e-6: a positive real. -/
def eps : ℝ := 8796093 * (2 : ℝ) ^ (-43 : ℤ)

theorem eps_pos : 0 < eps := by unfold eps; positivity

theorem ofBits_eps : Ideal.ofBits .f32 0x358637BD#32 = (eps : EReal) := by
  unfold eps
  simp [Ideal.ofBits, Ideal.ieee, -EReal.coe_mul]

/-- The number of columns, as a binary32 constant. -/
theorem ofBits_2048 : Ideal.ofBits .f32 0x45000000#32 = ((2048 : ℝ) : EReal) := by
  simp [Ideal.ofBits, Ideal.ieee, -EReal.coe_mul]; norm_num

/-- The constant -1/2. -/
theorem ofBits_neg_half : Ideal.ofBits .f32 0xBF000000#32 = ((-(1 / 2) : ℝ) : EReal) := by
  simp [Ideal.ofBits, Ideal.ieee, -EReal.coe_mul, -EReal.coe_neg]; norm_num

theorem ofBits_zero : Ideal.ofBits .f32 0#32 = (0 : EReal) := by simp [Ideal.ofBits, Ideal.ieee]

theorem ofBits_one : Ideal.ofBits .f32 0x3F800000#32 = ((1 : ℝ) : EReal) := by simp

/-- The constant 1/2. -/
theorem ofBits_half : Ideal.ofBits .f32 0x3F000000#32 = ((1 / 2 : ℝ) : EReal) := by
  simp [Ideal.ofBits, Ideal.ieee, -EReal.coe_mul]; norm_num

/-- The constant 2. -/
theorem ofBits_two : Ideal.ofBits .f32 0x40000000#32 = ((2 : ℝ) : EReal) := by
  simp [Ideal.ofBits, Ideal.ieee, -EReal.coe_mul]; norm_num

/-- One over the number of columns. -/
theorem ofBits_inv_2048 : Ideal.ofBits .f32 0x3A000000#32 = ((1 / 2048 : ℝ) : EReal) := by
  simp [Ideal.ofBits, Ideal.ieee, -EReal.coe_mul]; norm_num

/-- One half over the number of columns. -/
theorem ofBits_inv_4096 : Ideal.ofBits .f32 0x39800000#32 = ((1 / 4096 : ℝ) : EReal) := by
  simp [Ideal.ofBits, Ideal.ieee, -EReal.coe_mul]; norm_num

/-- A real factor that is not negative goes into a finite sum of extended reals. -/
theorem sum_mul_coe {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

/-- Infinity, as a binary32 constant. -/
theorem ofBits_inf : Ideal.ofBits .f32 0x7F800000#32 = (⊤ : EReal) := by
  simp [Ideal.ofBits, Ideal.ieee]

/-- A number whose magnitude is below infinity is a real. -/
theorem real_of_abs_lt_top {a : EReal} (h : max a (-a) < ⊤) : ((a.toReal : ℝ) : EReal) = a := by
  induction a with
  | bot => simp at h
  | top => simp at h
  | coe x => rfl

/-- The precondition's test of one number. -/
theorem real_of_test {a : Ideal .f32} (h : FloatOps.cmpf .olt (FloatOps.absf a) (FloatOps.ofBits .f32 0x7F800000#32) = 1#1) :
    ((EReal.toReal a : ℝ) : EReal) = a := by
  refine real_of_abs_lt_top ?_
  rw [Ideal.cmpf_def, Ideal.absf_def] at h
  rw [← ofBits_inf]
  change Ideal.cmp .olt (max a (-a)) (Ideal.ofBits .f32 0x7F800000#32) = 1#1 at h
  by_contra hn
  simp [Ideal.cmp, hn] at h

end Cert.Reals

end
-- ==== Proof.Outproj.Row.lean ====
/-
  The out-projection's backward kernel on one row block, in the reals: its payloads at real inputs are the formulas
  below, row by row.
-/
module

public import proofs.«01_k».proof.Proof.Reals
public import proofs.«01_k».proof.Proof.Gen.OutprojIdeal.Value

@[expose] public section

set_option maxRecDepth 16384

noncomputable section

namespace Cert.OutprojRow

open Cert.Reals Idealize.ShloMosaic Idealize.ShloMosaic.Pointwise
open scoped BigOperators

/-- The reciprocal root mean square of a row of 2048 numbers. -/
def rms (y : Fin 2048 → ℝ) : ℝ := (Real.sqrt ((∑ k, y k * y k) / 2048 + eps))⁻¹

theorem mean_pos (y : Fin 2048 → ℝ) : 0 < (∑ k, y k * y k) / 2048 + eps := by
  have h : 0 ≤ ∑ k, y k * y k := Finset.sum_nonneg fun k _ => mul_self_nonneg _
  have := eps_pos
  positivity

/-- One row of the normalisation's gradient to its input. -/
def dyRow (dx y g : Fin 2048 → ℝ) (j : Fin 2048) : ℝ :=
  rms y * (dx j * g j - y j * (rms y * rms y) * ((∑ k, dx k * g k * y k) / 2048))

/-- One row's contribution to the normalisation weight's gradient. -/
def dgRow (dx y : Fin 2048 → ℝ) (j : Fin 2048) : ℝ := dx j * y j * rms y

/-- One row of the product's gradient to its left operand. -/
def duRow (dy : Fin 2048 → ℝ) (w : Fin 2048 → Fin 2048 → ℝ) (k : Fin 2048) : ℝ := ∑ j, dy j * w k j

/-- One entry of the attention output's gradient. -/
def doRow (dy : Fin 2048 → ℝ) (w : Fin 2048 → Fin 2048 → ℝ) (z : Fin 2048 → ℝ) (k : Fin 2048) : ℝ :=
  duRow dy w k * (z k * sgm (z k))

/-- One entry of the gate's gradient. -/
def dzRow (dy : Fin 2048 → ℝ) (w : Fin 2048 → Fin 2048 → ℝ) (o z : Fin 2048 → ℝ) (k : Fin 2048) : ℝ :=
  duRow dy w k * o k * (sgm (z k) * (1 + z k * (1 - sgm (z k))))

section Kernel

open Cert.OutprojIdeal Cert.OutprojIdeal.Gen

variable (dx y o z : Fin 256 → Fin 2048 → ℝ) (g : Fin 2048 → ℝ) (w : Fin 2048 → Fin 2048 → ℝ)

/-- A block of reals as the kernel holds it. -/
abbrev blk (f : Fin 256 → Fin 2048 → ℝ) : S256x2048.Idx → EReal := fun i => ((f (i 0) (i 1) : ℝ) : EReal)

theorem pay7_apply (r : Fin 256) (u : Fin 1) : k0_pay7 (F := Ideal) (blk y) (ix2 r u) = ((rms (y r) : ℝ) : EReal) := by
  pointwise [k0_pay7, k0_pay6]
  simp only [ofBits_2048, ofBits_eps, ← EReal.coe_mul, ← coe_sum, div_coe _ (by norm_num : (2048 : ℝ) ≠ 0), ← EReal.coe_add]
  exact rsqrt_coe (mean_pos (y r))

theorem pay8_apply (r : Fin 256) (j : Fin 2048) :
    k0_pay8 (F := Ideal) (blk dx) (blk y) (fun i => ((g (i 1) : ℝ) : EReal)) (ix2 r j) = ((dyRow (dx r) (y r) g j : ℝ) : EReal) := by
  pointwise [k0_pay8, k0_pay6]
  simp only [pay7_apply, ofBits_2048, ← EReal.coe_mul, ← coe_sum, div_coe _ (by norm_num : (2048 : ℝ) ≠ 0), ← EReal.coe_add, ← EReal.coe_sub]
  rfl

theorem pay11_apply (u : Fin 1) (j : Fin 2048) :
    k0_pay11 (F := Ideal) (blk dx) (blk y) (ix2 u j) = ((∑ r, dgRow (dx r) (y r) j : ℝ) : EReal) := by
  pointwise [k0_pay11, k0_pay6]
  simp only [pay7_apply, ← EReal.coe_mul, ← coe_sum]
  rfl

theorem pay4_apply (dy : Fin 256 → Fin 2048 → ℝ) (r : Fin 256) (k : Fin 2048) :
    k0_pay4 (F := Ideal) (blk dy) (fun i => ((w (i 0) (i 1) : ℝ) : EReal)) (blk z) (ix2 r k) = ((doRow (dy r) w (z r) k : ℝ) : EReal) := by
  pointwise [k0_pay4, k0_pay2, k0_pay3]
  simp only [logistic_coe, ← EReal.coe_mul, ← coe_sum]
  rfl

theorem pay5_apply (dy : Fin 256 → Fin 2048 → ℝ) (r : Fin 256) (k : Fin 2048) :
    k0_pay5 (F := Ideal) (blk dy) (fun i => ((w (i 0) (i 1) : ℝ) : EReal)) (blk z) (blk o) (ix2 r k)
      = ((dzRow (dy r) w (o r) (z r) k : ℝ) : EReal) := by
  pointwise [k0_pay5, k0_pay2, k0_pay3]
  simp only [logistic_coe, ← EReal.coe_mul, ← coe_sum, ← EReal.coe_one, ← EReal.coe_add, ← EReal.coe_sub]
  rfl

end Kernel

end Cert.OutprojRow

end
-- ==== Proof.Outproj.Arrays.lean ====
/-
  The four result arrays of the out-projection's backward kernel, in the reals: each row of `dy`, `do` and `dz` is the row
  formula of that row of the arguments, and `dg` is the sum of the row contributions over all 2048 rows.
-/
module

public import proofs.«01_k».proof.Proof.Outproj.Row
public import Idealize.ShloMosaic.Lib.Pipeline.ValueKit
public import Idealize.ShloMosaic.Lib.Claim

@[expose] public section

set_option maxRecDepth 16384

noncomputable section

namespace Cert.OutprojIdeal.Arrays

open Cert.Reals Cert.OutprojRow Cert.OutprojIdeal Cert.OutprojIdeal.Gen
open Idealize.ShloMosaic Idealize.ShloMosaic.TcCoe Idealize.ShloMosaic.Pointwise Idealize.SL.Sem
open Idealize.ShloMosaic.Pipeline (Dat)
open scoped BigOperators

/-- The argument arrays of one device, as reals. -/
structure Args where
  dx : Fin 2048 → Fin 2048 → ℝ
  g : Fin 2048 → ℝ
  w : Fin 2048 → Fin 2048 → ℝ
  o : Fin 2048 → Fin 2048 → ℝ
  z : Fin 2048 → Fin 2048 → ℝ

/-- The product the forward pass normalises: the gated attention output times the weights. -/
def Args.y (A : Args) (r j : Fin 2048) : ℝ := ∑ k, A.o r k * (A.z r k * sgm (A.z r k)) * A.w k j

def Args.dy (A : Args) (r : Fin 2048) : Fin 2048 → ℝ := dyRow (A.dx r) (A.y r) A.g

/-- A square array of reals as the programs hold it. -/
abbrev arr (f : Fin 2048 → Fin 2048 → ℝ) : S2048x2048.Idx → EReal := fun i => ((f (i 0) (i 1) : ℝ) : EReal)

variable (m : (ℓ : Loc nD τ sig) → Buf (Elt Ideal) ℓ) (c : Dev nD) (A : Args)

/-- The memory holds the arguments. -/
structure Holds : Prop where
  dx : m ((c : Thread nD τ).loc main_arg0) = arr A.dx
  g : m ((c : Thread nD τ).loc main_arg1) = fun i : S1x2048.Idx => ((A.g (i 1) : ℝ) : EReal)
  w : m ((c : Thread nD τ).loc main_arg2) = arr A.w
  o : m ((c : Thread nD τ).loc main_arg3) = arr A.o
  z : m ((c : Thread nD τ).loc main_arg4) = arr A.z

/-- Every window's block index at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![t.val, 0] ∧ win0_9.index t = ![t.val, 0] :=
  (by decide +kernel : ∀ t : Fin grid0.N, _)

variable {m c A}

/-- The product the host computes before the call. -/
theorem V_y (h : Holds m c A) : V m c main_v3 = arr A.y := by
  have e : V m c main_v3 = Host.dotGeneral (F := Ideal) (φ₁ := .f32) (φ₂ := .f32) dot_S2048x2048_S2048x2048_S2048x2048_1_0_0_1_n_n none
      (mulf (arr A.o) (mulf (arr A.z) (Host.divf (broadcastInDim S2048x2048 ![] bcast_S_S2048x2048 (constant S_ .f32 0x3F800000#32))
        (addf (broadcastInDim S2048x2048 ![] bcast_S_S2048x2048 (constant S_ .f32 0x3F800000#32)) (Host.exp (Host.negf (arr A.z)))))))
      (extf (F := Ideal) .f32 (φ := .bf16) (arr A.w) bitsLt_bf16_f32) := by
    rw [← h.o, ← h.z, ← h.w]
    unfold V
    simp only [hostOps0, hostOps0_1, List.flatten_cons, List.flatten_nil, List.append_nil, List.cons_append, List.nil_append]
    after_results
    rfl
  rw [e]
  funext i
  idx_vars i
  pointwise
  simp only [← EReal.coe_neg, Ideal.exp_coe, ← EReal.coe_one, ← EReal.coe_add, div_coe _ (one_add_exp_pos _).ne', ← EReal.coe_mul, ← coe_sum]
  rfl

/-- The array row that row `r` of the block of grid point `t` is. -/
def row (t : Fin cfg0.N) (r : Fin 256) : Fin 2048 :=
  ⟨t.val * 256 + r.val, by have h : t.val < 8 := t.isLt; have := r.isLt; omega⟩

theorem iblk0 (h : Holds m c A) (t : Fin cfg0.N) : iblk m c 0 t = blk fun r => A.dx (row t r) := by
  funext i
  idx_vars i
  have e : iblk m c 0 t (ix2 i0 i1) = m ((c : Thread nD τ).loc main_arg0) (ix2 (row t i0) i1) := by
    blk_ext [iblk, V_main_arg0, idx t, row]
  rw [e, h.dx]
  rfl

theorem iblk1 (h : Holds m c A) (t : Fin cfg0.N) : iblk m c 1 t = blk fun r => A.y (row t r) := by
  funext i
  idx_vars i
  have e : iblk m c 1 t (ix2 i0 i1) = V m c main_v3 (ix2 (row t i0) i1) := by
    blk_ext [iblk, idx t, row]
  rw [e, V_y h]
  rfl

theorem iblk2 (h : Holds m c A) (t : Fin cfg0.N) : iblk m c 2 t = fun i : S1x2048.Idx => ((A.g (i 1) : ℝ) : EReal) := by
  funext i
  idx_vars i
  have e : iblk m c 2 t (ix2 i0 i1) = m ((c : Thread nD τ).loc main_arg1) (ix2 i0 i1) := by
    blk_ext [iblk, V_main_arg1, idx t]
  rw [e, h.g]
  rfl

theorem iblk3 (h : Holds m c A) (t : Fin cfg0.N) : iblk m c 3 t = arr A.w := by
  funext i
  idx_vars i
  have e : iblk m c 3 t (ix2 i0 i1) = m ((c : Thread nD τ).loc main_arg2) (ix2 i0 i1) := by
    blk_ext [iblk, V_main_arg2, idx t]
  rw [e, h.w]

theorem iblk4 (h : Holds m c A) (t : Fin cfg0.N) : iblk m c 4 t = blk fun r => A.o (row t r) := by
  funext i
  idx_vars i
  have e : iblk m c 4 t (ix2 i0 i1) = m ((c : Thread nD τ).loc main_arg3) (ix2 (row t i0) i1) := by
    blk_ext [iblk, V_main_arg3, idx t, row]
  rw [e, h.o]
  rfl

theorem iblk5 (h : Holds m c A) (t : Fin cfg0.N) : iblk m c 5 t = blk fun r => A.z (row t r) := by
  funext i
  idx_vars i
  have e : iblk m c 5 t (ix2 i0 i1) = m ((c : Thread nD τ).loc main_arg4) (ix2 (row t i0) i1) := by
    blk_ext [iblk, V_main_arg4, idx t, row]
  rw [e, h.z]
  rfl

/-- The payload of `dy` at the blocks of a grid point. -/
theorem dy_block (h : Holds m c A) (t : Fin cfg0.N) :
    k0_pay8 (F := Ideal) (iblk m c 0 t) (iblk m c 1 t) (iblk m c 2 t) = blk fun r => A.dy (row t r) := by
  rw [iblk0 h, iblk1 h, iblk2 h]
  funext i
  idx_vars i
  exact pay8_apply _ _ _ _ _

/-- After every point the buffer of `dy` holds that point's rows. -/
theorem after_dy (h : Holds m c A) (t : Fin cfg0.N) : (outsAt0 m c t.val t.isLt).1 = blk fun r => A.dy (row t r) := by
  by_cases ht : t.val % 8 = 0
  · rw [outsAt0_A m c t ht]; frame_out; exact dy_block h t
  · rw [outsAt0_B m c t ht]; frame_out; exact dy_block h t

theorem do_block (h : Holds m c A) (t : Fin cfg0.N) :
    k0_pay4 (F := Ideal) (k0_pay8 (iblk m c 0 t) (iblk m c 1 t) (iblk m c 2 t)) (iblk m c 3 t) (iblk m c 5 t)
      = blk fun r => doRow (A.dy (row t r)) A.w (A.z (row t r)) := by
  rw [dy_block h, iblk3 h, iblk5 h]
  funext i
  idx_vars i
  exact pay4_apply _ _ _ _ _

theorem after_do (h : Holds m c A) (t : Fin cfg0.N) :
    (outsAt0 m c t.val t.isLt).2.2.1 = blk fun r => doRow (A.dy (row t r)) A.w (A.z (row t r)) := by
  by_cases ht : t.val % 8 = 0
  · rw [outsAt0_A m c t ht]; frame_out; exact do_block h t
  · rw [outsAt0_B m c t ht]; frame_out; exact do_block h t

theorem dz_block (h : Holds m c A) (t : Fin cfg0.N) :
    k0_pay5 (F := Ideal) (k0_pay8 (iblk m c 0 t) (iblk m c 1 t) (iblk m c 2 t)) (iblk m c 3 t) (iblk m c 5 t) (iblk m c 4 t)
      = blk fun r => dzRow (A.dy (row t r)) A.w (A.o (row t r)) (A.z (row t r)) := by
  rw [dy_block h, iblk3 h, iblk5 h, iblk4 h]
  funext i
  idx_vars i
  exact pay5_apply _ _ _ _ _ _

theorem after_dz (h : Holds m c A) (t : Fin cfg0.N) :
    (outsAt0 m c t.val t.isLt).2.2.2 = blk fun r => dzRow (A.dy (row t r)) A.w (A.o (row t r)) (A.z (row t r)) := by
  by_cases ht : t.val % 8 = 0
  · rw [outsAt0_A m c t ht]; frame_out; exact dz_block h t
  · rw [outsAt0_B m c t ht]; frame_out; exact dz_block h t

/-- One point's contribution to `dg`. -/
def dgBlock (A : Args) (t : Fin cfg0.N) (j : Fin 2048) : ℝ := ∑ r, dgRow (A.dx (row t r)) (A.y (row t r)) j

theorem dg_first (h : Holds m c A) (t : Fin cfg0.N) (i : S1x2048.Idx) :
    k0_pay1 (F := Ideal) (k0_pay10 (k0_pay9 (F := Ideal))) (k0_pay11 (iblk m c 0 t) (iblk m c 1 t)) i = 0 + ((dgBlock A t (i 1) : ℝ) : EReal) := by
  rw [iblk0 h, iblk1 h]
  idx_vars i
  pointwise [k0_pay1, k0_pay10, k0_pay9]
  exact pay11_apply _ _ _ _

theorem dg_next (h : Holds m c A) (t : Fin cfg0.N) (x : Vec Ideal S1x2048 .f32) (i : S1x2048.Idx) :
    k0_pay1 (F := Ideal) (k0_pay10 x) (k0_pay11 (iblk m c 0 t) (iblk m c 1 t)) i = x i + ((dgBlock A t (i 1) : ℝ) : EReal) := by
  rw [iblk0 h, iblk1 h]
  idx_vars i
  pointwise [k0_pay1, k0_pay10]
  exact congrArg _ (pay11_apply _ _ _ _)

/-- After the last point the buffer of `dg` holds the sum of all the points' contributions. -/
theorem after_dg (h : Holds m c A) (t : Fin cfg0.N) (ht : t.val + 1 = cfg0.N) (i : S1x2048.Idx) :
    (outsAt0 m c t.val t.isLt).2.1 i = ((∑ p, dgBlock A p (i 1) : ℝ) : EReal) := by
  have := Pipeline.eq_sum_fin_of_reset_step_apply_last (fun n h => (outsAt0 m c n h).2.1) 8 (fun _ => (0 : EReal))
    (fun p (i : S1x2048.Idx) => ((dgBlock A p (i 1) : ℝ) : EReal))
    (fun t h0 i => by beta_reduce; rw [outsAt0_A m c t h0]; frame_out; exact dg_first h t i)
    (fun t h0 i => by beta_reduce; rw [outsAt0_B m c t h0]; frame_out; exact dg_next h t _ i)
    (le_of_eq N_0) t ht i
  rw [this, coe_sum, zero_add]

/-- The sum over the points and the rows of a block is the sum over all rows. -/
theorem dg_total (j : Fin 2048) : ∑ p, dgBlock A p j = ∑ r, dgRow (A.dx r) (A.y r) j := by
  unfold dgBlock
  rw [← Fintype.sum_prod_type']
  refine Fintype.sum_equiv (finProdFinEquiv (m := 8) (n := 256)) _ _ fun x => ?_
  have : row x.1 x.2 = finProdFinEquiv (m := 8) (n := 256) x := Fin.ext (by
    show x.1.val * 256 + x.2.val = x.2.val + 256 * x.1.val
    omega)
  rw [← this]

theorem dy_array (h : Holds m c A) : (dats m 0 c).arrAt 6 cfg0.N = arr A.dy := by
  refine (dats m 0 c).arrAt_eq_of_covers 6 _ (by decide +kernel) fun t _ y => ?_
  blk_simp
  rw [after0_6, after_dy h]
  have e : (win0_6.blk t).view.emb y = ix2 (row t (y 0)) (y 1) := by blk_ext [idx t, row]
  rw [e]
  rfl

theorem do_array (h : Holds m c A) : (dats m 0 c).arrAt 8 cfg0.N = arr fun r => doRow (A.dy r) A.w (A.z r) := by
  refine (dats m 0 c).arrAt_eq_of_covers 8 _ (by decide +kernel) fun t _ y => ?_
  blk_simp
  rw [after0_8, after_do h]
  have e : (win0_8.blk t).view.emb y = ix2 (row t (y 0)) (y 1) := by blk_ext [idx t, row]
  rw [e]
  rfl

theorem dz_array (h : Holds m c A) : (dats m 0 c).arrAt 9 cfg0.N = arr fun r => dzRow (A.dy r) A.w (A.o r) (A.z r) := by
  refine (dats m 0 c).arrAt_eq_of_covers 9 _ (by decide +kernel) fun t _ y => ?_
  blk_simp
  rw [after0_9, after_dz h]
  have e : (win0_9.blk t).view.emb y = ix2 (row t (y 0)) (y 1) := by blk_ext [idx t, row]
  rw [e]
  rfl

theorem dg_array (h : Holds m c A) :
    (dats m 0 c).arrAt 7 cfg0.N = fun i : S1x2048.Idx => ((∑ r, dgRow (A.dx r) (A.y r) (i 1) : ℝ) : EReal) := by
  refine (dats m 0 c).arrAt_eq_of_covers 7 _ (by decide +kernel) fun t hf y => ?_
  have ht : t.val + 1 = cfg0.N := by
    have h1 := (flush0_7 t).mp hf
    have h2 : t.val < 8 := t.isLt
    show t.val + 1 = 8
    omega
  blk_simp
  have e : (win0_7.blk t).view.emb y = ix2 (y 0) (y 1) := by blk_ext [idx t]
  rw [after0_7, after_dg h t ht, e]
  exact congrArg _ (dg_total (y 1))

end Cert.OutprojIdeal.Arrays

end
-- ==== Proof.Outproj.Finite.lean ====
/-
  The precondition of the out-projection's value claim read: every argument array is an array of reals.
-/
module

public import proofs.«01_k».proof.Proof.Outproj.Arrays
public import proofs.«01_k».proof.Defs
public import proofs.«01_k».proof.Proof.Gen.Pre_outproj_finite
public import Idealize.ShloMosaic.Lib.ReduceAll

@[expose] public section

set_option maxRecDepth 16384

noncomputable section

namespace Cert.OutprojIdeal.Finite

open Idealize.ShloMosaic Idealize.ShloMosaic.Pointwise Cert.Reals Cert.OutprojIdeal.Arrays Cert.Pre_outproj_finite Cert.Pre_outproj_finite.Gen
open scoped BigOperators

/-- Two tests at once. -/
theorem both {s : Shape} {a b : IVec s 1} (h : andi a b = fun _ => 1#1) : a = (fun _ => 1#1) ∧ b = fun _ => 1#1 := by
  have h i : a i = 1#1 ∧ b i = 1#1 := IntOp.andi_eq_one.mp (congrFun h i)
  exact ⟨funext fun i => (h i).1, funext fun i => (h i).2⟩

/-- The arguments of one device, as reals. -/
def args (m : (ℓ : Loc nD τ sig) → Buf (Elt Ideal) ℓ) (c : Dev nD) : Args where
  dx r j := EReal.toReal ((m ((c.tc : Thread nD τ).loc main_arg0) : S2048x2048.Idx → EReal) (ix2 r j))
  g j := EReal.toReal ((m ((c.tc : Thread nD τ).loc main_arg1) : S1x2048.Idx → EReal) (ix2 0 j))
  w r j := EReal.toReal ((m ((c.tc : Thread nD τ).loc main_arg2) : S2048x2048.Idx → EReal) (ix2 r j))
  o r j := EReal.toReal ((m ((c.tc : Thread nD τ).loc main_arg3) : S2048x2048.Idx → EReal) (ix2 r j))
  z r j := EReal.toReal ((m ((c.tc : Thread nD τ).loc main_arg4) : S2048x2048.Idx → EReal) (ix2 r j))

theorem square {a : FVec Ideal S2048x2048 .f32}
    (h : Host.reduce IntOp.andi (cmpf .olt (Host.absf a) (broadcastInDim S2048x2048 ![] bcast_S_S2048x2048 (constant S_ .f32 0x7F800000#32)))
      (constantI S_ 1 1#1) reducesTo_S2048x2048_S_d0_1 h_S_ = fun _ => 1#1) :
    a = fun i => ((EReal.toReal (a (ix2 (i 0) (i 1))) : ℝ) : EReal) := by
  funext i
  have e : (fun i : S2048x2048.Idx => ((EReal.toReal (a (ix2 (i 0) (i 1))) : ℝ) : EReal)) i = ((EReal.toReal (a i) : ℝ) : EReal) := by
    idx_vars i
  refine Eq.trans ?_ e.symm
  have h' := Host.reduce_andi_all _ _ _ _ _ (congrFun h (Shape.Idx.first h_S_)) i
  exact (real_of_test h').symm

theorem weights {a : FVec Ideal S1x2048 .f32}
    (h : Host.reduce IntOp.andi (cmpf .olt (Host.absf a) (broadcastInDim S1x2048 ![] bcast_S_S1x2048 (constant S_ .f32 0x7F800000#32)))
      (constantI S_ 1 1#1) reducesTo_S1x2048_S_d0_1 h_S_ = fun _ => 1#1) :
    a = fun i => ((EReal.toReal (a (ix2 0 (i 1))) : ℝ) : EReal) := by
  funext i
  have e : (fun i : S1x2048.Idx => ((EReal.toReal (a (ix2 0 (i 1))) : ℝ) : EReal)) i = ((EReal.toReal (a i) : ℝ) : EReal) := by
    idx_vars i
    rw [Subsingleton.elim i0 0]
  refine Eq.trans ?_ e.symm
  have h' := Host.reduce_andi_all _ _ _ _ _ (congrFun h (Shape.Idx.first h_S_)) i
  exact (real_of_test h').symm

theorem holds (m : (ℓ : Loc nD τ sig) → Buf (Elt Ideal) ℓ) (h : Cert.Pre_OutprojIdeal_outproj_finite m) (c : Dev nD) :
    Holds m c (args m c) := by
  have h := h c
  unfold Cert.Pre_outproj_finite.fn Cert.Pre_outproj_finite.fn_part1 at h
  obtain ⟨h, hz⟩ := both h
  obtain ⟨h, ho⟩ := both h
  obtain ⟨h, hw⟩ := both h
  obtain ⟨hx, hg⟩ := both h
  exact ⟨square hx, weights hg, square hw, square ho, square hz⟩

end Cert.OutprojIdeal.Finite

end
-- ==== Proof.Outproj.Reference.lean ====
/-
  The reference's gradients of the out-projection, read at real arguments: the formulas the derivative rules give, in the
  reals, and that they are the formulas the kernel computes.
-/
module

public import proofs.«01_k».proof.Proof.Outproj.Arrays
public import proofs.«01_k».proof.Proof.Gen.OutprojRefIdeal.Read

@[expose] public section

set_option maxRecDepth 16384

noncomputable section

namespace Cert.OutprojRefIdeal.Reals

open Idealize.ShloMosaic Cert.Reals Cert.OutprojRow Cert.OutprojRefIdeal Cert.OutprojRefIdeal.Read
open Cert.OutprojIdeal.Arrays (Args Args.y Args.dy arr)
open scoped BigOperators

variable (A : Args)

/-- The weight row of the normalisation as the programs hold it. -/
abbrev wt : S1x2048.Idx → EReal := fun i => ((A.g (i 1) : ℝ) : EReal)

/-- A column of one number per row as the programs hold it. -/
abbrev col (f : Fin 2048 → ℝ) : S2048x1.Idx → EReal := fun i => ((f (i 0) : ℝ) : EReal)

/-- One number per row as the programs hold it. -/
abbrev vec (f : Fin 2048 → ℝ) : S2048.Idx → EReal := fun i => ((f (i 0) : ℝ) : EReal)

theorem sig : val_main_v1_2 (F := Ideal) (arr A.z) = arr fun r j => sgm (A.z r j) := by
  funext i
  simp only [val_main_v1_2_apply, val_main_call0_v4_apply, val_main_call0_cst_0_apply, val_main_call0_v3_apply, val_main_call0_v2_apply,
    val_main_call0_cst_apply, val_main_call0_v1_apply, val_main_call0_v0_apply, Ideal.hostDivf_def, Ideal.addf_def, Ideal.ofBits_def,
    Ideal.hostNegf_def, Ideal.negf_def, Ideal.hostUnary_exp_def, ofBits_one, ← EReal.coe_neg, Ideal.exp_coe, ← EReal.coe_add, div_coe _ (one_add_exp_pos _).ne']
  rfl

theorem sig' : val_main_v1_1 (F := Ideal) (arr A.z) = arr fun r j => sgm (A.z r j) * (1 - sgm (A.z r j)) := by
  funext i
  simp only [val_main_v1_1_apply, val_main_call0_v7_apply, val_main_call0_v6_apply, val_main_call0_cst_1_apply, sig, Ideal.mulf_def,
    Ideal.subf_def, Ideal.ofBits_def, ofBits_one, ← EReal.coe_sub, ← EReal.coe_mul]

theorem gate : val_main_v1_0 (F := Ideal) (arr A.z) = arr fun r j => A.z r j * sgm (A.z r j) := by
  funext i
  simp only [val_main_v1_0_apply, sig, Ideal.mulf_def, ← EReal.coe_mul]

theorem y : val_main_v3 (F := Ideal) (arr A.w) (arr A.o) (arr A.z) = arr A.y := by
  funext i
  simp only [val_main_v3_apply, val_main_v2_apply, val_main_v0_apply, gate, Ideal.mulf_def, Ideal.extf_def, ← EReal.coe_mul, ← coe_sum]
  rfl

/-- The mean square of a row, with the constant that keeps it positive. -/
def ms (r : Fin 2048) : ℝ := (∑ k, A.y r k * A.y r k) / 2048 + eps

theorem ms_pos (r : Fin 2048) : 0 < ms A r := mean_pos (A.y r)

theorem v10 : val_main_v10 (F := Ideal) (arr A.w) (arr A.o) (arr A.z) = col (ms A) := by
  funext i
  simp only [val_main_v10_apply, val_main_v9_apply, val_main_cst_1_apply, val_main_v8_apply, val_main_v7_apply, val_main_cst_0_apply,
    val_main_v6_apply, val_main_v5_apply, val_main_cst_apply, val_main_v4_apply, y, Ideal.mulf_def, Ideal.hostDivf_def, Ideal.addf_def,
    Ideal.ofBits_def, ofBits_zero, zero_add, ofBits_2048, ofBits_eps, ← EReal.coe_mul, ← coe_sum,
    div_coe _ (by norm_num : (2048 : ℝ) ≠ 0), ← EReal.coe_add]
  rfl

theorem v11 : val_main_v11 (F := Ideal) (arr A.w) (arr A.o) (arr A.z) = col fun r => rms (A.y r) := by
  funext i
  rw [val_main_v11_apply, v10]
  exact rsqrt_coe (ms_pos A _)

theorem v14 : val_main_v14 (F := Ideal) (arr A.w) (arr A.o) (arr A.z) = col fun r => -(1 / 2) * (rms (A.y r) / ms A r) := by
  funext i
  simp only [val_main_v14_apply, val_main_v13_apply, val_main_cst_2_apply, val_main_v12_apply, v11, v10, Ideal.mulf_def, Ideal.hostDivf_def,
    Ideal.ofBits_def, ofBits_neg_half]
  exact (congrArg _ (div_coe _ (ms_pos A _).ne')).trans (EReal.coe_mul _ _).symm

theorem v23 : val_main_v23 (F := Ideal) (arr A.dx) (wt A) = arr fun r j => A.dx r j * A.g j := by
  funext i
  simp only [val_main_v23_apply, val_main_v22_apply, Ideal.mulf_def, ← EReal.coe_mul]
  rfl

theorem row_of_v26 (i : S2048x1.Idx) : (idx_main_v26 i) 0 = i 0 := Fin.ext (by
  have h : (i 1).val < 1 := (i 1).isLt
  show (i 0).val * 1 + (i 1).val = (i 0).val
  omega)

theorem col_of_v21 (i : S1x2048.Idx) : (idx_main_v21 i) 0 = i 1 := Fin.ext (by
  have h : (i 0).val < 1 := (i 0).isLt
  show (i 0).val * 2048 + (i 1).val = (i 1).val
  omega)

theorem v31 : val_main_v31 (F := Ideal) (arr A.dx) (wt A) (arr A.w) (arr A.o) (arr A.z)
    = col fun r => (∑ k, A.y r k * (A.dx r k * A.g k)) * (-(1 / 2) * (rms (A.y r) / ms A r)) / 2048 := by
  funext i
  simp only [val_main_v31_apply, val_main_v30_apply, val_main_cst_5_apply, val_main_v29_apply, v14, val_main_v26_apply, val_main_v25_apply,
    val_main_cst_4_apply, val_main_v24_apply, y, v23, Ideal.mulf_def, Ideal.hostDivf_def, Ideal.ofBits_def, ofBits_zero, zero_add,
    ofBits_2048, ← EReal.coe_mul, ← coe_sum, div_coe _ (by norm_num : (2048 : ℝ) ≠ 0)]
  refine congrArg _ (congrArg (fun s : ℝ => s * (-(1 / 2) * (rms (A.y (i 0)) / ms A (i 0))) / 2048) (Finset.sum_congr rfl fun k _ => ?_))
  show A.y ((idx_main_v26 i) 0) k * (A.dx ((idx_main_v26 i) 0) k * A.g k) = _
  rw [row_of_v26]

/-- The reference's gradient to the product, written as its derivative rules give it, is the kernel's. -/
theorem dy_eq (r j : Fin 2048) (s : ℝ) (hs : s = (∑ k, A.y r k * (A.dx r k * A.g k)) * (-(1 / 2) * (rms (A.y r) / ms A r)) / 2048) :
    A.dx r j * A.g j * rms (A.y r) + A.y r j * s + s * A.y r j = A.dy r j := by
  have hm := ms_pos A r
  have hr : rms (A.y r) * rms (A.y r) = (ms A r)⁻¹ := by
    show (Real.sqrt (ms A r))⁻¹ * (Real.sqrt (ms A r))⁻¹ = _
    rw [← mul_inv, Real.mul_self_sqrt hm.le]
  have hk : ∑ k, A.y r k * (A.dx r k * A.g k) = ∑ k, A.dx r k * A.g k * A.y r k := Finset.sum_congr rfl fun _ _ => mul_comm _ _
  unfold Args.dy dyRow
  rw [hr, hs, hk]
  ring

theorem v37 : val_main_v37 (F := Ideal) (arr A.dx) (wt A) (arr A.w) (arr A.o) (arr A.z) = arr A.dy := by
  funext i
  simp only [val_main_v37_apply, val_main_v36_apply, val_main_v35_apply, val_main_v34_apply, val_main_v33_apply, val_main_v32_apply,
    val_main_cst_6_apply, val_main_v28_apply, val_main_v27_apply, v31, v11, y, v23, Ideal.mulf_def, Ideal.addf_def, Ideal.ofBits_def,
    ofBits_zero, zero_add, Finset.univ_unique, Finset.sum_singleton, ← EReal.coe_mul, ← EReal.coe_add]
  exact congrArg _ (dy_eq A (i 0) (i 1) _ rfl)

theorem dy : val_main_v42 (F := Ideal) (arr A.dx) (wt A) (arr A.w) (arr A.o) (arr A.z) = arr A.dy := by
  funext i
  rw [val_main_v42_apply, v37]
  rfl

theorem dg : val_main_v21 (F := Ideal) (arr A.dx) (arr A.w) (arr A.o) (arr A.z)
    = fun i : S1x2048.Idx => ((∑ r, dgRow (A.dx r) (A.y r) (i 1) : ℝ) : EReal) := by
  funext i
  simp only [val_main_v21_apply, val_main_v20_apply, val_main_cst_3_apply, val_main_v19_apply, val_main_v16_apply, val_main_v15_apply, v11, y,
    Ideal.mulf_def, Ideal.ofBits_def, ofBits_zero, zero_add, ← EReal.coe_mul, ← coe_sum]
  refine congrArg _ (Finset.sum_congr rfl fun r _ => ?_)
  show A.y r ((idx_main_v21 i) 0) * rms (A.y r) * A.dx r ((idx_main_v21 i) 0) = _
  rw [col_of_v21]
  unfold dgRow
  ring

theorem v38 : val_main_v38 (F := Ideal) (arr A.dx) (wt A) (arr A.w) (arr A.o) (arr A.z) = arr fun r => duRow (A.dy r) A.w := by
  funext i
  simp only [val_main_v38_apply, v37, val_main_v0_apply, Ideal.extf_def, ← EReal.coe_mul, ← coe_sum]
  rfl

theorem do' : val_main_v43 (F := Ideal) (arr A.dx) (wt A) (arr A.w) (arr A.o) (arr A.z) = arr fun r => doRow (A.dy r) A.w (A.z r) := by
  funext i
  simp only [val_main_v43_apply, val_main_v40_apply, v38, gate, Ideal.mulf_def, Ideal.truncf_def, ← EReal.coe_mul]
  rfl

theorem dz : val_main_v44 (F := Ideal) (arr A.dx) (wt A) (arr A.w) (arr A.o) (arr A.z)
    = arr fun r => dzRow (A.dy r) A.w (A.o r) (A.z r) := by
  funext i
  simp only [val_main_v44_apply, val_main_v41_apply, val_main_call1_v1_apply, val_main_call1_v2_apply, val_main_call1_v0_apply,
    val_main_v39_apply, v38, sig, sig', Ideal.mulf_def, Ideal.addf_def, Ideal.truncf_def, ← EReal.coe_mul, ← EReal.coe_add]
  refine congrArg _ ?_
  show A.o (i 0) (i 1) * duRow (A.dy (i 0)) A.w (i 1) * sgm (A.z (i 0) (i 1))
    + A.z (i 0) (i 1) * (A.o (i 0) (i 1) * duRow (A.dy (i 0)) A.w (i 1)) * (sgm (A.z (i 0) (i 1)) * (1 - sgm (A.z (i 0) (i 1)))) = _
  unfold dzRow
  ring

end Cert.OutprojRefIdeal.Reals

end
-- ==== Proof.Outproj.Claim.lean ====
/-
  The claims about the out-projection's gradient: the frames of the program, of its idealization and of the reference, and
  the equality of the four results.
-/
module

public import proofs.«01_k».proof.Proof.Outproj.Finite
public import proofs.«01_k».proof.Proof.Outproj.Reference
public import proofs.«01_k».proof.Proof.Gen.Outproj.Frame
public import proofs.«01_k».proof.Proof.Gen.OutprojRefIdeal.Run

@[expose] public section

set_option maxRecDepth 16384

noncomputable section

namespace Cert.OutprojClaim

open Idealize.ShloMosaic Idealize.SL.Sem
open Cert.OutprojIdeal.Arrays Cert.OutprojIdeal.Finite
open Cert.OutprojIdeal (cfg0)
open Cert.OutprojIdeal.Gen (dats)
open Cert.OutprojRefIdeal.Read

/-- The program runs, changes no argument and leaves every counter at zero. -/
theorem frame_kernel : Cert.quiescent_Outproj := fun m g _ => Cert.Outproj.Gen.frame m g

/-- So does its idealization. -/
theorem frame_ideal : Cert.quiescent_OutprojIdeal := fun m g _ => Cert.OutprojIdeal.Gen.frame m g

/-- So does the reference. -/
theorem frame_reference : Cert.quiescent_OutprojRefIdeal := fun m g _ =>
  (θ_run Cert.OutprojRefIdeal.defs _ _).mono (fun r h => ⟨fun c => (h c).2.2.2.2, sem_eq_zero_of_no_sems (by decide) r.2⟩)
    (Cert.OutprojRefIdeal.Value.run m g)

/-- At finite arguments the kernel's four results are the reference's. -/
theorem value : Cert.algebraic_OutprojIdeal_OutprojRefIdeal_pre_outproj_finite := fun m g m' g' hpre hargs => by
  refine ⟨fun c => (dats m 0 c).arrAt 6 cfg0.N, fun c => (dats m 0 c).arrAt 7 cfg0.N, fun c => (dats m 0 c).arrAt 8 cfg0.N,
    fun c => (dats m 0 c).arrAt 9 cfg0.N, (θ_run Cert.OutprojIdeal.defs _ _).mono (fun r h c => ?_) (Cert.OutprojIdeal.Value.run_blocks m g),
    (θ_run Cert.OutprojRefIdeal.defs _ _).mono (fun r h c => ?_) (Cert.OutprojRefIdeal.Value.run m' g')⟩
  · exact h c
  · have hA := holds m hpre c
    obtain ⟨e0, e1, e2, e3, e4⟩ := hargs c
    obtain ⟨h0, h1, h2, h3, ha⟩ := h c
    refine ⟨h0.trans ?_, h1.trans ?_, h2.trans ?_, h3.trans ?_, ha⟩
    · rw [val_main_v42_eq, e0, e1, e2, e3, e4, hA.dx, hA.g, hA.w, hA.o, hA.z, Cert.OutprojRefIdeal.Reals.dy]
      exact (dy_array hA).symm
    · rw [val_main_v21_eq, e0, e2, e3, e4, hA.dx, hA.w, hA.o, hA.z, Cert.OutprojRefIdeal.Reals.dg]
      exact (dg_array hA).symm
    · rw [val_main_v43_eq, e0, e1, e2, e3, e4, hA.dx, hA.g, hA.w, hA.o, hA.z, Cert.OutprojRefIdeal.Reals.do']
      exact (do_array hA).symm
    · rw [val_main_v44_eq, e0, e1, e2, e3, e4, hA.dx, hA.g, hA.w, hA.o, hA.z, Cert.OutprojRefIdeal.Reals.dz]
      exact (dz_array hA).symm

end Cert.OutprojClaim

end
-- ==== Proof.AttnB.Tile.lean ====
module

public import proofs.«01_k».proof.Proof.Gen.AttnBIdeal.Frame
public import proofs.«01_k».proof.Proof.Gen.AttnBIdeal.Skeleton
public import Idealize.ShloMosaic.Lib.VecWindow

@[expose] public section

set_option maxRecDepth 8192
set_option maxHeartbeats 4000000

noncomputable section

namespace Cert.AttnBIdeal.Body

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where the loops' tiles lie, and how many trips the loops make

Query block `t` walks the key blocks before it four at a time, then two at a time, then one at a time; the three
remainder loops make no trip. -/

/-- The first tile of trip `k` of the loop that takes four tiles. -/
theorem off4_zero : ∀ (t : Fin k0_t1_loop.trips) (k : Fin (k0_t2_loop t).trips),
    k0_off4 t k 0#32 = ![256 * (4 * k.val + 0), 0] := by decide +kernel
instance (t : Fin k0_t1_loop.trips) (k : Fin (k0_t2_loop t).trips) : ClosedOff (k0_off4 t k 0#32) :=
  ⟨![256 * (4 * k.val + 0), 0], off4_zero t k⟩
/-- The second tile of trip `k` of the loop that takes four tiles. -/
theorem off4_one : ∀ (t : Fin k0_t1_loop.trips) (k : Fin (k0_t2_loop t).trips),
    k0_off4 t k 1#32 = ![256 * (4 * k.val + 1), 0] := by decide +kernel
instance (t : Fin k0_t1_loop.trips) (k : Fin (k0_t2_loop t).trips) : ClosedOff (k0_off4 t k 1#32) :=
  ⟨![256 * (4 * k.val + 1), 0], off4_one t k⟩
/-- The third tile of trip `k` of the loop that takes four tiles. -/
theorem off4_two : ∀ (t : Fin k0_t1_loop.trips) (k : Fin (k0_t2_loop t).trips),
    k0_off4 t k 2#32 = ![256 * (4 * k.val + 2), 0] := by decide +kernel
instance (t : Fin k0_t1_loop.trips) (k : Fin (k0_t2_loop t).trips) : ClosedOff (k0_off4 t k 2#32) :=
  ⟨![256 * (4 * k.val + 2), 0], off4_two t k⟩
/-- The fourth tile of trip `k` of the loop that takes four tiles. -/
theorem off4_three : ∀ (t : Fin k0_t1_loop.trips) (k : Fin (k0_t2_loop t).trips),
    k0_off4 t k 3#32 = ![256 * (4 * k.val + 3), 0] := by decide +kernel
instance (t : Fin k0_t1_loop.trips) (k : Fin (k0_t2_loop t).trips) : ClosedOff (k0_off4 t k 3#32) :=
  ⟨![256 * (4 * k.val + 3), 0], off4_three t k⟩
/-- The first tile of trip `k` of the loop that takes two tiles. -/
theorem off6_zero : ∀ (t : Fin k0_t1_loop.trips) (k : Fin (k0_t4_loop t).trips),
    k0_off6 t k 0#32 = ![256 * (4 * (t.val / 4) + 2 * k.val + 0), 0] := by decide +kernel
instance (t : Fin k0_t1_loop.trips) (k : Fin (k0_t4_loop t).trips) : ClosedOff (k0_off6 t k 0#32) :=
  ⟨![256 * (4 * (t.val / 4) + 2 * k.val + 0), 0], off6_zero t k⟩
/-- The second tile of trip `k` of the loop that takes two tiles. -/
theorem off6_one : ∀ (t : Fin k0_t1_loop.trips) (k : Fin (k0_t4_loop t).trips),
    k0_off6 t k 1#32 = ![256 * (4 * (t.val / 4) + 2 * k.val + 1), 0] := by decide +kernel
instance (t : Fin k0_t1_loop.trips) (k : Fin (k0_t4_loop t).trips) : ClosedOff (k0_off6 t k 1#32) :=
  ⟨![256 * (4 * (t.val / 4) + 2 * k.val + 1), 0], off6_one t k⟩
/-- The tile of trip `k` of the loop that takes one tile. -/
theorem off8 : ∀ (t : Fin k0_t1_loop.trips) (k : Fin (k0_t6_loop t).trips),
    k0_off8 t k = ![256 * (2 * (t.val / 2) + k.val), 0] := by decide +kernel
instance (t : Fin k0_t1_loop.trips) (k : Fin (k0_t6_loop t).trips) : ClosedOff (k0_off8 t k) :=
  ⟨![256 * (2 * (t.val / 2) + k.val), 0], off8 t k⟩
/-- The loop of four tiles runs a quarter of the block's number of times. -/
theorem trips2 : ∀ t : Fin k0_t1_loop.trips, (k0_t2_loop t).trips = t.val / 4 := by decide +kernel
/-- Its remainder loop runs no trip. -/
theorem trips3 : ∀ t : Fin k0_t1_loop.trips, (k0_t3_loop t).trips = 0 := by decide +kernel
/-- The loop of two tiles runs once where two tiles are left. -/
theorem trips4 : ∀ t : Fin k0_t1_loop.trips, (k0_t4_loop t).trips = t.val % 4 / 2 := by decide +kernel
/-- Its remainder loop runs no trip. -/
theorem trips5 : ∀ t : Fin k0_t1_loop.trips, (k0_t5_loop t).trips = 0 := by decide +kernel
/-- The loop of one tile runs once where a tile is left. -/
theorem trips6 : ∀ t : Fin k0_t1_loop.trips, (k0_t6_loop t).trips = t.val % 2 := by decide +kernel
/-- Its remainder loop runs no trip. -/
theorem trips7 : ∀ t : Fin k0_t1_loop.trips, (k0_t7_loop t).trips = 0 := by decide +kernel

/-! ## One tile

The same operations stand in every copy of the tile: they are named once here, over the block's operands (the mask of
the first head's lanes `m`, the triangle `u` that sums along the keys, the stacked queries `q`, the stacked output
gradients `d`, the stacked totals `l`), the tile's keys `K` and values `V`, and what is carried along the row. -/

/-- What a row of tiles carries: the log-fail sum so far, the gradient sum so far, the gradient of the queries so far. -/
abbrev Acc (F : FTy → Type) [FloatOps F] : Type := FVec F S512x1 .f32 × FVec F S512x1 .f32 × FVec F S256x128 .f32

/-- The carried values after a tile. -/
def tileAcc (m : IVec S1x128 1) (u : FVec F S256x256 .bf16) (q d : FVec F S512x128 .bf16) (l : FVec F S512x1 .f32)
    (K V : FVec F S256x128 .bf16) (a : Acc F) : Acc F :=
  (k0_pay221 a.1 (k0_pay177 u q K), k0_pay222 a.2.1 (k0_pay180 u q d l a.1 K V),
    k0_pay223 m a.2.2 K (k0_pay175 q K) (k0_pay179 u q d l a.1 K V) (k0_pay180 u q d l a.1 K V) (k0_pay181 a.2.1))

/-- The key gradient's block after a tile, `w` before it. -/
def tileK (u : FVec F S256x256 .bf16) (q d : FVec F S512x128 .bf16) (l : FVec F S512x1 .f32)
    (K V : FVec F S256x128 .bf16) (a : Acc F) (w : FVec F S256x128 .f32) : FVec F S256x128 .f32 :=
  k0_pay219 q (k0_pay175 q K) (k0_pay179 u q d l a.1 K V) (k0_pay180 u q d l a.1 K V) (k0_pay181 a.2.1) w

/-- The value gradient's block after a tile, `w` before it. -/
def tileV (u : FVec F S256x256 .bf16) (q d : FVec F S512x128 .bf16) (l : FVec F S512x1 .f32)
    (K : FVec F S256x128 .bf16) (a : Acc F) (w : FVec F S256x128 .f32) : FVec F S256x128 .f32 :=
  k0_pay220 d (k0_pay178 u q l a.1 K) w

/-- Offsets that hold a block of 256 rows inside 2048. -/
abbrev Inb (off : Fin 2 → ℕ) : Prop := ∀ a, off a + S256x128.size a ≤ S2048x128.size a

section Step

variable {e : EltTy} {v : View sig .tc .vmem S2048x128 e}

/-- The block of 256 rows at `off` of what the view holds. -/
abbrev rd (v : View sig .tc .vmem S2048x128 e) (off : Fin 2 → ℕ) (h : Inb off) (f : BufTy.Contents (Elt F) v.ty) : Vec F S256x128 e :=
  v.readAt (Elt F) (Rect.unit (s := S2048x128) off S256x128.size h).toLoadRect f

/-- The contents with a block of 256 rows at `off` replaced. -/
abbrev wr (v : View sig .tc .vmem S2048x128 e) (off : Fin 2 → ℕ) (h : Inb off) (w : Vec F S256x128 e) (f : BufTy.Contents (Elt F) v.ty) :
    BufTy.Contents (Elt F) v.ty :=
  v.writes (Elt F) f [⟨Rect.unit (s := S2048x128) off S256x128.size h, w⟩]

/-- A block just written elsewhere is not seen by a read. -/
theorem rd_wr_of_ne {off off' : Fin 2 → ℕ} (h : Inb off) (h' : Inb off') {j j' : ℕ} (e1 : off = ![256 * j, 0])
    (e2 : off' = ![256 * j', 0]) (hj : j ≠ j') (w : Vec F S256x128 e) (f : BufTy.Contents (Elt F) v.ty) :
    rd v off' h' (wr v off h w f) = rd v off' h' f := by
  subst e1 e2
  funext x
  refine (View.read_writes_cons_rows_of_not_mem v f h w [] _ rfl (W := 256) rfl ?_)
  have : (x (0 : Fin 2)).val < 256 := (x (0 : Fin 2)).isLt
  show 256 * j' + 1 * (x (0 : Fin 2)).val < 256 * j ∨ 256 * j + 256 ≤ 256 * j' + 1 * (x (0 : Fin 2)).val
  rcases Nat.lt_or_gt_of_ne hj with hj | hj <;> omega

/-- A block just written is what a read there sees. -/
theorem rd_wr_same {off off' : Fin 2 → ℕ} (h : Inb off) (h' : Inb off') (e1 : off = off') (w : Vec F S256x128 e)
    (f : BufTy.Contents (Elt F) v.ty) : rd v off' h' (wr v off h w f) = w := by
  subst e1
  funext x
  exact View.read_writes_cons_emb v f (Rect.unit (s := S2048x128) off S256x128.size h) w [] x

end Step

section States

variable (v2 v3 : View sig .tc .vmem S2048x128 .bf16) (v9 v10 : View sig .tc .vmem S2048x128 .f32)
  (m : IVec S1x128 1) (u : FVec F S256x256 .bf16) (q d : FVec F S512x128 .bf16) (l : FVec F S512x1 .f32)
  (X2 : BufTy.Contents (Elt F) v2.ty) (X3 : BufTy.Contents (Elt F) v3.ty)

/-- What a row of tiles has made so far: the carried values and the contents of the two gradient accumulators. -/
abbrev St (F : FTy → Type) [FloatOps F] (v9 v10 : View sig .tc .vmem S2048x128 .f32) : Type :=
  Acc F × BufTy.Contents (Elt F) v9.ty × BufTy.Contents (Elt F) v10.ty

/-- One tile at `off`. -/
def step (off : Fin 2 → ℕ) (h : Inb off) (s : St F v9 v10) : St F v9 v10 :=
  (tileAcc m u q d l (rd v2 off h X2) (rd v3 off h X3) s.1,
    wr v9 off h (tileK u q d l (rd v2 off h X2) (rd v3 off h X3) s.1 (rd v9 off h s.2.1)) s.2.1,
    wr v10 off h (tileV u q d l (rd v2 off h X2) s.1 (rd v10 off h s.2.2)) s.2.2)

end States

end Cert.AttnBIdeal.Body
end
-- ==== Proof.AttnB.Loops.lean ====
module

public import proofs.«01_k».proof.Proof.AttnB.Tile

@[expose] public section

set_option maxRecDepth 8192
set_option maxHeartbeats 4000000

noncomputable section

namespace Cert.AttnBIdeal.Body

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a tile touches: the keys and values at their contents, the two accumulators at any. -/
abbrev Held (c : Dev nD) (arg2 arg3 : Memref sig .tc .vmem S2048x128 .bf16) (arg9 arg10 : Memref sig .tc .vmem S2048x128 .f32) (X2 : BufTy.Contents (Elt F) arg2.view.ty) (X3 : BufTy.Contents (Elt F) arg3.view.ty) (f9 : BufTy.Contents (Elt F) arg9.view.ty) (f10 : BufTy.Contents (Elt F) arg10.view.ty) : sProp 𝕄G :=
  iprop((arg2.view.loc (c : Thread nD τ) ↦[arg2.view.set]{fullShare} X2) ∗ (arg3.view.loc (c : Thread nD τ) ↦[arg3.view.set]{fullShare} X3) ∗ (arg9.view.loc (c : Thread nD τ) ↦[arg9.view.set]{fullShare} f9) ∗ (arg10.view.loc (c : Thread nD τ) ↦[arg10.view.set]{fullShare} f10))

/-- What the first `k` trips of a loop make of `s`, a trip past the last one changing nothing. -/
def go {α : Type} {n : ℕ} (w : Fin n → α → α) (s : α) : ℕ → α
  | 0 => s
  | k + 1 => if h : k < n then w ⟨k, h⟩ (go w s k) else go w s k

/-- One more trip. -/
theorem go_succ {α : Type} {n : ℕ} (w : Fin n → α → α) (s : α) (k : Fin n) :
    go w s (k.val + 1) = w k (go w s k.val) := by
  rw [go.eq_2]; exact dif_pos k.isLt

section Walks

variable (v2 v3 : View sig .tc .vmem S2048x128 .bf16) (v9 v10 : View sig .tc .vmem S2048x128 .f32)
  (m : IVec S1x128 1) (u : FVec F S256x256 .bf16) (q d : FVec F S512x128 .bf16) (l : FVec F S512x1 .f32)
  (X2 : BufTy.Contents (Elt F) v2.ty) (X3 : BufTy.Contents (Elt F) v3.ty)

/-- Trip `k` of the loop of two tiles. -/
def walk4 (t : Fin k0_t1_loop.trips) (k : Fin (k0_t4_loop t).trips) (s : St F v9 v10) : St F v9 v10 :=
  step v2 v3 v9 v10 m u q d l X2 X3 (k0_off6 t k 1#32) (k0_off6_inb t k 1) (step v2 v3 v9 v10 m u q d l X2 X3 (k0_off6 t k 0#32) (k0_off6_inb t k 0) s)

/-- Trip `k` of the loop of one tile. -/
def walk6 (t : Fin k0_t1_loop.trips) (k : Fin (k0_t6_loop t).trips) (s : St F v9 v10) : St F v9 v10 :=
  step v2 v3 v9 v10 m u q d l X2 X3 (k0_off8 t k) (k0_off8_inb t k) s

/-- Trip `k` of the loop of four tiles. -/
def walk2 (t : Fin k0_t1_loop.trips) (k : Fin (k0_t2_loop t).trips) (s : St F v9 v10) : St F v9 v10 :=
  step v2 v3 v9 v10 m u q d l X2 X3 (k0_off4 t k 3#32) (k0_off4_inb t k 3) (step v2 v3 v9 v10 m u q d l X2 X3 (k0_off4 t k 2#32) (k0_off4_inb t k 2)
    (step v2 v3 v9 v10 m u q d l X2 X3 (k0_off4 t k 1#32) (k0_off4_inb t k 1) (step v2 v3 v9 v10 m u q d l X2 X3 (k0_off4 t k 0#32) (k0_off4_inb t k 0) s)))

end Walks

/-- What a loop left: the contents under a name that nothing looks through. -/
@[irreducible] def left {α : Type} (x : α) : α := x

/-- It is the contents themselves. -/
theorem left_eq {α : Type} (x : α) : left x = x := by unfold left; rfl

/-- A state whose contents a loop left. -/
abbrev exitSt {v9 v10 : View sig .tc .vmem S2048x128 .f32} (s : St F v9 v10) : St F v9 v10 := (s.1, left s.2.1, left s.2.2)

section Trips

variable (𝒱 : Variants) (c : Dev nD) (bd : Option 𝒱.V) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole)

/-- One trip of the loop of two tiles. -/
theorem trip4 (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v95_0 : FVec F S512x1 .f32) (v95_1 : FVec F S512x1 .f32) (v95_2 : FVec F S256x128 .f32) (v97 : BitVec 32) (v115 : BitVec 32) (c0_i32_44 : BitVec 32) (v116 : BitVec 32) (X2 : BufTy.Contents (Elt F) arg2.view.ty) (X3 : BufTy.Contents (Elt F) arg3.view.ty) (k : Fin (k0_t4_loop k0_t1).trips) (E : Set ℕ) (acc : Acc F)
    (f9 : BufTy.Contents (Elt F) arg9.view.ty) (f10 : BufTy.Contents (Elt F) arg10.view.ty) :
    Held (F := F) c arg2 arg3 arg9 arg10 X2 X3 f9 f10
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 v2 v16 k0_t1 arg11 v48 v61 v68 v95_0 v95_1 v95_2 v97 v115 c0_i32_44 v116 k acc)
          (fun yld => iprop(⌜yld = (walk4 arg2.view arg3.view arg9.view arg10.view v2 v16 v48 v61 v68 X2 X3 k0_t1 k (acc, f9, f10)).1⌝ ∗ Held (F := F) c arg2 arg3 arg9 arg10 X2 X3
            (walk4 arg2.view arg3.view arg9.view arg10.view v2 v16 v48 v61 v68 X2 X3 k0_t1 k (acc, f9, f10)).2.1 (walk4 arg2.view arg3.view arg9.view arg10.view v2 v16 v48 v61 v68 X2 X3 k0_t1 k (acc, f9, f10)).2.2)) := by
  have e := fun (b : EltTy) (v : View sig .tc .vmem S2048x128 b) => rd_wr_of_ne (F := F) (v := v) (off := k0_off6 k0_t1 k 0#32) (off' := k0_off6 k0_t1 k 1#32) (k0_off6_inb k0_t1 k 0) (k0_off6_inb k0_t1 k 1) (off6_zero k0_t1 k) (off6_one k0_t1 k) (by omega)
  simp only [walk4, step, e]
  unfold k0_t4_body
  iintro ⟨HR_arg2, HR_arg3, HW_arg9, HW_arg10⟩
  sl_exec_parts
  sl_step
  isplitl []
  · ipureintro; rfl
  isplitl [HR_arg2]; · iexact HR_arg2
  isplitl [HR_arg3]; · iexact HR_arg3
  isplitl [HW_arg9]; · iexact HW_arg9
  iexact HW_arg10

/-- One trip of the loop of four tiles. -/
theorem trip2 (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v69 : FVec F S512x1 .f32) (v70 : FVec F S256x128 .f32) (v71 : BitVec 32) (c4_i32 : BitVec 32) (v72 : BitVec 32) (v74 : BitVec 32) (c0_i32_27 : BitVec 32) (X2 : BufTy.Contents (Elt F) arg2.view.ty) (X3 : BufTy.Contents (Elt F) arg3.view.ty) (k : Fin (k0_t2_loop k0_t1).trips) (E : Set ℕ) (acc : Acc F)
    (f9 : BufTy.Contents (Elt F) arg9.view.ty) (f10 : BufTy.Contents (Elt F) arg10.view.ty) :
    Held (F := F) c arg2 arg3 arg9 arg10 X2 X3 f9 f10
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 v2 v16 k0_t1 arg11 v48 v61 v68 v69 v70 v71 c4_i32 v72 v74 c0_i32_27 k acc)
          (fun yld => iprop(⌜yld = (walk2 arg2.view arg3.view arg9.view arg10.view v2 v16 v48 v61 v68 X2 X3 k0_t1 k (acc, f9, f10)).1⌝ ∗ Held (F := F) c arg2 arg3 arg9 arg10 X2 X3
            (walk2 arg2.view arg3.view arg9.view arg10.view v2 v16 v48 v61 v68 X2 X3 k0_t1 k (acc, f9, f10)).2.1 (walk2 arg2.view arg3.view arg9.view arg10.view v2 v16 v48 v61 v68 X2 X3 k0_t1 k (acc, f9, f10)).2.2)) := by
  have e01 := fun (e : EltTy) (v : View sig .tc .vmem S2048x128 e) => rd_wr_of_ne (F := F) (v := v) (off := k0_off4 k0_t1 k 0#32) (off' := k0_off4 k0_t1 k 1#32) (k0_off4_inb k0_t1 k 0) (k0_off4_inb k0_t1 k 1) (off4_zero k0_t1 k) (off4_one k0_t1 k) (by omega)
  have e02 := fun (e : EltTy) (v : View sig .tc .vmem S2048x128 e) => rd_wr_of_ne (F := F) (v := v) (off := k0_off4 k0_t1 k 0#32) (off' := k0_off4 k0_t1 k 2#32) (k0_off4_inb k0_t1 k 0) (k0_off4_inb k0_t1 k 2) (off4_zero k0_t1 k) (off4_two k0_t1 k) (by omega)
  have e03 := fun (e : EltTy) (v : View sig .tc .vmem S2048x128 e) => rd_wr_of_ne (F := F) (v := v) (off := k0_off4 k0_t1 k 0#32) (off' := k0_off4 k0_t1 k 3#32) (k0_off4_inb k0_t1 k 0) (k0_off4_inb k0_t1 k 3) (off4_zero k0_t1 k) (off4_three k0_t1 k) (by omega)
  have e12 := fun (e : EltTy) (v : View sig .tc .vmem S2048x128 e) => rd_wr_of_ne (F := F) (v := v) (off := k0_off4 k0_t1 k 1#32) (off' := k0_off4 k0_t1 k 2#32) (k0_off4_inb k0_t1 k 1) (k0_off4_inb k0_t1 k 2) (off4_one k0_t1 k) (off4_two k0_t1 k) (by omega)
  have e13 := fun (e : EltTy) (v : View sig .tc .vmem S2048x128 e) => rd_wr_of_ne (F := F) (v := v) (off := k0_off4 k0_t1 k 1#32) (off' := k0_off4 k0_t1 k 3#32) (k0_off4_inb k0_t1 k 1) (k0_off4_inb k0_t1 k 3) (off4_one k0_t1 k) (off4_three k0_t1 k) (by omega)
  have e23 := fun (e : EltTy) (v : View sig .tc .vmem S2048x128 e) => rd_wr_of_ne (F := F) (v := v) (off := k0_off4 k0_t1 k 2#32) (off' := k0_off4 k0_t1 k 3#32) (k0_off4_inb k0_t1 k 2) (k0_off4_inb k0_t1 k 3) (off4_two k0_t1 k) (off4_three k0_t1 k) (by omega)
  simp only [walk2, step, e01, e02, e03, e12, e13, e23]
  unfold k0_t2_body
  iintro ⟨HR_arg2, HR_arg3, HW_arg9, HW_arg10⟩
  sl_exec_parts
  sl_step
  isplitl []
  · ipureintro; rfl
  isplitl [HR_arg2]; · iexact HR_arg2
  isplitl [HR_arg3]; · iexact HR_arg3
  isplitl [HW_arg9]; · iexact HW_arg9
  iexact HW_arg10

/-- One trip of the loop of one tile. -/
theorem trip6 (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v95_0 : FVec F S512x1 .f32) (v95_1 : FVec F S512x1 .f32) (v95_2 : FVec F S256x128 .f32) (v97 : BitVec 32) (v115 : BitVec 32) (c0_i32_44 : BitVec 32) (v116 : BitVec 32) (v124 : BitVec 32) (X2 : BufTy.Contents (Elt F) arg2.view.ty) (X3 : BufTy.Contents (Elt F) arg3.view.ty) (k : Fin (k0_t6_loop k0_t1).trips) (E : Set ℕ) (acc : Acc F)
    (f9 : BufTy.Contents (Elt F) arg9.view.ty) (f10 : BufTy.Contents (Elt F) arg10.view.ty) :
    Held (F := F) c arg2 arg3 arg9 arg10 X2 X3 f9 f10
      ⊢ wp frame (wpE (defs₀ (F := F)) 𝒱 (c : Thread nD τ) bd) E (k0_t6_body (F := F) i arg1 harg1 arg2 harg2 arg3 harg3 arg4 harg4 arg5 harg5 arg6 harg6 arg7 harg7 arg8 harg8 arg9 harg9 arg10 harg10 v2 v16 k0_t1 arg11 v48 v61 v68 v95_0 v95_1 v95_2 v97 v115 c0_i32_44 v116 v124 k acc)
          (fun yld => iprop(⌜yld = (walk6 arg2.view arg3.view arg9.view arg10.view v2 v16 v48 v61 v68 X2 X3 k0_t1 k (acc, f9, f10)).1⌝ ∗ Held (F := F) c arg2 arg3 arg9 arg10 X2 X3
            (walk6 arg2.view arg3.view arg9.view arg10.view v2 v16 v48 v61 v68 X2 X3 k0_t1 k (acc, f9, f10)).2.1 (walk6 arg2.view arg3.view arg9.view arg10.view v2 v16 v48 v61 v68 X2 X3 k0_t1 k (acc, f9, f10)).2.2)) := by
  simp only [walk6, step]
  unfold k0_t6_body
  iintro ⟨HR_arg2, HR_arg3, HW_arg9, HW_arg10⟩
  sl_exec_parts
  sl_step
  isplitl []
  · ipureintro; rfl
  isplitl [HR_arg2]; · iexact HR_arg2
  isplitl [HR_arg3]; · iexact HR_arg3
  isplitl [HW_arg9]; · iexact HW_arg9
  iexact HW_arg10

set_option warn.classDefReducibility false in
/-- The loop of four tiles, by what its trips have made so far. -/
@[sl_loop] def loopInv2 (E : Set ℕ) (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v69 : FVec F S512x1 .f32) (v70 : FVec F S256x128 .f32) (v71 : BitVec 32) (c4_i32 : BitVec 32) (v72 : BitVec 32) (v74 : BitVec 32) (c0_i32_27 : BitVec 32) (X2 : BufTy.Contents (Elt F) arg2.view.ty) (X3 : BufTy.Contents (Elt F) arg3.view.ty)
    (G9 : BufTy.Contents (Elt F) arg9.view.ty) (G10 : BufTy.Contents (Elt F) arg10.view.ty) (init : Acc F) :
    LoopInv (M := 𝕄G) frame (wpE (defs₀ (F := F)) 𝒱 (c : Thread nD τ) bd) E (k0_t2_loop k0_t1).lb (k0_t2_loop k0_t1).ub (k0_t2_loop k0_t1).st (k0_t2_ok k0_t1) init
      (k0_t2_body (F := F) i arg1 harg1 arg2 harg2 arg3 harg3 arg4 harg4 arg5 harg5 arg6 harg6 arg7 harg7 arg8 harg8 arg9 harg9 arg10 harg10 v2 v16 k0_t1 arg11 v48 v61 v68 v69 v70 v71 c4_i32 v72 v74 c0_i32_27) where
  inv k acc := iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜f = (go (walk2 arg2.view arg3.view arg9.view arg10.view v2 v16 v48 v61 v68 X2 X3 k0_t1) (init, G9, G10) k).2.1⌝)
    ∗ (∃ f, (arg10.view.loc (c : Thread nD τ) ↦[arg10.view.set]{fullShare} f) ∗ ⌜f = (go (walk2 arg2.view arg3.view arg9.view arg10.view v2 v16 v48 v61 v68 X2 X3 k0_t1) (init, G9, G10) k).2.2⌝)
    ∗ ⌜acc = (go (walk2 arg2.view arg3.view arg9.view arg10.view v2 v16 v48 v61 v68 X2 X3 k0_t1) (init, G9, G10) k).1⌝)
  step k acc := by
    iintro ⟨H2, H3, ⟨%f9, H9, %h9⟩, ⟨%f10, H10, %h10⟩, %hacc⟩
    subst h9 h10 hacc
    iapply (wp_wand_r frame (wpE (defs₀ (F := F)) 𝒱 (c : Thread nD τ) bd) E)
    isplitl [H2 H3 H9 H10]
    · iapply (trip2 𝒱 c bd i arg1 harg1 arg2 harg2 arg3 harg3 arg4 harg4 arg5 harg5 arg6 harg6 arg7 harg7 arg8 harg8 arg9 harg9 arg10 harg10 v2 v16 k0_t1 arg11 v48 v61 v68 v69 v70 v71 c4_i32 v72 v74 c0_i32_27 X2 X3 k E)
      isplitl [H2]; · iexact H2
      isplitl [H3]; · iexact H3
      isplitl [H9]; · iexact H9
      iexact H10
    · iintro %yld ⟨%hy, H2, H3, H9, H10⟩
      isplitl [H2]; · iexact H2
      isplitl [H3]; · iexact H3
      isplitl [H9]
      · iexists _; isplitl [H9]; · iexact H9
        ipureintro; rw [go_succ]
      isplitl [H10]
      · iexists _; isplitl [H10]; · iexact H10
        ipureintro; rw [go_succ]
      ipureintro; rw [hy, go_succ]

/-- The contents that loop leaves, kept under a name of their own. -/
instance (E : Set ℕ) (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v69 : FVec F S512x1 .f32) (v70 : FVec F S256x128 .f32) (v71 : BitVec 32) (c4_i32 : BitVec 32) (v72 : BitVec 32) (v74 : BitVec 32) (c0_i32_27 : BitVec 32) (X2 : BufTy.Contents (Elt F) arg2.view.ty) (X3 : BufTy.Contents (Elt F) arg3.view.ty)
    (G9 : BufTy.Contents (Elt F) arg9.view.ty) (G10 : BufTy.Contents (Elt F) arg10.view.ty) (init : Acc F) :
    LoopExit (loopInv2 (F := F) 𝒱 c bd i arg1 harg1 arg2 harg2 arg3 harg3 arg4 harg4 arg5 harg5 arg6 harg6 arg7 harg7 arg8 harg8 arg9 harg9 arg10 harg10 E v2 v16 k0_t1 arg11 v48 v61 v68 v69 v70 v71 c4_i32 v72 v74 c0_i32_27 X2 X3 G9 G10 init) where
  post acc := iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜f = left (go (walk2 arg2.view arg3.view arg9.view arg10.view v2 v16 v48 v61 v68 X2 X3 k0_t1) (init, G9, G10) (k0_t2_loop k0_t1).trips).2.1⌝)
    ∗ (∃ f, (arg10.view.loc (c : Thread nD τ) ↦[arg10.view.set]{fullShare} f) ∗ ⌜f = left (go (walk2 arg2.view arg3.view arg9.view arg10.view v2 v16 v48 v61 v68 X2 X3 k0_t1) (init, G9, G10) (k0_t2_loop k0_t1).trips).2.2⌝)
    ∗ ⌜acc = (go (walk2 arg2.view arg3.view arg9.view arg10.view v2 v16 v48 v61 v68 X2 X3 k0_t1) (init, G9, G10) (k0_t2_loop k0_t1).trips).1⌝)
  exit acc := by
    simp only [left_eq]
    exact .rfl

set_option warn.classDefReducibility false in
/-- The loop of two tiles, by what its trips have made so far. -/
@[sl_loop] def loopInv4 (E : Set ℕ) (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v95_0 : FVec F S512x1 .f32) (v95_1 : FVec F S512x1 .f32) (v95_2 : FVec F S256x128 .f32) (v97 : BitVec 32) (v115 : BitVec 32) (c0_i32_44 : BitVec 32) (v116 : BitVec 32) (X2 : BufTy.Contents (Elt F) arg2.view.ty) (X3 : BufTy.Contents (Elt F) arg3.view.ty)
    (G9 : BufTy.Contents (Elt F) arg9.view.ty) (G10 : BufTy.Contents (Elt F) arg10.view.ty) (init : Acc F) :
    LoopInv (M := 𝕄G) frame (wpE (defs₀ (F := F)) 𝒱 (c : Thread nD τ) bd) E (k0_t4_loop k0_t1).lb (k0_t4_loop k0_t1).ub (k0_t4_loop k0_t1).st (k0_t4_ok k0_t1) init
      (k0_t4_body (F := F) i arg1 harg1 arg2 harg2 arg3 harg3 arg4 harg4 arg5 harg5 arg6 harg6 arg7 harg7 arg8 harg8 arg9 harg9 arg10 harg10 v2 v16 k0_t1 arg11 v48 v61 v68 v95_0 v95_1 v95_2 v97 v115 c0_i32_44 v116) where
  inv k acc := iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜f = (go (walk4 arg2.view arg3.view arg9.view arg10.view v2 v16 v48 v61 v68 X2 X3 k0_t1) (init, G9, G10) k).2.1⌝)
    ∗ (∃ f, (arg10.view.loc (c : Thread nD τ) ↦[arg10.view.set]{fullShare} f) ∗ ⌜f = (go (walk4 arg2.view arg3.view arg9.view arg10.view v2 v16 v48 v61 v68 X2 X3 k0_t1) (init, G9, G10) k).2.2⌝)
    ∗ ⌜acc = (go (walk4 arg2.view arg3.view arg9.view arg10.view v2 v16 v48 v61 v68 X2 X3 k0_t1) (init, G9, G10) k).1⌝)
  step k acc := by
    iintro ⟨H2, H3, ⟨%f9, H9, %h9⟩, ⟨%f10, H10, %h10⟩, %hacc⟩
    subst h9 h10 hacc
    iapply (wp_wand_r frame (wpE (defs₀ (F := F)) 𝒱 (c : Thread nD τ) bd) E)
    isplitl [H2 H3 H9 H10]
    · iapply (trip4 𝒱 c bd i arg1 harg1 arg2 harg2 arg3 harg3 arg4 harg4 arg5 harg5 arg6 harg6 arg7 harg7 arg8 harg8 arg9 harg9 arg10 harg10 v2 v16 k0_t1 arg11 v48 v61 v68 v95_0 v95_1 v95_2 v97 v115 c0_i32_44 v116 X2 X3 k E)
      isplitl [H2]; · iexact H2
      isplitl [H3]; · iexact H3
      isplitl [H9]; · iexact H9
      iexact H10
    · iintro %yld ⟨%hy, H2, H3, H9, H10⟩
      isplitl [H2]; · iexact H2
      isplitl [H3]; · iexact H3
      isplitl [H9]
      · iexists _; isplitl [H9]; · iexact H9
        ipureintro; rw [go_succ]
      isplitl [H10]
      · iexists _; isplitl [H10]; · iexact H10
        ipureintro; rw [go_succ]
      ipureintro; rw [hy, go_succ]

/-- The contents that loop leaves, kept under a name of their own. -/
instance (E : Set ℕ) (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v95_0 : FVec F S512x1 .f32) (v95_1 : FVec F S512x1 .f32) (v95_2 : FVec F S256x128 .f32) (v97 : BitVec 32) (v115 : BitVec 32) (c0_i32_44 : BitVec 32) (v116 : BitVec 32) (X2 : BufTy.Contents (Elt F) arg2.view.ty) (X3 : BufTy.Contents (Elt F) arg3.view.ty)
    (G9 : BufTy.Contents (Elt F) arg9.view.ty) (G10 : BufTy.Contents (Elt F) arg10.view.ty) (init : Acc F) :
    LoopExit (loopInv4 (F := F) 𝒱 c bd i arg1 harg1 arg2 harg2 arg3 harg3 arg4 harg4 arg5 harg5 arg6 harg6 arg7 harg7 arg8 harg8 arg9 harg9 arg10 harg10 E v2 v16 k0_t1 arg11 v48 v61 v68 v95_0 v95_1 v95_2 v97 v115 c0_i32_44 v116 X2 X3 G9 G10 init) where
  post acc := iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜f = left (go (walk4 arg2.view arg3.view arg9.view arg10.view v2 v16 v48 v61 v68 X2 X3 k0_t1) (init, G9, G10) (k0_t4_loop k0_t1).trips).2.1⌝)
    ∗ (∃ f, (arg10.view.loc (c : Thread nD τ) ↦[arg10.view.set]{fullShare} f) ∗ ⌜f = left (go (walk4 arg2.view arg3.view arg9.view arg10.view v2 v16 v48 v61 v68 X2 X3 k0_t1) (init, G9, G10) (k0_t4_loop k0_t1).trips).2.2⌝)
    ∗ ⌜acc = (go (walk4 arg2.view arg3.view arg9.view arg10.view v2 v16 v48 v61 v68 X2 X3 k0_t1) (init, G9, G10) (k0_t4_loop k0_t1).trips).1⌝)
  exit acc := by
    simp only [left_eq]
    exact .rfl

set_option warn.classDefReducibility false in
/-- The loop of one tile, by what its trips have made so far. -/
@[sl_loop] def loopInv6 (E : Set ℕ) (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v95_0 : FVec F S512x1 .f32) (v95_1 : FVec F S512x1 .f32) (v95_2 : FVec F S256x128 .f32) (v97 : BitVec 32) (v115 : BitVec 32) (c0_i32_44 : BitVec 32) (v116 : BitVec 32) (v124 : BitVec 32) (X2 : BufTy.Contents (Elt F) arg2.view.ty) (X3 : BufTy.Contents (Elt F) arg3.view.ty)
    (G9 : BufTy.Contents (Elt F) arg9.view.ty) (G10 : BufTy.Contents (Elt F) arg10.view.ty) (init : Acc F) :
    LoopInv (M := 𝕄G) frame (wpE (defs₀ (F := F)) 𝒱 (c : Thread nD τ) bd) E (k0_t6_loop k0_t1).lb (k0_t6_loop k0_t1).ub (k0_t6_loop k0_t1).st (k0_t6_ok k0_t1) init
      (k0_t6_body (F := F) i arg1 harg1 arg2 harg2 arg3 harg3 arg4 harg4 arg5 harg5 arg6 harg6 arg7 harg7 arg8 harg8 arg9 harg9 arg10 harg10 v2 v16 k0_t1 arg11 v48 v61 v68 v95_0 v95_1 v95_2 v97 v115 c0_i32_44 v116 v124) where
  inv k acc := iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜f = (go (walk6 arg2.view arg3.view arg9.view arg10.view v2 v16 v48 v61 v68 X2 X3 k0_t1) (init, G9, G10) k).2.1⌝)
    ∗ (∃ f, (arg10.view.loc (c : Thread nD τ) ↦[arg10.view.set]{fullShare} f) ∗ ⌜f = (go (walk6 arg2.view arg3.view arg9.view arg10.view v2 v16 v48 v61 v68 X2 X3 k0_t1) (init, G9, G10) k).2.2⌝)
    ∗ ⌜acc = (go (walk6 arg2.view arg3.view arg9.view arg10.view v2 v16 v48 v61 v68 X2 X3 k0_t1) (init, G9, G10) k).1⌝)
  step k acc := by
    iintro ⟨H2, H3, ⟨%f9, H9, %h9⟩, ⟨%f10, H10, %h10⟩, %hacc⟩
    subst h9 h10 hacc
    iapply (wp_wand_r frame (wpE (defs₀ (F := F)) 𝒱 (c : Thread nD τ) bd) E)
    isplitl [H2 H3 H9 H10]
    · iapply (trip6 𝒱 c bd i arg1 harg1 arg2 harg2 arg3 harg3 arg4 harg4 arg5 harg5 arg6 harg6 arg7 harg7 arg8 harg8 arg9 harg9 arg10 harg10 v2 v16 k0_t1 arg11 v48 v61 v68 v95_0 v95_1 v95_2 v97 v115 c0_i32_44 v116 v124 X2 X3 k E)
      isplitl [H2]; · iexact H2
      isplitl [H3]; · iexact H3
      isplitl [H9]; · iexact H9
      iexact H10
    · iintro %yld ⟨%hy, H2, H3, H9, H10⟩
      isplitl [H2]; · iexact H2
      isplitl [H3]; · iexact H3
      isplitl [H9]
      · iexists _; isplitl [H9]; · iexact H9
        ipureintro; rw [go_succ]
      isplitl [H10]
      · iexists _; isplitl [H10]; · iexact H10
        ipureintro; rw [go_succ]
      ipureintro; rw [hy, go_succ]

/-- The contents that loop leaves, kept under a name of their own. -/
instance (E : Set ℕ) (v2 : IVec S1x128 1) (v16 : FVec F S256x256 .bf16) (k0_t1 : Fin k0_t1_loop.trips) (arg11 : BitVec 32) (v48 : FVec F S512x128 .bf16) (v61 : FVec F S512x128 .bf16) (v68 : FVec F S512x1 .f32) (v95_0 : FVec F S512x1 .f32) (v95_1 : FVec F S512x1 .f32) (v95_2 : FVec F S256x128 .f32) (v97 : BitVec 32) (v115 : BitVec 32) (c0_i32_44 : BitVec 32) (v116 : BitVec 32) (v124 : BitVec 32) (X2 : BufTy.Contents (Elt F) arg2.view.ty) (X3 : BufTy.Contents (Elt F) arg3.view.ty)
    (G9 : BufTy.Contents (Elt F) arg9.view.ty) (G10 : BufTy.Contents (Elt F) arg10.view.ty) (init : Acc F) :
    LoopExit (loopInv6 (F := F) 𝒱 c bd i arg1 harg1 arg2 harg2 arg3 harg3 arg4 harg4 arg5 harg5 arg6 harg6 arg7 harg7 arg8 harg8 arg9 harg9 arg10 harg10 E v2 v16 k0_t1 arg11 v48 v61 v68 v95_0 v95_1 v95_2 v97 v115 c0_i32_44 v116 v124 X2 X3 G9 G10 init) where
  post acc := iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜f = left (go (walk6 arg2.view arg3.view arg9.view arg10.view v2 v16 v48 v61 v68 X2 X3 k0_t1) (init, G9, G10) (k0_t6_loop k0_t1).trips).2.1⌝)
    ∗ (∃ f, (arg10.view.loc (c : Thread nD τ) ↦[arg10.view.set]{fullShare} f) ∗ ⌜f = left (go (walk6 arg2.view arg3.view arg9.view arg10.view v2 v16 v48 v61 v68 X2 X3 k0_t1) (init, G9, G10) (k0_t6_loop k0_t1).trips).2.2⌝)
    ∗ ⌜acc = (go (walk6 arg2.view arg3.view arg9.view arg10.view v2 v16 v48 v61 v68 X2 X3 k0_t1) (init, G9, G10) (k0_t6_loop k0_t1).trips).1⌝)
  exit acc := by
    simp only [left_eq]
    exact .rfl

end Trips

end Cert.AttnBIdeal.Body
end
-- ==== Proof.AttnB.Row.lean ====
module

public import proofs.«01_k».proof.Proof.AttnB.Loops

@[expose] public section

set_option maxRecDepth 8192
set_option maxHeartbeats 4000000

noncomputable section

namespace Cert.AttnBIdeal.Body

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

section Rows

variable (v1 v2 v3 v5 v6 : View sig .tc .vmem S2048x128 .bf16) (v4 : View sig .tc .vmem S2048x256 .f32)
  (v9 v10 : View sig .tc .vmem S2048x128 .f32)
  (X1 : BufTy.Contents (Elt F) v1.ty) (X2 : BufTy.Contents (Elt F) v2.ty) (X3 : BufTy.Contents (Elt F) v3.ty)
  (X4 : BufTy.Contents (Elt F) v4.ty) (X5 : BufTy.Contents (Elt F) v5.ty) (t : Fin k0_t1_loop.trips)

/-- Block `t`'s queries, a copy for each of the two heads. -/
def qOf : FVec F S512x128 .bf16 := k0_pay191 k0_pay1 (rd v1 (k0_off1 t) (k0_off1_inb t) X1)
/-- Block `t`'s output gradients, a copy for each of the two heads. -/
def dOf : FVec F S512x128 .bf16 := k0_pay192 k0_pay1 (rd v5 (k0_off1 t) (k0_off1_inb t) X5)
/-- Block `t`'s log-fail totals, the two heads' one under the other. -/
def lOf : FVec F S512x1 .f32 :=
  k0_pay193 (v4.readAt (Elt F) (Rect.unit (s := S2048x256) (k0_off2 t) S256x1.size (k0_off2_inb t)).toLoadRect X4)
    (v4.readAt (Elt F) (Rect.unit (s := S2048x256) (k0_off3 t) S256x1.size (k0_off3_inb t)).toLoadRect X4)

/-- A row of tiles starts from zeros. -/
def acc0 : Acc F := (k0_pay194, k0_pay194, k0_pay195)

/-- Block `t`'s row after the tiles before the diagonal one. -/
def rowOf (s : BufTy.Contents (Elt F) v9.ty × BufTy.Contents (Elt F) v10.ty) : St F v9 v10 :=
  exitSt (go (walk6 v2 v3 v9 v10 k0_pay1 k0_pay3 (qOf v1 X1 t) (dOf v5 X5 t) (lOf v4 X4 t) X2 X3 t)
    (exitSt (go (walk4 v2 v3 v9 v10 k0_pay1 k0_pay3 (qOf v1 X1 t) (dOf v5 X5 t) (lOf v4 X4 t) X2 X3 t)
      (exitSt (go (walk2 v2 v3 v9 v10 k0_pay1 k0_pay3 (qOf v1 X1 t) (dOf v5 X5 t) (lOf v4 X4 t) X2 X3 t)
        (acc0, s) (k0_t2_loop t).trips)) (k0_t4_loop t).trips)) (k0_t6_loop t).trips)

/-- The diagonal tile: the key gradient's block after it, `w` before it. -/
def diagK (q d : FVec F S512x128 .bf16) (l : FVec F S512x1 .f32) (K V : FVec F S256x128 .bf16) (a : Acc F) (w : FVec F S256x128 .f32) :
    FVec F S256x128 .f32 :=
  k0_pay6 q (k0_pay234 k0_pay2 k0_pay3 d l a.1 a.2.1 V (k0_pay230 q K) (k0_pay231 q K)) w
/-- The diagonal tile: the value gradient's block after it, `w` before it. -/
def diagV (q d : FVec F S512x128 .bf16) (l : FVec F S512x1 .f32) (K V : FVec F S256x128 .bf16) (a : Acc F) (w : FVec F S256x128 .f32) :
    FVec F S256x128 .f32 :=
  k0_pay7 d (k0_pay233 k0_pay2 k0_pay3 l a.1 (k0_pay230 q K) (k0_pay231 q K)) w
/-- The diagonal tile: the query gradient's block after it. -/
def diagQ (q d : FVec F S512x128 .bf16) (l : FVec F S512x1 .f32) (K V : FVec F S256x128 .bf16) (a : Acc F) : FVec F S256x128 .bf16 :=
  k0_pay8 a.2.2 (k0_pay235 k0_pay2 k0_pay3 d l a.1 a.2.1 K V (k0_pay230 q K) (k0_pay231 q K))

/-- The contents of the query gradient and of the two accumulators. -/
abbrev Made (F : FTy → Type) [FloatOps F] (v6 : View sig .tc .vmem S2048x128 .bf16) (v9 v10 : View sig .tc .vmem S2048x128 .f32) : Type :=
  BufTy.Contents (Elt F) v6.ty × BufTy.Contents (Elt F) v9.ty × BufTy.Contents (Elt F) v10.ty

/-- Block `t`'s whole row. -/
def walk1 (s : Made F v6 v9 v10) : Made F v6 v9 v10 :=
  (wr v6 (k0_off1 t) (k0_off1_inb t) (diagQ (qOf v1 X1 t) (dOf v5 X5 t) (lOf v4 X4 t) (rd v2 (k0_off1 t) (k0_off1_inb t) X2)
      (rd v3 (k0_off1 t) (k0_off1_inb t) X3) (rowOf v1 v2 v3 v5 v4 v9 v10 X1 X2 X3 X4 X5 t s.2).1) s.1,
    wr v9 (k0_off1 t) (k0_off1_inb t) (diagK (qOf v1 X1 t) (dOf v5 X5 t) (lOf v4 X4 t) (rd v2 (k0_off1 t) (k0_off1_inb t) X2)
      (rd v3 (k0_off1 t) (k0_off1_inb t) X3) (rowOf v1 v2 v3 v5 v4 v9 v10 X1 X2 X3 X4 X5 t s.2).1
      (rd v9 (k0_off1 t) (k0_off1_inb t) (rowOf v1 v2 v3 v5 v4 v9 v10 X1 X2 X3 X4 X5 t s.2).2.1))
      (rowOf v1 v2 v3 v5 v4 v9 v10 X1 X2 X3 X4 X5 t s.2).2.1,
    wr v10 (k0_off1 t) (k0_off1_inb t) (diagV (qOf v1 X1 t) (dOf v5 X5 t) (lOf v4 X4 t) (rd v2 (k0_off1 t) (k0_off1_inb t) X2)
      (rd v3 (k0_off1 t) (k0_off1_inb t) X3) (rowOf v1 v2 v3 v5 v4 v9 v10 X1 X2 X3 X4 X5 t s.2).1
      (rd v10 (k0_off1 t) (k0_off1_inb t) (rowOf v1 v2 v3 v5 v4 v9 v10 X1 X2 X3 X4 X5 t s.2).2.2))
      (rowOf v1 v2 v3 v5 v4 v9 v10 X1 X2 X3 X4 X5 t s.2).2.2)

end Rows

section Body

variable (𝒱 : Variants) (c : Dev nD) (bd : Option 𝒱.V) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole)

set_option maxHeartbeats 16000000 in
/-- One query block: its row of tiles, from the buffers at any contents to the buffers at what the row makes of them. -/
theorem trip1 (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (E : Set ℕ) (f6 : BufTy.Contents (Elt F) arg6.view.ty) (f9 : BufTy.Contents (Elt F) arg9.view.ty) (f10 : BufTy.Contents (Elt F) arg10.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg9.view.loc (c : Thread nD τ) ↦[arg9.view.set]{fullShare} f9) ∗ (arg10.view.loc (c : Thread nD τ) ↦[arg10.view.set]{fullShare} f10)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k ())
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} ((walk1 arg1.view arg2.view arg3.view arg5.view arg6.view arg4.view arg9.view arg10.view X1 X2 X3 X4 X5 k) (f6, f9, f10)).1) ∗ (arg9.view.loc (c : Thread nD τ) ↦[arg9.view.set]{fullShare} ((walk1 arg1.view arg2.view arg3.view arg5.view arg6.view arg4.view arg9.view arg10.view X1 X2 X3 X4 X5 k) (f6, f9, f10)).2.1) ∗ (arg10.view.loc (c : Thread nD τ) ↦[arg10.view.set]{fullShare} ((walk1 arg1.view arg2.view arg3.view arg5.view arg6.view arg4.view arg9.view arg10.view X1 X2 X3 X4 X5 k) (f6, f9, f10)).2.2))) := by
  have htr3 := trips3 k
  have htr5 := trips5 k
  have htr7 := trips7 k
  simp only [walk1]
  unfold k0_t1_body
  iintro ⟨H1, H2, H3, H4, H5, H6, H9, H10⟩
  sl_exec_parts
  sl_step
  isplitl [H1]; · iexact H1
  isplitl [H2]; · iexact H2
  isplitl [H3]; · iexact H3
  isplitl [H4]; · iexact H4
  isplitl [H5]; · iexact H5
  isplitl [H6]; · iexact H6
  isplitl [H9]; · iexact H9
  iexact H10

end Body

end Cert.AttnBIdeal.Body
end
-- ==== Proof.AttnB.Body.lean ====
module

public import proofs.«01_k».proof.Proof.AttnB.Row

@[expose] public section

set_option maxRecDepth 8192
set_option maxHeartbeats 4000000

noncomputable section

namespace Cert.AttnBIdeal.Body

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A sequence with its first value written out, so that the value at trip 0 is read off at once. -/
abbrev from0 {α : Type} (a : α) (b : ℕ → α) (k : ℕ) : α := match k with
  | 0 => a
  | k + 1 => b (k + 1)

/-- It is the sequence. -/
theorem from0_eq {α : Type} {a : α} (b : ℕ → α) (k : ℕ) (h : a = b 0) : from0 a b k = b k := by
  cases k with
  | zero => exact h
  | succ k => rfl

section Body

variable (𝒱 : Variants) (c : Dev nD) (bd : Option 𝒱.V) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole)

set_option warn.classDefReducibility false in
/-- The loop over the query blocks, by what its trips have made so far. -/
@[sl_loop] def loopInv1 (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G9 : BufTy.Contents (Elt F) arg9.view.ty) (G10 : BufTy.Contents (Elt F) arg10.view.ty) :
    LoopInv (M := 𝕄G) frame (wpE (defs₀ (F := F)) 𝒱 (c : Thread nD τ) bd) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10) where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜f = (from0 G6 (fun k => (go (walk1 arg1.view arg2.view arg3.view arg5.view arg6.view arg4.view arg9.view arg10.view X1 X2 X3 X4 X5) (G6, G9, G10) k).1) k)⌝) ∗ (∃ f, (arg9.view.loc (c : Thread nD τ) ↦[arg9.view.set]{fullShare} f) ∗ ⌜f = (from0 G9 (fun k => (go (walk1 arg1.view arg2.view arg3.view arg5.view arg6.view arg4.view arg9.view arg10.view X1 X2 X3 X4 X5) (G6, G9, G10) k).2.1) k)⌝) ∗ (∃ f, (arg10.view.loc (c : Thread nD τ) ↦[arg10.view.set]{fullShare} f) ∗ ⌜f = (from0 G10 (fun k => (go (walk1 arg1.view arg2.view arg3.view arg5.view arg6.view arg4.view arg9.view arg10.view X1 X2 X3 X4 X5) (G6, G9, G10) k).2.2) k)⌝))
  step k acc := by
    iintro ⟨H1, H2, H3, H4, H5, ⟨%f6, H6, %h6⟩, ⟨%f9, H9, %h9⟩, ⟨%f10, H10, %h10⟩⟩
    have e6 := from0_eq (a := G6) (fun k => (go (walk1 arg1.view arg2.view arg3.view arg5.view arg6.view arg4.view arg9.view arg10.view X1 X2 X3 X4 X5) (G6, G9, G10) k).1) k.val rfl
    have e9 := from0_eq (a := G9) (fun k => (go (walk1 arg1.view arg2.view arg3.view arg5.view arg6.view arg4.view arg9.view arg10.view X1 X2 X3 X4 X5) (G6, G9, G10) k).2.1) k.val rfl
    have e10 := from0_eq (a := G10) (fun k => (go (walk1 arg1.view arg2.view arg3.view arg5.view arg6.view arg4.view arg9.view arg10.view X1 X2 X3 X4 X5) (G6, G9, G10) k).2.2) k.val rfl
    replace h6 := h6.trans e6
    replace h9 := h9.trans e9
    replace h10 := h10.trans e10
    subst h6 h9 h10
    iapply (wp_wand_r frame (wpE (defs₀ (F := F)) 𝒱 (c : Thread nD τ) bd) E)
    isplitl [H1 H2 H3 H4 H5 H6 H9 H10]
    · iapply (trip1 𝒱 c bd i arg1 harg1 arg2 harg2 arg3 harg3 arg4 harg4 arg5 harg5 arg6 harg6 arg7 harg7 arg8 harg8 arg9 harg9 arg10 harg10 X1 X2 X3 X4 X5 k E)
      isplitl [H1]; · iexact H1
      isplitl [H2]; · iexact H2
      isplitl [H3]; · iexact H3
      isplitl [H4]; · iexact H4
      isplitl [H5]; · iexact H5
      isplitl [H6]; · iexact H6
      isplitl [H9]; · iexact H9
      iexact H10
    · iintro %yld ⟨H1, H2, H3, H4, H5, H6, H9, H10⟩
      isplitl [H1]; · iexact H1
      isplitl [H2]; · iexact H2
      isplitl [H3]; · iexact H3
      isplitl [H4]; · iexact H4
      isplitl [H5]; · iexact H5
      isplitl [H6]
      · iexists _; isplitl [H6]; · iexact H6
        ipureintro; exact (congrArg (fun s : Made F arg6.view arg9.view arg10.view => s.1) (go_succ (walk1 arg1.view arg2.view arg3.view arg5.view arg6.view arg4.view arg9.view arg10.view X1 X2 X3 X4 X5) (G6, G9, G10) k)).symm
      isplitl [H9]
      · iexists _; isplitl [H9]; · iexact H9
        ipureintro; exact (congrArg (fun s : Made F arg6.view arg9.view arg10.view => s.2.1) (go_succ (walk1 arg1.view arg2.view arg3.view arg5.view arg6.view arg4.view arg9.view arg10.view X1 X2 X3 X4 X5) (G6, G9, G10) k)).symm
      iexists _; isplitl [H10]; · iexact H10
      ipureintro; exact (congrArg (fun s : Made F arg6.view arg9.view arg10.view => s.2.2) (go_succ (walk1 arg1.view arg2.view arg3.view arg5.view arg6.view arg4.view arg9.view arg10.view X1 X2 X3 X4 X5) (G6, G9, G10) k)).symm

/-- The contents that loop leaves, kept under a name of their own. -/
instance (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G9 : BufTy.Contents (Elt F) arg9.view.ty) (G10 : BufTy.Contents (Elt F) arg10.view.ty) : LoopExit (loopInv1 (F := F) 𝒱 c bd i arg1 harg1 arg2 harg2 arg3 harg3 arg4 harg4 arg5 harg5 arg6 harg6 arg7 harg7 arg8 harg8 arg9 harg9 arg10 harg10 E X1 X2 X3 X4 X5 G6 G9 G10) where
  post _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜f = left (go (walk1 arg1.view arg2.view arg3.view arg5.view arg6.view arg4.view arg9.view arg10.view X1 X2 X3 X4 X5) (G6, G9, G10) k0_t1_loop.trips).1⌝) ∗ (∃ f, (arg9.view.loc (c : Thread nD τ) ↦[arg9.view.set]{fullShare} f) ∗ ⌜f = left (go (walk1 arg1.view arg2.view arg3.view arg5.view arg6.view arg4.view arg9.view arg10.view X1 X2 X3 X4 X5) (G6, G9, G10) k0_t1_loop.trips).2.1⌝) ∗ (∃ f, (arg10.view.loc (c : Thread nD τ) ↦[arg10.view.set]{fullShare} f) ∗ ⌜f = left (go (walk1 arg1.view arg2.view arg3.view arg5.view arg6.view arg4.view arg9.view arg10.view X1 X2 X3 X4 X5) (G6, G9, G10) k0_t1_loop.trips).2.2⌝))
  exit _ := by
    simp only [left_eq]
    exact .rfl

/-- An accumulator after its zero fill. -/
abbrev zeroed (v : View sig .tc .vmem S2048x128 .f32) (w : Vec F S2048x128 .f32) (f : BufTy.Contents (Elt F) v.ty) : BufTy.Contents (Elt F) v.ty :=
  v.writes (Elt F) f [⟨Rect.unit (s := S2048x128) ![0, 0] S2048x128.size inb_S2048x128_S2048x128_0_0, w⟩]

set_option maxHeartbeats 16000000 in
/-- The whole body: the inputs kept, the query gradient written block by block, the two accumulators read out. -/
theorem body_run (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (E : Set ℕ) (f6 : BufTy.Contents (Elt F) arg6.view.ty) (f9 : BufTy.Contents (Elt F) arg9.view.ty) (f10 : BufTy.Contents (Elt F) arg10.view.ty) (f7 : BufTy.Contents (Elt F) arg7.view.ty) (f8 : BufTy.Contents (Elt F) arg8.view.ty) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp 𝕄G)
      ⊢ wp frame (wpE (defs₀ (F := F)) 𝒱 (c : Thread nD τ) bd) E (cc0_attn_b_bwd (F := F) i arg1 harg1 arg2 harg2 arg3 harg3 arg4 harg4 arg5 harg5 arg6 harg6 arg7 harg7 arg8 harg8 arg9 harg9 arg10 harg10)
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
            ∗ (∃ f, (arg6.view.loc (c : Thread nD τ) ↦[arg6.view.set]{fullShare} f) ∗ ⌜f = (go (walk1 arg1.view arg2.view arg3.view arg5.view arg6.view arg4.view arg9.view arg10.view X1 X2 X3 X4 X5) (f6, zeroed arg9.view k0_pay4 arg9.view.junk, zeroed arg10.view k0_pay5 arg10.view.junk) k0_t1_loop.trips).1⌝)
            ∗ (∃ f, (arg7.view.loc (c : Thread nD τ) ↦[arg7.view.set]{fullShare} f) ∗ ⌜arg7.view.read (Elt F) f = k0_pay9 (arg9.view.read (Elt F) (go (walk1 arg1.view arg2.view arg3.view arg5.view arg6.view arg4.view arg9.view arg10.view X1 X2 X3 X4 X5) (f6, zeroed arg9.view k0_pay4 arg9.view.junk, zeroed arg10.view k0_pay5 arg10.view.junk) k0_t1_loop.trips).2.1)⌝)
            ∗ (∃ f, (arg8.view.loc (c : Thread nD τ) ↦[arg8.view.set]{fullShare} f) ∗ ⌜arg8.view.read (Elt F) f = k0_pay10 (arg10.view.read (Elt F) (go (walk1 arg1.view arg2.view arg3.view arg5.view arg6.view arg4.view arg9.view arg10.view X1 X2 X3 X4 X5) (f6, zeroed arg9.view k0_pay4 arg9.view.junk, zeroed arg10.view k0_pay5 arg10.view.junk) k0_t1_loop.trips).2.2)⌝)
            ∗ (∃ f, (arg9.view.loc (c : Thread nD τ) ↦[arg9.view.set]{fullShare} f)) ∗ (∃ f, (arg10.view.loc (c : Thread nD τ) ↦[arg10.view.set]{fullShare} f)))) := by
  iintro ⟨H1, H2, H3, H4, H5, H6, H7, H8, H9, H10⟩
  rw [cc0_attn_b_bwd_eq_skeleton]
  unfold cc0_attn_b_bwd_skel
  sl_exec_parts
  sl_step
  isplitl [H1]; · iexact H1
  isplitl [H2]; · iexact H2
  isplitl [H3]; · iexact H3
  isplitl [H4]; · iexact H4
  isplitl [H5]; · iexact H5
  isplitl [H6]
  · iexists _; isplitl [H6]; · iexact H6
    ipureintro; exact left_eq _
  isplitl [H7]
  · iexists _; isplitl [H7]; · iexact H7
    ipureintro; rw [View.read_writes_full]; exact congrArg k0_pay9 ((View.readAt_full _ _ _).trans (congrArg (arg9.view.read (Elt F)) (left_eq _)))
  isplitl [H8]
  · iexists _; isplitl [H8]; · iexact H8
    ipureintro; rw [View.read_writes_full]; exact congrArg k0_pay10 ((View.readAt_full _ _ _).trans (congrArg (arg10.view.read (Elt F)) (left_eq _)))
  isplitl [H9]; · iexists _; iexact H9
  iexists _; iexact H10

end Body

end Cert.AttnBIdeal.Body
end
-- ==== Proof.AttnB.Blocks.lean ====
/-
  What the body leaves, as arrays: the key blocks of the two accumulators followed block by block through the tiles, and
  the three results as functions of the five input blocks.
-/
module

public import proofs.«01_k».proof.Proof.AttnB.Body
public import Idealize.ShloMosaic.Lib.Pointwise

@[expose] public section

set_option maxRecDepth 8192
set_option maxHeartbeats 1000000

noncomputable section

namespace Cert.AttnBIdeal.Body

open Cert.AttnBIdeal Cert.AttnBIdeal.Gen
open Idealize.ShloMosaic Idealize.ShloMosaic.TcCoe Idealize.ShloMosaic.Pointwise

variable {F : FTy → Type} [FloatOps F]

/-- Block `j` of 256 rows. -/
def blkOf {e : EltTy} (x : Vec F S2048x128 e) (j : Fin 8) : Vec F S256x128 e := fun y =>
  x (ix2 (⟨256 * j.val + (y 0).val, by have : (y 0).val < 256 := (y 0).isLt; omega⟩ : Fin 2048) (y 1 : Fin 128))

/-- Eight blocks of 256 rows, one under the other. -/
def glue {e : EltTy} (B : Fin 8 → Vec F S256x128 e) : Vec F S2048x128 e := fun y =>
  B ⟨(y 0).val / 256, by have : (y 0).val < 2048 := (y 0).isLt; omega⟩
    (ix2 (⟨(y 0).val % 256, Nat.mod_lt _ (by norm_num)⟩ : Fin 256) (y 1 : Fin 128))

section Views

variable {e : EltTy} (v : View sig .tc .vmem S2048x128 e)

/-- A block read off the contents is that block of the array they hold. -/
theorem rd_eq {off : Fin 2 → ℕ} (h : Inb off) (j : Fin 8) (e1 : off = ![256 * j.val, 0]) (f : BufTy.Contents (Elt F) v.ty) :
    rd v off h f = blkOf (v.read (Elt F) f) j := by
  subst e1
  funext y
  refine congrArg (v.read (Elt F) f) ?_
  funext a
  refine Fin.ext ?_
  fin_cases a
  · show 256 * j.val + 1 * (y 0).val = 256 * j.val + (y 0).val
    omega
  · show 0 + 1 * (y 1).val = (y 1).val
    omega

/-- The offsets of block `j` hold it. -/
theorem inbOf (j : Fin 8) : Inb ![256 * j.val, 0] := fun a => by
  have := j.isLt
  fin_cases a
  · show 256 * j.val + 256 ≤ 2048
    omega
  · show 0 + 128 ≤ 128
    omega

/-- An array is its blocks. -/
theorem glue_blkOf (x : Vec F S2048x128 e) : glue (blkOf x) = x := by
  funext y
  refine congrArg x ?_
  funext a
  refine Fin.ext ?_
  fin_cases a
  · show 256 * ((y 0).val / 256) + (y 0).val % 256 = (y 0).val
    omega
  · rfl

/-- The contents hold these blocks. -/
def Blocks (f : BufTy.Contents (Elt F) v.ty) (B : Fin 8 → Vec F S256x128 e) : Prop := ∀ j, blkOf (v.read (Elt F) f) j = B j

variable {v}

theorem Blocks.read {f : BufTy.Contents (Elt F) v.ty} {B : Fin 8 → Vec F S256x128 e} (h : Blocks v f B) : v.read (Elt F) f = glue B := by
  rw [← glue_blkOf (v.read (Elt F) f), show blkOf (v.read (Elt F) f) = B from funext h]

theorem Blocks.rd {f : BufTy.Contents (Elt F) v.ty} {B : Fin 8 → Vec F S256x128 e} (h : Blocks v f B) {off : Fin 2 → ℕ} (hi : Inb off) (j : Fin 8)
    (e1 : off = ![256 * j.val, 0]) : Body.rd v off hi f = B j := (rd_eq v hi j e1 f).trans (h j)

/-- One block replaced. -/
theorem Blocks.wr {f : BufTy.Contents (Elt F) v.ty} {B : Fin 8 → Vec F S256x128 e} (h : Blocks v f B) {off : Fin 2 → ℕ} (hi : Inb off) (j : Fin 8)
    (e1 : off = ![256 * j.val, 0]) (w : Vec F S256x128 e) : Blocks v (Body.wr v off hi w f) (Function.update B j w) := fun i => by
  rw [← rd_eq v (inbOf i) i rfl]
  by_cases hij : i = j
  · subst hij
    rw [Function.update_self]
    exact rd_wr_same hi (inbOf i) e1 w f
  · rw [Function.update_of_ne hij, rd_wr_of_ne hi (inbOf i) e1 rfl (fun h => hij (Fin.ext h.symm))]
    exact h.rd (inbOf i) i rfl

/-- The zero fill's blocks. -/
theorem blocks_zeroed (v : View sig .tc .vmem S2048x128 .f32) (w : Vec F S2048x128 .f32) (f : BufTy.Contents (Elt F) v.ty) :
    Blocks v (zeroed v w f) (blkOf w) := fun j => by rw [View.read_writes_full]

end Views

/-! ## One row of tiles -/

section Row

variable (q d : FVec F S512x128 .bf16) (l : FVec F S512x1 .f32) (K V : Fin 8 → FVec F S256x128 .bf16)

/-- What a row carries after its first `n` tiles. -/
def accOf (n : ℕ) : Acc F := go (fun j a => tileAcc k0_pay1 k0_pay3 q d l (K j) (V j) a) acc0 n

/-- The key gradient's blocks after the row's first `n` tiles. -/
def rowK (n : ℕ) (B : Fin 8 → FVec F S256x128 .f32) : Fin 8 → FVec F S256x128 .f32 := fun j =>
  if j.val < n then tileK k0_pay3 q d l (K j) (V j) (accOf q d l K V j.val) (B j) else B j

/-- The value gradient's blocks after the row's first `n` tiles. -/
def rowV (n : ℕ) (B : Fin 8 → FVec F S256x128 .f32) : Fin 8 → FVec F S256x128 .f32 := fun j =>
  if j.val < n then tileV k0_pay3 q d l (K j) (accOf q d l K V j.val) (B j) else B j

variable {q d l K V} {v2 v3 : View sig .tc .vmem S2048x128 .bf16} {v9 v10 : View sig .tc .vmem S2048x128 .f32}
  {X2 : BufTy.Contents (Elt F) v2.ty} {X3 : BufTy.Contents (Elt F) v3.ty}

variable (q d l K V) in
/-- The state after the row's first `n` tiles, started from the blocks `B` and `C`. -/
structure After (B C : Fin 8 → FVec F S256x128 .f32) (n : ℕ) (s : St F v9 v10) : Prop where
  acc : s.1 = accOf q d l K V n
  key : Blocks v9 s.2.1 (rowK q d l K V n B)
  val : Blocks v10 s.2.2 (rowV q d l K V n C)

theorem rowK_succ (j : Fin 8) (B : Fin 8 → FVec F S256x128 .f32) : Function.update (rowK q d l K V j.val B) j
    (tileK k0_pay3 q d l (K j) (V j) (accOf q d l K V j.val) (rowK q d l K V j.val B j)) = rowK q d l K V (j.val + 1) B := by
  funext i
  by_cases hij : i = j
  · subst hij
    rw [Function.update_self]
    unfold rowK
    rw [if_neg (lt_irrefl _), if_pos (Nat.lt_succ_self _)]
  · rw [Function.update_of_ne hij]
    have : i.val ≠ j.val := fun h => hij (Fin.ext h)
    unfold rowK
    by_cases h : i.val < j.val
    · rw [if_pos h, if_pos (by omega)]
    · rw [if_neg h, if_neg (by omega)]

theorem rowV_succ (j : Fin 8) (B : Fin 8 → FVec F S256x128 .f32) : Function.update (rowV q d l K V j.val B) j
    (tileV k0_pay3 q d l (K j) (accOf q d l K V j.val) (rowV q d l K V j.val B j)) = rowV q d l K V (j.val + 1) B := by
  funext i
  by_cases hij : i = j
  · subst hij
    rw [Function.update_self]
    unfold rowV
    rw [if_neg (lt_irrefl _), if_pos (Nat.lt_succ_self _)]
  · rw [Function.update_of_ne hij]
    have : i.val ≠ j.val := fun h => hij (Fin.ext h)
    unfold rowV
    by_cases h : i.val < j.val
    · rw [if_pos h, if_pos (by omega)]
    · rw [if_neg h, if_neg (by omega)]

variable {B C : Fin 8 → FVec F S256x128 .f32}

/-- One more tile. -/
theorem After.step (h2 : Blocks v2 X2 K) (h3 : Blocks v3 X3 V) {n : ℕ} {s : St F v9 v10} (h : After q d l K V B C n s) {off : Fin 2 → ℕ} (hi : Inb off)
    (e1 : off = ![256 * n, 0]) (hn : n < 8) : After q d l K V B C (n + 1) (Body.step v2 v3 v9 v10 k0_pay1 k0_pay3 q d l X2 X3 off hi s) := by
  obtain ⟨ha, hk, hv⟩ := h
  have r2 := h2.rd hi ⟨n, hn⟩ e1
  have r3 := h3.rd hi ⟨n, hn⟩ e1
  have r9 := hk.rd hi ⟨n, hn⟩ e1
  have r10 := hv.rd hi ⟨n, hn⟩ e1
  unfold Body.step
  rw [r2, r3, r9, r10, ha]
  refine ⟨(go_succ (fun j a => tileAcc k0_pay1 k0_pay3 q d l (K j) (V j) a) acc0 ⟨n, hn⟩).symm, ?_, ?_⟩
  · rw [← rowK_succ ⟨n, hn⟩]
    exact hk.wr hi ⟨n, hn⟩ e1 _
  · rw [← rowV_succ ⟨n, hn⟩]
    exact hv.wr hi ⟨n, hn⟩ e1 _

theorem After.exit {n : ℕ} {s : St F v9 v10} (h : After q d l K V B C n s) : After q d l K V B C n (exitSt s) := by
  unfold exitSt
  rw [left_eq, left_eq]
  exact ⟨h.acc, h.key, h.val⟩

/-- A loop's trips, each of `p` tiles. -/
theorem After.loop {N : ℕ} (w : Fin N → St F v9 v10 → St F v9 v10) (b p : ℕ)
    (hw : ∀ (k : Fin N) (s : St F v9 v10), After q d l K V B C (b + p * k.val) s → After q d l K V B C (b + p * k.val + p) (w k s))
    {s : St F v9 v10} (h : After q d l K V B C b s) : ∀ k ≤ N, After q d l K V B C (b + p * k) (go w s k)
  | 0, _ => h
  | k + 1, hk => by
    have := hw ⟨k, hk⟩ _ (After.loop w b p hw h k (Nat.le_of_succ_le hk))
    rw [go_succ w s ⟨k, hk⟩]
    rw [Nat.mul_succ, ← Nat.add_assoc]
    exact this

end Row

end Cert.AttnBIdeal.Body
end
-- ==== Proof.AttnB.Whole.lean ====
/-
  What the whole body leaves: the three results as functions of the five input arrays.
-/
module

public import proofs.«01_k».proof.Proof.AttnB.Blocks

@[expose] public section

set_option maxRecDepth 8192
set_option maxHeartbeats 400000

noncomputable section

namespace Cert.AttnBIdeal.Body

open Cert.AttnBIdeal Cert.AttnBIdeal.Gen
open Idealize.ShloMosaic Idealize.ShloMosaic.TcCoe Idealize.ShloMosaic.Pointwise

variable {F : FTy → Type} [FloatOps F]

/-- What holds at the start and passes through every trip holds after any number of them. -/
theorem go_induct {α : Type} {n : ℕ} (w : Fin n → α → α) (s : α) (P : ℕ → α → Prop) (h0 : P 0 s)
    (hs : ∀ (k : Fin n) (a : α), P k.val a → P (k.val + 1) (w k a)) : ∀ k ≤ n, P k (go w s k) := by
  intro k
  induction k with
  | zero => exact fun _ => h0
  | succ k ih =>
    intro hk
    rw [go_succ w s ⟨k, hk⟩]
    exact hs ⟨k, hk⟩ _ (ih (Nat.le_of_succ_le hk))

/-- There are eight query blocks. -/
theorem trips1 : k0_t1_loop.trips = 8 := by decide +kernel

/-- A query block's number. -/
abbrev num (t : Fin k0_t1_loop.trips) : Fin 8 := ⟨t.val, lt_of_lt_of_eq t.isLt trips1⟩

theorem off1_eq (t : Fin k0_t1_loop.trips) : k0_off1 t = ![256 * (num t).val, 0] := k0_off1_eq t

section Row

variable {v2 v3 : View sig .tc .vmem S2048x128 .bf16} {v9 v10 : View sig .tc .vmem S2048x128 .f32}
  {X2 : BufTy.Contents (Elt F) v2.ty} {X3 : BufTy.Contents (Elt F) v3.ty} {K V : Fin 8 → FVec F S256x128 .bf16}
  {q d : FVec F S512x128 .bf16} {l : FVec F S512x1 .f32} {B C : Fin 8 → FVec F S256x128 .f32} (t : Fin k0_t1_loop.trips)

/-- The loop of four tiles. -/
theorem After.walk2 (h2 : Blocks v2 X2 K) (h3 : Blocks v3 X3 V) {s : St F v9 v10} (h : After q d l K V B C 0 s) :
    After q d l K V B C (4 * (t.val / 4)) (go (Body.walk2 v2 v3 v9 v10 k0_pay1 k0_pay3 q d l X2 X3 t) s (k0_t2_loop t).trips) := by
  have ht : t.val < 8 := lt_of_lt_of_eq t.isLt trips1
  have := After.loop (Body.walk2 v2 v3 v9 v10 k0_pay1 k0_pay3 q d l X2 X3 t) 0 4 (fun k s hs => by
    have hk : k.val < t.val / 4 := lt_of_lt_of_eq k.isLt (trips2 t)
    have e0 := After.step h2 h3 hs (k0_off4_inb t k 0) ((off4_zero t k).trans (by congr 2; omega)) (by omega)
    have e1 := After.step h2 h3 e0 (k0_off4_inb t k 1) ((off4_one t k).trans (by congr 2; omega)) (by omega)
    have e2 := After.step h2 h3 e1 (k0_off4_inb t k 2) ((off4_two t k).trans (by congr 2; omega)) (by omega)
    exact After.step h2 h3 e2 (k0_off4_inb t k 3) ((off4_three t k).trans (by congr 2; omega)) (by omega)) h _ le_rfl
  have e : 0 + 4 * (k0_t2_loop t).trips = 4 * (t.val / 4) := by rw [trips2]; omega
  rwa [e] at this

/-- The loop of two tiles. -/
theorem After.walk4 (h2 : Blocks v2 X2 K) (h3 : Blocks v3 X3 V) {s : St F v9 v10} (h : After q d l K V B C (4 * (t.val / 4)) s) :
    After q d l K V B C (2 * (t.val / 2)) (go (Body.walk4 v2 v3 v9 v10 k0_pay1 k0_pay3 q d l X2 X3 t) s (k0_t4_loop t).trips) := by
  have ht : t.val < 8 := lt_of_lt_of_eq t.isLt trips1
  have := After.loop (Body.walk4 v2 v3 v9 v10 k0_pay1 k0_pay3 q d l X2 X3 t) (4 * (t.val / 4)) 2 (fun k s hs => by
    have hk : k.val < t.val % 4 / 2 := lt_of_lt_of_eq k.isLt (trips4 t)
    have e0 := After.step h2 h3 hs (k0_off6_inb t k 0) ((off6_zero t k).trans (by congr 2)) (by omega)
    exact After.step h2 h3 e0 (k0_off6_inb t k 1) ((off6_one t k).trans (by congr 2)) (by omega)) h _ le_rfl
  have e : 4 * (t.val / 4) + 2 * (k0_t4_loop t).trips = 2 * (t.val / 2) := by rw [trips4]; omega
  rwa [e] at this

/-- The loop of one tile. -/
theorem After.walk6 (h2 : Blocks v2 X2 K) (h3 : Blocks v3 X3 V) {s : St F v9 v10} (h : After q d l K V B C (2 * (t.val / 2)) s) :
    After q d l K V B C t.val (go (Body.walk6 v2 v3 v9 v10 k0_pay1 k0_pay3 q d l X2 X3 t) s (k0_t6_loop t).trips) := by
  have ht : t.val < 8 := lt_of_lt_of_eq t.isLt trips1
  have := After.loop (Body.walk6 v2 v3 v9 v10 k0_pay1 k0_pay3 q d l X2 X3 t) (2 * (t.val / 2)) 1 (fun k s hs => by
    have hk : k.val < t.val % 2 := lt_of_lt_of_eq k.isLt (trips6 t)
    exact After.step h2 h3 hs (k0_off8_inb t k) ((off8 t k).trans (by congr 2; omega)) (by omega)) h _ le_rfl
  have e : 2 * (t.val / 2) + 1 * (k0_t6_loop t).trips = t.val := by rw [trips6]; omega
  rwa [e] at this

end Row

/-! ## The results as functions of the five input arrays -/

/-- A block's rows of one column of the totals. -/
def colOf (L : Vec F S2048x256 .f32) (t : Fin 8) (o : Fin 256) : Vec F S256x1 .f32 := fun y =>
  L (ix2 (⟨256 * t.val + (y 0).val, by have : (y 0).val < 256 := (y 0).isLt; omega⟩ : Fin 2048) o)

section Results

variable (Q K V D : Vec F S2048x128 .bf16) (L : Vec F S2048x256 .f32)

/-- A block's queries, output gradients and totals, stacked for the two heads. -/
def qAt (t : Fin 8) : FVec F S512x128 .bf16 := k0_pay191 k0_pay1 (blkOf Q t)
@[inherit_doc qAt] def dAt (t : Fin 8) : FVec F S512x128 .bf16 := k0_pay192 k0_pay1 (blkOf D t)
@[inherit_doc qAt] def lAt (t : Fin 8) : FVec F S512x1 .f32 := k0_pay193 (colOf L t 0) (colOf L t 128)

/-- What block `t`'s row carries after its first `n` tiles. -/
def accAt (t : Fin 8) (n : ℕ) : Acc F := accOf (qAt Q t) (dAt D t) (lAt L t) (blkOf K) (blkOf V) n

/-- The query gradient's blocks. -/
def dqBlk (t : Fin 8) : FVec F S256x128 .bf16 := diagQ (qAt Q t) (dAt D t) (lAt L t) (blkOf K t) (blkOf V t) (accAt Q K V D L t t.val)

/-- The key gradient's blocks after row `t`, `B` before it. -/
def nextK (t : Fin 8) (B : Fin 8 → FVec F S256x128 .f32) : Fin 8 → FVec F S256x128 .f32 :=
  Function.update (rowK (qAt Q t) (dAt D t) (lAt L t) (blkOf K) (blkOf V) t.val B) t
    (diagK (qAt Q t) (dAt D t) (lAt L t) (blkOf K t) (blkOf V t) (accAt Q K V D L t t.val) (rowK (qAt Q t) (dAt D t) (lAt L t) (blkOf K) (blkOf V) t.val B t))

/-- The value gradient's blocks after row `t`, `C` before it. -/
def nextV (t : Fin 8) (C : Fin 8 → FVec F S256x128 .f32) : Fin 8 → FVec F S256x128 .f32 :=
  Function.update (rowV (qAt Q t) (dAt D t) (lAt L t) (blkOf K) (blkOf V) t.val C) t
    (diagV (qAt Q t) (dAt D t) (lAt L t) (blkOf K t) (blkOf V t) (accAt Q K V D L t t.val) (rowV (qAt Q t) (dAt D t) (lAt L t) (blkOf K) (blkOf V) t.val C t))

/-- The two accumulators' blocks after the first `n` rows, from zeros. -/
def keyAt (n : ℕ) : Fin 8 → FVec F S256x128 .f32 := go (nextK Q K V D L) (blkOf (F := F) (e := .f32) k0_pay4) n
@[inherit_doc keyAt] def valAt (n : ℕ) : Fin 8 → FVec F S256x128 .f32 := go (nextV Q K V D L) (blkOf (F := F) (e := .f32) k0_pay5) n

/-- The query gradient. -/
def dqOut : Vec F S2048x128 .bf16 := glue (dqBlk Q K V D L)
/-- The key gradient. -/
def dkOut : Vec F S2048x128 .bf16 := k0_pay9 (glue (keyAt Q K V D L 8))
/-- The value gradient. -/
def dvOut : Vec F S2048x128 .bf16 := k0_pay10 (glue (valAt Q K V D L 8))

end Results

section Whole

variable {v1 v2 v3 v5 v6 : View sig .tc .vmem S2048x128 .bf16} {v4 : View sig .tc .vmem S2048x256 .f32}
  {v9 v10 : View sig .tc .vmem S2048x128 .f32}
  (X1 : BufTy.Contents (Elt F) v1.ty) (X2 : BufTy.Contents (Elt F) v2.ty) (X3 : BufTy.Contents (Elt F) v3.ty)
  (X4 : BufTy.Contents (Elt F) v4.ty) (X5 : BufTy.Contents (Elt F) v5.ty) {Q K V D : Vec F S2048x128 .bf16} {L : Vec F S2048x256 .f32}

/-- A column of a block of the totals, read off the contents. -/
theorem col_eq {off : Fin 2 → ℕ} (h : ∀ a, off a + S256x1.size a ≤ S2048x256.size a) (t : Fin 8) (o : Fin 256) (e1 : off = ![256 * t.val, o.val]) :
    v4.readAt (Elt F) (Rect.unit (s := S2048x256) off S256x1.size h).toLoadRect X4 = colOf (v4.read (Elt F) X4) t o := by
  subst e1
  funext y
  refine congrArg (v4.read (Elt F) X4) ?_
  funext a
  refine Fin.ext ?_
  fin_cases a
  · show 256 * t.val + 1 * (y 0).val = 256 * t.val + (y 0).val
    omega
  · have : (y 1).val < 1 := (y 1).isLt
    show o.val + 1 * (y 1).val = o.val
    omega

/-- The contents after the first `n` rows. -/
structure Upto (Q K V D : Vec F S2048x128 .bf16) (L : Vec F S2048x256 .f32) (n : ℕ) (s : Made F v6 v9 v10) : Prop where
  qry : ∀ t : Fin 8, t.val < n → blkOf (v6.read (Elt F) s.1) t = dqBlk Q K V D L t
  key : Blocks v9 s.2.1 (keyAt Q K V D L n)
  val : Blocks v10 s.2.2 (valAt Q K V D L n)

variable (h1 : v1.read (Elt F) X1 = Q) (h2 : v2.read (Elt F) X2 = K) (h3 : v3.read (Elt F) X3 = V) (h4 : v4.read (Elt F) X4 = L)
  (h5 : v5.read (Elt F) X5 = D)

include h1 h2 h3 h4 h5 in
/-- One more row. -/
theorem Upto.step (t : Fin k0_t1_loop.trips) {s : Made F v6 v9 v10} (h : Upto Q K V D L t.val s) :
    Upto Q K V D L (t.val + 1) (walk1 v1 v2 v3 v5 v6 v4 v9 v10 X1 X2 X3 X4 X5 t s) := by
  obtain ⟨hq, hk, hv⟩ := h
  have b2 : Blocks v2 X2 (blkOf K) := fun j => by rw [h2]
  have b3 : Blocks v3 X3 (blkOf V) := fun j => by rw [h3]
  have eq : qOf v1 X1 t = qAt Q (num t) := by
    unfold qOf qAt; rw [rd_eq v1 _ (num t) (off1_eq t), h1]
  have ed : dOf v5 X5 t = dAt D (num t) := by
    unfold dOf dAt; rw [rd_eq v5 _ (num t) (off1_eq t), h5]
  have el : lOf v4 X4 t = lAt L (num t) := by
    unfold lOf lAt; rw [col_eq X4 _ (num t) 0 (k0_off2_eq t), col_eq X4 _ (num t) 128 (k0_off3_eq t), h4]
  have hrow : After (qAt Q (num t)) (dAt D (num t)) (lAt L (num t)) (blkOf K) (blkOf V) (keyAt Q K V D L t.val)
      (valAt Q K V D L t.val) t.val (rowOf v1 v2 v3 v5 v4 v9 v10 X1 X2 X3 X4 X5 t s.2) := by
    unfold rowOf
    rw [eq, ed, el]
    refine (After.walk6 t b2 b3 (After.exit (After.walk4 t b2 b3 (After.exit (After.walk2 t b2 b3 ⟨rfl, ?_, ?_⟩))))).exit
    · intro j; rw [hk j]; unfold rowK; rw [if_neg (Nat.not_lt_zero _)]
    · intro j; rw [hv j]; unfold rowV; rw [if_neg (Nat.not_lt_zero _)]
  obtain ⟨ha, hk', hv'⟩ := hrow
  unfold walk1
  rw [eq, ed, el, b2.rd _ (num t) (off1_eq t), b3.rd _ (num t) (off1_eq t), hk'.rd _ (num t) (off1_eq t), hv'.rd _ (num t) (off1_eq t), ha]
  refine ⟨fun i hi => ?_, ?_, ?_⟩
  · rw [← rd_eq v6 (inbOf i) i rfl]
    by_cases hit : i = num t
    · subst hit
      exact rd_wr_same _ (inbOf _) (off1_eq t) _ _
    · have hne : i.val ≠ t.val := fun e => hit (Fin.ext e)
      have := rd_wr_of_ne (k0_off1_inb t) (inbOf i) (off1_eq t) rfl (fun e => hit (Fin.ext e.symm))
        (diagQ (qAt Q (num t)) (dAt D (num t)) (lAt L (num t)) (blkOf K (num t)) (blkOf V (num t))
          (accOf (qAt Q (num t)) (dAt D (num t)) (lAt L (num t)) (blkOf K) (blkOf V) t.val)) s.1
      exact this.trans ((rd_eq v6 (inbOf i) i rfl s.1).trans (hq i (by omega)))
  · have e : keyAt Q K V D L (t.val + 1) = nextK Q K V D L (num t) (keyAt Q K V D L t.val) := go_succ _ _ (num t)
    rw [e]
    exact hk'.wr _ (num t) (off1_eq t) _
  · have e : valAt Q K V D L (t.val + 1) = nextV Q K V D L (num t) (valAt Q K V D L t.val) := go_succ _ _ (num t)
    rw [e]
    exact hv'.wr _ (num t) (off1_eq t) _

/-- Before the first row the accumulators hold zeros. -/
theorem upto_zero (f6 : BufTy.Contents (Elt F) v6.ty) {f9 : BufTy.Contents (Elt F) v9.ty} {f10 : BufTy.Contents (Elt F) v10.ty}
    {B : Vec F S2048x128 .f32} {C : Vec F S2048x128 .f32} (eB : B = k0_pay4) (eC : C = k0_pay5) (h9 : Blocks v9 f9 (blkOf B)) (h10 : Blocks v10 f10 (blkOf C)) :
    Upto (v6 := v6) (v9 := v9) (v10 := v10) Q K V D L 0 (f6, f9, f10) := by
  subst eB eC
  exact ⟨fun _ h => absurd h (Nat.not_lt_zero _), h9, h10⟩

include h1 h2 h3 h4 h5 in
/-- After `n` rows the buffers hold what they should. -/
theorem upto_all {s : Made F v6 v9 v10} (h : Upto Q K V D L 0 s) (n : ℕ) (hn : n ≤ k0_t1_loop.trips) :
    Upto Q K V D L n (go (walk1 v1 v2 v3 v5 v6 v4 v9 v10 X1 X2 X3 X4 X5) s n) :=
  go_induct (walk1 v1 v2 v3 v5 v6 v4 v9 v10 X1 X2 X3 X4 X5) s (Upto Q K V D L) h
    (fun t s h => Upto.step X1 X2 X3 X4 X5 h1 h2 h3 h4 h5 t h) n hn

end Whole

end Cert.AttnBIdeal.Body
end
-- ==== Proof.AttnB.Run.lean ====
/-
  The call on the machine: the body at every point of the grid, and the run of the whole program from it.
-/
module

public import proofs.«01_k».proof.Proof.AttnB.Whole
public import proofs.«01_k».proof.Proof.Gen.AttnBIdeal.Frame
public import Idealize.ShloMosaic.Lib.Claim

@[expose] public section

set_option maxRecDepth 16384

noncomputable section

namespace Cert.AttnBIdeal.Body

open Cert.AttnBIdeal Cert.AttnBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄G" => MT nD τ sig Unit (Elt F) ℕ (UR sig nD τ) ℕ

section Read

variable {v6 : View sig .tc .vmem S2048x128 .bf16} {v9 v10 : View sig .tc .vmem S2048x128 .f32} {Q K V D : Vec F S2048x128 .bf16} {L : Vec F S2048x256 .f32}
  {s : Made F v6 v9 v10} (h : Upto Q K V D L k0_t1_loop.trips s)

include h

/-- After the last row the query gradient's buffer holds it whole. -/
theorem dq_of (f : BufTy.Contents (Elt F) v6.ty) (e : f = s.1) : v6.read (Elt F) f = dqOut Q K V D L := by
  subst e
  exact Blocks.read fun t => h.qry t (lt_of_lt_of_eq t.isLt trips1.symm)

/-- The key gradient's accumulator read out after the last row. -/
theorem dk_of : k0_pay9 (v9.read (Elt F) s.2.1) = dkOut Q K V D L := by
  have := h.key; rw [trips1] at this; rw [this.read]; rfl

/-- The value gradient's accumulator read out after the last row. -/
theorem dv_of : k0_pay10 (v10.read (Elt F) s.2.2) = dvOut Q K V D L := by
  have := h.val; rw [trips1] at this; rw [this.read]; rfl

end Read

/-- The body on buffers holding the five input arrays: the three outputs hold the three results. -/
theorem body_owns (𝒱 : Variants) (c : Dev nD) (bd : Option 𝒱.V) (i : grid0.Coords) (arg1 : Memref sig .tc .vmem S2048x128 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S2048x256 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (E : Set ℕ)
    (Q K V D : Vec F S2048x128 .bf16) (L : Vec F S2048x256 .f32) :
    (iprop(owns (c : Thread nD τ) arg1 fullShare Q ∗ owns (c : Thread nD τ) arg2 fullShare K ∗ owns (c : Thread nD τ) arg3 fullShare V ∗ owns (c : Thread nD τ) arg4 fullShare L ∗ owns (c : Thread nD τ) arg5 fullShare D ∗ (∃ X, owns (c : Thread nD τ) arg6 fullShare X) ∗ (∃ X, owns (c : Thread nD τ) arg7 fullShare X) ∗ (∃ X, owns (c : Thread nD τ) arg8 fullShare X) ∗ (∃ f, arg9.view.loc (c : Thread nD τ) ↦[arg9.view.set]{fullShare} f) ∗ (∃ f, arg10.view.loc (c : Thread nD τ) ↦[arg10.view.set]{fullShare} f)) : sProp 𝕄G)
      ⊢ wp frame (wpE (defs₀ (F := F)) 𝒱 (c : Thread nD τ) bd) E (cc0_attn_b_bwd (F := F) i arg1 harg1 arg2 harg2 arg3 harg3 arg4 harg4 arg5 harg5 arg6 harg6 arg7 harg7 arg8 harg8 arg9 harg9 arg10 harg10)
          (fun _ => iprop(owns (c : Thread nD τ) arg1 fullShare Q ∗ owns (c : Thread nD τ) arg2 fullShare K ∗ owns (c : Thread nD τ) arg3 fullShare V ∗ owns (c : Thread nD τ) arg4 fullShare L ∗ owns (c : Thread nD τ) arg5 fullShare D ∗ owns (c : Thread nD τ) arg6 fullShare (dqOut Q K V D L) ∗ owns (c : Thread nD τ) arg7 fullShare (dkOut Q K V D L) ∗ owns (c : Thread nD τ) arg8 fullShare (dvOut Q K V D L) ∗ (∃ f, arg9.view.loc (c : Thread nD τ) ↦[arg9.view.set]{fullShare} f) ∗ (∃ f, arg10.view.loc (c : Thread nD τ) ↦[arg10.view.set]{fullShare} f))) := by
  unfold owns
  iintro ⟨⟨%X1, %h1, H1⟩, ⟨%X2, %h2, H2⟩, ⟨%X3, %h3, H3⟩, ⟨%X4, %h4, H4⟩, ⟨%X5, %h5, H5⟩, ⟨%Y6, %f6, -, H6⟩, ⟨%Y7, %f7, -, H7⟩, ⟨%Y8, %f8, -, H8⟩, ⟨%f9, H9⟩, ⟨%f10, H10⟩⟩
  have hz9 := blocks_zeroed arg9.view (k0_pay4 (F := F)) arg9.view.junk
  have hz10 := blocks_zeroed arg10.view (k0_pay5 (F := F)) arg10.view.junk
  have hup : ∀ (g9 : BufTy.Contents (Elt F) arg9.view.ty) (g10 : BufTy.Contents (Elt F) arg10.view.ty), Blocks arg9.view g9 (blkOf (F := F) (e := .f32) k0_pay4) →
      Blocks arg10.view g10 (blkOf (F := F) (e := .f32) k0_pay5) → Upto Q K V D L k0_t1_loop.trips
        (go (walk1 arg1.view arg2.view arg3.view arg5.view arg6.view arg4.view arg9.view arg10.view X1 X2 X3 X4 X5) (f6, g9, g10) k0_t1_loop.trips) :=
    fun g9 g10 e9 e10 => upto_all X1 X2 X3 X4 X5 h1 h2 h3 h4 h5 (upto_zero f6 rfl rfl e9 e10) _ le_rfl
  have hall := hup _ _ hz9 hz10
  iapply (wp_wand_r frame (wpE (defs₀ (F := F)) 𝒱 (c : Thread nD τ) bd) E)
  isplitl [H1 H2 H3 H4 H5 H6 H7 H8 H9 H10]
  · iapply (body_run 𝒱 c bd i arg1 harg1 arg2 harg2 arg3 harg3 arg4 harg4 arg5 harg5 arg6 harg6 arg7 harg7 arg8 harg8 arg9 harg9 arg10 harg10 X1 X2 X3 X4 X5 E f6 f9 f10 f7 f8)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %yld ⟨H1, H2, H3, H4, H5, ⟨%e6, H6, %q6⟩, ⟨%e7, H7, %q7⟩, ⟨%e8, H8, %q8⟩, H9, H10⟩
    isplitl [H1]; · iexists _; isplitr; swap; (· iexact H1); ipureintro; exact h1
    isplitl [H2]; · iexists _; isplitr; swap; (· iexact H2); ipureintro; exact h2
    isplitl [H3]; · iexists _; isplitr; swap; (· iexact H3); ipureintro; exact h3
    isplitl [H4]; · iexists _; isplitr; swap; (· iexact H4); ipureintro; exact h4
    isplitl [H5]; · iexists _; isplitr; swap; (· iexact H5); ipureintro; exact h5
    isplitl [H6]
    · iexists _; isplitr; swap; (· iexact H6)
      ipureintro; exact dq_of hall e6 q6
    isplitl [H7]
    · iexists _; isplitr; swap; (· iexact H7)
      ipureintro; exact q7.trans (dk_of hall)
    isplitl [H8]
    · iexists _; isplitr; swap; (· iexact H8)
      ipureintro; exact q8.trans (dv_of hall)
    isplitl [H9]; · iexact H9
    iexact H10

/-- A whole buffer held, said of the buffer and of the view of all of it. -/
theorem whole_held (c : Dev nD) (b : Ref sig .tc) :
    (iprop(∃ f, ((c : Thread nD τ).loc b) ↦{fullShare} f) : sProp 𝕄G)
      = iprop(∃ f, (Memref.whole b).view.loc (c : Thread nD τ) ↦[(Memref.whole b).view.set]{fullShare} f) := by
  simp only [Memref.view_whole, View.set_whole]

/-- The two accumulators, as the pipeline hands them to the body. -/
theorem scratch_eq (c : Dev nD) : (Pipeline.scopedRest (Ix := Unit) (Name := ℕ) (U := UR sig nD τ) (Lvl := ℕ) (Val := Elt F) spec0 c : sProp 𝕄G)
    = iprop((∃ f, (Memref.whole cc0_scratch0).view.loc (c : Thread nD τ) ↦[(Memref.whole cc0_scratch0).view.set]{fullShare} f)
        ∗ (∃ f, (Memref.whole cc0_scratch1).view.loc (c : Thread nD τ) ↦[(Memref.whole cc0_scratch1).view.set]{fullShare} f)) := by
  rw [scopedRest0_eq, whole_held, whole_held]

variable (m : (ℓ : Loc nD τ sig) → Buf (Elt F) ℓ) (ρ : Dev nD → PrngReg)

/-- What the pipeline is told: the arrays as the region finds them; after the body each input's buffer at its block and
    each result's at that point's result; nothing owed; the array three windows share is dealt among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut (iblk m c 0 t) (iblk m c 1 t) (iblk m c 2 t) (iblk m c 4 t) (iblk m c 3 t)
    | ⟨6, _⟩ => dkOut (iblk m c 0 t) (iblk m c 1 t) (iblk m c 2 t) (iblk m c 4 t) (iblk m c 3 t)
    | ⟨7, _⟩ => dvOut (iblk m c 0 t) (iblk m c 1 t) (iblk m c 2 t) (iblk m c 4 t) (iblk m c 3 t)
  Φ _ := Pipeline.ΦA spec0 c
  q w := Pipeline.shareOf spec0 w
  owed _ := 0

/-- Its arrays are the region's. -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
@[inherit_doc after0_0] theorem after0_1 (c : Dev nD) (t : Fin cfg0.N) : (dats m 0 c).after 1 t = iblk m c 1 t := by dsimp only [dats]
@[inherit_doc after0_0] theorem after0_2 (c : Dev nD) (t : Fin cfg0.N) : (dats m 0 c).after 2 t = iblk m c 2 t := by dsimp only [dats]
@[inherit_doc after0_0] theorem after0_3 (c : Dev nD) (t : Fin cfg0.N) : (dats m 0 c).after 3 t = iblk m c 3 t := by dsimp only [dats]
@[inherit_doc after0_0] theorem after0_4 (c : Dev nD) (t : Fin cfg0.N) : (dats m 0 c).after 4 t = iblk m c 4 t := by dsimp only [dats]
@[inherit_doc after0_0] theorem after0_5 (c : Dev nD) (t : Fin cfg0.N) : (dats m 0 c).after 5 t = dqOut (iblk m c 0 t) (iblk m c 1 t) (iblk m c 2 t) (iblk m c 4 t) (iblk m c 3 t) := by dsimp only [dats]
@[inherit_doc after0_0] theorem after0_6 (c : Dev nD) (t : Fin cfg0.N) : (dats m 0 c).after 6 t = dkOut (iblk m c 0 t) (iblk m c 1 t) (iblk m c 2 t) (iblk m c 4 t) (iblk m c 3 t) := by dsimp only [dats]
@[inherit_doc after0_0] theorem after0_7 (c : Dev nD) (t : Fin cfg0.N) : (dats m 0 c).after 7 t = dvOut (iblk m c 0 t) (iblk m c 1 t) (iblk m c 2 t) (iblk m c 4 t) (iblk m c 3 t) := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
@[inherit_doc before0_0] theorem before0_1 (c : Dev nD) (t : Fin cfg0.N) (d) : (dats m 0 c).before 1 t d = iblk m c 1 t :=
  before0_1_of m (dats m 0 c) (A_eq m c 1) (after0_1 m c) t d
@[inherit_doc before0_0] theorem before0_2 (c : Dev nD) (t : Fin cfg0.N) (d) : (dats m 0 c).before 2 t d = iblk m c 2 t :=
  before0_2_of m (dats m 0 c) (A_eq m c 2) (after0_2 m c) t d
@[inherit_doc before0_0] theorem before0_3 (c : Dev nD) (t : Fin cfg0.N) (d) : (dats m 0 c).before 3 t d = iblk m c 3 t :=
  before0_3_of m (dats m 0 c) (A_eq m c 3) (after0_3 m c) t d
@[inherit_doc before0_0] theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7,
    show (dats m 0 c).Φ t.castSucc = iprop(Pipeline.scopedRest spec0 c ∗ ∃ r, prngReg c r) from rfl, scratch_eq]
  iintro ⟨⟨⟨H9, H10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none (c : Thread nD τ) none) Set.univ)
  isplitl [H0 H1 H2 H3 H4 H5 H6 H7 H9 H10]
  · iapply (body_owns Variants.none c none (grid0.coords t) _ _ _ _ _ _ _ _ _ _ _ _ _ _ _ _ _ _ _ _ Set.univ (iblk m c 0 t) (iblk m c 1 t) (iblk m c 2 t) (iblk m c 4 t) (iblk m c 3 t))
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H9]; · iexact H9
    iexact H10
  · iintro %yld ⟨H0, H1, H2, H3, H4, H5, H6, H7, H9, H10⟩
    isplitl [H9 H10 Hg]
    · isplitr [Hg]
      · isplitl [H9]; · iexact H9
        iexact H10
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- What the pipeline asks of the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to its end, every array holding what the pipeline computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.AttnBIdeal.Body
end
-- ==== Proof.AttnB.TileValue.lean ====
/-
  One tile of the attention's gradient, in the reals: its payloads at real inputs are the formulas below. A tile has 512
  stacked rows (256 queries of one head, then the same queries of the other) and 256 keys.
-/
module

public import proofs.«01_k».proof.Proof.Reals
public import Idealize.ShloMosaic.Lib.WordCmp
public import proofs.«01_k».proof.Proof.Gen.AttnBIdeal.Skeleton

@[expose] public section

set_option maxRecDepth 16384

noncomputable section

namespace Cert.AttnBValue

open Cert.Reals Idealize.ShloMosaic Idealize.ShloMosaic.Pointwise Cert.AttnBIdeal Cert.AttnBIdeal.Gen
open scoped BigOperators

/-- log (1 + exp x), as the kernel computes it. -/
def sp (x : ℝ) : ℝ := max x 0 + Real.log (1 + Real.exp (-|x|))

/-- The logistic function, as the kernel computes it. -/
theorem sgm_cases (x : ℝ) :
    (if 0 ≤ x then 1 / (1 + Real.exp (-|x|)) else Real.exp (-|x|) * (1 / (1 + Real.exp (-|x|)))) = sgm x := by
  unfold sgm
  have h1 := Real.exp_pos (-|x|)
  split_ifs with h
  · rw [abs_of_nonneg h]
  · rw [abs_of_neg (not_le.mp h), neg_neg]
    have e : Real.exp x * Real.exp (-x) = 1 := by rw [← Real.exp_add]; simp
    have h2 := Real.exp_pos x
    have h3 := Real.exp_pos (-x)
    field_simp
    nlinarith

/-- Matrices of reals as the kernel holds them. -/
def M512x128 (f : Fin 512 → Fin 128 → ℝ) : S512x128.Idx → EReal := fun i => ((f (i 0) (i 1) : ℝ) : EReal)
@[inherit_doc M512x128] def M512x256 (f : Fin 512 → Fin 256 → ℝ) : S512x256.Idx → EReal := fun i => ((f (i 0) (i 1) : ℝ) : EReal)
@[inherit_doc M512x128] def M256x128 (f : Fin 256 → Fin 128 → ℝ) : S256x128.Idx → EReal := fun i => ((f (i 0) (i 1) : ℝ) : EReal)
@[inherit_doc M512x128] def M256x256 (f : Fin 256 → Fin 256 → ℝ) : S256x256.Idx → EReal := fun i => ((f (i 0) (i 1) : ℝ) : EReal)
@[inherit_doc M512x128] def M512x1 (f : Fin 512 → ℝ) : S512x1.Idx → EReal := fun i => ((f (i 0) : ℝ) : EReal)
@[inherit_doc M512x128] def M256x1 (f : Fin 256 → ℝ) : S256x1.Idx → EReal := fun i => ((f (i 0) : ℝ) : EReal)

/-- Their elements. -/
theorem M512x128_apply (f : Fin 512 → Fin 128 → ℝ) (r : Fin 512) (c : Fin 128) : M512x128 f (ix2 r c) = ((f r c : ℝ) : EReal) := rfl
@[inherit_doc M512x128_apply] theorem M512x256_apply (f : Fin 512 → Fin 256 → ℝ) (r : Fin 512) (c : Fin 256) : M512x256 f (ix2 r c) = ((f r c : ℝ) : EReal) := rfl
@[inherit_doc M512x128_apply] theorem M256x128_apply (f : Fin 256 → Fin 128 → ℝ) (r : Fin 256) (c : Fin 128) : M256x128 f (ix2 r c) = ((f r c : ℝ) : EReal) := rfl
@[inherit_doc M512x128_apply] theorem M256x256_apply (f : Fin 256 → Fin 256 → ℝ) (r : Fin 256) (c : Fin 256) : M256x256 f (ix2 r c) = ((f r c : ℝ) : EReal) := rfl
@[inherit_doc M512x128_apply] theorem M512x1_apply (f : Fin 512 → ℝ) (r : Fin 512) (c : Fin 1) : M512x1 f (ix2 r c) = ((f r : ℝ) : EReal) := rfl
@[inherit_doc M512x128_apply] theorem M256x1_apply (f : Fin 256 → ℝ) (r : Fin 256) (c : Fin 1) : M256x1 f (ix2 r c) = ((f r : ℝ) : EReal) := rfl

variable (q d : Fin 512 → Fin 128 → ℝ) (l pl pg : Fin 512 → ℝ) (K V : Fin 256 → Fin 128 → ℝ)

/-- The tile's logits. -/
def tz (r : Fin 512) (c : Fin 256) : ℝ := ∑ x, q r x * K c x

/-- The triangle of ones. -/
def tri (i c : Fin 256) : ℝ := if i ≤ c then 1 else 0

/-- The prefix sums along a row. -/
def pre (f : Fin 512 → Fin 256 → ℝ) (r : Fin 512) (c : Fin 256) : ℝ := ∑ i, f r i * tri i c

variable (μ : Fin 512 → Fin 256 → Bool)

/-- The log of one minus each break, zero off the mask. -/
def tlf (r : Fin 512) (c : Fin 256) : ℝ := if μ r c then 0 - sp (tz q K r c) else 0

/-- The attention weights. -/
def ta (r : Fin 512) (c : Fin 256) : ℝ :=
  if μ r c then Real.exp (tz q K r c + (l r - pl r - pre (tlf q K μ) r c + tlf q K μ r c)) else 0

/-- The weights times their gradients. -/
def tg (r : Fin 512) (c : Fin 256) : ℝ := ta q l pl K μ r c * ∑ x, d r x * V c x

/-- The logits' gradients. -/
def tdz (r : Fin 512) (c : Fin 256) : ℝ :=
  if μ r c then tg q d l pl K V μ r c - sgm (tz q K r c) * (pg r + pre (tg q d l pl K V μ) r c) else 0

/-- The mask of a tile off the diagonal. -/
abbrev full : Fin 512 → Fin 256 → Bool := fun _ _ => true

/-- The mask of the diagonal tile: the keys before the query. -/
abbrev diag : Fin 512 → Fin 256 → Bool := fun r c => decide (c.val < r.val % 256)

/-- Two magnitudes: the kernel's and the reals'. -/
theorem absf_coe (x : ℝ) : (FloatOps.absf (x : EReal) : Ideal .f32) = ((|x| : ℝ) : EReal) := by
  rw [Ideal.absf_def, ← EReal.coe_neg]
  rcases le_total x (-x) with h | h
  · rw [max_eq_right (by exact_mod_cast h), abs_eq_max_neg, max_eq_right h]
  · rw [max_eq_left (by exact_mod_cast h), abs_eq_max_neg, max_eq_left h]

theorem sp_coe (x : ℝ) : max (x : EReal) 0 + Ideal.log (1 + Ideal.exp (0 - (FloatOps.absf (x : EReal) : Ideal .f32))) = ((sp x : ℝ) : EReal) := by
  rw [absf_coe, zero_sub, ← EReal.coe_neg, Ideal.exp_coe, ← EReal.coe_one, ← EReal.coe_add, Ideal.log_coe, if_neg (not_le.mpr (one_add_exp_pos _)),
    ← EReal.coe_zero]
  unfold sp
  rw [EReal.coe_add]
  rcases le_total x 0 with h | h
  · rw [max_eq_right (by exact_mod_cast h), max_eq_right h]
  · rw [max_eq_left (by exact_mod_cast h), max_eq_left h]

theorem sgm_coe (x : ℝ) : (if 0 ≤ (x : EReal) then Ideal.div 1 (1 + Ideal.exp (0 - (FloatOps.absf (x : EReal) : Ideal .f32)))
    else Ideal.exp (0 - (FloatOps.absf (x : EReal) : Ideal .f32)) * Ideal.div 1 (1 + Ideal.exp (0 - (FloatOps.absf (x : EReal) : Ideal .f32)))) = ((sgm x : ℝ) : EReal) := by
  rw [absf_coe, zero_sub, ← EReal.coe_neg, Ideal.exp_coe, ← EReal.coe_one, ← EReal.coe_add, div_coe _ (one_add_exp_pos _).ne', ← EReal.coe_mul,
    ← sgm_cases]
  by_cases h : 0 ≤ x
  · rw [if_pos h, if_pos (by exact_mod_cast h)]
  · rw [if_neg h, if_neg (by exact_mod_cast h)]

theorem pay173_eq : k0_pay173 (F := Ideal) (M512x128 q) (M256x128 K) = M512x256 (tz q K) := by
  funext y
  obtain ⟨r, c, rfl⟩ : ∃ r c, y = ix2 r c := ⟨y 0, y 1, by funext i; fin_cases i <;> rfl⟩
  pointwise [k0_pay173]
  simp only [M512x128_apply, M512x256_apply, M256x128_apply, M256x256_apply, M512x1_apply, M256x1_apply, ← EReal.coe_mul, ← coe_sum]
  rfl

theorem pay3_eq : k0_pay3 (F := Ideal) = M256x256 tri := by
  funext y
  obtain ⟨r, c, rfl⟩ : ∃ r c, y = ix2 r c := ⟨y 0, y 1, by funext i; fin_cases i <;> rfl⟩
  pointwise [k0_pay3]
  rw [WordCmp.cmpi_sle_ofNat (by omega) (by omega)]
  change _ = ((tri r c : ℝ) : EReal)
  unfold tri
  by_cases h : r ≤ c
  · rw [if_pos h, decide_eq_true (by exact_mod_cast h)]
    change (((BitVec.setWidth 32 (BitVec.ofBool true)).toInt : ℝ) : EReal) = _
    simp
  · rw [if_neg h, decide_eq_false (by exact_mod_cast h)]
    change (((BitVec.setWidth 32 (BitVec.ofBool false)).toInt : ℝ) : EReal) = _
    simp

theorem pay2_apply (r : Fin 512) (c : Fin 256) : k0_pay2 (ix2 r c) = BitVec.ofBool (diag r c) := by
  pointwise [k0_pay2]
  rw [show (256#32 : BitVec 32) = BitVec.ofNat 32 256 from rfl, WordCmp.cmpi_sge_ofNat (by omega) (by omega)]
  by_cases h : 256 ≤ r.val
  · rw [decide_eq_true h, WordCmp.select_ofBool, if_pos rfl, show IntOp.subi (BitVec.ofNat 32 r.val) (BitVec.ofNat 32 256) = BitVec.ofNat 32 (r.val - 256) by
      apply BitVec.eq_of_toNat_eq; simp [IntOp.subi]; omega, WordCmp.cmpi_slt_ofNat (by omega) (by omega)]
    exact congrArg _ (decide_eq_decide.mpr (by omega))
  · rw [decide_eq_false h, WordCmp.select_ofBool, if_neg (by simp), WordCmp.cmpi_slt_ofNat (by omega) (by omega)]
    exact congrArg _ (decide_eq_decide.mpr (by omega))

theorem pay1_apply (u : Fin 1) (x : Fin 128) : k0_pay1 (ix2 u x) = BitVec.ofBool (decide (x.val < 64)) := by
  pointwise [k0_pay1]
  exact WordCmp.cmpi_slt_ofNat (by omega) (by omega)

theorem pay176_eq : k0_pay176 (F := Ideal) (M512x128 q) (M256x128 K) = M512x256 (tlf q K full) := by
  funext y
  obtain ⟨r, c, rfl⟩ : ∃ r c, y = ix2 r c := ⟨y 0, y 1, by funext i; fin_cases i <;> rfl⟩
  pointwise [k0_pay176, k0_pay174, pay173_eq]
  refine (congrArg (0 - ·) (sp_coe (tz q K r c))).trans ?_
  change _ = ((0 - sp (tz q K r c) : ℝ) : EReal)
  rw [EReal.coe_sub, EReal.coe_zero]

theorem pay175_eq : k0_pay175 (F := Ideal) (M512x128 q) (M256x128 K) = M512x256 (fun r c => sgm (tz q K r c)) := by
  funext y
  obtain ⟨r, c, rfl⟩ : ∃ r c, y = ix2 r c := ⟨y 0, y 1, by funext i; fin_cases i <;> rfl⟩
  pointwise [k0_pay175, k0_pay174, pay173_eq]
  exact sgm_coe _

theorem pay177_eq : k0_pay177 (F := Ideal) k0_pay3 (M512x128 q) (M256x128 K) = M512x256 (pre (tlf q K full)) := by
  funext y
  obtain ⟨r, c, rfl⟩ : ∃ r c, y = ix2 r c := ⟨y 0, y 1, by funext i; fin_cases i <;> rfl⟩
  pointwise [k0_pay177, pay176_eq, pay3_eq]
  simp only [M512x128_apply, M512x256_apply, M256x128_apply, M256x256_apply, M512x1_apply, M256x1_apply, ← EReal.coe_mul, ← coe_sum]
  rfl

theorem pay178_eq : k0_pay178 (F := Ideal) k0_pay3 (M512x128 q) (M512x1 l) (M512x1 pl) (M256x128 K) = M512x256 (ta q l pl K full) := by
  funext y
  obtain ⟨r, c, rfl⟩ : ∃ r c, y = ix2 r c := ⟨y 0, y 1, by funext i; fin_cases i <;> rfl⟩
  pointwise [k0_pay178, pay176_eq, pay177_eq, pay173_eq]
  simp only [M512x128_apply, M512x256_apply, M256x128_apply, M256x256_apply, M512x1_apply, M256x1_apply, ← EReal.coe_sub, ← EReal.coe_add, Ideal.exp_coe]
  rfl

theorem pay179_eq : k0_pay179 (F := Ideal) k0_pay3 (M512x128 q) (M512x128 d) (M512x1 l) (M512x1 pl) (M256x128 K) (M256x128 V) = M512x256 (tg q d l pl K V full) := by
  funext y
  obtain ⟨r, c, rfl⟩ : ∃ r c, y = ix2 r c := ⟨y 0, y 1, by funext i; fin_cases i <;> rfl⟩
  pointwise [k0_pay179, pay178_eq]
  simp only [M512x128_apply, M512x256_apply, M256x128_apply, M256x256_apply, M512x1_apply, M256x1_apply, ← EReal.coe_mul, ← coe_sum]
  rfl

theorem pay180_eq : k0_pay180 (F := Ideal) k0_pay3 (M512x128 q) (M512x128 d) (M512x1 l) (M512x1 pl) (M256x128 K) (M256x128 V) = M512x256 (pre (tg q d l pl K V full)) := by
  funext y
  obtain ⟨r, c, rfl⟩ : ∃ r c, y = ix2 r c := ⟨y 0, y 1, by funext i; fin_cases i <;> rfl⟩
  unfold k0_pay180
  rw [pay179_eq]
  pointwise [pay3_eq]
  simp only [M512x128_apply, M512x256_apply, M256x128_apply, M256x256_apply, M512x1_apply, M256x1_apply, ← EReal.coe_mul, ← coe_sum]
  rfl

theorem pay181_eq : k0_pay181 (F := Ideal) (M512x1 pg) = M512x256 (fun r _ => pg r) := by
  funext y
  obtain ⟨r, c, rfl⟩ : ∃ r c, y = ix2 r c := ⟨y 0, y 1, by funext i; fin_cases i <;> rfl⟩
  pointwise [k0_pay181]
  rfl

/-- The tile's logit gradients off the diagonal. -/
theorem pay218_eq : k0_pay218 (F := Ideal) (k0_pay175 (M512x128 q) (M256x128 K)) (k0_pay179 k0_pay3 (M512x128 q) (M512x128 d) (M512x1 l) (M512x1 pl) (M256x128 K) (M256x128 V))
    (k0_pay180 k0_pay3 (M512x128 q) (M512x128 d) (M512x1 l) (M512x1 pl) (M256x128 K) (M256x128 V)) (k0_pay181 (M512x1 pg)) = M512x256 (tdz q d l pl pg K V full) := by
  rw [pay175_eq, pay179_eq, pay180_eq, pay181_eq]
  funext y
  obtain ⟨r, c, rfl⟩ : ∃ r c, y = ix2 r c := ⟨y 0, y 1, by funext i; fin_cases i <;> rfl⟩
  pointwise [k0_pay218]
  simp only [M512x128_apply, M512x256_apply, M256x128_apply, M256x256_apply, M512x1_apply, M256x1_apply, ← EReal.coe_mul, ← EReal.coe_sub, ← EReal.coe_add]
  rfl

/-- The diagonal's attention weights. -/
theorem pay233_eq : k0_pay233 (F := Ideal) k0_pay2 k0_pay3 (M512x1 l) (M512x1 pl) (k0_pay230 (M512x128 q) (M256x128 K)) (k0_pay231 (M512x128 q) (M256x128 K))
    = M512x256 (ta q l pl K diag) := by
  have h230 : k0_pay230 (F := Ideal) (M512x128 q) (M256x128 K) = M512x256 (tz q K) := pay173_eq q K
  have h178 : (select k0_pay2 (subf (broadcast S512x256 (Scalar.ofBits .f32 0x00000000#32)) (addf (maximumf (M512x256 (tz q K)) (broadcast S512x256 (Scalar.ofBits .f32 0x00000000#32)))
     (log (addf (broadcast S512x256 (Scalar.ofBits .f32 0x3F800000#32)) (k0_pay232 (absf (M512x256 (tz q K)))))))) (broadcast S512x256 (Scalar.ofBits .f32 0x00000000#32))
       : FVec Ideal S512x256 .f32) = M512x256 (tlf q K diag) := by
    funext y
    obtain ⟨r, c, rfl⟩ : ∃ r c, y = ix2 r c := ⟨y 0, y 1, by funext i; fin_cases i <;> rfl⟩
    pointwise [k0_pay232, pay2_apply]
    simp only [M512x256_apply, sp_coe]
    unfold tlf
    by_cases h : c.val < r.val % 256
    · rw [if_pos h, if_pos (decide_eq_true h), EReal.coe_sub, EReal.coe_zero]
    · rw [if_neg h, if_neg (by simpa using h), EReal.coe_zero]
  unfold k0_pay233
  dsimp only
  rw [k0_pay231, h230, h178]
  funext y
  obtain ⟨r, c, rfl⟩ : ∃ r c, y = ix2 r c := ⟨y 0, y 1, by funext i; fin_cases i <;> rfl⟩
  pointwise [pay3_eq, pay2_apply]
  simp only [M512x256_apply, M512x1_apply, M256x256_apply, ← EReal.coe_mul, ← coe_sum, ← EReal.coe_sub, ← EReal.coe_add, Ideal.exp_coe]
  unfold ta
  by_cases h : c.val < r.val % 256
  · rw [if_pos h, if_pos (decide_eq_true h)]; rfl
  · rw [if_neg h, if_neg (by simpa using h), EReal.coe_zero]

/-- The diagonal's logit gradients. -/
theorem pay234_eq : k0_pay234 (F := Ideal) k0_pay2 k0_pay3 (M512x128 d) (M512x1 l) (M512x1 pl) (M512x1 pg) (M256x128 V) (k0_pay230 (M512x128 q) (M256x128 K))
    (k0_pay231 (M512x128 q) (M256x128 K)) = M512x256 (tdz q d l pl pg K V diag) := by
  have h230 : k0_pay230 (F := Ideal) (M512x128 q) (M256x128 K) = M512x256 (tz q K) := pay173_eq q K
  have hs : (select (cmpf (F := Ideal) (φ := .f32) .oge (M512x256 (tz q K)) (broadcast S512x256 (Scalar.ofBits .f32 0x00000000#32)))
      (divf (F := Ideal) (φ := .f32) (broadcast S512x256 (Scalar.ofBits .f32 0x3F800000#32)) (addf (broadcast S512x256 (Scalar.ofBits .f32 0x3F800000#32)) (k0_pay232 (absf (M512x256 (tz q K))))))
      (mulf (F := Ideal) (φ := .f32) (k0_pay232 (absf (M512x256 (tz q K)))) (divf (F := Ideal) (φ := .f32) (broadcast S512x256 (Scalar.ofBits .f32 0x3F800000#32)) (addf (broadcast S512x256 (Scalar.ofBits .f32 0x3F800000#32)) (k0_pay232 (absf (M512x256 (tz q K)))))))
       : FVec Ideal S512x256 .f32) = M512x256 (fun r c => sgm (tz q K r c)) := by
    funext y
    obtain ⟨r, c, rfl⟩ : ∃ r c, y = ix2 r c := ⟨y 0, y 1, by funext i; fin_cases i <;> rfl⟩
    pointwise [k0_pay232]
    exact sgm_coe _
  have hg : (mulf (F := Ideal) (φ := .f32) (M512x256 (ta q l pl K diag)) (matmul (φ₁ := .bf16) (φ₂ := .bf16) dot_S512x128_S256x128_S512x256_1_1_0_0_n_n none (M512x128 d) (M256x128 V) (constant S512x256 .f32 0x00000000#32))
      : FVec Ideal S512x256 .f32) = M512x256 (tg q d l pl K V diag) := by
    funext y
    obtain ⟨r, c, rfl⟩ : ∃ r c, y = ix2 r c := ⟨y 0, y 1, by funext i; fin_cases i <;> rfl⟩
    pointwise
    simp only [M512x128_apply, M512x256_apply, M256x128_apply, ← EReal.coe_mul, ← coe_sum]
    rfl
  unfold k0_pay234
  dsimp only
  rw [pay233_eq, k0_pay231, h230, hs, hg]
  funext y
  obtain ⟨r, c, rfl⟩ : ∃ r c, y = ix2 r c := ⟨y 0, y 1, by funext i; fin_cases i <;> rfl⟩
  pointwise [pay3_eq, pay2_apply]
  simp only [M512x256_apply, M512x1_apply, M256x256_apply, ← EReal.coe_mul, ← coe_sum, ← EReal.coe_sub, ← EReal.coe_add]
  unfold tdz
  by_cases h : c.val < r.val % 256
  · rw [if_pos h, if_pos (decide_eq_true h)]; rfl
  · rw [if_neg h, if_neg (by simpa using h), EReal.coe_zero]

/-- Two heads' rows, the lanes of the other head zero: the queries (scaled) and the upstream gradients. -/
def stack (Q : Fin 256 → Fin 128 → ℝ) (r : Fin 512) (x : Fin 128) : ℝ :=
  if x.val / 64 = r.val / 256 then Q ⟨r.val % 256, Nat.mod_lt _ (by norm_num)⟩ x else 0

/-- The scale 1/8, in both widths. -/
theorem ofBits_eighth : Ideal.ofBits .bf16 15872#16 = ((1 / 8 : ℝ) : EReal) := by
  simp [Ideal.ofBits, Ideal.ieee, -EReal.coe_mul]; norm_num
@[inherit_doc ofBits_eighth] theorem ofBits_eighth' : Ideal.ofBits .f32 1040187392#32 = ((1 / 8 : ℝ) : EReal) := by
  simp [Ideal.ofBits, Ideal.ieee, -EReal.coe_mul]; norm_num

theorem stack_eq (Q : Fin 256 → Fin 128 → ℝ) (r : Fin 512) (c : Fin 128) (z : EReal) (hz : z = 0) :
    (if h : r.val < 256 then if c.val < 64 then ((Q ⟨r.val, h⟩ c : ℝ) : EReal) else z
      else if c.val < 64 then z else ((Q ⟨r.val - 256, by omega⟩ c : ℝ) : EReal)) = ((stack Q r c : ℝ) : EReal) := by
  subst hz
  unfold stack
  by_cases h : r.val < 256
  · rw [dif_pos h]
    by_cases hc : c.val < 64
    · rw [if_pos hc, if_pos (by omega)]
      exact congrArg (fun i : Fin 256 => ((Q i c : ℝ) : EReal)) (Fin.ext (Nat.mod_eq_of_lt h).symm)
    · rw [if_neg hc, if_neg (by omega), EReal.coe_zero]
  · rw [dif_neg h]
    by_cases hc : c.val < 64
    · rw [if_pos hc, if_neg (by omega), EReal.coe_zero]
    · rw [if_neg hc, if_pos (by omega)]
      exact congrArg (fun i : Fin 256 => ((Q i c : ℝ) : EReal)) (Fin.ext (by dsimp only; omega))

theorem pay191_eq (Q : Fin 256 → Fin 128 → ℝ) : k0_pay191 (F := Ideal) k0_pay1 (M256x128 Q) = M512x128 (stack (fun r x => Q r x * (1 / 8))) := by
  funext y
  obtain ⟨r, c, rfl⟩ : ∃ r c, y = ix2 r c := ⟨y 0, y 1, by funext i; fin_cases i <;> rfl⟩
  pointwise [k0_pay191, pay1_apply]
  simp only [M256x128_apply, M512x128_apply, ofBits_eighth, ← EReal.coe_mul]
  exact stack_eq (fun r x => Q r x * (1 / 8)) r c _ (by simp)

theorem pay192_eq (Q : Fin 256 → Fin 128 → ℝ) : k0_pay192 (F := Ideal) k0_pay1 (M256x128 Q) = M512x128 (stack Q) := by
  funext y
  obtain ⟨r, c, rfl⟩ : ∃ r c, y = ix2 r c := ⟨y 0, y 1, by funext i; fin_cases i <;> rfl⟩
  pointwise [k0_pay192, pay1_apply]
  exact stack_eq Q r c _ (by simp)

theorem pay193_eq (a b : Fin 256 → ℝ) : k0_pay193 (F := Ideal) (M256x1 a) (M256x1 b) = M512x1 (fun r => if r.val < 256 then a ⟨r.val % 256, Nat.mod_lt _ (by norm_num)⟩ else b ⟨r.val % 256, Nat.mod_lt _ (by norm_num)⟩) := by
  funext y
  obtain ⟨r, c, rfl⟩ : ∃ r c, y = ix2 r c := ⟨y 0, y 1, by funext i; fin_cases i <;> rfl⟩
  pointwise [k0_pay193]
  simp only [M256x1_apply, M512x1_apply]
  by_cases h : r.val < 256
  · rw [dif_pos h, if_pos h]
    exact congrArg (fun i : Fin 256 => ((a i : ℝ) : EReal)) (Fin.ext (Nat.mod_eq_of_lt h).symm)
  · rw [dif_neg h, if_neg h]
    exact congrArg (fun i : Fin 256 => ((b i : ℝ) : EReal)) (Fin.ext (by dsimp only; omega))

theorem pay221_eq (f : Fin 512 → Fin 256 → ℝ) : k0_pay221 (F := Ideal) (M512x1 pl) (M512x256 f) = M512x1 (fun r => pl r + f r 255) := by
  funext y
  obtain ⟨r, c, rfl⟩ : ∃ r c, y = ix2 r c := ⟨y 0, y 1, by funext i; fin_cases i <;> rfl⟩
  pointwise [k0_pay221]
  exact (EReal.coe_add _ _).symm

/-- Of the two heads' rows, each lane's own. -/
def own (f : Fin 512 → Fin 128 → ℝ) (r : Fin 256) (x : Fin 128) : ℝ := f ⟨256 * (x.val / 64) + r.val, by omega⟩ x

theorem own_eq (f : Fin 512 → Fin 128 → ℝ) (r : Fin 256) (x : Fin 128) :
    (if x.val < 64 then ((f ⟨r.val, by omega⟩ x : ℝ) : EReal) else ((f ⟨256 + r.val, by omega⟩ x : ℝ) : EReal)) = ((own f r x : ℝ) : EReal) := by
  unfold own
  by_cases h : x.val < 64
  · rw [if_pos h]
    exact congrArg (fun i : Fin 512 => ((f i x : ℝ) : EReal)) (Fin.ext (by dsimp only; omega))
  · rw [if_neg h]
    exact congrArg (fun i : Fin 512 => ((f i x : ℝ) : EReal)) (Fin.ext (by dsimp only; omega))

/-- A tile's contribution to the query gradient, in its rows. -/
def cq (dz : Fin 512 → Fin 256 → ℝ) (K : Fin 256 → Fin 128 → ℝ) (r : Fin 512) (x : Fin 128) : ℝ := ∑ c, dz r c * K c x

/-- A tile's contribution to a gradient of its keys' rows. -/
def ck (dz : Fin 512 → Fin 256 → ℝ) (q : Fin 512 → Fin 128 → ℝ) (c : Fin 256) (x : Fin 128) : ℝ := ∑ r, dz r c * q r x

theorem pay223_eq (B : Fin 256 → Fin 128 → ℝ) (a b c d : FVec Ideal S512x256 .f32) (dz : Fin 512 → Fin 256 → ℝ) (h : k0_pay218 a b c d = M512x256 dz) :
    k0_pay223 (F := Ideal) k0_pay1 (M256x128 B) (M256x128 K) a b c d = M256x128 (fun r x => B r x + own (cq dz K) r x) := by
  funext y
  obtain ⟨r, x, rfl⟩ : ∃ r c, y = ix2 r c := ⟨y 0, y 1, by funext i; fin_cases i <;> rfl⟩
  pointwise [k0_pay223, h, pay1_apply]
  simp only [M512x256_apply, M256x128_apply, ← EReal.coe_mul, ← coe_sum]
  rw [EReal.coe_add]
  exact congrArg _ (own_eq (cq dz K) r x)

theorem pay219_eq (B : Fin 256 → Fin 128 → ℝ) (a b c d : FVec Ideal S512x256 .f32) (dz : Fin 512 → Fin 256 → ℝ) (h : k0_pay218 a b c d = M512x256 dz) :
    k0_pay219 (F := Ideal) (M512x128 q) a b c d (M256x128 B) = M256x128 (fun r x => B r x + ck dz q r x) := by
  funext y
  obtain ⟨r, x, rfl⟩ : ∃ r c, y = ix2 r c := ⟨y 0, y 1, by funext i; fin_cases i <;> rfl⟩
  pointwise [k0_pay219, h]
  simp only [M512x128_apply, M512x256_apply, M256x128_apply, ← EReal.coe_mul, ← coe_sum, ← EReal.coe_add]
  rfl

theorem pay220_eq (B : Fin 256 → Fin 128 → ℝ) (a : Fin 512 → Fin 256 → ℝ) :
    k0_pay220 (F := Ideal) (M512x128 q) (M512x256 a) (M256x128 B) = M256x128 (fun r x => B r x + ck a q r x) := by
  funext y
  obtain ⟨r, x, rfl⟩ : ∃ r c, y = ix2 r c := ⟨y 0, y 1, by funext i; fin_cases i <;> rfl⟩
  pointwise [k0_pay220]
  simp only [M512x128_apply, M512x256_apply, M256x128_apply, ← EReal.coe_mul, ← coe_sum, ← EReal.coe_add]
  rfl

theorem pay6_eq (B : Fin 256 → Fin 128 → ℝ) (a : Fin 512 → Fin 256 → ℝ) :
    k0_pay6 (F := Ideal) (M512x128 q) (M512x256 a) (M256x128 B) = M256x128 (fun r x => B r x + ck a q r x) := by
  funext y
  obtain ⟨r, x, rfl⟩ : ∃ r c, y = ix2 r c := ⟨y 0, y 1, by funext i; fin_cases i <;> rfl⟩
  pointwise [k0_pay6]
  simp only [M512x128_apply, M512x256_apply, M256x128_apply, ← EReal.coe_mul, ← coe_sum, ← EReal.coe_add]
  rfl

theorem pay8_eq (B : Fin 256 → Fin 128 → ℝ) (f : Fin 512 → Fin 128 → ℝ) :
    k0_pay8 (F := Ideal) (M256x128 B) (M512x128 f) = M256x128 (fun r x => (B r x + own f r x) * (1 / 8)) := by
  funext y
  obtain ⟨r, x, rfl⟩ : ∃ r c, y = ix2 r c := ⟨y 0, y 1, by funext i; fin_cases i <;> rfl⟩
  pointwise [k0_pay8, pay1_apply]
  simp only [M512x128_apply, M256x128_apply, ofBits_eighth', own_eq, ← EReal.coe_add, ← EReal.coe_mul]

end Cert.AttnBValue

end
-- ==== Proof.AttnB.Spec.lean ====
/-
  The attention's gradient for one pair of heads, in the reals, and the tiles as its pieces. A pair's arrays have 128 lanes,
  64 of each head.
-/
module

public import proofs.«01_k».proof.Proof.AttnB.TileValue

@[expose] public section

noncomputable section

namespace Cert.AttnBValue

open Cert.Reals
open scoped BigOperators

section Spec

variable (Q K V D : ℕ → ℕ → ℝ) (L : ℕ → ℕ → ℝ)

/-- Head `e`'s logit of query `s` and key `c`, from the scaled query. -/
def zS (e s c : ℕ) : ℝ := ∑ x : Fin 128, (if x.val / 64 = e then Q s x * (1 / 8) else 0) * K c x

/-- The log of one minus the break. -/
def fS (e s c : ℕ) : ℝ := if c < s then 0 - sp (zS Q K e s c) else 0

/-- The attention weight. -/
def aS (e s c : ℕ) : ℝ :=
  if c < s then Real.exp (zS Q K e s c + (L e s - ∑ i ∈ Finset.range (c + 1), fS Q K e s i + fS Q K e s c)) else 0

/-- The weight times its gradient. -/
def gS (e s c : ℕ) : ℝ := aS Q K L e s c * ∑ x : Fin 128, (if x.val / 64 = e then D s x else 0) * V c x

/-- The logit's gradient. -/
def dS (e s c : ℕ) : ℝ :=
  if c < s then gS Q K V D L e s c - sgm (zS Q K e s c) * ∑ i ∈ Finset.range (c + 1), gS Q K V D L e s i else 0

/-- The query gradient. -/
def dqS (s x : ℕ) : ℝ := (∑ c ∈ Finset.range 2048, dS Q K V D L (x / 64) s c * K c x) * (1 / 8)
/-- The key gradient. -/
def dkS (c x : ℕ) : ℝ := ∑ s ∈ Finset.range 2048, dS Q K V D L (x / 64) s c * (Q s x * (1 / 8))
/-- The value gradient. -/
def dvS (c x : ℕ) : ℝ := ∑ s ∈ Finset.range 2048, aS Q K L (x / 64) s c * D s x

theorem dS_of_le {e s c : ℕ} (h : s ≤ c) : dS Q K V D L e s c = 0 := if_neg (not_lt.mpr h)
theorem aS_of_le {e s c : ℕ} (h : s ≤ c) : aS Q K L e s c = 0 := if_neg (not_lt.mpr h)

end Spec

/-- Prefix sums within a tile are sums over a range. -/
theorem pre_eq (f : Fin 512 → Fin 256 → ℝ) (g : ℕ → ℝ) (r : Fin 512) (h : ∀ i, f r i = g i.val) (c : Fin 256) :
    pre f r c = ∑ i ∈ Finset.range (c.val + 1), g i := by
  unfold pre tri
  simp only [h, mul_ite, mul_one, mul_zero]
  rw [show (∑ i : Fin 256, if i ≤ c then g i.val else 0) = ∑ i : Fin 256, (fun n => if n ≤ c.val then g n else 0) i.val from rfl,
    Fin.sum_univ_eq_sum_range (fun n => if n ≤ c.val then g n else 0) 256, ← Finset.sum_filter]
  refine Finset.sum_congr ?_ fun _ _ => rfl
  ext n
  simp only [Finset.mem_filter, Finset.mem_range]
  omega

section Tile

variable (Q K V D : ℕ → ℕ → ℝ) (L : ℕ → ℕ → ℝ) (t j : ℕ) (μ : Fin 512 → Fin 256 → Bool)

/-- Block `j` of an array. -/
def blk (X : ℕ → ℕ → ℝ) (j : ℕ) : Fin 256 → Fin 128 → ℝ := fun r x => X (256 * j + r.val) x.val

/-- Block `t`'s stacked queries. -/
def qB : Fin 512 → Fin 128 → ℝ := stack (fun r x => blk Q t r x * (1 / 8))
/-- Block `t`'s stacked output gradients. -/
def dB : Fin 512 → Fin 128 → ℝ := stack (blk D t)
/-- A stacked row's head and query. -/
def rowB (g : ℕ → ℕ → ℝ) (r : Fin 512) : ℝ := g (r.val / 256) (256 * t + r.val % 256)
/-- What a row carries: the sum over the keys of the first `n` tiles. -/
def carB (g : ℕ → ℕ → ℕ → ℝ) (n : ℕ) : Fin 512 → ℝ := rowB t (fun e s => ∑ i ∈ Finset.range (256 * n), g e s i)

variable {μ}

theorem tz_eq (r : Fin 512) (c : Fin 256) : tz (qB Q t) (blk K j) r c = zS Q K (r.val / 256) (256 * t + r.val % 256) (256 * j + c.val) := rfl

variable (hμ : ∀ r c, μ r c = decide (256 * j + c.val < 256 * t + r.val % 256))

include hμ

theorem tlf_eq (r : Fin 512) (c : Fin 256) : tlf (qB Q t) (blk K j) μ r c = fS Q K (r.val / 256) (256 * t + r.val % 256) (256 * j + c.val) := by
  unfold tlf fS
  rw [hμ, tz_eq]
  simp only [decide_eq_true_eq]

theorem ta_eq (r : Fin 512) (c : Fin 256) : ta (qB Q t) (rowB t L) (carB t (fS Q K) j) (blk K j) μ r c
    = aS Q K L (r.val / 256) (256 * t + r.val % 256) (256 * j + c.val) := by
  unfold ta aS
  rw [hμ, tz_eq, tlf_eq Q K t j hμ, pre_eq _ (fun n => fS Q K (r.val / 256) (256 * t + r.val % 256) (256 * j + n)) r (tlf_eq Q K t j hμ r) c, Nat.add_assoc, Finset.sum_range_add _ (256 * j) (c.val + 1), ← sub_sub]
  simp only [decide_eq_true_eq]
  rfl

theorem tg_eq (r : Fin 512) (c : Fin 256) : tg (qB Q t) (dB D t) (rowB t L) (carB t (fS Q K) j) (blk K j) (blk V j) μ r c
    = gS Q K V D L (r.val / 256) (256 * t + r.val % 256) (256 * j + c.val) := by
  unfold tg gS
  rw [ta_eq Q K L t j hμ]
  rfl

theorem tdz_eq (r : Fin 512) (c : Fin 256) :
    tdz (qB Q t) (dB D t) (rowB t L) (carB t (fS Q K) j) (carB t (gS Q K V D L) j) (blk K j) (blk V j) μ r c
    = dS Q K V D L (r.val / 256) (256 * t + r.val % 256) (256 * j + c.val) := by
  unfold tdz dS
  rw [hμ, tz_eq, tg_eq Q K V D L t j hμ, pre_eq _ (fun n => gS Q K V D L (r.val / 256) (256 * t + r.val % 256) (256 * j + n)) r (tg_eq Q K V D L t j hμ r) c, Nat.add_assoc, Finset.sum_range_add _ (256 * j) (c.val + 1)]
  simp only [decide_eq_true_eq]
  rfl

/-- The carried sums after one more tile. -/
theorem carF_succ : (fun r => carB t (fS Q K) j r + pre (tlf (qB Q t) (blk K j) μ) r 255) = carB t (fS Q K) (j + 1) := by
  funext r
  rw [pre_eq _ (fun n => fS Q K (r.val / 256) (256 * t + r.val % 256) (256 * j + n)) r (tlf_eq Q K t j hμ r)]
  unfold carB rowB
  dsimp only
  rw [Nat.mul_succ, Finset.sum_range_add _ (256 * j) 256]
  rfl
@[inherit_doc carF_succ] theorem carG_succ : (fun r => carB t (gS Q K V D L) j r
    + pre (tg (qB Q t) (dB D t) (rowB t L) (carB t (fS Q K) j) (blk K j) (blk V j) μ) r 255) = carB t (gS Q K V D L) (j + 1) := by
  funext r
  rw [pre_eq _ (fun n => gS Q K V D L (r.val / 256) (256 * t + r.val % 256) (256 * j + n)) r (tg_eq Q K V D L t j hμ r)]
  unfold carB rowB
  dsimp only
  rw [Nat.mul_succ, Finset.sum_range_add _ (256 * j) 256]
  rfl

omit hμ in
/-- A tile's contribution to the query gradient. -/
theorem own_cq (dz : Fin 512 → Fin 256 → ℝ) (g : ℕ → ℕ → ℕ → ℝ) (h : ∀ r c, dz r c = g (r.val / 256) (256 * t + r.val % 256) (256 * j + c.val))
    (r : Fin 256) (x : Fin 128) : own (cq dz (blk K j)) r x
      = ∑ c ∈ Finset.range 256, g (x.val / 64) (256 * t + r.val) (256 * j + c) * K (256 * j + c) x := by
  unfold own cq
  rw [← Fin.sum_univ_eq_sum_range (fun c => g (x.val / 64) (256 * t + r.val) (256 * j + c) * K (256 * j + c) x) 256]
  refine Finset.sum_congr rfl fun c _ => ?_
  rw [h]
  have h1 : (256 * (x.val / 64) + r.val) / 256 = x.val / 64 := by omega
  have h2 : (256 * (x.val / 64) + r.val) % 256 = r.val := by omega
  dsimp only
  rw [h1, h2]
  rfl

omit hμ in
/-- A tile's contribution to a gradient of its keys: the rows of a lane's other head are zero. -/
theorem ck_eq (w : Fin 512 → Fin 256 → ℝ) (g : ℕ → ℕ → ℕ → ℝ) (h : ∀ r c, w r c = g (r.val / 256) (256 * t + r.val % 256) (256 * j + c.val))
    (X : ℕ → ℕ → ℝ) (q : Fin 512 → Fin 128 → ℝ) (hq : q = stack (blk X t)) (c : Fin 256) (x : Fin 128) :
    ck w q c x = ∑ s ∈ Finset.range 256, g (x.val / 64) (256 * t + s) (256 * j + c.val) * X (256 * t + s) x := by
  subst hq
  unfold ck
  have e : ∀ r : Fin 512, w r c * stack (blk X t) r x = (fun r : ℕ => g (r / 256) (256 * t + r % 256) (256 * j + c.val)
      * (if x.val / 64 = r / 256 then X (256 * t + r % 256) x else 0)) r.val := fun r => by rw [h]; rfl
  rw [Finset.sum_congr rfl fun r _ => e r, Fin.sum_univ_eq_sum_range (fun r : ℕ => g (r / 256) (256 * t + r % 256) (256 * j + c.val)
      * (if x.val / 64 = r / 256 then X (256 * t + r % 256) x else 0)) 512, show (512 : ℕ) = 256 + 256 from rfl, Finset.sum_range_add]
  have hx := x.isLt
  rcases (by omega : x.val / 64 = 0 ∨ x.val / 64 = 1) with hx | hx
  · rw [hx, Finset.sum_eq_zero (s := Finset.range 256) (f := fun s => g ((256 + s) / 256) _ _ * _), add_zero]
    · refine Finset.sum_congr rfl fun s hs => ?_
      have := Finset.mem_range.mp hs
      rw [show s / 256 = 0 by omega, show s % 256 = s by omega, if_pos rfl]
    · intro s hs
      have := Finset.mem_range.mp hs
      rw [if_neg (by omega), mul_zero]
  · rw [hx, Finset.sum_eq_zero (s := Finset.range 256) (f := fun s => g (s / 256) _ _ * _), zero_add]
    · refine Finset.sum_congr rfl fun s hs => ?_
      have := Finset.mem_range.mp hs
      rw [show (256 + s) / 256 = 1 by omega, show (256 + s) % 256 = s by omega, if_pos rfl]
    · intro s hs
      have := Finset.mem_range.mp hs
      rw [if_neg (by omega), mul_zero]

end Tile

end Cert.AttnBValue

end
-- ==== Proof.AttnB.Reference.lean ====
/-
  The attention's backward as the reference writes it, read at real arguments.
-/
module

public import proofs.«01_k».proof.Proof.AttnB.Spec
public import proofs.«01_k».proof.Proof.Gen.AttnBRefIdeal.Read

@[expose] public section

set_option maxRecDepth 16384

noncomputable section

namespace Cert.AttnBRefIdeal.Reals

open Idealize.ShloMosaic Cert.Reals Cert.AttnBRefIdeal Cert.AttnBRefIdeal.Read
open Cert.AttnBValue (sp)
open scoped BigOperators

/-- The activations as the programs hold them: queries, keys and values side by side. -/
def qkv (X : ℕ → ℕ → ℝ) : S2048x6144.Idx → EReal := fun i => ((X (i 0).val (i 1).val : ℝ) : EReal)
/-- A matrix of reals as the programs hold it. -/
def mat (Y : ℕ → ℕ → ℝ) : S2048x2048.Idx → EReal := fun i => ((Y (i 0).val (i 1).val : ℝ) : EReal)
/-- A number per head, query and key. -/
def hqk (g : ℕ → ℕ → ℕ → ℝ) : S32x2048x2048.Idx → EReal := fun i => ((g (i 0).val (i 1).val (i 2).val : ℝ) : EReal)
/-- The heads split off a matrix's columns. -/
def shd (Y : ℕ → ℕ → ℝ) : S2048x32x64.Idx → EReal := fun i => ((Y (i 0).val (64 * (i 1).val + (i 2).val) : ℝ) : EReal)
/-- The same with the head first. -/
def hsd (Y : ℕ → ℕ → ℝ) : S32x2048x64.Idx → EReal := fun i => ((Y (i 1).val (64 * (i 0).val + (i 2).val) : ℝ) : EReal)
/-- The same with the row last. -/
def hds (Y : ℕ → ℕ → ℝ) : S32x64x2048.Idx → EReal := fun i => ((Y (i 2).val (64 * (i 0).val + (i 1).val) : ℝ) : EReal)

/-- A fold of additions is the sum. -/
theorem foldl_add {α : Type} (F : α → EReal) (l : List α) (v : EReal) : l.foldl (fun r n => r + F n) v = v + (l.map F).sum := by
  induction l generalizing v with
  | nil => simp
  | cons a l ih => rw [List.foldl_cons, ih, List.map_cons, List.sum_cons, add_assoc]

/-- A window of 2048 places along the last axis. -/
abbrev Win : Shape := ⟨3, ![1, 1, 2048]⟩

/-- A window's places are numbered by their last coordinate. -/
def place : Fin 2048 ≃ Win.Idx where
  toFun k := fun a => match a with
    | ⟨0, _⟩ => ⟨0, Nat.one_pos⟩
    | ⟨1, _⟩ => ⟨0, Nat.one_pos⟩
    | ⟨2, _⟩ => k
  invFun p := p 2
  left_inv _ := rfl
  right_inv p := by
    funext a
    match a with
    | ⟨0, _⟩ => exact Subsingleton.elim (α := Fin 1) _ _
    | ⟨1, _⟩ => exact Subsingleton.elim (α := Fin 1) _ _
    | ⟨2, _⟩ => rfl

/-- The window sum along the last axis with `lo` places of padding before: each element is the sum over the window's places
    that lie inside. -/
theorem window_sum (lo hi : ℕ) (h : S32x2048x2048.ReduceWindows ![1, 1, 2048] ![1, 1, 1] ![0, 0, lo] ![0, 0, hi] S32x2048x2048)
    (g : ℕ → ℕ → ℕ → ℝ) (i : S32x2048x2048.Idx) :
    Ideal.hostReduceWindowAdd ![1, 1, 2048] ![1, 1, 1] ![0, 0, lo] ![0, 0, hi] h (hqk g) 0 i
      = ((∑ k ∈ Finset.range 2048, if lo ≤ (i 2).val + k ∧ (i 2).val + k - lo < 2048 then g (i 0).val (i 1).val ((i 2).val + k - lo) else 0 : ℝ) : EReal) := by
  unfold Ideal.hostReduceWindowAdd Host.reduceWindow
  dsimp only
  rw [foldl_add, zero_add, ← Fin.sum_univ_def]
  rw [← Equiv.sum_comp (place.trans (Shape.rowMajor (s := Win))), ← Fin.sum_univ_eq_sum_range, coe_sum]
  simp only [Equiv.trans_apply, Equiv.symm_apply_apply]
  refine Finset.sum_congr rfl fun k _ => ?_
  have h0 : (i 0).val < 32 := (i 0).isLt
  have h1 : (i 1).val < 2048 := (i 1).isLt
  by_cases hk : lo ≤ (i 2).val + k.val ∧ (i 2).val + k.val - lo < 2048
  · rw [if_pos hk, dif_pos]
    · show ((g ((i 0).val * 1 + 0 - 0) ((i 1).val * 1 + 0 - 0) ((i 2).val * 1 + k.val - lo) : ℝ) : EReal) = _
      simp only [mul_one, add_zero, Nat.sub_zero]
    · intro a
      match a with
      | ⟨0, _⟩ => show 0 ≤ (i 0).val * 1 + 0 ∧ (i 0).val * 1 + 0 - 0 < 32; omega
      | ⟨1, _⟩ => show 0 ≤ (i 1).val * 1 + 0 ∧ (i 1).val * 1 + 0 - 0 < 2048; omega
      | ⟨2, _⟩ => show lo ≤ (i 2).val * 1 + k.val ∧ (i 2).val * 1 + k.val - lo < 2048; omega
  · rw [if_neg hk, dif_neg]
    · rfl
    · intro hin
      have := hin 2
      change lo ≤ (i 2).val * 1 + k.val ∧ (i 2).val * 1 + k.val - lo < 2048 at this
      omega

/-- With all the padding after, a window holds the places from its own on. -/
theorem sum_suffix (g : ℕ → ℝ) (c : ℕ) :
    (∑ k ∈ Finset.range 2048, if 0 ≤ c + k ∧ c + k - 0 < 2048 then g (c + k - 0) else 0) = ∑ i ∈ Finset.Ico c 2048, g i := by
  rw [Finset.sum_Ico_eq_sum_range, ← Finset.sum_filter]
  refine Finset.sum_congr ?_ fun _ _ => by rw [Nat.sub_zero]
  ext k
  simp only [Finset.mem_filter, Finset.mem_range]
  omega

/-- With all the padding before, a window holds the places up to its own. -/
theorem sum_prefix (g : ℕ → ℝ) {c : ℕ} (hc : c < 2048) :
    (∑ k ∈ Finset.range 2048, if 2047 ≤ c + k ∧ c + k - 2047 < 2048 then g (c + k - 2047) else 0) = ∑ i ∈ Finset.range (c + 1), g i := by
  rw [← Finset.sum_filter]
  refine Finset.sum_nbij' (fun k => c + k - 2047) (fun i => i + 2047 - c) ?_ ?_ ?_ ?_ fun _ _ => rfl <;>
  · intro k hk
    simp only [Finset.mem_filter, Finset.mem_range] at hk ⊢
    omega

theorem v5 (X : ℕ → ℕ → ℝ) : val_main_v5 (F := Ideal) (qkv X) = hsd X := by
  funext i
  have h0 : (i 0).val < 32 := (i 0).isLt
  have h1 : (i 1).val < 2048 := (i 1).isLt
  have h2 : (i 2).val < 64 := (i 2).isLt
  rw [val_main_v5_apply, val_main_v4_apply, val_main_v1_apply, val_main_v0_apply]
  show ((X ((((i 1).val * 32 + (i 0).val) * 64 + (i 2).val) / 2048) ((((i 1).val * 32 + (i 0).val) * 64 + (i 2).val) % 2048) : ℝ) : EReal) = _
  unfold hsd
  congr 2 <;> omega

theorem v6 (X : ℕ → ℕ → ℝ) : val_main_v6 (F := Ideal) (qkv X) = shd (fun s x => X s (2048 + x)) := by
  funext i
  have h0 : (i 0).val < 2048 := (i 0).isLt
  have h1 : (i 1).val < 32 := (i 1).isLt
  have h2 : (i 2).val < 64 := (i 2).isLt
  rw [val_main_v6_apply, val_main_v2_apply, val_main_v0_apply]
  show ((X ((((i 0).val * 32 + (i 1).val) * 64 + (i 2).val) / 2048) (2048 + (((i 0).val * 32 + (i 1).val) * 64 + (i 2).val) % 2048) : ℝ) : EReal) = _
  unfold shd
  congr 2 <;> omega

theorem v7 (X : ℕ → ℕ → ℝ) : val_main_v7 (F := Ideal) (qkv X) = shd (fun s x => X s (4096 + x)) := by
  funext i
  have h0 : (i 0).val < 2048 := (i 0).isLt
  have h1 : (i 1).val < 32 := (i 1).isLt
  have h2 : (i 2).val < 64 := (i 2).isLt
  rw [val_main_v7_apply, val_main_v3_apply, val_main_v0_apply]
  show ((X ((((i 0).val * 32 + (i 1).val) * 64 + (i 2).val) / 2048) (4096 + (((i 0).val * 32 + (i 1).val) * 64 + (i 2).val) % 2048) : ℝ) : EReal) = _
  unfold shd
  congr 2 <;> omega

theorem v35 (Y : ℕ → ℕ → ℝ) : val_main_v35 (F := Ideal) (mat Y) = hds Y := by
  funext i
  have h0 : (i 0).val < 32 := (i 0).isLt
  have h1 : (i 1).val < 64 := (i 1).isLt
  have h2 : (i 2).val < 2048 := (i 2).isLt
  rw [val_main_v35_apply, val_main_v34_apply, val_main_v33_apply]
  show ((Y ((((i 2).val * 32 + (i 0).val) * 64 + (i 1).val) / 2048) ((((i 2).val * 32 + (i 0).val) * 64 + (i 1).val) % 2048) : ℝ) : EReal) = _
  unfold hds
  congr 2 <;> omega

/-- The constant one eighth. -/
theorem ofBits_eighth : Ideal.ofBits .f32 0x3E000000#32 = ((1 / 8 : ℝ) : EReal) := by
  simp [Ideal.ofBits, Ideal.ieee, -EReal.coe_mul]; norm_num

/-- Head `h`'s logit of query `s` and key `c`. -/
def zR (X : ℕ → ℕ → ℝ) (h s c : ℕ) : ℝ := (∑ d : Fin 64, X s (64 * h + d.val) * X c (2048 + (64 * h + d.val))) * (1 / 8)

theorem v11 (X : ℕ → ℕ → ℝ) : val_main_v11 (F := Ideal) (qkv X) = hqk (zR X) := by
  funext i
  simp only [val_main_v11_apply, val_main_v10_apply, val_main_cst_apply, val_main_v9_apply, v5, v6, Ideal.mulf_def, Ideal.ofBits_def, ofBits_eighth]
  unfold hqk zR hsd shd
  simp only [← EReal.coe_mul, ← coe_sum]

theorem mask (i : S2048x2048.Idx) : val_main_v16 (F := Ideal) i = BitVec.ofBool (decide ((i 1).val < (i 0).val)) := by
  have h0 : (i 0).val < 2048 := (i 0).isLt
  have h1 : (i 1).val < 2048 := (i 1).isLt
  rw [val_main_v16_apply, val_main_v14_apply, val_main_v12_apply, val_main_v15_apply, val_main_v13_apply, val_main_v8_apply, val_main_v8_apply]
  exact WordCmp.cmpi_slt_ofNat (show (i 1).val < 2 ^ 31 by omega) (show (i 0).val < 2 ^ 31 by omega)

/-- log (1 + exp x), the way the reference guards it, at a real. -/
theorem softplus_coe (x : ℝ) :
    Scalar.select (FloatOps.cmpf (F := Ideal) (φ := .f32) .une ((x : EReal) - 0) ((x : EReal) - 0)) ((x : EReal) + 0)
      (max (x : EReal) 0 + Ideal.log1p (Ideal.exp (-FloatOps.absf (F := Ideal) (φ := .f32) ((x : EReal) - 0)))) = ((sp x : ℝ) : EReal) := by
  have e : FloatOps.cmpf (F := Ideal) (φ := .f32) .une (x : EReal) (x : EReal) = 0#1 := by rw [Ideal.cmpf_def]; simp [Ideal.cmp]
  rw [sub_zero, ← Cert.AttnBValue.sp_coe, zero_sub, e]
  simp [Ideal.log1p, Scalar.select]

/-- A real is not infinite. -/
theorem guard_coe (x : ℝ) :
    Scalar.select (FloatOps.cmpf (F := Ideal) (φ := .f32) .oeq (x : EReal) (⊤ : EReal)) (0 : EReal) (x : EReal) = (x : EReal) := by
  have e : FloatOps.cmpf (F := Ideal) (φ := .f32) .oeq (x : EReal) (⊤ : EReal) = 0#1 := by rw [Ideal.cmpf_def]; simp [Ideal.cmp]
  rw [e]
  simp [Scalar.select]

/-- The softplus is the logarithm it is named for. -/
theorem sp_eq (x : ℝ) : sp x = Real.log (1 + Real.exp x) := by
  unfold sp
  have h1 := one_add_exp_pos (-|x|)
  rw [← Real.log_exp (max x 0), ← Real.log_mul (Real.exp_ne_zero _) h1.ne', mul_add, mul_one, ← Real.exp_add]
  rcases le_total x 0 with h | h
  · rw [max_eq_right h, abs_of_nonpos h]; simp
  · rw [max_eq_left h, abs_of_nonneg h]; simp [add_comm]

/-- The derivative of the softplus. -/
theorem exp_sub_sp (x : ℝ) : Real.exp (x - sp x) = sgm x := by
  have h := one_add_exp_pos x
  have h1 := Real.exp_pos x
  rw [sp_eq, Real.exp_sub, Real.exp_log h]
  unfold sgm
  rw [Real.exp_neg]
  field_simp
  ring

/-- The softplus of the opposite. -/
theorem sp_neg (x : ℝ) : sp (-x) = sp x - x := by
  unfold sp
  rw [abs_neg]
  rcases le_total x 0 with h | h
  · rw [max_eq_left (by linarith), max_eq_right h]; ring
  · rw [max_eq_right (by linarith), max_eq_left h]; ring

/-- The logistic function of the opposite. -/
theorem sgm_neg (x : ℝ) : sgm (-x) = 1 - sgm x := by
  have h1 := Real.exp_pos x
  have h2 := Real.exp_pos (-x)
  unfold sgm
  rw [neg_neg, Real.exp_neg]
  field_simp
  ring

theorem call0x (X : ℕ → ℕ → ℝ) : val_main_call0_v0 (F := Ideal) (qkv X) = hqk (fun h s c => zR X h s c) := by
  funext i
  simp only [val_main_call0_v0_apply, val_main_v17_apply, v11, Ideal.hostNegf_def, Ideal.negf_def]
  unfold hqk
  simp only [← EReal.coe_neg, neg_neg]

theorem call0sp (X : ℕ → ℕ → ℝ) : val_main_call0_v1_0 (F := Ideal) (qkv X) = hqk (fun h s c => sp (zR X h s c)) := by
  funext i
  simp only [val_main_call0_v1_0_apply, val_main_call0_call0_v4_apply, val_main_call0_call0_v3_apply, val_main_call0_call0_v2_apply,
    val_main_call0_call0_v6_apply, val_main_call0_call0_v5_apply, val_main_call0_call0_v11_apply, val_main_call0_call0_v1_apply,
    val_main_call0_call0_v0_apply, val_main_call0_call0_v10_apply, val_main_call0_call0_v9_apply, val_main_call0_call0_v8_apply,
    val_main_call0_call0_v7_apply, val_main_call0_call0_cst_apply, call0x, Ideal.ofBits_def, ofBits_zero, Ideal.addf_def, Ideal.subf_def, Ideal.maximumf_def,
    Ideal.hostNegf_def, Ideal.negf_def, Ideal.hostUnary_exp_def, Ideal.hostUnary_log1p_def]
  exact softplus_coe _

theorem call0d (X : ℕ → ℕ → ℝ) : val_main_v18_1 (F := Ideal) (qkv X) = hqk (fun h s c => sgm (zR X h s c)) := by
  funext i
  simp only [val_main_v18_1_apply, val_main_call0_call0_v21_apply, val_main_call0_call0_v16_apply, val_main_call0_call0_v14_apply,
    val_main_call0_call0_v13_apply, val_main_call0_call0_cst_0_apply, val_main_call0_call0_v15_apply, val_main_call0_call0_cst_1_apply,
    val_main_call0_call0_v20_apply, val_main_call0_call0_v18_apply, val_main_call0_call0_v17_apply, val_main_call0_call0_cst_2_apply,
    val_main_call0_call0_v19_apply, val_main_call0_call0_cst_3_apply, call0x, call0sp, Ideal.ofBits_def, ofBits_zero, ofBits_inf,
    Ideal.subf_def, Ideal.hostUnary_exp_def]
  unfold hqk
  simp only [guard_coe, ← EReal.coe_sub, Ideal.exp_coe, exp_sub_sp]

theorem call3x (X : ℕ → ℕ → ℝ) : val_main_call3_v0 (F := Ideal) (qkv X) = hqk (fun h s c => -zR X h s c) := by
  funext i
  simp only [val_main_call3_v0_apply, v11, Ideal.hostNegf_def, Ideal.negf_def]
  unfold hqk
  simp only [← EReal.coe_neg, neg_neg]

theorem call3sp (X : ℕ → ℕ → ℝ) : val_main_call3_v1_0 (F := Ideal) (qkv X) = hqk (fun h s c => sp (-zR X h s c)) := by
  funext i
  simp only [val_main_call3_v1_0_apply, val_main_call3_call0_v4_apply, val_main_call3_call0_v3_apply, val_main_call3_call0_v2_apply,
    val_main_call3_call0_v6_apply, val_main_call3_call0_v5_apply, val_main_call3_call0_v11_apply, val_main_call3_call0_v1_apply,
    val_main_call3_call0_v0_apply, val_main_call3_call0_v10_apply, val_main_call3_call0_v9_apply, val_main_call3_call0_v8_apply,
    val_main_call3_call0_v7_apply, val_main_call3_call0_cst_apply, call3x, Ideal.ofBits_def, ofBits_zero, Ideal.addf_def, Ideal.subf_def, Ideal.maximumf_def,
    Ideal.hostNegf_def, Ideal.negf_def, Ideal.hostUnary_exp_def, Ideal.hostUnary_log1p_def]
  exact softplus_coe _

theorem call3d (X : ℕ → ℕ → ℝ) : val_main_v26_1 (F := Ideal) (qkv X) = hqk (fun h s c => sgm (-zR X h s c)) := by
  funext i
  simp only [val_main_v26_1_apply, val_main_call3_call0_v21_apply, val_main_call3_call0_v16_apply, val_main_call3_call0_v14_apply,
    val_main_call3_call0_v13_apply, val_main_call3_call0_cst_0_apply, val_main_call3_call0_v15_apply, val_main_call3_call0_cst_1_apply,
    val_main_call3_call0_v20_apply, val_main_call3_call0_v18_apply, val_main_call3_call0_v17_apply, val_main_call3_call0_cst_2_apply,
    val_main_call3_call0_v19_apply, val_main_call3_call0_cst_3_apply, call3x, call3sp, Ideal.ofBits_def, ofBits_zero, ofBits_inf,
    Ideal.subf_def, Ideal.hostUnary_exp_def]
  unfold hqk
  simp only [guard_coe, ← EReal.coe_sub, Ideal.exp_coe, exp_sub_sp]

/-- A masked value. -/
theorem where_ofBool (p : Bool) (x y : EReal) : Scalar.select (BitVec.ofBool p) x y = if p then x else y := by cases p <;> rfl

/-- What a key before the query adds to the log of the surviving stick. -/
def fR (X : ℕ → ℕ → ℝ) (h s c : ℕ) : ℝ := if c < s then 0 - sp (zR X h s c) else 0

theorem v19 (X : ℕ → ℕ → ℝ) : val_main_v19_0 (F := Ideal) (qkv X) = hqk (fR X) := by
  funext i
  simp only [val_main_v19_0_apply, val_main_v19_1_apply, mask, val_main_v18_0_apply, call0sp, val_main_call1_v2_apply, val_main_call1_v0_apply,
    val_main_cst_0_apply, Ideal.ofBits_def, ofBits_zero, Ideal.hostNegf_def, Ideal.negf_def, where_ofBool]
  show (if decide ((i 2).val < (i 1).val) then -((sp (zR X (i 0).val (i 1).val (i 2).val) : ℝ) : EReal) else 0) = _
  unfold hqk fR
  split_ifs with h1 h2 h2
  · rw [← EReal.coe_neg, zero_sub]
  · exact absurd (of_decide_eq_true h1) h2
  · exact absurd (decide_eq_true h2) h1
  · rfl

/-- A sum starts from zero. -/
theorem zero_init (j : S_.Idx) : val_main_call2_v0 (F := Ideal) j = 0 := by
  rw [val_main_call2_v0_apply, val_main_call2_cst_apply, Ideal.ofBits_def, ofBits_zero]

theorem v20 (X : ℕ → ℕ → ℝ) : val_main_v20 (F := Ideal) (qkv X) = hqk (fun h s c => ∑ i ∈ Finset.Ico c 2048, fR X h s i) := by
  funext i
  unfold val_main_v20
  rw [v19]
  unfold Host.reduceWindowAdd
  rw [Ideal.hostReduceWindowAdd_def, zero_init]
  exact (window_sum 0 2047 _ _ i).trans (congrArg _ (sum_suffix _ _))

theorem v24 (X : ℕ → ℕ → ℝ) : val_main_v24 (F := Ideal) (qkv X) = hqk (fun h s c => ∑ i ∈ Finset.Ico (c + 1) 2048, fR X h s i) := by
  funext i
  have h2 : (i 2).val < 2048 := (i 2).isLt
  unfold val_main_v24
  rw [Idealize.ShloMosaic.concatenate_pair_apply]
  by_cases h : (i 2).val < 2047
  · refine (dif_pos h).trans ?_
    rw [val_main_v21_apply, v20]
    show ((∑ k ∈ Finset.Ico (1 + (i 2).val) 2048, fR X (i 0).val (i 1).val k : ℝ) : EReal) = _
    rw [add_comm 1]
    rfl
  · refine (dif_neg h).trans ?_
    rw [val_main_v23_apply, val_main_cst_1_apply, Ideal.ofBits_def, ofBits_zero]
    unfold hqk
    dsimp only
    rw [Finset.Ico_eq_empty (by omega), Finset.sum_empty]
    rfl

/-- The attention weight. -/
def aR (X : ℕ → ℕ → ℝ) (h s c : ℕ) : ℝ :=
  if c < s then Real.exp (zR X h s c - sp (zR X h s c) + ∑ i ∈ Finset.Ico (c + 1) 2048, fR X h s i) else 0

/-- The exponential the weight is masked from. -/
theorem v28 (X : ℕ → ℕ → ℝ) : val_main_v28 (F := Ideal) (qkv X)
    = hqk (fun h s c => Real.exp (zR X h s c - sp (zR X h s c) + ∑ i ∈ Finset.Ico (c + 1) 2048, fR X h s i)) := by
  funext i
  simp only [val_main_v28_apply, val_main_v27_apply, val_main_v26_0_apply, call3sp, v24, Ideal.hostUnary_exp_def, Ideal.addf_def, Ideal.hostNegf_def, Ideal.negf_def]
  unfold hqk
  simp only [← EReal.coe_neg, ← EReal.coe_add, Ideal.exp_coe, sp_neg, neg_sub]

/-- A masked number per head, query and key. -/
theorem masked (f : ℕ → ℕ → ℕ → ℝ) (i : S32x2048x2048.Idx) :
    (if decide ((i 2).val < (i 1).val) then hqk f i else 0) = hqk (fun h s c => if c < s then f h s c else 0) i := by
  unfold hqk
  by_cases h : (i 2).val < (i 1).val
  · simp [h]
  · simp [h]

theorem v29 (X : ℕ → ℕ → ℝ) : val_main_v29_0 (F := Ideal) (qkv X) = hqk (aR X) := by
  funext i
  simp only [val_main_v29_0_apply, val_main_v29_1_apply, mask, v28, val_main_call4_v2_apply, val_main_call4_v0_apply, val_main_cst_3_apply,
    Ideal.ofBits_def, ofBits_zero, where_ofBool]
  exact masked _ i

/-- The weight's gradient. -/
def oR (X Y : ℕ → ℕ → ℝ) (h s c : ℕ) : ℝ := ∑ d : Fin 64, Y s (64 * h + d.val) * X c (4096 + (64 * h + d.val))

theorem v36 (X Y : ℕ → ℕ → ℝ) : val_main_v36 (F := Ideal) (qkv X) (mat Y) = hqk (oR X Y) := by
  funext i
  rw [val_main_v36_apply, v35, v7]
  unfold hqk oR hds shd
  simp only [← EReal.coe_mul, ← coe_sum]

/-- The weight times its gradient. -/
def gR (X Y : ℕ → ℕ → ℝ) (h s c : ℕ) : ℝ := aR X h s c * oR X Y h s c

theorem v40 (X Y : ℕ → ℕ → ℝ) : val_main_v40 (F := Ideal) (qkv X) (mat Y) = hqk (gR X Y) := by
  funext i
  simp only [val_main_v40_apply, val_main_v39_apply, val_main_v29_1_apply, mask, v36, v28, val_main_call5_v0_apply, val_main_call5_cst_apply,
    Ideal.ofBits_def, ofBits_zero, where_ofBool, Ideal.mulf_def]
  refine (congrArg (· * _) (masked _ i)).trans ?_
  unfold hqk gR aR
  rw [← EReal.coe_mul]
  refine congrArg Real.toEReal ?_
  dsimp only
  split_ifs
  · exact mul_comm _ _
  · rw [zero_mul, zero_mul]

theorem v44 (X Y : ℕ → ℕ → ℝ) : val_main_v44 (F := Ideal) (qkv X) (mat Y) = hqk (fun h s c => if 1 ≤ c then gR X Y h s (c - 1) else 0) := by
  funext i
  have h0 : (i 0).val < 32 := (i 0).isLt
  have h1 : (i 1).val < 2048 := (i 1).isLt
  have h2 : (i 2).val < 2048 := (i 2).isLt
  unfold val_main_v44
  rw [Idealize.ShloMosaic.pad_apply]
  by_cases h : 1 ≤ (i 2).val
  · rw [dif_pos, val_main_v42_apply, v40]
    · show ((gR X Y (((i 0).val - 0) / 1) (((i 1).val - 0) / 1) (((i 2).val - 1) / 1) : ℝ) : EReal) = _
      unfold hqk
      dsimp only
      rw [if_pos h]
      simp only [Nat.sub_zero, Nat.div_one]
    · intro a
      match a with
      | ⟨0, _⟩ => show 0 ≤ (i 0).val ∧ ((i 0).val - 0) % 1 = 0 ∧ ((i 0).val - 0) / 1 < 32; omega
      | ⟨1, _⟩ => show 0 ≤ (i 1).val ∧ ((i 1).val - 0) % 1 = 0 ∧ ((i 1).val - 0) / 1 < 2048; omega
      | ⟨2, _⟩ => show 1 ≤ (i 2).val ∧ ((i 2).val - 1) % 1 = 0 ∧ ((i 2).val - 1) / 1 < 2047; omega
  · rw [dif_neg]
    · unfold hqk
      dsimp only
      rw [if_neg h]
      exact ofBits_zero
    · intro hin
      exact h (hin 2).1

@[inherit_doc zero_init] theorem zero_init' (j : S_.Idx) : val_main_call7_v0 (F := Ideal) j = 0 := by
  rw [val_main_call7_v0_apply, val_main_call7_cst_apply, Ideal.ofBits_def, ofBits_zero]

theorem v45 (X Y : ℕ → ℕ → ℝ) : val_main_v45 (F := Ideal) (qkv X) (mat Y) = hqk (fun h s c => ∑ i ∈ Finset.range c, gR X Y h s i) := by
  funext i
  unfold val_main_v45
  rw [v44]
  unfold Host.reduceWindowAdd
  rw [Ideal.hostReduceWindowAdd_def, zero_init']
  refine (window_sum 2047 0 _ _ i).trans (congrArg Real.toEReal ?_)
  have h2 : (i 2).val < 2048 := (i 2).isLt
  rw [sum_prefix (fun c => if 1 ≤ c then gR X Y (i 0).val (i 1).val (c - 1) else 0) h2, Finset.sum_range_succ']
  simp only [Nat.le_add_left, if_true, Nat.add_sub_cancel]
  rw [if_neg (by decide), add_zero]

/-- The logit's gradient. -/
def dR (X Y : ℕ → ℕ → ℝ) (h s c : ℕ) : ℝ :=
  if c < s then gR X Y h s c - sgm (zR X h s c) * ∑ i ∈ Finset.range (c + 1), gR X Y h s i else 0

theorem v51 (X Y : ℕ → ℕ → ℝ) : val_main_v51 (F := Ideal) (qkv X) (mat Y) = hqk (fun h s c => dR X Y h s c * (1 / 8)) := by
  funext i
  simp only [val_main_v51_apply, val_main_v50_apply, val_main_cst_5_apply, val_main_v49_apply, val_main_v48_apply, val_main_v47_apply,
    val_main_call9_v1_apply, val_main_call9_v0_apply, val_main_v46_apply, val_main_v19_1_apply, mask, v45, val_main_call8_v0_apply,
    val_main_call8_cst_apply, val_main_v41_apply, val_main_call6_v1_apply, val_main_call6_v0_apply, v40, call3d, call0d, where_ofBool,
    Ideal.ofBits_def, ofBits_zero, ofBits_eighth, Ideal.hostNegf_def, Ideal.negf_def, Ideal.mulf_def, Ideal.addf_def]
  have hm := masked (fun h s c => ∑ i ∈ Finset.range c, gR X Y h s i) i
  refine (congrArg (fun w => (-(-hqk (gR X Y) i * hqk (fun h s c => sgm (-zR X h s c)) i)
    + - -(-w * hqk (fun h s c => sgm (zR X h s c)) i)) * ((1 / 8 : ℝ) : EReal)) hm).trans ?_
  unfold hqk dR
  simp only [← EReal.coe_neg, ← EReal.coe_mul, ← EReal.coe_add]
  refine congrArg (fun x : ℝ => ((x * (1 / 8) : ℝ) : EReal)) ?_
  rw [sgm_neg]
  split_ifs with h
  · rw [Finset.sum_range_succ]
    ring
  · unfold gR aR
    rw [if_neg h]
    ring

/-- A column of the split heads read back. -/
theorem col_split {s c : ℕ} (hc : c < 2048) : (s * 2048 + c) / 64 % 32 = c / 64 ∧ (s * 2048 + c) / 2048 = s ∧ (s * 2048 + c) % 64 = c % 64
    ∧ 64 * (c / 64) + c % 64 = c := by omega

theorem dq (X Y : ℕ → ℕ → ℝ) : val_main_v59 (F := Ideal) (qkv X) (mat Y)
    = mat (fun s x => ∑ c : Fin 2048, dR X Y (x / 64) s c.val * (1 / 8) * X c.val (2048 + x)) := by
  funext i
  obtain ⟨e1, e2, e3, e4⟩ := col_split (s := (i 0).val) (c := (i 1).val) (i 1).isLt
  rw [val_main_v59_apply, val_main_v58_apply, val_main_v57_apply, val_main_v54_apply, v51, v6, Ideal.truncf_def]
  unfold hqk shd mat
  simp only [← EReal.coe_mul, ← coe_sum]
  refine congrArg _ (Finset.sum_congr rfl fun c _ => ?_)
  show dR X Y (((i 0).val * 2048 + (i 1).val) / 64 % 32) (((i 0).val * 2048 + (i 1).val) / 2048) c.val * (1 / 8)
    * X c.val (2048 + (64 * (((i 0).val * 2048 + (i 1).val) / 64 % 32) + ((i 0).val * 2048 + (i 1).val) % 64)) = _
  rw [e1, e2, e3, e4]

theorem dk (X Y : ℕ → ℕ → ℝ) : val_main_v60 (F := Ideal) (qkv X) (mat Y)
    = mat (fun c x => ∑ s : Fin 2048, dR X Y (x / 64) s.val c * (1 / 8) * X s.val x) := by
  funext i
  obtain ⟨e1, e2, e3, e4⟩ := col_split (s := (i 0).val) (c := (i 1).val) (i 1).isLt
  rw [val_main_v60_apply, val_main_v56_apply, val_main_v53_apply, val_main_v52_apply, v51, v5, Ideal.truncf_def]
  unfold hqk hsd mat
  simp only [← EReal.coe_mul, ← coe_sum]
  refine congrArg _ (Finset.sum_congr rfl fun s _ => ?_)
  show dR X Y (((i 0).val * 2048 + (i 1).val) / 64 % 32) s.val (((i 0).val * 2048 + (i 1).val) / 2048) * (1 / 8)
    * X s.val (64 * (((i 0).val * 2048 + (i 1).val) / 64 % 32) + ((i 0).val * 2048 + (i 1).val) % 64) = _
  rw [e1, e2, e3, e4]

theorem dv (X Y : ℕ → ℕ → ℝ) : val_main_v61 (F := Ideal) (qkv X) (mat Y)
    = mat (fun c x => ∑ s : Fin 2048, Y s.val x * aR X (x / 64) s.val c) := by
  funext i
  obtain ⟨e1, e2, e3, e4⟩ := col_split (s := (i 0).val) (c := (i 1).val) (i 1).isLt
  rw [val_main_v61_apply, val_main_v55_apply, val_main_v38_apply, val_main_v37_apply, v35, v29, Ideal.truncf_def]
  unfold hqk hds mat
  simp only [← EReal.coe_mul, ← coe_sum]
  refine congrArg _ (Finset.sum_congr rfl fun s _ => ?_)
  show Y s.val (64 * (((i 0).val * 2048 + (i 1).val) / 64 % 32) + ((i 0).val * 2048 + (i 1).val) % 64)
    * aR X (((i 0).val * 2048 + (i 1).val) / 64 % 32) s.val (((i 0).val * 2048 + (i 1).val) / 2048) = _
  rw [e1, e2, e3, e4]

end Cert.AttnBRefIdeal.Reals

end
-- ==== Proof.AttnB.Totals.lean ====
/-
  What the host computes before the call: every head's total of the log of the surviving stick, one number a query, repeated
  along the head's 128 lanes.
-/
module

public import proofs.«01_k».proof.Proof.AttnB.Run
public import proofs.«01_k».proof.Proof.AttnB.Reference

@[expose] public section

set_option maxRecDepth 16384

noncomputable section

namespace Cert.AttnBIdeal.Totals

open Cert.AttnBIdeal Cert.AttnBIdeal.Gen Cert.AttnBIdeal.Body
open Cert.Reals Cert.AttnBRefIdeal.Reals
open Idealize.ShloMosaic Idealize.ShloMosaic.TcCoe Idealize.ShloMosaic.Pointwise Idealize.SL.Sem
open scoped BigOperators

variable (m : (ℓ : Loc nD τ sig) → Buf (Elt Ideal) ℓ) (c : Dev nD)

/-- The host's steps: the masked logs the reference also takes, summed over the keys, and the sums spread over lanes. -/
theorem V_total : V m c main_v23 = shapeCast S2048x4096 (broadcastInDim S2048x32x128 ![0, 1, 2] bcast_S2048x32x1_S2048x32x128_0_1_2
    (broadcastInDim S2048x32x1 ![0, 1] bcast_S2048x32_S2048x32x1_0_1 (transpose S2048x32 [1, 0]
      (Host.reduceAdd (F := Ideal) (φ := .f32) (Cert.AttnBRefIdeal.Read.val_main_v19_0 (F := Ideal) (m ((c : Thread nD τ).loc main_arg0)))
        (constant S_ .f32 0x00000000#32) reducesTo_S32x2048x2048_S32x2048_d2 h_S_) transposes_S32x2048_S2048x32_1_0)))
    shapeCasts_S2048x32x128_S2048x4096 := by
  unfold V
  simp only [hostOps0, hostOps0_1, hostOps0_2, hostOps0_3, hostOps0_4, List.flatten_cons, List.flatten_nil, List.append_nil, List.cons_append, List.nil_append]
  after_results
  rfl

/-- Where a lane of the totals comes from. -/
def headOf (i : S2048x4096.Idx) : S2048x32x128.Idx := fun a => match a with
  | ⟨0, _⟩ => ⟨(i 0).val, (i 0).isLt⟩
  | ⟨1, _⟩ => ⟨(i 1).val / 128, by have h1 : (i 1).val < 4096 := (i 1).isLt; show (i 1).val / 128 < 32; omega⟩
  | ⟨2, _⟩ => ⟨(i 1).val % 128, by show (i 1).val % 128 < 128; omega⟩

/-- A head's total for a query, as a sum over the keys. -/
def totR (X : ℕ → ℕ → ℝ) (h s : ℕ) : ℝ := ∑ k : Fin 2048, fR X h s k.val

/-- The totals the call reads: lane by lane its head's total. -/
theorem total (X : ℕ → ℕ → ℝ) (h : m ((c : Thread nD τ).loc main_arg0) = qkv X) :
    V m c main_v23 = fun i : S2048x4096.Idx => ((totR X ((i 1).val / 128) (i 0).val : ℝ) : EReal) := by
  rw [V_total, h, v19]
  funext i
  have h0 : (i 0).val < 2048 := (i 0).isLt
  have h1 : (i 1).val < 4096 := (i 1).isLt
  refine (shapeCast_apply _ shapeCasts_S2048x32x128_S2048x4096 i (headOf i) ?_).trans ?_
  · rw [Shape.rowMajor_val_three, Shape.rowMajor_val_two]
    show ((i 0).val * 32 + (i 1).val / 128) * 128 + (i 1).val % 128 = (i 0).val * 4096 + (i 1).val
    omega
  refine (broadcastInDim_apply _ bcast_S2048x32x1_S2048x32x128_0_1_2 _ (headOf i) (ix3 (headOf i 0) (headOf i 1) 0)
    (fun a => by match a with | ⟨0, _⟩ => rfl | ⟨1, _⟩ => rfl | ⟨2, _⟩ => rfl)).trans ?_
  refine (broadcastInDim_apply _ bcast_S2048x32_S2048x32x1_0_1 _ (ix3 (headOf i 0) (headOf i 1) 0) (ix2 (headOf i 0) (headOf i 1))
    (fun a => by match a with | ⟨0, _⟩ => rfl | ⟨1, _⟩ => rfl)).trans ?_
  refine (transpose_apply [1, 0] _ transposes_S32x2048_S2048x32_1_0 (ix2 (headOf i 0) (headOf i 1)) (ix2 (headOf i 1) (headOf i 0))
    (fun b => match b with | ⟨0, _⟩ => rfl | ⟨1, _⟩ => rfl)).trans ?_
  simp only [Host.reduceAdd, Ideal.hostReduceAdd_def]
  rw [Ideal.hostReduceAdd_single reducesTo_S32x2048x2048_S32x2048_d2 (by decide)]
  unfold totR
  rw [coe_sum]
  refine Eq.trans (congrArg₂ (· + ·) ofBits_zero rfl) ((zero_add _).trans ?_)
  exact Finset.sum_congr rfl fun k _ => rfl

end Cert.AttnBIdeal.Totals

end
-- ==== Proof.AttnB.Link.lean ====
/-
  The pair's formulas and the reference's: the same numbers, the pair's 128 lanes being two heads' 64.
-/
module

public import proofs.«01_k».proof.Proof.AttnB.Reference

@[expose] public section

noncomputable section

namespace Cert.AttnBValue

open Cert.Reals Cert.AttnBRefIdeal.Reals
open scoped BigOperators

/-- A head's half of a pair's 128 lanes. -/
theorem half (f g : ℕ → ℝ) {e : ℕ} (he : e < 2) :
    ∑ x : Fin 128, (if x.val / 64 = e then f x.val else 0) * g x.val = ∑ d : Fin 64, f (64 * e + d.val) * g (64 * e + d.val) := by
  rw [Fin.sum_univ_eq_sum_range (fun x => (if x / 64 = e then f x else 0) * g x) 128,
    Fin.sum_univ_eq_sum_range (fun d => f (64 * e + d) * g (64 * e + d)) 64, show 128 = 64 + 64 from rfl,
    Finset.sum_range_add _ 64 64]
  have h0 : ∀ x ∈ Finset.range 64, (if x / 64 = e then f x else 0) * g x = if e = 0 then f x * g x else 0 := fun x hx => by
    have hx := Finset.mem_range.mp hx
    rw [show x / 64 = 0 by omega]
    by_cases h : e = 0
    · rw [if_pos h, if_pos h.symm]
    · rw [if_neg h, if_neg (fun h' => h h'.symm), zero_mul]
  have h1 : ∀ x ∈ Finset.range 64, (if (64 + x) / 64 = e then f (64 + x) else 0) * g (64 + x) = if e = 1 then f (64 + x) * g (64 + x) else 0 := fun x hx => by
    have hx := Finset.mem_range.mp hx
    rw [show (64 + x) / 64 = 1 by omega]
    by_cases h : e = 1
    · rw [if_pos h, if_pos h.symm]
    · rw [if_neg h, if_neg (fun h' => h h'.symm), zero_mul]
  rw [Finset.sum_congr rfl h0, Finset.sum_congr rfl h1]
  obtain rfl | rfl : e = 0 ∨ e = 1 := by omega
  · simp
  · simp

variable (X Y : ℕ → ℕ → ℝ) (t : ℕ)

/-- A pair's queries, keys, values, output gradients and totals. -/
def pQ (s x : ℕ) : ℝ := X s (128 * t + x)
@[inherit_doc pQ] def pK (s x : ℕ) : ℝ := X s (2048 + (128 * t + x))
@[inherit_doc pQ] def pV (s x : ℕ) : ℝ := X s (4096 + (128 * t + x))
@[inherit_doc pQ] def pD (s x : ℕ) : ℝ := Y s (128 * t + x)
/-- A pair's totals: over all the keys. -/
def pL (e s : ℕ) : ℝ := ∑ k : Fin 2048, fR X (2 * t + e) s k.val

variable {e : ℕ} (he : e < 2)

include he

theorem z_link (s c : ℕ) : zS (pQ X t) (pK X t) e s c = zR X (2 * t + e) s c := by
  unfold zS zR
  rw [half (fun x => pQ X t s x * (1 / 8)) (pK X t c) he, Finset.sum_mul]
  refine Finset.sum_congr rfl fun d _ => ?_
  unfold pQ pK
  rw [show 128 * t + (64 * e + d.val) = 64 * (2 * t + e) + d.val by ring]
  ring

theorem f_link (s c : ℕ) : fS (pQ X t) (pK X t) e s c = fR X (2 * t + e) s c := by
  unfold fS fR
  rw [z_link X t he]

theorem a_link (s : ℕ) {c : ℕ} (hc : c < 2048) : aS (pQ X t) (pK X t) (pL X t) e s c = aR X (2 * t + e) s c := by
  unfold aS aR
  split_ifs with h
  · simp only [z_link X t he, f_link X t he]
    refine congrArg Real.exp ?_
    have e1 : pL X t e s = ∑ i ∈ Finset.range (c + 1), fR X (2 * t + e) s i + ∑ i ∈ Finset.Ico (c + 1) 2048, fR X (2 * t + e) s i := by
      unfold pL
      rw [Fin.sum_univ_eq_sum_range (fun k => fR X (2 * t + e) s k) 2048, Finset.sum_range_add_sum_Ico _ (by omega)]
    have e2 : fR X (2 * t + e) s c = 0 - sp (zR X (2 * t + e) s c) := if_pos h
    rw [e1, e2]
    ring
  · rfl

theorem g_link (s : ℕ) {c : ℕ} (hc : c < 2048) : gS (pQ X t) (pK X t) (pV X t) (pD Y t) (pL X t) e s c = gR X Y (2 * t + e) s c := by
  unfold gS gR
  rw [a_link X t he s hc, half (pD Y t s) (pV X t c) he]
  unfold oR pD pV
  simp only [show ∀ d, 128 * t + (64 * e + d) = 64 * (2 * t + e) + d from fun d => by ring]

theorem d_link (s : ℕ) {c : ℕ} (hc : c < 2048) : dS (pQ X t) (pK X t) (pV X t) (pD Y t) (pL X t) e s c = dR X Y (2 * t + e) s c := by
  unfold dS dR
  rw [z_link X t he, g_link X Y t he s hc, Finset.sum_congr rfl fun i hi => g_link X Y t he s (c := i) (by have := Finset.mem_range.mp hi; omega)]

omit he

/-- Lane `x` of pair `t` is column `128 t + x`, of head `2 t + x / 64`. -/
theorem head_of (x : ℕ) : (128 * t + x) / 64 = 2 * t + x / 64 := by omega

theorem dq_link (s : ℕ) {x : ℕ} (hx : x < 128) : dqS (pQ X t) (pK X t) (pV X t) (pD Y t) (pL X t) s x
    = ∑ c : Fin 2048, dR X Y ((128 * t + x) / 64) s c.val * (1 / 8) * X c.val (2048 + (128 * t + x)) := by
  unfold dqS
  rw [Fin.sum_univ_eq_sum_range (fun c => dR X Y ((128 * t + x) / 64) s c * (1 / 8) * X c (2048 + (128 * t + x))) 2048, Finset.sum_mul, head_of]
  refine Finset.sum_congr rfl fun c hc => ?_
  rw [d_link X Y t (by omega : x / 64 < 2) s (Finset.mem_range.mp hc)]
  unfold pK
  ring

theorem dk_link {c : ℕ} (hc : c < 2048) {x : ℕ} (hx : x < 128) : dkS (pQ X t) (pK X t) (pV X t) (pD Y t) (pL X t) c x
    = ∑ s : Fin 2048, dR X Y ((128 * t + x) / 64) s.val c * (1 / 8) * X s.val (128 * t + x) := by
  unfold dkS
  rw [Fin.sum_univ_eq_sum_range (fun s => dR X Y ((128 * t + x) / 64) s c * (1 / 8) * X s (128 * t + x)) 2048, head_of]
  refine Finset.sum_congr rfl fun s _ => ?_
  rw [d_link X Y t (by omega : x / 64 < 2) s hc]
  unfold pQ
  ring

theorem dv_link {c : ℕ} (hc : c < 2048) {x : ℕ} (hx : x < 128) : dvS (pQ X t) (pK X t) (pD Y t) (pL X t) c x
    = ∑ s : Fin 2048, Y s.val (128 * t + x) * aR X ((128 * t + x) / 64) s.val c := by
  unfold dvS
  rw [Fin.sum_univ_eq_sum_range (fun s => Y s (128 * t + x) * aR X ((128 * t + x) / 64) s c) 2048, head_of]
  refine Finset.sum_congr rfl fun s _ => ?_
  rw [a_link X t (by omega : x / 64 < 2) s hc]
  unfold pD
  ring

end Cert.AttnBValue

end
-- ==== Proof.AttnB.Rows.lean ====
/-
  The attention kernel's three result blocks, read at real inputs, are the pair's gradients: by induction over the tiles of
  a row, then over the rows.
-/
module

public import proofs.«01_k».proof.Proof.AttnB.Spec
public import proofs.«01_k».proof.Proof.AttnB.Whole

@[expose] public section

noncomputable section

namespace Cert.AttnBValue

open Cert.Reals Idealize.ShloMosaic Idealize.ShloMosaic.Pointwise Cert.AttnBIdeal Cert.AttnBIdeal.Gen Cert.AttnBIdeal.Body
open scoped BigOperators

/-- A pair's array of reals, and its totals, each head's in 128 equal columns. -/
def M2048x128 (f : ℕ → ℕ → ℝ) : S2048x128.Idx → EReal := fun i => ((f (i 0).val (i 1).val : ℝ) : EReal)
@[inherit_doc M2048x128] def M2048x256 (f : ℕ → ℕ → ℝ) : S2048x256.Idx → EReal := fun i => ((f ((i 1).val / 128) (i 0).val : ℝ) : EReal)

variable (Q K V D : ℕ → ℕ → ℝ) (L : ℕ → ℕ → ℝ)

theorem qAt_eq (t : Fin 8) : qAt (F := Ideal) (M2048x128 Q) t = M512x128 (qB Q t) := pay191_eq (blk Q t)
theorem dAt_eq (t : Fin 8) : dAt (F := Ideal) (M2048x128 D) t = M512x128 (dB D t) := pay192_eq (blk D t)
theorem lAt_eq (t : Fin 8) : lAt (F := Ideal) (M2048x256 L) t = M512x1 (rowB t L) := by
  have h0 : colOf (F := Ideal) (M2048x256 L) t 0 = M256x1 (fun r => L 0 (256 * t.val + r.val)) := by
    funext y
    exact congrArg (fun n => ((L n (256 * t.val + (y 0).val) : ℝ) : EReal)) (by decide : (0 : Fin 256).val / 128 = 0)
  have h1 : colOf (F := Ideal) (M2048x256 L) t 128 = M256x1 (fun r => L 1 (256 * t.val + r.val)) := by
    funext y
    exact congrArg (fun n => ((L n (256 * t.val + (y 0).val) : ℝ) : EReal)) (by decide : (128 : Fin 256).val / 128 = 1)
  unfold lAt
  rw [h0, h1, pay193_eq]
  congr 1
  funext r
  unfold rowB
  by_cases h : r.val < 256
  · rw [if_pos h, show r.val / 256 = 0 by omega]
  · rw [if_neg h, show r.val / 256 = 1 by omega]

/-- The values of what a row carries. -/
def accV (t n : ℕ) : Acc Ideal := (M512x1 (carB t (fS Q K) n), M512x1 (carB t (gS Q K V D L) n),
  M256x128 (fun r x => ∑ c ∈ Finset.range (256 * n), dS Q K V D L (x.val / 64) (256 * t + r.val) c * K c x))

theorem full_eq {t j : ℕ} (h : j < t) (r : Fin 512) (c : Fin 256) : full r c = decide (256 * j + c.val < 256 * t + r.val % 256) := by
  have := c.isLt
  exact (decide_eq_true (by omega)).symm

theorem diag_eq (t : ℕ) (r : Fin 512) (c : Fin 256) : diag r c = decide (256 * t + c.val < 256 * t + r.val % 256) :=
  decide_eq_decide.mpr (by omega)

theorem tileAcc_eq {t j : ℕ} (h : j < t) : tileAcc (F := Ideal) k0_pay1 k0_pay3 (M512x128 (qB Q t)) (M512x128 (dB D t)) (M512x1 (rowB t L))
    (M256x128 (blk K j)) (M256x128 (blk V j)) (accV Q K V D L t j) = accV Q K V D L t (j + 1) := by
  have hμ := full_eq h
  unfold tileAcc accV
  dsimp only
  rw [pay223_eq _ _ _ _ _ _ _ (pay218_eq _ _ _ _ _ _ _), pay177_eq, pay180_eq, pay221_eq]
  refine congrArg₂ Prod.mk (congrArg M512x1 (carF_succ Q K t j hμ)) (congrArg₂ Prod.mk
    ((pay221_eq _ _).trans (congrArg M512x1 (carG_succ Q K V D L t j hμ))) (congrArg M256x128 ?_))
  funext r x
  rw [own_cq K t j _ (dS Q K V D L) (tdz_eq Q K V D L t j hμ), Nat.mul_succ, Finset.sum_range_add]

theorem accOf_eq (t : Fin 8) : ∀ n : ℕ, n ≤ t.val → accAt (F := Ideal) (M2048x128 Q) (M2048x128 K) (M2048x128 V) (M2048x128 D) (M2048x256 L) t n = accV Q K V D L t n
  | 0, _ => by
    have h1 : k0_pay194 (F := Ideal) = M512x1 (fun _ => 0) := by
      funext y
      obtain ⟨r, c, rfl⟩ : ∃ r c, y = ix2 r c := ⟨y 0, y 1, by funext i; fin_cases i <;> rfl⟩
      pointwise [k0_pay194]
      exact EReal.coe_zero.symm
    have h2 : k0_pay195 (F := Ideal) = M256x128 (fun _ _ => 0) := by
      funext y
      obtain ⟨r, c, rfl⟩ : ∃ r c, y = ix2 r c := ⟨y 0, y 1, by funext i; fin_cases i <;> rfl⟩
      pointwise [k0_pay195]
      exact EReal.coe_zero.symm
    change acc0 = _
    unfold acc0 accV
    rw [h1, h2]
    refine congrArg₂ Prod.mk (congrArg M512x1 ?_) (congrArg₂ Prod.mk (congrArg M512x1 ?_) (congrArg M256x128 ?_))
    · funext r; simp [carB, rowB]
    · funext r; simp [carB, rowB]
    · funext r x; simp
  | n + 1, h => by
    have ih := accOf_eq t n (Nat.le_of_succ_le h)
    have hn : n < 8 := by omega
    unfold accAt accOf at ih ⊢
    rw [go_succ _ _ ⟨n, hn⟩, ih, qAt_eq, dAt_eq, lAt_eq]
    exact tileAcc_eq Q K V D L h

/-- The key gradient's block after one tile. -/
theorem tileK_eq {t j : ℕ} (h : j < t) (B : Fin 256 → Fin 128 → ℝ) : tileK (F := Ideal) k0_pay3 (M512x128 (qB Q t)) (M512x128 (dB D t)) (M512x1 (rowB t L))
    (M256x128 (blk K j)) (M256x128 (blk V j)) (accV Q K V D L t j) (M256x128 B)
      = M256x128 (fun c x => B c x + ∑ s ∈ Finset.range 256, dS Q K V D L (x.val / 64) (256 * t + s) (256 * j + c.val) * (Q (256 * t + s) x * (1 / 8))) := by
  unfold tileK accV
  dsimp only
  rw [pay219_eq _ _ _ _ _ _ _ (pay218_eq _ _ _ _ _ _ _)]
  congr 1
  funext c x
  rw [ck_eq t j _ (dS Q K V D L) (tdz_eq Q K V D L t j (full_eq h)) (fun s x => Q s x * (1 / 8)) (qB Q t) rfl]

/-- The value gradient's block after one tile. -/
theorem tileV_eq {t j : ℕ} (h : j < t) (B : Fin 256 → Fin 128 → ℝ) : tileV (F := Ideal) k0_pay3 (M512x128 (qB Q t)) (M512x128 (dB D t)) (M512x1 (rowB t L))
    (M256x128 (blk K j)) (accV Q K V D L t j) (M256x128 B)
      = M256x128 (fun c x => B c x + ∑ s ∈ Finset.range 256, aS Q K L (x.val / 64) (256 * t + s) (256 * j + c.val) * D (256 * t + s) x) := by
  unfold tileV accV
  dsimp only
  rw [pay178_eq, pay220_eq]
  congr 1
  funext c x
  rw [ck_eq t j _ (aS Q K L) (ta_eq Q K L t j (full_eq h)) D (dB D t) rfl]

/-- The diagonal tile. -/
theorem diagK_eq (t : ℕ) (B : Fin 256 → Fin 128 → ℝ) : diagK (F := Ideal) (M512x128 (qB Q t)) (M512x128 (dB D t)) (M512x1 (rowB t L))
    (M256x128 (blk K t)) (M256x128 (blk V t)) (accV Q K V D L t t) (M256x128 B)
      = M256x128 (fun c x => B c x + ∑ s ∈ Finset.range 256, dS Q K V D L (x.val / 64) (256 * t + s) (256 * t + c.val) * (Q (256 * t + s) x * (1 / 8))) := by
  unfold diagK accV
  dsimp only
  rw [pay234_eq, pay6_eq]
  congr 1
  funext c x
  rw [ck_eq t t _ (dS Q K V D L) (tdz_eq Q K V D L t t (diag_eq t)) (fun s x => Q s x * (1 / 8)) (qB Q t) rfl]
@[inherit_doc diagK_eq] theorem diagV_eq (t : ℕ) (B : Fin 256 → Fin 128 → ℝ) : diagV (F := Ideal) (M512x128 (qB Q t)) (M512x128 (dB D t)) (M512x1 (rowB t L))
    (M256x128 (blk K t)) (M256x128 (blk V t)) (accV Q K V D L t t) (M256x128 B)
      = M256x128 (fun c x => B c x + ∑ s ∈ Finset.range 256, aS Q K L (x.val / 64) (256 * t + s) (256 * t + c.val) * D (256 * t + s) x) := by
  unfold diagV accV
  dsimp only
  rw [pay233_eq]
  refine (pay6_eq _ _ _).trans ?_
  congr 1
  funext c x
  rw [ck_eq t t _ (aS Q K L) (ta_eq Q K L t t (diag_eq t)) D (dB D t) rfl]
@[inherit_doc diagK_eq] theorem diagQ_eq (t : ℕ) : diagQ (F := Ideal) (M512x128 (qB Q t)) (M512x128 (dB D t)) (M512x1 (rowB t L))
    (M256x128 (blk K t)) (M256x128 (blk V t)) (accV Q K V D L t t)
      = M256x128 (fun r x => (∑ c ∈ Finset.range (256 * (t + 1)), dS Q K V D L (x.val / 64) (256 * t + r.val) c * K c x) * (1 / 8)) := by
  have h5 : k0_pay235 (F := Ideal) k0_pay2 k0_pay3 (M512x128 (dB D t)) (M512x1 (rowB t L)) (M512x1 (carB t (fS Q K) t)) (M512x1 (carB t (gS Q K V D L) t))
      (M256x128 (blk K t)) (M256x128 (blk V t)) (k0_pay230 (M512x128 (qB Q t)) (M256x128 (blk K t))) (k0_pay231 (M512x128 (qB Q t)) (M256x128 (blk K t)))
      = M512x128 (cq (tdz (qB Q t) (dB D t) (rowB t L) (carB t (fS Q K) t) (carB t (gS Q K V D L) t) (blk K t) (blk V t) diag) (blk K t)) := by
    unfold k0_pay235
    rw [pay234_eq]
    funext y
    obtain ⟨r, c, rfl⟩ : ∃ r c, y = ix2 r c := ⟨y 0, y 1, by funext i; fin_cases i <;> rfl⟩
    pointwise
    simp only [M512x128_apply, M512x256_apply, M256x128_apply, ← EReal.coe_mul, ← coe_sum]
    rfl
  unfold diagQ accV
  dsimp only
  rw [h5, pay8_eq]
  congr 1
  funext r x
  rw [own_cq K t t _ (dS Q K V D L) (tdz_eq Q K V D L t t (diag_eq t)), Nat.mul_succ, Finset.sum_range_add]

/-- The query gradient's blocks. -/
theorem dqBlk_eq (t : Fin 8) : dqBlk (F := Ideal) (M2048x128 Q) (M2048x128 K) (M2048x128 V) (M2048x128 D) (M2048x256 L) t
    = M256x128 (blk (dqS Q K V D L) t) := by
  unfold dqBlk
  rw [accOf_eq _ _ _ _ _ t t le_rfl, qAt_eq, dAt_eq, lAt_eq]
  refine (diagQ_eq Q K V D L t).trans (congrArg M256x128 ?_)
  funext r x
  unfold blk dqS
  congr 1
  have ht := t.isLt
  refine Finset.sum_subset (fun c hc => Finset.mem_range.mpr (by have := Finset.mem_range.mp hc; omega)) fun c _ hc => ?_
  have h1 : ¬ c < 256 * (t.val + 1) := fun h => hc (Finset.mem_range.mpr h)
  have hr := r.isLt
  rw [dS_of_le _ _ _ _ _ (by omega), zero_mul]

/-- The two accumulators' blocks after the first `n` rows. -/
def keyV (n : ℕ) (j : Fin 8) : Fin 256 → Fin 128 → ℝ := fun c x =>
  ∑ s ∈ Finset.range (256 * n), dS Q K V D L (x.val / 64) s (256 * j.val + c.val) * (Q s x * (1 / 8))
@[inherit_doc keyV] def valV (n : ℕ) (j : Fin 8) : Fin 256 → Fin 128 → ℝ := fun c x =>
  ∑ s ∈ Finset.range (256 * n), aS Q K L (x.val / 64) s (256 * j.val + c.val) * D s x

/-- A row adds its queries' part to every block of the key gradient: nothing beyond the diagonal. -/
theorem nextK_eq (t : Fin 8) : nextK (F := Ideal) (M2048x128 Q) (M2048x128 K) (M2048x128 V) (M2048x128 D) (M2048x256 L) t (fun j => M256x128 (keyV Q K V D L t j))
    = fun j => M256x128 (keyV Q K V D L (t + 1) j) := by
  have hs : ∀ j : Fin 8, (fun (c : Fin 256) (x : Fin 128) => keyV Q K V D L t j c x + ∑ s ∈ Finset.range 256, dS Q K V D L (x.val / 64) (256 * t.val + s) (256 * j.val + c.val) * (Q (256 * t.val + s) x * (1 / 8)))
      = keyV Q K V D L (t + 1) j := fun j => by
    funext c x
    unfold keyV
    rw [Nat.mul_succ, Finset.sum_range_add _ (256 * t.val) 256]
  have hk : ∀ j : Fin 8, blkOf (F := Ideal) (e := .bf16) (M2048x128 K) j = M256x128 (blk K j) := fun j => rfl
  have hv : ∀ j : Fin 8, blkOf (F := Ideal) (e := .bf16) (M2048x128 V) j = M256x128 (blk V j) := fun j => rfl
  unfold nextK
  funext j
  by_cases hjt : j = t
  · subst hjt
    rw [Function.update_self, accOf_eq _ _ _ _ _ j j le_rfl, hk, hv]
    unfold rowK
    rw [if_neg (lt_irrefl _), qAt_eq, dAt_eq, lAt_eq]
    exact (diagK_eq Q K V D L j (keyV Q K V D L j j)).trans (congrArg M256x128 (hs j))
  · rw [Function.update_of_ne hjt]
    unfold rowK
    have hne : j.val ≠ t.val := fun h => hjt (Fin.ext h)
    by_cases h : j.val < t.val
    · have ha := accOf_eq Q K V D L t j h.le
      unfold accAt at ha
      rw [if_pos h, ha, qAt_eq, dAt_eq, lAt_eq, hk, hv]
      exact (tileK_eq Q K V D L h (keyV Q K V D L t j)).trans (congrArg M256x128 (hs j))
    · rw [if_neg h, ← hs j]
      refine congrArg M256x128 ?_
      funext c x
      refine ((congrArg (_ + ·) (Finset.sum_eq_zero ?_)).trans (add_zero _)).symm
      intro s hs
      have := Finset.mem_range.mp hs
      rw [dS_of_le _ _ _ _ _ (by omega), zero_mul]
@[inherit_doc nextK_eq] theorem nextV_eq (t : Fin 8) : nextV (F := Ideal) (M2048x128 Q) (M2048x128 K) (M2048x128 V) (M2048x128 D) (M2048x256 L) t (fun j => M256x128 (valV Q K D L t j))
    = fun j => M256x128 (valV Q K D L (t + 1) j) := by
  have hs : ∀ j : Fin 8, (fun (c : Fin 256) (x : Fin 128) => valV Q K D L t j c x + ∑ s ∈ Finset.range 256, aS Q K L (x.val / 64) (256 * t.val + s) (256 * j.val + c.val) * D (256 * t.val + s) x)
      = valV Q K D L (t + 1) j := fun j => by
    funext c x
    unfold valV
    rw [Nat.mul_succ, Finset.sum_range_add _ (256 * t.val) 256]
  have hk : ∀ j : Fin 8, blkOf (F := Ideal) (e := .bf16) (M2048x128 K) j = M256x128 (blk K j) := fun j => rfl
  have hv : ∀ j : Fin 8, blkOf (F := Ideal) (e := .bf16) (M2048x128 V) j = M256x128 (blk V j) := fun j => rfl
  unfold nextV
  funext j
  by_cases hjt : j = t
  · subst hjt
    rw [Function.update_self, accOf_eq _ _ _ _ _ j j le_rfl, hk, hv]
    unfold rowV
    rw [if_neg (lt_irrefl _), qAt_eq, dAt_eq, lAt_eq]
    exact (diagV_eq Q K V D L j (valV Q K D L j j)).trans (congrArg M256x128 (hs j))
  · rw [Function.update_of_ne hjt]
    unfold rowV
    have hne : j.val ≠ t.val := fun h => hjt (Fin.ext h)
    by_cases h : j.val < t.val
    · have ha := accOf_eq Q K V D L t j h.le
      unfold accAt at ha
      rw [if_pos h, ha, qAt_eq, dAt_eq, lAt_eq, hk]
      exact (tileV_eq Q K V D L h (valV Q K D L t j)).trans (congrArg M256x128 (hs j))
    · rw [if_neg h, ← hs j]
      refine congrArg M256x128 ?_
      funext c x
      refine ((congrArg (_ + ·) (Finset.sum_eq_zero ?_)).trans (add_zero _)).symm
      intro s hs
      have := Finset.mem_range.mp hs
      rw [aS_of_le _ _ _ (by omega), zero_mul]

theorem keyAt_eq : ∀ n ≤ 8, keyAt (F := Ideal) (M2048x128 Q) (M2048x128 K) (M2048x128 V) (M2048x128 D) (M2048x256 L) n = fun j => M256x128 (keyV Q K V D L n j)
  | 0, _ => by
    have h1 : k0_pay4 (F := Ideal) = M2048x128 (fun _ _ => 0) := by
      funext y
      obtain ⟨r, c, rfl⟩ : ∃ r c, y = ix2 r c := ⟨y 0, y 1, by funext i; fin_cases i <;> rfl⟩
      pointwise [k0_pay4]
      exact EReal.coe_zero.symm
    change blkOf (F := Ideal) (e := .f32) (k0_pay4 (F := Ideal)) = _
    rw [h1]
    funext j
    exact congrArg M256x128 (funext fun c => funext fun x => (Finset.sum_range_zero _).symm)
  | n + 1, h => by
    unfold keyAt
    rw [go_succ _ _ ⟨n, h⟩]
    have ih := keyAt_eq n (Nat.le_of_succ_le h)
    unfold keyAt at ih
    rw [ih]
    exact nextK_eq Q K V D L ⟨n, h⟩

theorem valAt_eq : ∀ n ≤ 8, valAt (F := Ideal) (M2048x128 Q) (M2048x128 K) (M2048x128 V) (M2048x128 D) (M2048x256 L) n = fun j => M256x128 (valV Q K D L n j)
  | 0, _ => by
    have h1 : k0_pay5 (F := Ideal) = M2048x128 (fun _ _ => 0) := by
      funext y
      obtain ⟨r, c, rfl⟩ : ∃ r c, y = ix2 r c := ⟨y 0, y 1, by funext i; fin_cases i <;> rfl⟩
      pointwise [k0_pay5]
      exact EReal.coe_zero.symm
    change blkOf (F := Ideal) (e := .f32) (k0_pay5 (F := Ideal)) = _
    rw [h1]
    funext j
    exact congrArg M256x128 (funext fun c => funext fun x => (Finset.sum_range_zero _).symm)
  | n + 1, h => by
    unfold valAt
    rw [go_succ _ _ ⟨n, h⟩]
    have ih := valAt_eq n (Nat.le_of_succ_le h)
    unfold valAt at ih
    rw [ih]
    exact nextV_eq Q K V D L ⟨n, h⟩

/-- Eight blocks of one array are the array. -/
theorem glue_eq (e : EltTy) (B : Fin 8 → Vec Ideal S256x128 .f32) (X : ℕ → ℕ → ℝ) (h : ∀ j, B j = M256x128 (blk X j)) : glue (F := Ideal) (e := .f32) B = M2048x128 X := by
  funext y
  unfold glue
  rw [h]
  exact congrArg (fun n => ((X n (y 1).val : ℝ) : EReal)) (Nat.div_add_mod (y 0).val 256)

/-- The query gradient. -/
theorem dqOut_eq : dqOut (F := Ideal) (M2048x128 Q) (M2048x128 K) (M2048x128 V) (M2048x128 D) (M2048x256 L) = M2048x128 (dqS Q K V D L) :=
  glue_eq .f32 _ _ (dqBlk_eq Q K V D L)
/-- The key gradient. -/
theorem dkOut_eq : dkOut (F := Ideal) (M2048x128 Q) (M2048x128 K) (M2048x128 V) (M2048x128 D) (M2048x256 L) = M2048x128 (dkS Q K V D L) := by
  unfold dkOut
  rw [keyAt_eq _ _ _ _ _ 8 le_rfl]
  exact glue_eq .f32 _ (dkS Q K V D L) fun j => rfl
/-- The value gradient. -/
theorem dvOut_eq : dvOut (F := Ideal) (M2048x128 Q) (M2048x128 K) (M2048x128 V) (M2048x128 D) (M2048x256 L) = M2048x128 (dvS Q K D L) := by
  unfold dvOut
  rw [valAt_eq _ _ _ _ _ 8 le_rfl]
  exact glue_eq .f32 _ (dvS Q K D L) fun j => rfl

end Cert.AttnBValue

end
-- ==== Proof.AttnB.Arrays.lean ====
/-
  The three result arrays of the attention's backward, in the reals: pair by pair the pair's formulas, which are the
  reference's.
-/
module

public import proofs.«01_k».proof.Proof.AttnB.Totals
public import proofs.«01_k».proof.Proof.AttnB.Link
public import proofs.«01_k».proof.Proof.AttnB.Rows
public import Idealize.ShloMosaic.Lib.Pipeline.ValueKit

@[expose] public section

set_option maxRecDepth 16384

noncomputable section

namespace Cert.AttnBIdeal.Arrays

open Cert.Reals Cert.AttnBValue Cert.AttnBRefIdeal.Reals Cert.AttnBIdeal Cert.AttnBIdeal.Gen Cert.AttnBIdeal.Body Cert.AttnBIdeal.Totals
open Idealize.ShloMosaic Idealize.ShloMosaic.TcCoe Idealize.ShloMosaic.Pointwise Idealize.SL.Sem
open Idealize.ShloMosaic.Pipeline (Dat)
open scoped BigOperators

variable (m : (ℓ : Loc nD τ sig) → Buf (Elt Ideal) ℓ) (c : Dev nD) (X Y : ℕ → ℕ → ℝ)

/-- The memory holds the arguments. -/
structure Holds : Prop where
  qkv : m ((c : Thread nD τ).loc main_arg0) = qkv X
  dout : m ((c : Thread nD τ).loc main_arg1) = mat Y

/-- Every window's block index at every grid point. -/
theorem idx : ∀ t : Fin cfg0.N, win0_0.index t = ![0, t.val] ∧ win0_1.index t = ![0, 16 + t.val] ∧ win0_2.index t = ![0, 32 + t.val]
    ∧ win0_3.index t = ![0, t.val] ∧ win0_4.index t = ![0, t.val] ∧ win0_5.index t = ![0, t.val] ∧ win0_6.index t = ![0, t.val]
    ∧ win0_7.index t = ![0, t.val] :=
  (by decide +kernel : ∀ t : Fin grid0.N, _)

variable {m c X Y}

/-- Column `x` of pair `t`'s block, as a column of the activations from `b` on. -/
def col (b : ℕ) (hb : b ≤ 4096) (t : Fin cfg0.N) (x : Fin 128) : Fin 6144 :=
  ⟨b + (128 * t.val + x.val), by have h : t.val < 16 := t.isLt; have := x.isLt; omega⟩
/-- As a column of a square array. -/
def sq (t : Fin cfg0.N) (x : Fin 128) : Fin 2048 :=
  ⟨128 * t.val + x.val, by have h : t.val < 16 := t.isLt; have := x.isLt; omega⟩
/-- Column `x` of pair `t`'s totals. -/
def tcol (t : Fin cfg0.N) (x : Fin 256) : Fin 4096 :=
  ⟨256 * t.val + x.val, by have h : t.val < 16 := t.isLt; have := x.isLt; omega⟩

/-- The block of queries a pair reads. -/
theorem iblk0 (h : Holds m c X Y) (t : Fin cfg0.N) : iblk m c 0 t = M2048x128 (pQ X t.val) := by
  funext i
  idx_vars i
  have e : iblk m c 0 t (ix2 i0 i1) = m ((c : Thread nD τ).loc main_arg0) (ix2 i0 (col 0 (by omega) t i1)) := by
    blk_ext [iblk, V_main_arg0, idx t, col]
  rw [e, h.qkv]
  exact congrArg (fun n => ((X i0.val n : ℝ) : EReal)) (zero_add _)

/-- The block of keys a pair reads. -/
theorem iblk1 (h : Holds m c X Y) (t : Fin cfg0.N) : iblk m c 1 t = M2048x128 (pK X t.val) := by
  funext i
  idx_vars i
  have e : iblk m c 1 t (ix2 i0 i1) = m ((c : Thread nD τ).loc main_arg0) (ix2 i0 (col 2048 (by omega) t i1)) := by
    blk_ext [iblk, V_main_arg0, idx t, col]
  rw [e, h.qkv]
  rfl

/-- The block of values a pair reads. -/
theorem iblk2 (h : Holds m c X Y) (t : Fin cfg0.N) : iblk m c 2 t = M2048x128 (pV X t.val) := by
  funext i
  idx_vars i
  have e : iblk m c 2 t (ix2 i0 i1) = m ((c : Thread nD τ).loc main_arg0) (ix2 i0 (col 4096 (by omega) t i1)) := by
    blk_ext [iblk, V_main_arg0, idx t, col]
  rw [e, h.qkv]
  rfl

/-- The block of the output's cotangent a pair reads. -/
theorem iblk4 (h : Holds m c X Y) (t : Fin cfg0.N) : iblk m c 4 t = M2048x128 (pD Y t.val) := by
  funext i
  idx_vars i
  have e : iblk m c 4 t (ix2 i0 i1) = m ((c : Thread nD τ).loc main_arg1) (ix2 i0 (sq t i1)) := by
    blk_ext [iblk, V_main_arg1, idx t, sq]
  rw [e, h.dout]
  rfl

/-- The block of the rows' totals a pair reads: its two heads', one after the other. -/
theorem iblk3 (h : Holds m c X Y) (t : Fin cfg0.N) : iblk m c 3 t = M2048x256 (pL X t.val) := by
  funext i
  idx_vars i
  have e : iblk m c 3 t (ix2 i0 i1) = V m c main_v23 (ix2 i0 (tcol t i1)) := by
    blk_ext [iblk, idx t, tcol]
  rw [e, total m c X h.qkv]
  refine congrArg (fun n => ((totR X n i0.val : ℝ) : EReal)) ?_
  show (256 * t.val + i1.val) / 128 = 2 * t.val + i1.val / 128
  omega

/-- The queries' cotangent, as the launch leaves it. -/
theorem dq_array (h : Holds m c X Y) : (dats m 0 c).arrAt 5 cfg0.N
    = mat (fun s x => ∑ c : Fin 2048, dR X Y (x / 64) s c.val * (1 / 8) * X c.val (2048 + x)) := by
  refine (dats m 0 c).arrAt_eq_of_covers 5 _ (by decide +kernel) fun t _ y => ?_
  blk_simp
  rw [after0_5, iblk0 h, iblk1 h, iblk2 h, iblk3 h, iblk4 h, dqOut_eq]
  have e : (win0_5.blk t).view.emb y = ix2 (y 0) (sq t (y 1)) := by blk_ext [idx t, sq]
  rw [e]
  exact congrArg Real.toEReal (dq_link X Y t.val (y 0).val (y 1).isLt)

/-- The keys' cotangent, as the launch leaves it. -/
theorem dk_array (h : Holds m c X Y) : (dats m 0 c).arrAt 6 cfg0.N
    = mat (fun c x => ∑ s : Fin 2048, dR X Y (x / 64) s.val c * (1 / 8) * X s.val x) := by
  refine (dats m 0 c).arrAt_eq_of_covers 6 _ (by decide +kernel) fun t _ y => ?_
  blk_simp
  rw [after0_6, iblk0 h, iblk1 h, iblk2 h, iblk3 h, iblk4 h, dkOut_eq]
  have e : (win0_6.blk t).view.emb y = ix2 (y 0) (sq t (y 1)) := by blk_ext [idx t, sq]
  rw [e]
  exact congrArg Real.toEReal (dk_link X Y t.val (y 0).isLt (y 1).isLt)

/-- The values' cotangent, as the launch leaves it. -/
theorem dv_array (h : Holds m c X Y) : (dats m 0 c).arrAt 7 cfg0.N
    = mat (fun c x => ∑ s : Fin 2048, Y s.val x * aR X (x / 64) s.val c) := by
  refine (dats m 0 c).arrAt_eq_of_covers 7 _ (by decide +kernel) fun t _ y => ?_
  blk_simp
  rw [after0_7, iblk0 h, iblk1 h, iblk2 h, iblk3 h, iblk4 h, dvOut_eq]
  have e : (win0_7.blk t).view.emb y = ix2 (y 0) (sq t (y 1)) := by blk_ext [idx t, sq]
  rw [e]
  exact congrArg Real.toEReal (dv_link X Y t.val (y 0).isLt (y 1).isLt)

end Cert.AttnBIdeal.Arrays

end
-- ==== Proof.AttnB.Finite.lean ====
/-
  The precondition of the attention's value claim read: both argument arrays are arrays of reals.
-/
module

public import proofs.«01_k».proof.Proof.AttnB.Arrays
public import proofs.«01_k».proof.Proof.Outproj.Finite
public import proofs.«01_k».proof.Proof.Gen.Pre_attnb_finite

@[expose] public section

set_option maxRecDepth 16384

noncomputable section

namespace Cert.AttnBIdeal.Finite

open Idealize.ShloMosaic Idealize.ShloMosaic.Pointwise Cert.Reals Cert.AttnBIdeal.Arrays Cert.AttnBRefIdeal.Reals Cert.Pre_attnb_finite Cert.Pre_attnb_finite.Gen
open Cert.OutprojIdeal.Finite (both)

/-- An array read as numbers, zero outside its bounds. -/
def num {a b : ℕ} (f : (⟨2, ![a, b]⟩ : Shape).Idx → EReal) (s x : ℕ) : ℝ :=
  if h : s < a ∧ x < b then EReal.toReal (f (ix2 ⟨s, h.1⟩ ⟨x, h.2⟩)) else 0

/-- Within the bounds it is the entry. -/
theorem num_idx {a b : ℕ} (f : (⟨2, ![a, b]⟩ : Shape).Idx → EReal) (i : (⟨2, ![a, b]⟩ : Shape).Idx) :
    num f (i 0).val (i 1).val = EReal.toReal (f i) := by
  unfold num
  rw [dif_pos ⟨(i 0).isLt, (i 1).isLt⟩]
  refine congrArg (fun j => EReal.toReal (f j)) ?_
  funext k
  match k with
  | ⟨0, _⟩ => rfl
  | ⟨1, _⟩ => rfl

/-- The activations pass the test only as reals. -/
theorem acts {a : FVec Ideal S2048x6144 .bf16}
    (h : Host.reduce IntOp.andi (cmpf .olt (Host.absf (extf .f32 a bitsLt_bf16_f32)) (broadcastInDim S2048x6144 ![] bcast_S_S2048x6144 (constant S_ .f32 0x7F800000#32)))
      (constantI S_ 1 1#1) reducesTo_S2048x6144_S_d0_1 h_S_ = fun _ => 1#1) :
    a = qkv (num (a : S2048x6144.Idx → EReal)) := by
  funext i
  refine Eq.trans ?_ (congrArg Real.toEReal (num_idx (a : S2048x6144.Idx → EReal) i)).symm
  have h' := Host.reduce_andi_all _ _ _ _ _ (congrFun h (Shape.Idx.first h_S_)) i
  exact (real_of_test h').symm

/-- Nor does the cotangent. -/
theorem cotangent {a : FVec Ideal S2048x2048 .bf16}
    (h : Host.reduce IntOp.andi (cmpf .olt (Host.absf (extf .f32 a bitsLt_bf16_f32)) (broadcastInDim S2048x2048 ![] bcast_S_S2048x2048 (constant S_ .f32 0x7F800000#32)))
      (constantI S_ 1 1#1) reducesTo_S2048x2048_S_d0_1 h_S_ = fun _ => 1#1) :
    a = mat (num (a : S2048x2048.Idx → EReal)) := by
  funext i
  refine Eq.trans ?_ (congrArg Real.toEReal (num_idx (a : S2048x2048.Idx → EReal) i)).symm
  have h' := Host.reduce_andi_all _ _ _ _ _ (congrFun h (Shape.Idx.first h_S_)) i
  exact (real_of_test h').symm

/-- Under the precondition a device's memory holds two arrays of reals. -/
theorem holds (m : (ℓ : Loc nD τ sig) → Buf (Elt Ideal) ℓ) (h : Cert.Pre_AttnBIdeal_attnb_finite m) (c : Dev nD) :
    Holds m c (num (m ((c.tc : Thread nD τ).loc main_arg0) : S2048x6144.Idx → EReal)) (num (m ((c.tc : Thread nD τ).loc main_arg1) : S2048x2048.Idx → EReal)) := by
  have h := h c
  unfold Cert.Pre_attnb_finite.fn at h
  obtain ⟨h0, h1⟩ := both h
  exact ⟨acts h0, cotangent h1⟩

end Cert.AttnBIdeal.Finite

end
-- ==== Proof.AttnB.Frames.lean ====
/-
  The frames of the attention's gradient: the program, its idealization and the reference run to their end with the
  arguments as they began and every counter at zero.
-/
module

public import proofs.«01_k».proof.Defs
public import proofs.«01_k».proof.Proof.AttnB.Run
public import proofs.«01_k».proof.Proof.Gen.AttnB
public import proofs.«01_k».proof.Proof.Gen.AttnBRefIdeal.Run

@[expose] public section

noncomputable section

namespace Cert.AttnBClaim

open Idealize.ShloMosaic Idealize.SL.Sem

/-- The program's kernel is the idealization's, read at words. -/
theorem kernels_eq : (Cert.AttnB.defs₀ (F := Bits)) = Cert.AttnBIdeal.defs₀ (F := Bits) := by
  unfold Cert.AttnB.defs₀ Cert.AttnBIdeal.defs₀
  refine congrArg Defs.onTc ?_
  funext ℓ a
  match ℓ with
  | ⟨0, _⟩ => obtain ⟨t, s⟩ := a; rfl

/-- So is its table of bodies. -/
theorem defs_eq : (Cert.AttnB.defs (F := Bits)) = Cert.AttnBIdeal.defs (F := Bits) := by
  unfold Cert.AttnB.defs Cert.AttnBIdeal.defs
  rw [kernels_eq]; rfl

/-- So are its three functions. -/
theorem softplus_eq (a) : Cert.AttnB.fn_softplus.body (F := Bits) a Cert.AttnB.main_call0_call0 = Cert.AttnBIdeal.fn_softplus.body (F := Bits) a Cert.AttnBIdeal.main_call0_call0 := by
  unfold Cert.AttnB.fn_softplus.body Cert.AttnBIdeal.fn_softplus.body; rfl
@[inherit_doc softplus_eq] theorem log_sigmoid_eq (a) : Cert.AttnB.fn_log_sigmoid.body (F := Bits) a Cert.AttnB.main_call0 = Cert.AttnBIdeal.fn_log_sigmoid.body (F := Bits) a Cert.AttnBIdeal.main_call0 := by
  unfold Cert.AttnB.fn_log_sigmoid.body Cert.AttnBIdeal.fn_log_sigmoid.body; dsimp only; rw [softplus_eq]; rfl
@[inherit_doc softplus_eq] theorem where_eq (a b c) : Cert.AttnB.fn_where.body (F := Bits) a b c Cert.AttnB.main_call1 = Cert.AttnBIdeal.fn_where.body (F := Bits) a b c Cert.AttnBIdeal.main_call1 := by
  unfold Cert.AttnB.fn_where.body Cert.AttnBIdeal.fn_where.body; rfl

/-- So is the whole. -/
theorem main_eq : (Cert.AttnB.main (F := Bits)) = Cert.AttnBIdeal.main (F := Bits) := by
  unfold Cert.AttnB.main Cert.AttnBIdeal.main
  rw [log_sigmoid_eq, where_eq]; rfl

/-- The frame of the program, from the run of its idealization at words. -/
theorem frame_kernel : Cert.quiescent_AttnB := fun m g _ => by
  rw [defs_eq, main_eq]
  exact Cert.AttnBIdeal.Body.frame (F := Bits) m g

/-- The frame of the idealization. -/
theorem frame_ideal : Cert.quiescent_AttnBIdeal := fun m g _ => Cert.AttnBIdeal.Body.frame (F := Ideal) m g

/-- The frame of the reference. -/
theorem frame_reference : Cert.quiescent_AttnBRefIdeal := fun m g _ =>
  (θ_run Cert.AttnBRefIdeal.defs _ _).mono
    (fun r h => ⟨fun c => (h c).2.2.2, sem_eq_zero_of_no_sems (by decide) r.2⟩) (Cert.AttnBRefIdeal.Value.run m g)

end Cert.AttnBClaim

end
-- ==== Proof.AttnB.Claim.lean ====
/-
  The value claim of the attention's gradient: at finite arguments the kernel's three results are the reference's.
-/
module

public import proofs.«01_k».proof.Proof.AttnB.Finite
public import proofs.«01_k».proof.Proof.AttnB.Frames

@[expose] public section

set_option maxRecDepth 16384

noncomputable section

namespace Cert.AttnBClaim

open Idealize.ShloMosaic Idealize.SL.Sem
open Cert.AttnBIdeal.Arrays Cert.AttnBIdeal.Finite
open Cert.AttnBIdeal (cfg0)
open Cert.AttnBIdeal.Body (dats A_eq run_main)
open Cert.AttnBIdeal.Gen (V_main_arg0 V_main_arg1)
open Cert.AttnBRefIdeal.Read

/-- At finite arguments the three gradients the kernel writes are the reference's. -/
theorem value : Cert.algebraic_AttnBIdeal_AttnBRefIdeal_pre_attnb_finite := fun m g m' g' hpre hargs => by
  refine ⟨fun c => (dats m 0 c).arrAt 5 cfg0.N, fun c => (dats m 0 c).arrAt 6 cfg0.N, fun c => (dats m 0 c).arrAt 7 cfg0.N,
    (θ_run Cert.AttnBIdeal.defs _ _).mono (fun r h c => ?_) (run_main m g),
    (θ_run Cert.AttnBRefIdeal.defs _ _).mono (fun r h c => ?_) (Cert.AttnBRefIdeal.Value.run m' g')⟩
  · exact ⟨(h c).1 5, (h c).1 6, (h c).1 7,
      ((h c).1 2).trans (((dats m 0 c).arrAt_in 2 rfl _).trans ((A_eq m c 2).trans (V_main_arg0 m c))),
      ((h c).1 4).trans (((dats m 0 c).arrAt_in 4 rfl _).trans ((A_eq m c 4).trans (V_main_arg1 m c)))⟩
  · have hA := holds m hpre c
    obtain ⟨e0, e1⟩ := hargs c
    obtain ⟨h0, h1, h2, ha⟩ := h c
    refine ⟨h0.trans ?_, h1.trans ?_, h2.trans ?_, ha⟩
    · exact (val_main_v59_eq _).trans ((congr (congrArg (val_main_v59 (F := Ideal)) (e0.trans hA.qkv)) (e1.trans hA.dout)).trans
        ((Cert.AttnBRefIdeal.Reals.dq _ _).trans (dq_array hA).symm))
    · exact (val_main_v60_eq _).trans ((congr (congrArg (val_main_v60 (F := Ideal)) (e0.trans hA.qkv)) (e1.trans hA.dout)).trans
        ((Cert.AttnBRefIdeal.Reals.dk _ _).trans (dk_array hA).symm))
    · exact (val_main_v61_eq _).trans ((congr (congrArg (val_main_v61 (F := Ideal)) (e0.trans hA.qkv)) (e1.trans hA.dout)).trans
        ((Cert.AttnBRefIdeal.Reals.dv _ _).trans (dv_array hA).symm))

end Cert.AttnBClaim

end
-- ==== Proof.Products.DwOut.lean ====
/-
  The gradient of the output projection's weights: what the call writes is the product, entry by entry.
-/
module

public import proofs.«01_k».proof.Defs
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Pipeline.ValueKit
public import Idealize.ShloMosaic.Lib.Claim

@[expose] public section

set_option maxRecDepth 16384

noncomputable section

namespace Cert.DwOutClaim

open Cert.DwOutIdeal Cert.DwOutIdeal.Gen
open Idealize.ShloMosaic Idealize.ShloMosaic.TcCoe Idealize.ShloMosaic.Pointwise Idealize.SL.Sem
open Idealize.ShloMosaic.Pipeline (Dat)
open Cert.DwOutRefIdeal.Read (val_main_v7)
open scoped BigOperators

variable (m : (ℓ : Loc nD τ sig) → Buf (Elt Ideal) ℓ) (c : Dev nD)

/-- Every window's block index at every grid point. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The left operand's row of row `y` of a grid point's block. -/
def row (t : Fin cfg0.N) (y : Fin 1024) : Fin 2048 :=
  ⟨t.val / 2 * 1024 + y.val, by have h : t.val < 4 := t.isLt; have := y.isLt; omega⟩
/-- The right operand's column of column `y` of a grid point's block. -/
def rcol (t : Fin cfg0.N) (y : Fin 1024) : Fin 2048 :=
  ⟨(t.val % 2) * 1024 + y.val, by have := y.isLt; omega⟩
/-- The result's column of column `y` of a grid point's block. -/
def col (t : Fin cfg0.N) (y : Fin 1024) : Fin 2048 :=
  ⟨t.val % 2 * 1024 + y.val, by have := y.isLt; omega⟩

/-- The left operand the host prepares: the gated attention output, turned. -/
theorem left : V m c main_v3 = fun i : S2048x2048.Idx =>
    Cert.DwOutRefIdeal.Read.val_main_v2 (F := Ideal) (m ((c : Thread nD τ).loc main_arg0)) (m ((c : Thread nD τ).loc main_arg1)) (ix2 (i 1) (i 0)) := by
  have e : @Eq (FVec Ideal S2048x2048 .bf16) (V m c main_v3) <| truncf .bf16 (transpose S2048x2048 [1, 0]
      (Cert.DwOutRefIdeal.Read.val_main_v2 (F := Ideal) (m ((c : Thread nD τ).loc main_arg0)) (m ((c : Thread nD τ).loc main_arg1)))
      transposes_S2048x2048_S2048x2048_1_0) bitsLt_bf16_f32 := by
    unfold V
    simp only [hostOps0, hostOps0_1, List.flatten_cons, List.flatten_nil, List.append_nil, List.cons_append, List.nil_append]
    after_results
    rfl
  rw [e]
  funext i
  idx_vars i
  generalize Cert.DwOutRefIdeal.Read.val_main_v2 (F := Ideal) (m ((c : Thread nD τ).loc main_arg0)) (m ((c : Thread nD τ).loc main_arg1)) = h
  pointwise

/-- The array the call leaves is the reference's. -/
theorem array : (dats m 0 c).arrAt 2 cfg0.N
    = val_main_v7 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  idx_vars y
  pointwise [k0_pay1]
  have e : ((View.whole main_v4).slice (win0_2.rect t)).emb (ix2 y0 y1) = ix2 (row t y0) (col t y1) := by blk_ext [idx t, row, col]
  rw [e]
  unfold val_main_v7  Cert.DwOutRefIdeal.Read.val_main_v6  Cert.DwOutRefIdeal.Read.val_main_v5  Cert.DwOutRefIdeal.Read.val_main_v4
  generalize hh : Cert.DwOutRefIdeal.Read.val_main_v2 (F := Ideal) (m ((c : Thread nD τ).loc main_arg0)) (m ((c : Thread nD τ).loc main_arg1)) = h
  pointwise
  have e0 (k : Fin 2048) : iblk m c 0 t (ix2 y0 k) = h (ix2 k (row t y0)) := by
    refine Eq.trans (b := V m c main_v3 (ix2 (row t y0) k)) (by blk_ext [iblk, idx t, row]) ?_
    rw [← hh]
    exact congrFun (left m c) _
  have e1 (k : Fin 2048) : iblk m c 1 t (ix2 k y1) = m ((c : Thread nD τ).loc main_arg2) (ix2 k (rcol t y1)) := by
    blk_ext [iblk, V_main_arg2, idx t, rcol]
  have ec : rcol t y1 = col t y1 := rfl
  simp only [e0, e1, ec]
  exact Finset.sum_congr (M := EReal) rfl fun k _ => mul_comm (G := EReal) _ _

/-- The program runs, changes no argument and leaves every counter at zero. -/
theorem frame_kernel : Cert.quiescent_DwOut := fun m g _ => Cert.DwOut.Gen.frame m g

/-- So does its idealization. -/
theorem frame_ideal : Cert.quiescent_DwOutIdeal := fun m g _ => Cert.DwOutIdeal.Gen.frame m g

/-- So does the reference. -/
theorem frame_reference : Cert.quiescent_DwOutRefIdeal := fun m g _ =>
  (θ_run Cert.DwOutRefIdeal.defs _ _).mono (fun r h => ⟨fun c => (h c).2, sem_eq_zero_of_no_sems (by decide) r.2⟩)
    (Cert.DwOutRefIdeal.Value.run m g)

/-- At every argument the result is the reference's. -/
theorem value : Cert.algebraic_DwOutIdeal_DwOutRefIdeal := fun m g m' g' _ hargs => by
  refine ⟨fun c => (dats m 0 c).arrAt 2 cfg0.N, (θ_run Cert.DwOutIdeal.defs _ _).mono (fun r h c => h c) (Cert.DwOutIdeal.Value.run_blocks m g),
    (θ_run Cert.DwOutRefIdeal.defs _ _).mono (fun r h c => ?_) (Cert.DwOutRefIdeal.Value.run m' g')⟩
  obtain ⟨e0, e1, e2⟩ := hargs c
  refine ⟨(h c).1.trans ?_, (h c).2⟩
  exact (Cert.DwOutRefIdeal.Read.val_main_v7_eq _ _ _).trans ((congr (congr (congrArg (val_main_v7 (F := Ideal)) e0) e1) e2).trans (array m c).symm)

end Cert.DwOutClaim

end
-- ==== Proof.Products.DwInA.lean ====
/-
  The gradient of the input projection's weights of the sliding-window layers: what the call writes is the product, entry by entry.
-/
module

public import proofs.«01_k».proof.Defs
public import proofs.«01_k».proof.Proof.Gen.DwInA.Frame
public import proofs.«01_k».proof.Proof.Gen.DwInAIdeal.Value
public import proofs.«01_k».proof.Proof.Gen.DwInARefIdeal.Run
public import proofs.«01_k».proof.Proof.Gen.DwInARefIdeal.Read
public import Idealize.ShloMosaic.Lib.Pipeline.ValueKit
public import Idealize.ShloMosaic.Lib.Claim

@[expose] public section

set_option maxRecDepth 16384

noncomputable section

namespace Cert.DwInAClaim

open Cert.DwInAIdeal Cert.DwInAIdeal.Gen
open Idealize.ShloMosaic Idealize.ShloMosaic.TcCoe Idealize.ShloMosaic.Pointwise Idealize.SL.Sem
open Idealize.ShloMosaic.Pipeline (Dat)
open Cert.DwInARefIdeal.Read (val_main_v19)
open scoped BigOperators

variable (m : (ℓ : Loc nD τ sig) → Buf (Elt Ideal) ℓ) (c : Dev nD)

/-- Every window's block index at every grid point. -/
theorem idx : ∀ t : Fin cfg0.N, win0_0.index t = ![t.val / 4, 0] ∧ win0_1.index t = ![0, t.val % 4] ∧ win0_2.index t = ![t.val % 4, t.val / 4, 0] :=
  (by decide +kernel : ∀ t : Fin grid0.N, _)

/-- The left operand's row of row `y` of a grid point's block. -/
def row (t : Fin cfg0.N) (y : Fin 1024) : Fin 2048 :=
  ⟨t.val / 4 * 1024 + y.val, by have h : t.val < 8 := t.isLt; have := y.isLt; omega⟩
/-- The right operand's column of column `y` of a grid point's block. -/
def rcol (t : Fin cfg0.N) (y : Fin 1152) : Fin 4608 :=
  ⟨(t.val % 4) * 1152 + y.val, by have := y.isLt; omega⟩
/-- The block of columns that column lies in, and the column within it. -/
def part (t : Fin cfg0.N) : Fin 4 := ⟨t.val % 4 / 1, by omega⟩
@[inherit_doc part] def col (t : Fin cfg0.N) (y : Fin 1152) : Fin 1152 :=
  ⟨t.val % 4 % 1 * 1152 + y.val, by have := y.isLt; omega⟩

/-- The left operand the host prepares: the normalised activations, turned. -/
theorem left : V m c main_v13 = fun i : S2048x2048.Idx =>
    Cert.DwInARefIdeal.Read.val_main_v12 (F := Ideal) (m ((c : Thread nD τ).loc main_arg0)) (m ((c : Thread nD τ).loc main_arg1)) (ix2 (i 1) (i 0)) := by
  have e : @Eq (FVec Ideal S2048x2048 .bf16) (V m c main_v13) <| truncf .bf16 (transpose S2048x2048 [1, 0]
      (Cert.DwInARefIdeal.Read.val_main_v12 (F := Ideal) (m ((c : Thread nD τ).loc main_arg0)) (m ((c : Thread nD τ).loc main_arg1)))
      transposes_S2048x2048_S2048x2048_1_0) bitsLt_bf16_f32 := by
    unfold V
    simp only [hostOps0, List.flatten_cons, List.flatten_nil, List.append_nil, List.cons_append, List.nil_append]
    after_results
    rfl
  rw [e]
  funext i
  idx_vars i
  generalize Cert.DwInARefIdeal.Read.val_main_v12 (F := Ideal) (m ((c : Thread nD τ).loc main_arg0)) (m ((c : Thread nD τ).loc main_arg1)) = h
  pointwise

/-- The array the call leaves is the reference's. -/
theorem array : (dats m 0 c).arrAt 2 cfg0.N
    = val_main_v19 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  idx_vars y
  pointwise [k0_pay1]
  have e : ((View.whole main_v14).slice (win0_2.rect t)).emb (ix3 y0 y1 y2) = ix3 (part t) (row t y1) (col t y2) := by blk_ext [idx t, part, row, col]
  rw [e]
  unfold val_main_v19  Cert.DwInARefIdeal.Read.val_main_v18  Cert.DwInARefIdeal.Read.val_main_v17  Cert.DwInARefIdeal.Read.val_main_v16  Cert.DwInARefIdeal.Read.val_main_v15  Cert.DwInARefIdeal.Read.val_main_v14
  generalize hh : Cert.DwInARefIdeal.Read.val_main_v12 (F := Ideal) (m ((c : Thread nD τ).loc main_arg0)) (m ((c : Thread nD τ).loc main_arg1)) = h
  pointwise
  have e0 (k : Fin 2048) : iblk m c 0 t (ix2 y1 k) = h (ix2 k (row t y1)) := by
    refine Eq.trans (b := V m c main_v13 (ix2 (row t y1) k)) (by blk_ext [iblk, idx t, row]) ?_
    rw [← hh]
    exact congrFun (left m c) _
  have e1 (k : Fin 2048) : iblk m c 1 t (ix2 k y2) = m ((c : Thread nD τ).loc main_arg2) (ix2 k (rcol t y2)) := by
    blk_ext [iblk, V_main_arg2, idx t, rcol]
  have ec : rcol t y2 = ⟨(part t).val * 1152 + (col t y2).val, by have := (part t).isLt; have := (col t y2).isLt; omega⟩ := by
    refine Fin.ext ?_
    simp only [rcol, part, col]
    omega
  simp only [e0, e1, ec]
  exact Finset.sum_congr (M := EReal) rfl fun k _ => mul_comm (G := EReal) _ _

/-- The program runs, changes no argument and leaves every counter at zero. -/
theorem frame_kernel : Cert.quiescent_DwInA := fun m g _ => Cert.DwInA.Gen.frame m g

/-- So does its idealization. -/
theorem frame_ideal : Cert.quiescent_DwInAIdeal := fun m g _ => Cert.DwInAIdeal.Gen.frame m g

/-- So does the reference. -/
theorem frame_reference : Cert.quiescent_DwInARefIdeal := fun m g _ =>
  (θ_run Cert.DwInARefIdeal.defs _ _).mono (fun r h => ⟨fun c => (h c).2, sem_eq_zero_of_no_sems (by decide) r.2⟩)
    (Cert.DwInARefIdeal.Value.run m g)

/-- At every argument the result is the reference's. -/
theorem value : Cert.algebraic_DwInAIdeal_DwInARefIdeal := fun m g m' g' _ hargs => by
  refine ⟨fun c => (dats m 0 c).arrAt 2 cfg0.N, (θ_run Cert.DwInAIdeal.defs _ _).mono (fun r h c => h c) (Cert.DwInAIdeal.Value.run_blocks m g),
    (θ_run Cert.DwInARefIdeal.defs _ _).mono (fun r h c => ?_) (Cert.DwInARefIdeal.Value.run m' g')⟩
  obtain ⟨e0, e1, e2⟩ := hargs c
  refine ⟨(h c).1.trans ?_, (h c).2⟩
  exact (Cert.DwInARefIdeal.Read.val_main_v19_eq _ _ _).trans ((congr (congr (congrArg (val_main_v19 (F := Ideal)) e0) e1) e2).trans (array m c).symm)

end Cert.DwInAClaim

end
-- ==== Proof.Products.DwInB.lean ====
/-
  The gradient of the input projection's weights of the stick-breaking layer: what the call writes is the product, entry by entry.
-/
module

public import proofs.«01_k».proof.Defs
public import proofs.«01_k».proof.Proof.Gen.DwInB.Frame
public import proofs.«01_k».proof.Proof.Gen.DwInBIdeal.Value
public import proofs.«01_k».proof.Proof.Gen.DwInBRefIdeal.Run
public import proofs.«01_k».proof.Proof.Gen.DwInBRefIdeal.Read
public import Idealize.ShloMosaic.Lib.Pipeline.ValueKit
public import Idealize.ShloMosaic.Lib.Claim

@[expose] public section

set_option maxRecDepth 16384

noncomputable section

namespace Cert.DwInBClaim

open Cert.DwInBIdeal Cert.DwInBIdeal.Gen
open Idealize.ShloMosaic Idealize.ShloMosaic.TcCoe Idealize.ShloMosaic.Pointwise Idealize.SL.Sem
open Idealize.ShloMosaic.Pipeline (Dat)
open Cert.DwInBRefIdeal.Read (val_main_v19)
open scoped BigOperators

variable (m : (ℓ : Loc nD τ sig) → Buf (Elt Ideal) ℓ) (c : Dev nD)

/-- Every window's block index at every grid point. -/
theorem idx : ∀ t : Fin cfg0.N, win0_0.index t = ![t.val / 8, 0] ∧ win0_1.index t = ![0, t.val % 8] ∧ win0_2.index t = ![t.val % 8 / 2, t.val / 8, t.val % 8 % 2] :=
  (by decide +kernel : ∀ t : Fin grid0.N, _)

/-- The left operand's row of row `y` of a grid point's block. -/
def row (t : Fin cfg0.N) (y : Fin 1024) : Fin 2048 :=
  ⟨t.val / 8 * 1024 + y.val, by have h : t.val < 16 := t.isLt; have := y.isLt; omega⟩
/-- The right operand's column of column `y` of a grid point's block. -/
def rcol (t : Fin cfg0.N) (y : Fin 1024) : Fin 8192 :=
  ⟨(t.val % 8) * 1024 + y.val, by have := y.isLt; omega⟩
/-- The block of columns that column lies in, and the column within it. -/
def part (t : Fin cfg0.N) : Fin 4 := ⟨t.val % 8 / 2, by omega⟩
@[inherit_doc part] def col (t : Fin cfg0.N) (y : Fin 1024) : Fin 2048 :=
  ⟨t.val % 8 % 2 * 1024 + y.val, by have := y.isLt; omega⟩

/-- The left operand the host prepares: the normalised activations, turned. -/
theorem left : V m c main_v13 = fun i : S2048x2048.Idx =>
    Cert.DwInBRefIdeal.Read.val_main_v12 (F := Ideal) (m ((c : Thread nD τ).loc main_arg0)) (m ((c : Thread nD τ).loc main_arg1)) (ix2 (i 1) (i 0)) := by
  have e : @Eq (FVec Ideal S2048x2048 .bf16) (V m c main_v13) <| truncf .bf16 (transpose S2048x2048 [1, 0]
      (Cert.DwInBRefIdeal.Read.val_main_v12 (F := Ideal) (m ((c : Thread nD τ).loc main_arg0)) (m ((c : Thread nD τ).loc main_arg1)))
      transposes_S2048x2048_S2048x2048_1_0) bitsLt_bf16_f32 := by
    unfold V
    simp only [hostOps0, List.flatten_cons, List.flatten_nil, List.append_nil, List.cons_append, List.nil_append]
    after_results
    rfl
  rw [e]
  funext i
  idx_vars i
  generalize Cert.DwInBRefIdeal.Read.val_main_v12 (F := Ideal) (m ((c : Thread nD τ).loc main_arg0)) (m ((c : Thread nD τ).loc main_arg1)) = h
  pointwise

/-- The array the call leaves is the reference's. -/
theorem array : (dats m 0 c).arrAt 2 cfg0.N
    = val_main_v19 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  idx_vars y
  pointwise [k0_pay1]
  have e : ((View.whole main_v14).slice (win0_2.rect t)).emb (ix3 y0 y1 y2) = ix3 (part t) (row t y1) (col t y2) := by blk_ext [idx t, part, row, col]
  rw [e]
  unfold val_main_v19  Cert.DwInBRefIdeal.Read.val_main_v18  Cert.DwInBRefIdeal.Read.val_main_v17  Cert.DwInBRefIdeal.Read.val_main_v16  Cert.DwInBRefIdeal.Read.val_main_v15  Cert.DwInBRefIdeal.Read.val_main_v14
  generalize hh : Cert.DwInBRefIdeal.Read.val_main_v12 (F := Ideal) (m ((c : Thread nD τ).loc main_arg0)) (m ((c : Thread nD τ).loc main_arg1)) = h
  pointwise
  have e0 (k : Fin 2048) : iblk m c 0 t (ix2 y1 k) = h (ix2 k (row t y1)) := by
    refine Eq.trans (b := V m c main_v13 (ix2 (row t y1) k)) (by blk_ext [iblk, idx t, row]) ?_
    rw [← hh]
    exact congrFun (left m c) _
  have e1 (k : Fin 2048) : iblk m c 1 t (ix2 k y2) = m ((c : Thread nD τ).loc main_arg2) (ix2 k (rcol t y2)) := by
    blk_ext [iblk, V_main_arg2, idx t, rcol]
  have ec : rcol t y2 = ⟨(part t).val * 2048 + (col t y2).val, by have := (part t).isLt; have := (col t y2).isLt; omega⟩ := by
    refine Fin.ext ?_
    simp only [rcol, part, col]
    omega
  simp only [e0, e1, ec]
  exact Finset.sum_congr (M := EReal) rfl fun k _ => mul_comm (G := EReal) _ _

/-- The program runs, changes no argument and leaves every counter at zero. -/
theorem frame_kernel : Cert.quiescent_DwInB := fun m g _ => Cert.DwInB.Gen.frame m g

/-- So does its idealization. -/
theorem frame_ideal : Cert.quiescent_DwInBIdeal := fun m g _ => Cert.DwInBIdeal.Gen.frame m g

/-- So does the reference. -/
theorem frame_reference : Cert.quiescent_DwInBRefIdeal := fun m g _ =>
  (θ_run Cert.DwInBRefIdeal.defs _ _).mono (fun r h => ⟨fun c => (h c).2, sem_eq_zero_of_no_sems (by decide) r.2⟩)
    (Cert.DwInBRefIdeal.Value.run m g)

/-- At every argument the result is the reference's. -/
theorem value : Cert.algebraic_DwInBIdeal_DwInBRefIdeal := fun m g m' g' _ hargs => by
  refine ⟨fun c => (dats m 0 c).arrAt 2 cfg0.N, (θ_run Cert.DwInBIdeal.defs _ _).mono (fun r h c => h c) (Cert.DwInBIdeal.Value.run_blocks m g),
    (θ_run Cert.DwInBRefIdeal.defs _ _).mono (fun r h c => ?_) (Cert.DwInBRefIdeal.Value.run m' g')⟩
  obtain ⟨e0, e1, e2⟩ := hargs c
  refine ⟨(h c).1.trans ?_, (h c).2⟩
  exact (Cert.DwInBRefIdeal.Read.val_main_v19_eq _ _ _).trans ((congr (congr (congrArg (val_main_v19 (F := Ideal)) e0) e1) e2).trans (array m c).symm)

end Cert.DwInBClaim

end
-- ==== Proof.Products.DwInC.lean ====
/-
  The gradient of the input projection's weights of the forgetting layer, the forget gates' columns apart: what the call writes is the product, entry by entry.
-/
module

public import proofs.«01_k».proof.Defs
public import proofs.«01_k».proof.Proof.Gen.DwInC.Frame
public import proofs.«01_k».proof.Proof.Gen.DwInCIdeal.Value
public import proofs.«01_k».proof.Proof.Gen.DwInCRefIdeal.Run
public import proofs.«01_k».proof.Proof.Gen.DwInCRefIdeal.Read
public import Idealize.ShloMosaic.Lib.Pipeline.ValueKit
public import Idealize.ShloMosaic.Lib.Claim

@[expose] public section

set_option maxRecDepth 16384

noncomputable section

namespace Cert.DwInCClaim

open Cert.DwInCIdeal Cert.DwInCIdeal.Gen
open Idealize.ShloMosaic Idealize.ShloMosaic.TcCoe Idealize.ShloMosaic.Pointwise Idealize.SL.Sem
open Idealize.ShloMosaic.Pipeline (Dat)
open Cert.DwInCRefIdeal.Read (val_main_v16)
open scoped BigOperators

variable (m : (ℓ : Loc nD τ sig) → Buf (Elt Ideal) ℓ) (c : Dev nD)

/-- Every window's block index at every grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The left operand's row of row `y` of a grid point's block. -/
def row (t : Fin cfg0.N) (y : Fin 1024) : Fin 2048 :=
  ⟨t.val / 8 * 1024 + y.val, by have h : t.val < 16 := t.isLt; have := y.isLt; omega⟩
/-- The right operand's column of column `y` of a grid point's block. -/
def rcol (t : Fin cfg0.N) (y : Fin 1024) : Fin 8192 :=
  ⟨(t.val % 8) * 1024 + y.val, by have := y.isLt; omega⟩
/-- The result's column of column `y` of a grid point's block. -/
def col (t : Fin cfg0.N) (y : Fin 1024) : Fin 8192 :=
  ⟨t.val % 8 * 1024 + y.val, by have := y.isLt; omega⟩

/-- The left operand the host prepares: the normalised activations, turned. -/
theorem left : V m c main_v13 = fun i : S2048x2048.Idx =>
    Cert.DwInCRefIdeal.Read.val_main_v12 (F := Ideal) (m ((c : Thread nD τ).loc main_arg0)) (m ((c : Thread nD τ).loc main_arg1)) (ix2 (i 1) (i 0)) := by
  have e : @Eq (FVec Ideal S2048x2048 .bf16) (V m c main_v13) <| truncf .bf16 (transpose S2048x2048 [1, 0]
      (Cert.DwInCRefIdeal.Read.val_main_v12 (F := Ideal) (m ((c : Thread nD τ).loc main_arg0)) (m ((c : Thread nD τ).loc main_arg1)))
      transposes_S2048x2048_S2048x2048_1_0) bitsLt_bf16_f32 := by
    unfold V
    simp only [hostOps0, List.flatten_cons, List.flatten_nil, List.append_nil, List.cons_append, List.nil_append]
    after_results
    rfl
  rw [e]
  funext i
  idx_vars i
  generalize Cert.DwInCRefIdeal.Read.val_main_v12 (F := Ideal) (m ((c : Thread nD τ).loc main_arg0)) (m ((c : Thread nD τ).loc main_arg1)) = h
  pointwise

/-- The array the call leaves is the reference's. -/
theorem array : (dats m 0 c).arrAt 2 cfg0.N
    = val_main_v16 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  frame_out
  idx_vars y
  pointwise [k0_pay1]
  have e : ((View.whole main_v14).slice (win0_2.rect t)).emb (ix2 y0 y1) = ix2 (row t y0) (col t y1) := by blk_ext [idx t, row, col]
  rw [e]
  unfold val_main_v16  Cert.DwInCRefIdeal.Read.val_main_v15  Cert.DwInCRefIdeal.Read.val_main_v14
  generalize hh : Cert.DwInCRefIdeal.Read.val_main_v12 (F := Ideal) (m ((c : Thread nD τ).loc main_arg0)) (m ((c : Thread nD τ).loc main_arg1)) = h
  pointwise
  have e0 (k : Fin 2048) : iblk m c 0 t (ix2 y0 k) = h (ix2 k (row t y0)) := by
    refine Eq.trans (b := V m c main_v13 (ix2 (row t y0) k)) (by blk_ext [iblk, idx t, row]) ?_
    rw [← hh]
    exact congrFun (left m c) _
  have e1 (k : Fin 2048) : iblk m c 1 t (ix2 k y1) = m ((c : Thread nD τ).loc main_arg2) (ix2 k (rcol t y1)) := by
    blk_ext [iblk, V_main_arg2, idx t, rcol]
  have ec : rcol t y1 = col t y1 := rfl
  simp only [e0, e1, ec]
  exact Finset.sum_congr (M := EReal) rfl fun k _ => mul_comm (G := EReal) _ _

/-- The program runs, changes no argument and leaves every counter at zero. -/
theorem frame_kernel : Cert.quiescent_DwInC := fun m g _ => Cert.DwInC.Gen.frame m g

/-- So does its idealization. -/
theorem frame_ideal : Cert.quiescent_DwInCIdeal := fun m g _ => Cert.DwInCIdeal.Gen.frame m g

/-- So does the reference. -/
theorem frame_reference : Cert.quiescent_DwInCRefIdeal := fun m g _ =>
  (θ_run Cert.DwInCRefIdeal.defs _ _).mono (fun r h => ⟨fun c => (h c).2, sem_eq_zero_of_no_sems (by decide) r.2⟩)
    (Cert.DwInCRefIdeal.Value.run m g)

/-- At every argument the result is the reference's. -/
theorem value : Cert.algebraic_DwInCIdeal_DwInCRefIdeal := fun m g m' g' _ hargs => by
  refine ⟨fun c => (dats m 0 c).arrAt 2 cfg0.N, (θ_run Cert.DwInCIdeal.defs _ _).mono (fun r h c => h c) (Cert.DwInCIdeal.Value.run_blocks m g),
    (θ_run Cert.DwInCRefIdeal.defs _ _).mono (fun r h c => ?_) (Cert.DwInCRefIdeal.Value.run m' g')⟩
  obtain ⟨e0, e1, e2⟩ := hargs c
  refine ⟨(h c).1.trans ?_, (h c).2⟩
  exact (Cert.DwInCRefIdeal.Read.val_main_v16_eq _ _ _).trans ((congr (congr (congrArg (val_main_v16 (F := Ideal)) e0) e1) e2).trans (array m c).symm)

end Cert.DwInCClaim

end
-- ==== Proof.Products.QkvA.lean ====
/-
  The queries', keys' and values' columns of the input projection of the sliding-window layers: what the call writes is the product, entry by entry.
-/
module

public import proofs.«01_k».proof.Defs
public import proofs.«01_k».proof.Proof.Gen.QkvA.Frame
public import proofs.«01_k».proof.Proof.Gen.QkvAIdeal.Value
public import proofs.«01_k».proof.Proof.Gen.QkvARefIdeal.Run
public import proofs.«01_k».proof.Proof.Gen.QkvARefIdeal.Read
public import Idealize.ShloMosaic.Lib.Pipeline.ValueKit
public import Idealize.ShloMosaic.Lib.Claim

@[expose] public section

set_option maxRecDepth 16384

noncomputable section

namespace Cert.QkvAClaim

open Cert.QkvAIdeal Cert.QkvAIdeal.Gen
open Idealize.ShloMosaic Idealize.ShloMosaic.TcCoe Idealize.ShloMosaic.Pointwise Idealize.SL.Sem
open Idealize.ShloMosaic.Pipeline (Dat)
open Cert.QkvARefIdeal.Read (val_main_v5)
open scoped BigOperators

variable (m : (ℓ : Loc nD τ sig) → Buf (Elt Ideal) ℓ) (c : Dev nD)

/-- Every window's block index at every grid point. -/
theorem idx : ∀ t : Fin cfg0.N, win0_0.index t = ![t.val / 5, 0] ∧ win0_1.index t = ![0, t.val % 5] ∧ win0_2.index t = ![t.val / 5, t.val % 5] :=
  (by decide +kernel : ∀ t : Fin grid0.N, _)

/-- The left operand's row of row `y` of a grid point's block. -/
def row (t : Fin cfg0.N) (y : Fin 1024) : Fin 2048 :=
  ⟨t.val / 5 * 1024 + y.val, by have h : t.val < 10 := t.isLt; have := y.isLt; omega⟩
/-- The right operand's column of column `y` of a grid point's block. -/
def rcol (t : Fin cfg0.N) (y : Fin 512) : Fin 4608 :=
  ⟨(t.val % 5) * 512 + y.val, by have := y.isLt; omega⟩
/-- The result's column of column `y` of a grid point's block. -/
def col (t : Fin cfg0.N) (y : Fin 512) : Fin 2560 :=
  ⟨t.val % 5 * 512 + y.val, by have := y.isLt; omega⟩

/-- The array the call leaves is the reference's. -/
theorem array : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay1]
  have e : ((View.whole main_v0).slice (win0_2.rect t)).emb (ix2 y0 y1) = ix2 (row t y0) (col t y1) := by blk_ext [idx t, row, col]
  rw [e]
  pointwise [val_main_v5, Cert.QkvARefIdeal.Read.val_main_v3, Cert.QkvARefIdeal.Read.val_main_v2, Cert.QkvARefIdeal.Read.val_main_v1, Cert.QkvARefIdeal.Read.val_main_v0]
  have e0 (k : Fin 2048) : iblk m c 0 t (ix2 y0 k) = m ((c : Thread nD τ).loc main_arg0) (ix2 (row t y0) k) := by
    blk_ext [iblk, V_main_arg0, idx t, row]
  have e1 (k : Fin 2048) : iblk m c 1 t (ix2 k y1) = m ((c : Thread nD τ).loc main_arg1) (ix2 k (rcol t y1)) := by
    blk_ext [iblk, V_main_arg1, idx t, rcol]
  have ec : rcol t y1 = ⟨(col t y1).val, by have := (col t y1).isLt; omega⟩ := rfl
  simp only [e0, e1, ec]

/-- The program runs, changes no argument and leaves every counter at zero. -/
theorem frame_kernel : Cert.quiescent_QkvA := fun m g _ => Cert.QkvA.Gen.frame m g

/-- So does its idealization. -/
theorem frame_ideal : Cert.quiescent_QkvAIdeal := fun m g _ => Cert.QkvAIdeal.Gen.frame m g

/-- So does the reference. -/
theorem frame_reference : Cert.quiescent_QkvARefIdeal := fun m g _ =>
  (θ_run Cert.QkvARefIdeal.defs _ _).mono (fun r h => ⟨fun c => (h c).2, sem_eq_zero_of_no_sems (by decide) r.2⟩)
    (Cert.QkvARefIdeal.Value.run m g)

/-- At every argument the result is the reference's. -/
theorem value : Cert.algebraic_QkvAIdeal_QkvARefIdeal := fun m g m' g' _ hargs => by
  refine ⟨fun c => (dats m 0 c).arrAt 2 cfg0.N, (θ_run Cert.QkvAIdeal.defs _ _).mono (fun r h c => h c) (Cert.QkvAIdeal.Value.run_blocks m g),
    (θ_run Cert.QkvARefIdeal.defs _ _).mono (fun r h c => ?_) (Cert.QkvARefIdeal.Value.run m' g')⟩
  obtain ⟨e0, e1⟩ := hargs c
  refine ⟨(h c).1.trans ?_, (h c).2⟩
  exact (Cert.QkvARefIdeal.Read.val_main_v5_eq _ _).trans ((congr (congrArg (val_main_v5 (F := Ideal)) e0) e1).trans (array m c).symm)

end Cert.QkvAClaim

end
-- ==== Proof.Products.GateA.lean ====
/-
  The gate's columns of the input projection of the sliding-window layers: what the call writes is the product, entry by entry.
-/
module

public import proofs.«01_k».proof.Defs
public import proofs.«01_k».proof.Proof.Gen.GateA.Frame
public import proofs.«01_k».proof.Proof.Gen.GateAIdeal.Value
public import proofs.«01_k».proof.Proof.Gen.GateARefIdeal.Run
public import proofs.«01_k».proof.Proof.Gen.GateARefIdeal.Read
public import Idealize.ShloMosaic.Lib.Pipeline.ValueKit
public import Idealize.ShloMosaic.Lib.Claim

@[expose] public section

set_option maxRecDepth 16384

noncomputable section

namespace Cert.GateAClaim

open Cert.GateAIdeal Cert.GateAIdeal.Gen
open Idealize.ShloMosaic Idealize.ShloMosaic.TcCoe Idealize.ShloMosaic.Pointwise Idealize.SL.Sem
open Idealize.ShloMosaic.Pipeline (Dat)
open Cert.GateARefIdeal.Read (val_main_v4)
open scoped BigOperators

variable (m : (ℓ : Loc nD τ sig) → Buf (Elt Ideal) ℓ) (c : Dev nD)

/-- Every window's block index at every grid point. -/
theorem idx : ∀ t : Fin cfg0.N, win0_0.index t = ![t.val / 4, 0] ∧ win0_1.index t = ![0, 5 + t.val % 4] ∧ win0_2.index t = ![t.val / 4, t.val % 4] :=
  (by decide +kernel : ∀ t : Fin grid0.N, _)

/-- The left operand's row of row `y` of a grid point's block. -/
def row (t : Fin cfg0.N) (y : Fin 1024) : Fin 2048 :=
  ⟨t.val / 4 * 1024 + y.val, by have h : t.val < 8 := t.isLt; have := y.isLt; omega⟩
/-- The right operand's column of column `y` of a grid point's block. -/
def rcol (t : Fin cfg0.N) (y : Fin 512) : Fin 4608 :=
  ⟨(5 + t.val % 4) * 512 + y.val, by have := y.isLt; omega⟩
/-- The result's column of column `y` of a grid point's block. -/
def col (t : Fin cfg0.N) (y : Fin 512) : Fin 2048 :=
  ⟨t.val % 4 * 512 + y.val, by have := y.isLt; omega⟩

/-- The array the call leaves is the reference's. -/
theorem array : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay1]
  have e : ((View.whole main_v0).slice (win0_2.rect t)).emb (ix2 y0 y1) = ix2 (row t y0) (col t y1) := by blk_ext [idx t, row, col]
  rw [e]
  pointwise [val_main_v4, Cert.GateARefIdeal.Read.val_main_v2, Cert.GateARefIdeal.Read.val_main_v1, Cert.GateARefIdeal.Read.val_main_v0]
  have e0 (k : Fin 2048) : iblk m c 0 t (ix2 y0 k) = m ((c : Thread nD τ).loc main_arg0) (ix2 (row t y0) k) := by
    blk_ext [iblk, V_main_arg0, idx t, row]
  have e1 (k : Fin 2048) : iblk m c 1 t (ix2 k y1) = m ((c : Thread nD τ).loc main_arg1) (ix2 k (rcol t y1)) := by
    blk_ext [iblk, V_main_arg1, idx t, rcol]
  have ec : rcol t y1 = ⟨2560 + (col t y1).val, by have := (col t y1).isLt; omega⟩ := by
    refine Fin.ext ?_
    simp only [rcol, col]
    omega
  simp only [e0, e1, ec]

/-- The program runs, changes no argument and leaves every counter at zero. -/
theorem frame_kernel : Cert.quiescent_GateA := fun m g _ => Cert.GateA.Gen.frame m g

/-- So does its idealization. -/
theorem frame_ideal : Cert.quiescent_GateAIdeal := fun m g _ => Cert.GateAIdeal.Gen.frame m g

/-- So does the reference. -/
theorem frame_reference : Cert.quiescent_GateARefIdeal := fun m g _ =>
  (θ_run Cert.GateARefIdeal.defs _ _).mono (fun r h => ⟨fun c => (h c).2, sem_eq_zero_of_no_sems (by decide) r.2⟩)
    (Cert.GateARefIdeal.Value.run m g)

/-- At every argument the result is the reference's. -/
theorem value : Cert.algebraic_GateAIdeal_GateARefIdeal := fun m g m' g' _ hargs => by
  refine ⟨fun c => (dats m 0 c).arrAt 2 cfg0.N, (θ_run Cert.GateAIdeal.defs _ _).mono (fun r h c => h c) (Cert.GateAIdeal.Value.run_blocks m g),
    (θ_run Cert.GateARefIdeal.defs _ _).mono (fun r h c => ?_) (Cert.GateARefIdeal.Value.run m' g')⟩
  obtain ⟨e0, e1⟩ := hargs c
  refine ⟨(h c).1.trans ?_, (h c).2⟩
  exact (Cert.GateARefIdeal.Read.val_main_v4_eq _ _).trans ((congr (congrArg (val_main_v4 (F := Ideal)) e0) e1).trans (array m c).symm)

end Cert.GateAClaim

end
-- ==== Proof.Products.QkvB.lean ====
/-
  The queries', keys' and values' columns of the input projection of the stick-breaking and the forgetting layer: what the call writes is the product, entry by entry.
-/
module

public import proofs.«01_k».proof.Defs
public import proofs.«01_k».proof.Proof.Gen.QkvB.Frame
public import proofs.«01_k».proof.Proof.Gen.QkvBIdeal.Value
public import proofs.«01_k».proof.Proof.Gen.QkvBRefIdeal.Run
public import proofs.«01_k».proof.Proof.Gen.QkvBRefIdeal.Read
public import Idealize.ShloMosaic.Lib.Pipeline.ValueKit
public import Idealize.ShloMosaic.Lib.Claim

@[expose] public section

set_option maxRecDepth 16384

noncomputable section

namespace Cert.QkvBClaim

open Cert.QkvBIdeal Cert.QkvBIdeal.Gen
open Idealize.ShloMosaic Idealize.ShloMosaic.TcCoe Idealize.ShloMosaic.Pointwise Idealize.SL.Sem
open Idealize.ShloMosaic.Pipeline (Dat)
open Cert.QkvBRefIdeal.Read (val_main_v5)
open scoped BigOperators

variable (m : (ℓ : Loc nD τ sig) → Buf (Elt Ideal) ℓ) (c : Dev nD)

/-- Every window's block index at every grid point. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- The left operand's row of row `y` of a grid point's block. -/
def row (t : Fin cfg0.N) (y : Fin 1024) : Fin 2048 :=
  ⟨t.val / 6 * 1024 + y.val, by have h : t.val < 12 := t.isLt; have := y.isLt; omega⟩
/-- The right operand's column of column `y` of a grid point's block. -/
def rcol (t : Fin cfg0.N) (y : Fin 1024) : Fin 8192 :=
  ⟨(t.val % 6) * 1024 + y.val, by have := y.isLt; omega⟩
/-- The result's column of column `y` of a grid point's block. -/
def col (t : Fin cfg0.N) (y : Fin 1024) : Fin 6144 :=
  ⟨t.val % 6 * 1024 + y.val, by have := y.isLt; omega⟩

/-- The array the call leaves is the reference's. -/
theorem array : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay1]
  have e : ((View.whole main_v0).slice (win0_2.rect t)).emb (ix2 y0 y1) = ix2 (row t y0) (col t y1) := by blk_ext [idx t, row, col]
  rw [e]
  pointwise [val_main_v5, Cert.QkvBRefIdeal.Read.val_main_v3, Cert.QkvBRefIdeal.Read.val_main_v2, Cert.QkvBRefIdeal.Read.val_main_v1, Cert.QkvBRefIdeal.Read.val_main_v0]
  have e0 (k : Fin 2048) : iblk m c 0 t (ix2 y0 k) = m ((c : Thread nD τ).loc main_arg0) (ix2 (row t y0) k) := by
    blk_ext [iblk, V_main_arg0, idx t, row]
  have e1 (k : Fin 2048) : iblk m c 1 t (ix2 k y1) = m ((c : Thread nD τ).loc main_arg1) (ix2 k (rcol t y1)) := by
    blk_ext [iblk, V_main_arg1, idx t, rcol]
  have ec : rcol t y1 = ⟨(col t y1).val, by have := (col t y1).isLt; omega⟩ := rfl
  simp only [e0, e1, ec]

/-- The program runs, changes no argument and leaves every counter at zero. -/
theorem frame_kernel : Cert.quiescent_QkvB := fun m g _ => Cert.QkvB.Gen.frame m g

/-- So does its idealization. -/
theorem frame_ideal : Cert.quiescent_QkvBIdeal := fun m g _ => Cert.QkvBIdeal.Gen.frame m g

/-- So does the reference. -/
theorem frame_reference : Cert.quiescent_QkvBRefIdeal := fun m g _ =>
  (θ_run Cert.QkvBRefIdeal.defs _ _).mono (fun r h => ⟨fun c => (h c).2, sem_eq_zero_of_no_sems (by decide) r.2⟩)
    (Cert.QkvBRefIdeal.Value.run m g)

/-- At every argument the result is the reference's. -/
theorem value : Cert.algebraic_QkvBIdeal_QkvBRefIdeal := fun m g m' g' _ hargs => by
  refine ⟨fun c => (dats m 0 c).arrAt 2 cfg0.N, (θ_run Cert.QkvBIdeal.defs _ _).mono (fun r h c => h c) (Cert.QkvBIdeal.Value.run_blocks m g),
    (θ_run Cert.QkvBRefIdeal.defs _ _).mono (fun r h c => ?_) (Cert.QkvBRefIdeal.Value.run m' g')⟩
  obtain ⟨e0, e1⟩ := hargs c
  refine ⟨(h c).1.trans ?_, (h c).2⟩
  exact (Cert.QkvBRefIdeal.Read.val_main_v5_eq _ _).trans ((congr (congrArg (val_main_v5 (F := Ideal)) e0) e1).trans (array m c).symm)

end Cert.QkvBClaim

end
-- ==== Proof.Products.GateB.lean ====
/-
  The gate's columns of the input projection of the stick-breaking and the forgetting layer: what the call writes is the product, entry by entry.
-/
module

public import proofs.«01_k».proof.Defs
public import proofs.«01_k».proof.Proof.Gen.GateB.Frame
public import proofs.«01_k».proof.Proof.Gen.GateBIdeal.Value
public import proofs.«01_k».proof.Proof.Gen.GateBRefIdeal.Run
public import proofs.«01_k».proof.Proof.Gen.GateBRefIdeal.Read
public import Idealize.ShloMosaic.Lib.Pipeline.ValueKit
public import Idealize.ShloMosaic.Lib.Claim

@[expose] public section

set_option maxRecDepth 16384

noncomputable section

namespace Cert.GateBClaim

open Cert.GateBIdeal Cert.GateBIdeal.Gen
open Idealize.ShloMosaic Idealize.ShloMosaic.TcCoe Idealize.ShloMosaic.Pointwise Idealize.SL.Sem
open Idealize.ShloMosaic.Pipeline (Dat)
open Cert.GateBRefIdeal.Read (val_main_v4)
open scoped BigOperators

variable (m : (ℓ : Loc nD τ sig) → Buf (Elt Ideal) ℓ) (c : Dev nD)

/-- Every window's block index at every grid point. -/
theorem idx : ∀ t : Fin cfg0.N, win0_0.index t = ![t.val / 2, 0] ∧ win0_1.index t = ![0, 6 + t.val % 2] ∧ win0_2.index t = ![t.val / 2, t.val % 2] :=
  (by decide +kernel : ∀ t : Fin grid0.N, _)

/-- The left operand's row of row `y` of a grid point's block. -/
def row (t : Fin cfg0.N) (y : Fin 1024) : Fin 2048 :=
  ⟨t.val / 2 * 1024 + y.val, by have h : t.val < 4 := t.isLt; have := y.isLt; omega⟩
/-- The right operand's column of column `y` of a grid point's block. -/
def rcol (t : Fin cfg0.N) (y : Fin 1024) : Fin 8192 :=
  ⟨(6 + t.val % 2) * 1024 + y.val, by have := y.isLt; omega⟩
/-- The result's column of column `y` of a grid point's block. -/
def col (t : Fin cfg0.N) (y : Fin 1024) : Fin 2048 :=
  ⟨t.val % 2 * 1024 + y.val, by have := y.isLt; omega⟩

/-- The array the call leaves is the reference's. -/
theorem array : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  pointwise [k0_pay1]
  have e : ((View.whole main_v0).slice (win0_2.rect t)).emb (ix2 y0 y1) = ix2 (row t y0) (col t y1) := by blk_ext [idx t, row, col]
  rw [e]
  pointwise [val_main_v4, Cert.GateBRefIdeal.Read.val_main_v2, Cert.GateBRefIdeal.Read.val_main_v1, Cert.GateBRefIdeal.Read.val_main_v0]
  have e0 (k : Fin 2048) : iblk m c 0 t (ix2 y0 k) = m ((c : Thread nD τ).loc main_arg0) (ix2 (row t y0) k) := by
    blk_ext [iblk, V_main_arg0, idx t, row]
  have e1 (k : Fin 2048) : iblk m c 1 t (ix2 k y1) = m ((c : Thread nD τ).loc main_arg1) (ix2 k (rcol t y1)) := by
    blk_ext [iblk, V_main_arg1, idx t, rcol]
  have ec : rcol t y1 = ⟨6144 + (col t y1).val, by have := (col t y1).isLt; omega⟩ := by
    refine Fin.ext ?_
    simp only [rcol, col]
    omega
  simp only [e0, e1, ec]

/-- The program runs, changes no argument and leaves every counter at zero. -/
theorem frame_kernel : Cert.quiescent_GateB := fun m g _ => Cert.GateB.Gen.frame m g

/-- So does its idealization. -/
theorem frame_ideal : Cert.quiescent_GateBIdeal := fun m g _ => Cert.GateBIdeal.Gen.frame m g

/-- So does the reference. -/
theorem frame_reference : Cert.quiescent_GateBRefIdeal := fun m g _ =>
  (θ_run Cert.GateBRefIdeal.defs _ _).mono (fun r h => ⟨fun c => (h c).2, sem_eq_zero_of_no_sems (by decide) r.2⟩)
    (Cert.GateBRefIdeal.Value.run m g)

/-- At every argument the result is the reference's. -/
theorem value : Cert.algebraic_GateBIdeal_GateBRefIdeal := fun m g m' g' _ hargs => by
  refine ⟨fun c => (dats m 0 c).arrAt 2 cfg0.N, (θ_run Cert.GateBIdeal.defs _ _).mono (fun r h c => h c) (Cert.GateBIdeal.Value.run_blocks m g),
    (θ_run Cert.GateBRefIdeal.defs _ _).mono (fun r h c => ?_) (Cert.GateBRefIdeal.Value.run m' g')⟩
  obtain ⟨e0, e1⟩ := hargs c
  refine ⟨(h c).1.trans ?_, (h c).2⟩
  exact (Cert.GateBRefIdeal.Read.val_main_v4_eq _ _).trans ((congr (congrArg (val_main_v4 (F := Ideal)) e0) e1).trans (array m c).symm)

end Cert.GateBClaim

end
-- ==== Proof.Gated.Claim.lean ====
/-
  The forward call of the output projection: the three arrays it writes are the reference's, entry by entry.
-/
module

public import proofs.«01_k».proof.Defs
public import proofs.«01_k».proof.Proof.Gen.Gated.Frame
public import proofs.«01_k».proof.Proof.Gen.GatedIdeal.Value
public import proofs.«01_k».proof.Proof.Gen.GatedRefIdeal.Run
public import proofs.«01_k».proof.Proof.Gen.GatedRefIdeal.Read
public import Idealize.ShloMosaic.Lib.Pipeline.ValueKit
public import Idealize.ShloMosaic.Lib.Claim

@[expose] public section

set_option maxRecDepth 16384

noncomputable section

namespace Cert.GatedClaim

open Cert.GatedIdeal Cert.GatedIdeal.Gen
open Idealize.ShloMosaic Idealize.ShloMosaic.TcCoe Idealize.ShloMosaic.Pointwise Idealize.SL.Sem
open Idealize.ShloMosaic.Pipeline (Dat)
open Cert.GatedRefIdeal.Read
open scoped BigOperators

variable (m : (ℓ : Loc nD τ sig) → Buf (Elt Ideal) ℓ) (c : Dev nD)

/-- The attention output. -/
abbrev o : S2048x2048.Idx → EReal := m ((c : Thread nD τ).loc main_arg0)
/-- The gate's argument. -/
abbrev z : S2048x2048.Idx → EReal := m ((c : Thread nD τ).loc main_arg1)
/-- The weights. -/
abbrev w : S2048x2048.Idx → EReal := m ((c : Thread nD τ).loc main_arg2)
/-- The layer's input. -/
abbrev x : S2048x2048.Idx → EReal := m ((c : Thread nD τ).loc main_arg3)
/-- The normalisation's weight. -/
abbrev g : S1x2048.Idx → EReal := m ((c : Thread nD τ).loc main_arg4)

/-- Every window's block index at every grid point. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, t.val] :=
  (by decide +kernel : ∀ t : Fin grid0.N, _)

/-- The array row that row `r` of the block of grid point `t` is. -/
def row (t : Fin cfg0.N) (r : Fin 256) : Fin 2048 :=
  ⟨t.val * 256 + r.val, by have h : t.val < 8 := t.isLt; have := r.isLt; omega⟩

/-- The block's gated attention output is the reference's. -/
theorem gated (t : Fin cfg0.N) (r : Fin 256) (k : Fin 2048) :
    k0_pay1 (F := Ideal) (iblk m c 1 t) (iblk m c 0 t) (ix2 r k) = val_main_v1 (F := Ideal) (o m c) (z m c) (ix2 (row t r) k) := by
  have e0 : iblk m c 0 t (ix2 r k) = o m c (ix2 (row t r) k) := by blk_ext [iblk, V_main_arg0, idx t, row]
  have e1 : iblk m c 1 t (ix2 r k) = z m c (ix2 (row t r) k) := by blk_ext [iblk, V_main_arg1, idx t, row]
  pointwise [k0_pay1]
  rw [e0, e1]
  generalize o m c = o
  generalize z m c = z
  pointwise [val_main_v1, val_main_v0, val_main_call0_v5, val_main_call0_v4, val_main_call0_v3, val_main_call0_v2, val_main_call0_v1,
    val_main_call0_v0, val_main_call0_cst, val_main_call0_cst_0]
  rfl

/-- The block's product is the reference's. -/
theorem product (t : Fin cfg0.N) (r : Fin 256) (j : Fin 2048) :
    k0_pay3 (F := Ideal) (iblk m c 1 t) (iblk m c 0 t) (iblk m c 2 t) (ix2 r j)
      = val_main_v3 (F := Ideal) (o m c) (z m c) (w m c) (ix2 (row t r) j) := by
  have e2 (k : Fin 2048) : iblk m c 2 t (ix2 k j) = w m c (ix2 k j) := by blk_ext [iblk, V_main_arg2, idx t]
  unfold val_main_v3 val_main_v2
  have h := gated m c t r
  generalize val_main_v1 (F := Ideal) (o m c) (z m c) = u at h ⊢
  pointwise [k0_pay3]
  simp only [e2, h]

/-- The block's residual sum is the reference's. -/
theorem residual (t : Fin cfg0.N) (r : Fin 256) (j : Fin 2048) :
    k0_pay4 (F := Ideal) (iblk m c 1 t) (iblk m c 0 t) (iblk m c 2 t) (iblk m c 3 t) (iblk m c 4 t) (ix2 r j)
      = val_main_v16 (F := Ideal) (o m c) (z m c) (w m c) (x m c) (g m c) (ix2 (row t r) j) := by
  have e3 : iblk m c 3 t (ix2 r j) = x m c (ix2 (row t r) j) := by blk_ext [iblk, V_main_arg3, idx t, row]
  have e4 (u : Fin 1) : iblk m c 4 t (ix2 u j) = g m c (ix2 u j) := by blk_ext [iblk, V_main_arg4, idx t]
  have h := product m c t r
  unfold val_main_v16 val_main_v15 val_main_v14 val_main_v13 val_main_v12 val_main_v11 val_main_v10 val_main_v9 val_main_v8 val_main_v7
    val_main_v6 val_main_v5 val_main_v4 val_main_cst val_main_cst_0 val_main_cst_1
  generalize val_main_v3 (F := Ideal) (o m c) (z m c) (w m c) = y at h ⊢
  pointwise [k0_pay4]
  simp only [e3, e4, h]

/-- The layer's output. -/
theorem array_x : (dats m 0 c).arrAt 5 cfg0.N = val_main_v16 (F := Ideal) (o m c) (z m c) (w m c) (x m c) (g m c) := by
  refine (dats m 0 c).arrAt_eq_of_covers 5 _ (by decide +kernel) fun t _ y => ?_
  blk_simp
  rw [after0_5]
  frame_out
  idx_vars y
  have e : ((View.whole main_v0_0).slice (win0_5.rect t)).emb (ix2 y0 y1) = ix2 (row t y0) y1 := by
    blk_ext [idx t, row]
  rw [e]
  exact residual m c t y0 y1

/-- The product. -/
theorem array_y : (dats m 0 c).arrAt 6 cfg0.N = val_main_v3 (F := Ideal) (o m c) (z m c) (w m c) := by
  refine (dats m 0 c).arrAt_eq_of_covers 6 _ (by decide +kernel) fun t _ y => ?_
  blk_simp
  rw [after0_6]
  frame_out
  idx_vars y
  have e : ((View.whole main_v0_1).slice (win0_6.rect t)).emb (ix2 y0 y1) = ix2 (row t y0) y1 := by
    blk_ext [idx t, row]
  rw [e]
  exact product m c t y0 y1

/-- The gated attention output, transposed. -/
theorem array_u : (dats m 0 c).arrAt 7 cfg0.N = val_main_v18 (F := Ideal) (o m c) (z m c) := by
  refine (dats m 0 c).arrAt_eq_of_covers 7 _ (by decide +kernel) fun t _ y => ?_
  blk_simp
  rw [after0_7]
  frame_out
  idx_vars y
  have e : ((View.whole main_v0_2).slice (win0_7.rect t)).emb (ix2 y0 y1) = ix2 y0 (row t y1) := by
    blk_ext [idx t, row]
  rw [e]
  have h := gated m c t y1 y0
  rw [val_main_v18, val_main_v17]
  generalize val_main_v1 (F := Ideal) (o m c) (z m c) = u at h ⊢
  pointwise [k0_pay2]
  exact h

/-- The program runs, changes no argument and leaves every counter at zero. -/
theorem frame_kernel : Cert.quiescent_Gated := fun m g _ => Cert.Gated.Gen.frame m g

/-- So does its idealization. -/
theorem frame_ideal : Cert.quiescent_GatedIdeal := fun m g _ => Cert.GatedIdeal.Gen.frame m g

/-- So does the reference. -/
theorem frame_reference : Cert.quiescent_GatedRefIdeal := fun m g _ =>
  (θ_run Cert.GatedRefIdeal.defs _ _).mono (fun r h => ⟨fun c => (h c).2.2.2, sem_eq_zero_of_no_sems (by decide) r.2⟩)
    (Cert.GatedRefIdeal.Value.run m g)

/-- At every argument the three results are the reference's. -/
theorem value : Cert.algebraic_GatedIdeal_GatedRefIdeal := fun m g' m' g'' _ hargs => by
  refine ⟨fun c => (dats m 0 c).arrAt 5 cfg0.N, fun c => (dats m 0 c).arrAt 6 cfg0.N, fun c => (dats m 0 c).arrAt 7 cfg0.N,
    (θ_run Cert.GatedIdeal.defs _ _).mono (fun r h c => h c) (Cert.GatedIdeal.Value.run_blocks m g'),
    (θ_run Cert.GatedRefIdeal.defs _ _).mono (fun r h c => ?_) (Cert.GatedRefIdeal.Value.run m' g'')⟩
  obtain ⟨e0, e1, e2, e3, e4⟩ := hargs c
  obtain ⟨h0, h1, h2, ha⟩ := h c
  refine ⟨h0.trans ?_, h1.trans ?_, h2.trans ?_, ha⟩
  · exact (val_main_v16_eq _ _ _ _ _).trans
      ((congr (congr (congr (congr (congrArg (val_main_v16 (F := Ideal)) e0) e1) e2) e3) e4).trans (array_x m c).symm)
  · exact (val_main_v3_eq _ _ _).trans ((congr (congr (congrArg (val_main_v3 (F := Ideal)) e0) e1) e2).trans (array_y m c).symm)
  · exact (val_main_v18_eq _ _).trans ((congr (congrArg (val_main_v18 (F := Ideal)) e0) e1).trans (array_u m c).symm)

end Cert.GatedClaim

end
-- ==== Proof.Prenorm.Claim.lean ====
/-
  The normalisation at the head of a layer: the rows the call writes, and their
  transpose, are the reference's, entry by entry.
-/
module

public import proofs.«01_k».proof.Defs
public import proofs.«01_k».proof.Proof.Gen.Prenorm.Frame
public import proofs.«01_k».proof.Proof.Gen.PrenormIdeal.Value
public import proofs.«01_k».proof.Proof.Gen.PrenormRefIdeal.Run
public import proofs.«01_k».proof.Proof.Gen.PrenormRefIdeal.Read
public import Idealize.ShloMosaic.Lib.Pipeline.ValueKit
public import Idealize.ShloMosaic.Lib.Claim

@[expose] public section

set_option maxRecDepth 16384

noncomputable section

namespace Cert.PrenormClaim

open Cert.PrenormIdeal Cert.PrenormIdeal.Gen
open Idealize.ShloMosaic Idealize.ShloMosaic.TcCoe Idealize.ShloMosaic.Pointwise Idealize.SL.Sem
open Idealize.ShloMosaic.Pipeline (Dat)
open Cert.PrenormRefIdeal.Read

variable (m : (ℓ : Loc nD τ sig) → Buf (Elt Ideal) ℓ) (c : Dev nD)

/-- The rows to normalise. -/
abbrev x : S2048x2048.Idx → EReal := m ((c : Thread nD τ).loc main_arg0)
/-- The gains. -/
abbrev g : S1x2048.Idx → EReal := m ((c : Thread nD τ).loc main_arg1)

/-- Every window's block index at every grid point. -/
theorem idx : ∀ t : Fin cfg0.N, win0_0.index t = ![t.val, 0] ∧ win0_1.index t = ![0, 0]
    ∧ win0_2.index t = ![t.val, 0] ∧ win0_3.index t = ![0, t.val] :=
  (by decide +kernel : ∀ t : Fin grid0.N, _)

/-- The array row that row `y` of the block of a grid point is. -/
def row (t : Fin cfg0.N) (y : Fin 256) : Fin 2048 :=
  ⟨t.val * 256 + y.val, by have h : t.val < 8 := t.isLt; have := y.isLt; omega⟩

/-- A row normalised and scaled by the gains, as the kernel and the reference compute it. -/
theorem normed (t : Fin cfg0.N) (y0 : Fin 256) (y1 : Fin 2048) :
    k0_pay1 (F := Ideal) (iblk m c 0 t) (iblk m c 1 t) (ix2 y0 y1)
      = val_main_v11 (F := Ideal) (x m c) (g m c) (ix2 (row t y0) y1) := by
  have ex : ∀ j, iblk m c 0 t (ix2 y0 j) = x m c (ix2 (row t y0) j) := fun j => by
    blk_ext [iblk, V_main_arg0, idx t, row]
  have eg : iblk m c 1 t (ix2 0 y1) = g m c (ix2 0 y1) := by
    blk_ext [iblk, V_main_arg1, idx t]
  unfold val_main_v11 val_main_v10 val_main_v9 val_main_v8 val_main_v7 val_main_v6 val_main_v5 val_main_v4 val_main_v3 val_main_v2
    val_main_v1 val_main_v0 val_main_cst val_main_cst_0 val_main_cst_1
  pointwise [k0_pay1]
  simp only [ex, eg]

/-- The normalised rows. -/
theorem array_h : (dats m 0 c).arrAt 2 cfg0.N = val_main_v12 (F := Ideal) (x m c) (g m c) := by
  refine (dats m 0 c).arrAt_eq_of_covers 2 _ (by decide +kernel) fun t _ y => ?_
  blk_simp
  rw [after0_2]
  frame_out
  idx_vars y
  have e : ((View.whole main_v0_0).slice (win0_2.rect t)).emb (ix2 y0 y1) = ix2 (row t y0) y1 := by
    blk_ext [idx t, row]
  rw [e]
  exact normed m c t y0 y1

/-- Their transpose. -/
theorem array_ht : (dats m 0 c).arrAt 3 cfg0.N = val_main_v14 (F := Ideal) (x m c) (g m c) := by
  refine (dats m 0 c).arrAt_eq_of_covers 3 _ (by decide +kernel) fun t _ y => ?_
  blk_simp
  rw [after0_3]
  frame_out
  idx_vars y
  have e : ((View.whole main_v0_1).slice (win0_3.rect t)).emb (ix2 y0 y1) = ix2 y0 (row t y1) := by
    blk_ext [idx t, row]
  rw [e]
  have h := normed m c t y1 y0
  rw [val_main_v14, val_main_v13]
  generalize val_main_v11 (F := Ideal) (x m c) (g m c) = u at h ⊢
  pointwise [k0_pay3]
  exact h

/-- The program runs, changes no argument and leaves every counter at zero. -/
theorem frame_kernel : Cert.quiescent_Prenorm := fun m g _ => Cert.Prenorm.Gen.frame m g

/-- So does its idealization. -/
theorem frame_ideal : Cert.quiescent_PrenormIdeal := fun m g _ => Cert.PrenormIdeal.Gen.frame m g

/-- So does the reference. -/
theorem frame_reference : Cert.quiescent_PrenormRefIdeal := fun m g _ =>
  (θ_run Cert.PrenormRefIdeal.defs _ _).mono (fun r h => ⟨fun c => (h c).2.2, sem_eq_zero_of_no_sems (by decide) r.2⟩)
    (Cert.PrenormRefIdeal.Value.run m g)

/-- At every argument the two results are the reference's. -/
theorem value : Cert.algebraic_PrenormIdeal_PrenormRefIdeal := fun m g' m' g'' _ hargs => by
  refine ⟨fun c => (dats m 0 c).arrAt 2 cfg0.N, fun c => (dats m 0 c).arrAt 3 cfg0.N,
    (θ_run Cert.PrenormIdeal.defs _ _).mono (fun r h c => h c) (Cert.PrenormIdeal.Value.run_blocks m g'),
    (θ_run Cert.PrenormRefIdeal.defs _ _).mono (fun r h c => ?_) (Cert.PrenormRefIdeal.Value.run m' g'')⟩
  obtain ⟨e0, e1⟩ := hargs c
  obtain ⟨h0, h1, ha⟩ := h c
  refine ⟨h0.trans ?_, h1.trans ?_, ha⟩
  · exact (val_main_v12_eq _ _).trans ((congr (congrArg (val_main_v12 (F := Ideal)) e0) e1).trans (array_h m c).symm)
  · exact (val_main_v14_eq _ _).trans ((congr (congrArg (val_main_v14 (F := Ideal)) e0) e1).trans (array_ht m c).symm)

end Cert.PrenormClaim

end
-- ==== Proof.Adam.InA.lean ====
/-
  The optimiser's step on one device's shards of the sliding-window layers' input projections: the three arrays the call
  writes are the reference's, entry by entry.
-/
module

public import proofs.«01_k».proof.Defs
public import proofs.«01_k».proof.Proof.Gen.AdamInA.Frame
public import proofs.«01_k».proof.Proof.Gen.AdamInAIdeal.Value
public import proofs.«01_k».proof.Proof.Gen.AdamInARefIdeal.Run
public import proofs.«01_k».proof.Proof.Gen.AdamInARefIdeal.Read
public import Idealize.ShloMosaic.Lib.Pipeline.ValueKit
public import Idealize.ShloMosaic.Lib.Claim

@[expose] public section

set_option maxRecDepth 16384

noncomputable section

namespace Cert.AdamInAClaim

open Cert.AdamInAIdeal Cert.AdamInAIdeal.Gen
open Idealize.ShloMosaic Idealize.ShloMosaic.TcCoe Idealize.ShloMosaic.Pointwise Idealize.SL.Sem
open Idealize.ShloMosaic.Pipeline (Dat)
open Cert.AdamInARefIdeal.Read

variable (m : (ℓ : Loc nD τ sig) → Buf (Elt Ideal) ℓ) (c : Dev nD)

/-- The weights. -/
abbrev w : S2x2048x1152.Idx → EReal := m ((c : Thread nD τ).loc main_arg0)
/-- Their gradient. -/
abbrev g : S2x2048x1152.Idx → EReal := m ((c : Thread nD τ).loc main_arg1)
/-- The first moment. -/
abbrev m1 : S2x2048x1152.Idx → EReal := m ((c : Thread nD τ).loc main_arg2)
/-- The second moment. -/
abbrev m2 : S2x2048x1152.Idx → EReal := m ((c : Thread nD τ).loc main_arg3)

/-- Every window's block index at every grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0]
    ∧ win0_6.index t = ![t.val / 8, t.val % 8, 0] :=
  (by decide +kernel : ∀ t : Fin grid0.N, _)

/-- The layer of the block of a grid point. -/
def layer (t : Fin cfg0.N) (y : Fin 1) : Fin 2 :=
  ⟨t.val / 8 + y.val, by have h : t.val < 16 := t.isLt; have := y.isLt; omega⟩
/-- The array row that row `y` of the block of a grid point is. -/
def row (t : Fin cfg0.N) (y : Fin 256) : Fin 2048 :=
  ⟨t.val % 8 * 256 + y.val, by have := y.isLt; omega⟩

variable (t : Fin cfg0.N) (y0 : Fin 1) (y1 : Fin 256) (y2 : Fin 1152)

/-- The block of the weights is rows of the array. -/
theorem block_w : iblk m c 0 t (ix3 y0 y1 y2) = w m c (ix3 (layer t y0) (row t y1) y2) := by
  blk_ext [iblk, V_main_arg0, idx t, layer, row]
/-- So is that of the gradient, -/
theorem block_g : iblk m c 1 t (ix3 y0 y1 y2) = g m c (ix3 (layer t y0) (row t y1) y2) := by
  blk_ext [iblk, V_main_arg1, idx t, layer, row]
/-- that of the first moment -/
theorem block_m1 : iblk m c 2 t (ix3 y0 y1 y2) = m1 m c (ix3 (layer t y0) (row t y1) y2) := by
  blk_ext [iblk, V_main_arg2, idx t, layer, row]
/-- and that of the second. -/
theorem block_m2 : iblk m c 3 t (ix3 y0 y1 y2) = m2 m c (ix3 (layer t y0) (row t y1) y2) := by
  blk_ext [iblk, V_main_arg3, idx t, layer, row]

/-- The new first moment. -/
theorem array_m1 : (dats m 0 c).arrAt 5 cfg0.N = val_main_v4 (F := Ideal) (g m c) (m1 m c) := by
  refine (dats m 0 c).arrAt_eq_of_covers 5 _ (by decide +kernel) fun t _ y => ?_
  blk_simp
  rw [after0_5]
  frame_out
  idx_vars y
  have e : ((View.whole main_v0_1).slice (win0_5.rect t)).emb (ix3 y0 y1 y2) = ix3 (layer t y0) (row t y1) y2 := by
    blk_ext [idx t, layer, row]
  rw [e]
  pointwise [k0_pay2]
  rw [block_g, block_m1]
  simp only [val_main_v4_apply, val_main_v3_apply, val_main_v2_apply, val_main_v1_apply, val_main_v0_apply, val_main_cst_apply,
    val_main_cst_0_apply]
  rfl

/-- The new second moment. -/
theorem array_m2 : (dats m 0 c).arrAt 6 cfg0.N = val_main_v10 (F := Ideal) (g m c) (m2 m c) := by
  refine (dats m 0 c).arrAt_eq_of_covers 6 _ (by decide +kernel) fun t _ y => ?_
  blk_simp
  rw [after0_6]
  frame_out
  idx_vars y
  have e : ((View.whole main_v0_2).slice (win0_6.rect t)).emb (ix3 y0 y1 y2) = ix3 (layer t y0) (row t y1) y2 := by
    blk_ext [idx t, layer, row]
  rw [e]
  pointwise [k0_pay3]
  rw [block_g, block_m2]
  simp only [val_main_v10_apply, val_main_v9_apply, val_main_v8_apply, val_main_v7_apply, val_main_v6_apply, val_main_v5_apply,
    val_main_cst_1_apply, val_main_cst_2_apply]
  rfl

/-- The weights' change. -/
theorem array_w : (dats m 0 c).arrAt 4 cfg0.N = val_main_v23 (F := Ideal) (w m c) (g m c) (m1 m c) (m2 m c) := by
  refine (dats m 0 c).arrAt_eq_of_covers 4 _ (by decide +kernel) fun t _ y => ?_
  blk_simp
  rw [after0_4]
  frame_out
  idx_vars y
  have e : ((View.whole main_v0_0).slice (win0_4.rect t)).emb (ix3 y0 y1 y2) = ix3 (layer t y0) (row t y1) y2 := by
    blk_ext [idx t, layer, row]
  rw [e]
  pointwise [k0_pay1, k0_pay2, k0_pay3, k0_pay4, k0_pay5]
  rw [block_w, block_g, block_m1, block_m2]
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply,
    val_main_cst_5_apply, val_main_cst_6_apply, val_main_cst_7_apply]
  rfl

/-- The program runs, changes no argument and leaves every counter at zero. -/
theorem frame_kernel : Cert.quiescent_AdamInA := fun m g _ => Cert.AdamInA.Gen.frame m g

/-- So does its idealization. -/
theorem frame_ideal : Cert.quiescent_AdamInAIdeal := fun m g _ => Cert.AdamInAIdeal.Gen.frame m g

/-- So does the reference. -/
theorem frame_reference : Cert.quiescent_AdamInARefIdeal := fun m g _ =>
  (θ_run Cert.AdamInARefIdeal.defs _ _).mono (fun r h => ⟨fun c => (h c).2.2.2, sem_eq_zero_of_no_sems (by decide) r.2⟩)
    (Cert.AdamInARefIdeal.Value.run m g)

/-- At every argument the three results are the reference's. -/
theorem value : Cert.algebraic_AdamInAIdeal_AdamInARefIdeal := fun m g' m' g'' _ hargs => by
  refine ⟨fun c => (dats m 0 c).arrAt 4 cfg0.N, fun c => (dats m 0 c).arrAt 5 cfg0.N, fun c => (dats m 0 c).arrAt 6 cfg0.N,
    (θ_run Cert.AdamInAIdeal.defs _ _).mono (fun r h c => h c) (Cert.AdamInAIdeal.Value.run_blocks m g'),
    (θ_run Cert.AdamInARefIdeal.defs _ _).mono (fun r h c => ?_) (Cert.AdamInARefIdeal.Value.run m' g'')⟩
  obtain ⟨e0, e1, e2, e3⟩ := hargs c
  obtain ⟨h0, h1, h2, ha⟩ := h c
  refine ⟨h0.trans ?_, h1.trans ?_, h2.trans ?_, ha⟩
  · exact (val_main_v23_eq _ _ _ _).trans ((congr (congr (congr (congrArg (val_main_v23 (F := Ideal)) e0) e1) e2) e3).trans (array_w m c).symm)
  · exact (val_main_v4_eq _ _).trans ((congr (congrArg (val_main_v4 (F := Ideal)) e1) e2).trans (array_m1 m c).symm)
  · exact (val_main_v10_eq _ _).trans ((congr (congrArg (val_main_v10 (F := Ideal)) e1) e3).trans (array_m2 m c).symm)

end Cert.AdamInAClaim

end
-- ==== Proof.Adam.OutA.lean ====
/-
  The optimiser's step on one device's shards of the sliding-window layers' output projections: the three arrays the call
  writes are the reference's, entry by entry.
-/
module

public import proofs.«01_k».proof.Defs
public import proofs.«01_k».proof.Proof.Gen.AdamOutA.Frame
public import proofs.«01_k».proof.Proof.Gen.AdamOutAIdeal.Value
public import proofs.«01_k».proof.Proof.Gen.AdamOutARefIdeal.Run
public import proofs.«01_k».proof.Proof.Gen.AdamOutARefIdeal.Read
public import Idealize.ShloMosaic.Lib.Pipeline.ValueKit
public import Idealize.ShloMosaic.Lib.Claim

@[expose] public section

set_option maxRecDepth 16384

noncomputable section

namespace Cert.AdamOutAClaim

open Cert.AdamOutAIdeal Cert.AdamOutAIdeal.Gen
open Idealize.ShloMosaic Idealize.ShloMosaic.TcCoe Idealize.ShloMosaic.Pointwise Idealize.SL.Sem
open Idealize.ShloMosaic.Pipeline (Dat)
open Cert.AdamOutARefIdeal.Read

variable (m : (ℓ : Loc nD τ sig) → Buf (Elt Ideal) ℓ) (c : Dev nD)

/-- The weights. -/
abbrev w : S2x512x2048.Idx → EReal := m ((c : Thread nD τ).loc main_arg0)
/-- Their gradient. -/
abbrev g : S2x512x2048.Idx → EReal := m ((c : Thread nD τ).loc main_arg1)
/-- The first moment. -/
abbrev m1 : S2x512x2048.Idx → EReal := m ((c : Thread nD τ).loc main_arg2)
/-- The second moment. -/
abbrev m2 : S2x512x2048.Idx → EReal := m ((c : Thread nD τ).loc main_arg3)

/-- Every window's block index at every grid point. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] :=
  (by decide +kernel : ∀ t : Fin grid0.N, _)

/-- The layer of the block of a grid point. -/
def layer (t : Fin cfg0.N) (y : Fin 1) : Fin 2 :=
  ⟨t.val / 2 + y.val, by have h : t.val < 4 := t.isLt; have := y.isLt; omega⟩
/-- The array row that row `y` of the block of a grid point is. -/
def row (t : Fin cfg0.N) (y : Fin 256) : Fin 512 :=
  ⟨t.val % 2 * 256 + y.val, by have := y.isLt; omega⟩

variable (t : Fin cfg0.N) (y0 : Fin 1) (y1 : Fin 256) (y2 : Fin 2048)

/-- The block of the weights is rows of the array. -/
theorem block_w : iblk m c 0 t (ix3 y0 y1 y2) = w m c (ix3 (layer t y0) (row t y1) y2) := by
  blk_ext [iblk, V_main_arg0, idx t, layer, row]
/-- So is that of the gradient, -/
theorem block_g : iblk m c 1 t (ix3 y0 y1 y2) = g m c (ix3 (layer t y0) (row t y1) y2) := by
  blk_ext [iblk, V_main_arg1, idx t, layer, row]
/-- that of the first moment -/
theorem block_m1 : iblk m c 2 t (ix3 y0 y1 y2) = m1 m c (ix3 (layer t y0) (row t y1) y2) := by
  blk_ext [iblk, V_main_arg2, idx t, layer, row]
/-- and that of the second. -/
theorem block_m2 : iblk m c 3 t (ix3 y0 y1 y2) = m2 m c (ix3 (layer t y0) (row t y1) y2) := by
  blk_ext [iblk, V_main_arg3, idx t, layer, row]

/-- The new first moment. -/
theorem array_m1 : (dats m 0 c).arrAt 5 cfg0.N = val_main_v4 (F := Ideal) (g m c) (m1 m c) := by
  refine (dats m 0 c).arrAt_eq_of_covers 5 _ (by decide +kernel) fun t _ y => ?_
  blk_simp
  rw [after0_5]
  frame_out
  idx_vars y
  have e : ((View.whole main_v0_1).slice (win0_5.rect t)).emb (ix3 y0 y1 y2) = ix3 (layer t y0) (row t y1) y2 := by
    blk_ext [idx t, layer, row]
  rw [e]
  pointwise [k0_pay2]
  rw [block_g, block_m1]
  simp only [val_main_v4_apply, val_main_v3_apply, val_main_v2_apply, val_main_v1_apply, val_main_v0_apply, val_main_cst_apply,
    val_main_cst_0_apply]
  rfl

/-- The new second moment. -/
theorem array_m2 : (dats m 0 c).arrAt 6 cfg0.N = val_main_v10 (F := Ideal) (g m c) (m2 m c) := by
  refine (dats m 0 c).arrAt_eq_of_covers 6 _ (by decide +kernel) fun t _ y => ?_
  blk_simp
  rw [after0_6]
  frame_out
  idx_vars y
  have e : ((View.whole main_v0_2).slice (win0_6.rect t)).emb (ix3 y0 y1 y2) = ix3 (layer t y0) (row t y1) y2 := by
    blk_ext [idx t, layer, row]
  rw [e]
  pointwise [k0_pay3]
  rw [block_g, block_m2]
  simp only [val_main_v10_apply, val_main_v9_apply, val_main_v8_apply, val_main_v7_apply, val_main_v6_apply, val_main_v5_apply,
    val_main_cst_1_apply, val_main_cst_2_apply]
  rfl

/-- The weights' change. -/
theorem array_w : (dats m 0 c).arrAt 4 cfg0.N = val_main_v23 (F := Ideal) (w m c) (g m c) (m1 m c) (m2 m c) := by
  refine (dats m 0 c).arrAt_eq_of_covers 4 _ (by decide +kernel) fun t _ y => ?_
  blk_simp
  rw [after0_4]
  frame_out
  idx_vars y
  have e : ((View.whole main_v0_0).slice (win0_4.rect t)).emb (ix3 y0 y1 y2) = ix3 (layer t y0) (row t y1) y2 := by
    blk_ext [idx t, layer, row]
  rw [e]
  pointwise [k0_pay1, k0_pay2, k0_pay3, k0_pay4, k0_pay5]
  rw [block_w, block_g, block_m1, block_m2]
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply,
    val_main_cst_5_apply, val_main_cst_6_apply, val_main_cst_7_apply]
  rfl

/-- The program runs, changes no argument and leaves every counter at zero. -/
theorem frame_kernel : Cert.quiescent_AdamOutA := fun m g _ => Cert.AdamOutA.Gen.frame m g

/-- So does its idealization. -/
theorem frame_ideal : Cert.quiescent_AdamOutAIdeal := fun m g _ => Cert.AdamOutAIdeal.Gen.frame m g

/-- So does the reference. -/
theorem frame_reference : Cert.quiescent_AdamOutARefIdeal := fun m g _ =>
  (θ_run Cert.AdamOutARefIdeal.defs _ _).mono (fun r h => ⟨fun c => (h c).2.2.2, sem_eq_zero_of_no_sems (by decide) r.2⟩)
    (Cert.AdamOutARefIdeal.Value.run m g)

/-- At every argument the three results are the reference's. -/
theorem value : Cert.algebraic_AdamOutAIdeal_AdamOutARefIdeal := fun m g' m' g'' _ hargs => by
  refine ⟨fun c => (dats m 0 c).arrAt 4 cfg0.N, fun c => (dats m 0 c).arrAt 5 cfg0.N, fun c => (dats m 0 c).arrAt 6 cfg0.N,
    (θ_run Cert.AdamOutAIdeal.defs _ _).mono (fun r h c => h c) (Cert.AdamOutAIdeal.Value.run_blocks m g'),
    (θ_run Cert.AdamOutARefIdeal.defs _ _).mono (fun r h c => ?_) (Cert.AdamOutARefIdeal.Value.run m' g'')⟩
  obtain ⟨e0, e1, e2, e3⟩ := hargs c
  obtain ⟨h0, h1, h2, ha⟩ := h c
  refine ⟨h0.trans ?_, h1.trans ?_, h2.trans ?_, ha⟩
  · exact (val_main_v23_eq _ _ _ _).trans ((congr (congr (congr (congrArg (val_main_v23 (F := Ideal)) e0) e1) e2) e3).trans (array_w m c).symm)
  · exact (val_main_v4_eq _ _).trans ((congr (congrArg (val_main_v4 (F := Ideal)) e1) e2).trans (array_m1 m c).symm)
  · exact (val_main_v10_eq _ _).trans ((congr (congrArg (val_main_v10 (F := Ideal)) e1) e3).trans (array_m2 m c).symm)

end Cert.AdamOutAClaim

end
-- ==== Proof.Adam.OutB.lean ====
/-
  The optimiser's step on one device's shards of the stick-breaking layer's output projection, or of the
  forgetting layer's: the three arrays the call
  writes are the reference's, entry by entry.
-/
module

public import proofs.«01_k».proof.Defs
public import proofs.«01_k».proof.Proof.Gen.AdamOutB.Frame
public import proofs.«01_k».proof.Proof.Gen.AdamOutBIdeal.Value
public import proofs.«01_k».proof.Proof.Gen.AdamOutBRefIdeal.Run
public import proofs.«01_k».proof.Proof.Gen.AdamOutBRefIdeal.Read
public import Idealize.ShloMosaic.Lib.Pipeline.ValueKit
public import Idealize.ShloMosaic.Lib.Claim

@[expose] public section

set_option maxRecDepth 16384

noncomputable section

namespace Cert.AdamOutBClaim

open Cert.AdamOutBIdeal Cert.AdamOutBIdeal.Gen
open Idealize.ShloMosaic Idealize.ShloMosaic.TcCoe Idealize.ShloMosaic.Pointwise Idealize.SL.Sem
open Idealize.ShloMosaic.Pipeline (Dat)
open Cert.AdamOutBRefIdeal.Read

variable (m : (ℓ : Loc nD τ sig) → Buf (Elt Ideal) ℓ) (c : Dev nD)

/-- The weights. -/
abbrev w : S1x512x2048.Idx → EReal := m ((c : Thread nD τ).loc main_arg0)
/-- Their gradient. -/
abbrev g : S1x512x2048.Idx → EReal := m ((c : Thread nD τ).loc main_arg1)
/-- The first moment. -/
abbrev m1 : S1x512x2048.Idx → EReal := m ((c : Thread nD τ).loc main_arg2)
/-- The second moment. -/
abbrev m2 : S1x512x2048.Idx → EReal := m ((c : Thread nD τ).loc main_arg3)

/-- Every window's block index at every grid point. -/
theorem idx : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0]
    ∧ win0_6.index t = ![t.val / 2, t.val % 2, 0] :=
  (by decide +kernel : ∀ t : Fin grid0.N, _)

/-- The layer of the block of a grid point. -/
def layer (t : Fin cfg0.N) (y : Fin 1) : Fin 1 :=
  ⟨t.val / 2 + y.val, by have h : t.val < 2 := t.isLt; have := y.isLt; omega⟩
/-- The array row that row `y` of the block of a grid point is. -/
def row (t : Fin cfg0.N) (y : Fin 256) : Fin 512 :=
  ⟨t.val % 2 * 256 + y.val, by have := y.isLt; omega⟩

variable (t : Fin cfg0.N) (y0 : Fin 1) (y1 : Fin 256) (y2 : Fin 2048)

/-- The block of the weights is rows of the array. -/
theorem block_w : iblk m c 0 t (ix3 y0 y1 y2) = w m c (ix3 (layer t y0) (row t y1) y2) := by
  blk_ext [iblk, V_main_arg0, idx t, layer, row]
/-- So is that of the gradient, -/
theorem block_g : iblk m c 1 t (ix3 y0 y1 y2) = g m c (ix3 (layer t y0) (row t y1) y2) := by
  blk_ext [iblk, V_main_arg1, idx t, layer, row]
/-- that of the first moment -/
theorem block_m1 : iblk m c 2 t (ix3 y0 y1 y2) = m1 m c (ix3 (layer t y0) (row t y1) y2) := by
  blk_ext [iblk, V_main_arg2, idx t, layer, row]
/-- and that of the second. -/
theorem block_m2 : iblk m c 3 t (ix3 y0 y1 y2) = m2 m c (ix3 (layer t y0) (row t y1) y2) := by
  blk_ext [iblk, V_main_arg3, idx t, layer, row]

/-- The new first moment. -/
theorem array_m1 : (dats m 0 c).arrAt 5 cfg0.N = val_main_v4 (F := Ideal) (g m c) (m1 m c) := by
  refine (dats m 0 c).arrAt_eq_of_covers 5 _ (by decide +kernel) fun t _ y => ?_
  blk_simp
  rw [after0_5]
  frame_out
  idx_vars y
  have e : ((View.whole main_v0_1).slice (win0_5.rect t)).emb (ix3 y0 y1 y2) = ix3 (layer t y0) (row t y1) y2 := by
    blk_ext [idx t, layer, row]
  rw [e]
  pointwise [k0_pay2]
  rw [block_g, block_m1]
  simp only [val_main_v4_apply, val_main_v3_apply, val_main_v2_apply, val_main_v1_apply, val_main_v0_apply, val_main_cst_apply,
    val_main_cst_0_apply]
  rfl

/-- The new second moment. -/
theorem array_m2 : (dats m 0 c).arrAt 6 cfg0.N = val_main_v10 (F := Ideal) (g m c) (m2 m c) := by
  refine (dats m 0 c).arrAt_eq_of_covers 6 _ (by decide +kernel) fun t _ y => ?_
  blk_simp
  rw [after0_6]
  frame_out
  idx_vars y
  have e : ((View.whole main_v0_2).slice (win0_6.rect t)).emb (ix3 y0 y1 y2) = ix3 (layer t y0) (row t y1) y2 := by
    blk_ext [idx t, layer, row]
  rw [e]
  pointwise [k0_pay3]
  rw [block_g, block_m2]
  simp only [val_main_v10_apply, val_main_v9_apply, val_main_v8_apply, val_main_v7_apply, val_main_v6_apply, val_main_v5_apply,
    val_main_cst_1_apply, val_main_cst_2_apply]
  rfl

/-- The weights' change. -/
theorem array_w : (dats m 0 c).arrAt 4 cfg0.N = val_main_v23 (F := Ideal) (w m c) (g m c) (m1 m c) (m2 m c) := by
  refine (dats m 0 c).arrAt_eq_of_covers 4 _ (by decide +kernel) fun t _ y => ?_
  blk_simp
  rw [after0_4]
  frame_out
  idx_vars y
  have e : ((View.whole main_v0_0).slice (win0_4.rect t)).emb (ix3 y0 y1 y2) = ix3 (layer t y0) (row t y1) y2 := by
    blk_ext [idx t, layer, row]
  rw [e]
  pointwise [k0_pay1, k0_pay2, k0_pay3, k0_pay4, k0_pay5]
  rw [block_w, block_g, block_m1, block_m2]
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply,
    val_main_cst_5_apply, val_main_cst_6_apply, val_main_cst_7_apply]
  rfl

/-- The program runs, changes no argument and leaves every counter at zero. -/
theorem frame_kernel : Cert.quiescent_AdamOutB := fun m g _ => Cert.AdamOutB.Gen.frame m g

/-- So does its idealization. -/
theorem frame_ideal : Cert.quiescent_AdamOutBIdeal := fun m g _ => Cert.AdamOutBIdeal.Gen.frame m g

/-- So does the reference. -/
theorem frame_reference : Cert.quiescent_AdamOutBRefIdeal := fun m g _ =>
  (θ_run Cert.AdamOutBRefIdeal.defs _ _).mono (fun r h => ⟨fun c => (h c).2.2.2, sem_eq_zero_of_no_sems (by decide) r.2⟩)
    (Cert.AdamOutBRefIdeal.Value.run m g)

/-- At every argument the three results are the reference's. -/
theorem value : Cert.algebraic_AdamOutBIdeal_AdamOutBRefIdeal := fun m g' m' g'' _ hargs => by
  refine ⟨fun c => (dats m 0 c).arrAt 4 cfg0.N, fun c => (dats m 0 c).arrAt 5 cfg0.N, fun c => (dats m 0 c).arrAt 6 cfg0.N,
    (θ_run Cert.AdamOutBIdeal.defs _ _).mono (fun r h c => h c) (Cert.AdamOutBIdeal.Value.run_blocks m g'),
    (θ_run Cert.AdamOutBRefIdeal.defs _ _).mono (fun r h c => ?_) (Cert.AdamOutBRefIdeal.Value.run m' g'')⟩
  obtain ⟨e0, e1, e2, e3⟩ := hargs c
  obtain ⟨h0, h1, h2, ha⟩ := h c
  refine ⟨h0.trans ?_, h1.trans ?_, h2.trans ?_, ha⟩
  · exact (val_main_v23_eq _ _ _ _).trans ((congr (congr (congr (congrArg (val_main_v23 (F := Ideal)) e0) e1) e2) e3).trans (array_w m c).symm)
  · exact (val_main_v4_eq _ _).trans ((congr (congrArg (val_main_v4 (F := Ideal)) e1) e2).trans (array_m1 m c).symm)
  · exact (val_main_v10_eq _ _).trans ((congr (congrArg (val_main_v10 (F := Ideal)) e1) e3).trans (array_m2 m c).symm)

end Cert.AdamOutBClaim

end
-- ==== Proof.Adam.Small.lean ====
/-
  The optimiser's step on the small weights, packed in one array: the three arrays the call
  writes are the reference's, entry by entry.
-/
module

public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pipeline.ValueKit
public import Idealize.ShloMosaic.Lib.Claim

@[expose] public section

set_option maxRecDepth 16384

noncomputable section

namespace Cert.AdamSmallClaim

open Cert.AdamSmallIdeal Cert.AdamSmallIdeal.Gen
open Idealize.ShloMosaic Idealize.ShloMosaic.TcCoe Idealize.ShloMosaic.Pointwise Idealize.SL.Sem
open Idealize.ShloMosaic.Pipeline (Dat)
open Cert.AdamSmallRefIdeal.Read

variable (m : (ℓ : Loc nD τ sig) → Buf (Elt Ideal) ℓ) (c : Dev nD)

/-- The weights. -/
abbrev w : S1x136x128.Idx → EReal := m ((c : Thread nD τ).loc main_arg0)
/-- Their gradient. -/
abbrev g : S1x136x128.Idx → EReal := m ((c : Thread nD τ).loc main_arg1)
/-- The first moment. -/
abbrev m1 : S1x136x128.Idx → EReal := m ((c : Thread nD τ).loc main_arg2)
/-- The second moment. -/
abbrev m2 : S1x136x128.Idx → EReal := m ((c : Thread nD τ).loc main_arg3)

/-- Every window's block index at every grid point. -/
theorem idx : ∀ t : Fin cfg0.N, win0_0.index t = ![t.val / 1, t.val % 1, 0] ∧ win0_1.index t = ![t.val / 1, t.val % 1, 0]
    ∧ win0_2.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] :=
  (by decide +kernel : ∀ t : Fin grid0.N, _)

/-- The layer of the block of a grid point. -/
def layer (t : Fin cfg0.N) (y : Fin 1) : Fin 1 :=
  ⟨t.val / 1 + y.val, by have h : t.val < 1 := t.isLt; have := y.isLt; omega⟩
/-- The array row that row `y` of the block of a grid point is. -/
def row (t : Fin cfg0.N) (y : Fin 136) : Fin 136 :=
  ⟨t.val % 1 * 136 + y.val, by have := y.isLt; omega⟩

variable (t : Fin cfg0.N) (y0 : Fin 1) (y1 : Fin 136) (y2 : Fin 128)

/-- The block of the weights is rows of the array. -/
theorem block_w : iblk m c 0 t (ix3 y0 y1 y2) = w m c (ix3 (layer t y0) (row t y1) y2) := by
  blk_ext [iblk, V_main_arg0, idx t, layer, row]
/-- So is that of the gradient, -/
theorem block_g : iblk m c 1 t (ix3 y0 y1 y2) = g m c (ix3 (layer t y0) (row t y1) y2) := by
  blk_ext [iblk, V_main_arg1, idx t, layer, row]
/-- that of the first moment -/
theorem block_m1 : iblk m c 2 t (ix3 y0 y1 y2) = m1 m c (ix3 (layer t y0) (row t y1) y2) := by
  blk_ext [iblk, V_main_arg2, idx t, layer, row]
/-- and that of the second. -/
theorem block_m2 : iblk m c 3 t (ix3 y0 y1 y2) = m2 m c (ix3 (layer t y0) (row t y1) y2) := by
  blk_ext [iblk, V_main_arg3, idx t, layer, row]

/-- The new first moment. -/
theorem array_m1 : (dats m 0 c).arrAt 5 cfg0.N = val_main_v4 (F := Ideal) (g m c) (m1 m c) := by
  refine (dats m 0 c).arrAt_eq_of_covers 5 _ (by decide +kernel) fun t _ y => ?_
  blk_simp
  rw [after0_5]
  frame_out
  idx_vars y
  have e : ((View.whole main_v0_1).slice (win0_5.rect t)).emb (ix3 y0 y1 y2) = ix3 (layer t y0) (row t y1) y2 := by
    blk_ext [idx t, layer, row]
  rw [e]
  pointwise [k0_pay2]
  rw [block_g, block_m1]
  simp only [val_main_v4_apply, val_main_v3_apply, val_main_v2_apply, val_main_v1_apply, val_main_v0_apply, val_main_cst_apply,
    val_main_cst_0_apply]
  rfl

/-- The new second moment. -/
theorem array_m2 : (dats m 0 c).arrAt 6 cfg0.N = val_main_v10 (F := Ideal) (g m c) (m2 m c) := by
  refine (dats m 0 c).arrAt_eq_of_covers 6 _ (by decide +kernel) fun t _ y => ?_
  blk_simp
  rw [after0_6]
  frame_out
  idx_vars y
  have e : ((View.whole main_v0_2).slice (win0_6.rect t)).emb (ix3 y0 y1 y2) = ix3 (layer t y0) (row t y1) y2 := by
    blk_ext [idx t, layer, row]
  rw [e]
  pointwise [k0_pay3]
  rw [block_g, block_m2]
  simp only [val_main_v10_apply, val_main_v9_apply, val_main_v8_apply, val_main_v7_apply, val_main_v6_apply, val_main_v5_apply,
    val_main_cst_1_apply, val_main_cst_2_apply]
  rfl

/-- The weights' change. -/
theorem array_w : (dats m 0 c).arrAt 4 cfg0.N = val_main_v23 (F := Ideal) (w m c) (g m c) (m1 m c) (m2 m c) := by
  refine (dats m 0 c).arrAt_eq_of_covers 4 _ (by decide +kernel) fun t _ y => ?_
  blk_simp
  rw [after0_4]
  frame_out
  idx_vars y
  have e : ((View.whole main_v0_0).slice (win0_4.rect t)).emb (ix3 y0 y1 y2) = ix3 (layer t y0) (row t y1) y2 := by
    blk_ext [idx t, layer, row]
  rw [e]
  pointwise [k0_pay1, k0_pay2, k0_pay3, k0_pay4, k0_pay5]
  rw [block_w, block_g, block_m1, block_m2]
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply, val_main_cst_4_apply,
    val_main_cst_5_apply, val_main_cst_6_apply, val_main_cst_7_apply]
  rfl

/-- The program runs, changes no argument and leaves every counter at zero. -/
theorem frame_kernel : Cert.quiescent_AdamSmall := fun m g _ => Cert.AdamSmall.Gen.frame m g

/-- So does its idealization. -/
theorem frame_ideal : Cert.quiescent_AdamSmallIdeal := fun m g _ => Cert.AdamSmallIdeal.Gen.frame m g

/-- So does the reference. -/
theorem frame_reference : Cert.quiescent_AdamSmallRefIdeal := fun m g _ =>
  (θ_run Cert.AdamSmallRefIdeal.defs _ _).mono (fun r h => ⟨fun c => (h c).2.2.2, sem_eq_zero_of_no_sems (by decide) r.2⟩)
    (Cert.AdamSmallRefIdeal.Value.run m g)

/-- At every argument the three results are the reference's. -/
theorem value : Cert.algebraic_AdamSmallIdeal_AdamSmallRefIdeal := fun m g' m' g'' _ hargs => by
  refine ⟨fun c => (dats m 0 c).arrAt 4 cfg0.N, fun c => (dats m 0 c).arrAt 5 cfg0.N, fun c => (dats m 0 c).arrAt 6 cfg0.N,
    (θ_run Cert.AdamSmallIdeal.defs _ _).mono (fun r h c => h c) (Cert.AdamSmallIdeal.Value.run_blocks m g'),
    (θ_run Cert.AdamSmallRefIdeal.defs _ _).mono (fun r h c => ?_) (Cert.AdamSmallRefIdeal.Value.run m' g'')⟩
  obtain ⟨e0, e1, e2, e3⟩ := hargs c
  obtain ⟨h0, h1, h2, ha⟩ := h c
  refine ⟨h0.trans ?_, h1.trans ?_, h2.trans ?_, ha⟩
  · exact (val_main_v23_eq _ _ _ _).trans ((congr (congr (congr (congrArg (val_main_v23 (F := Ideal)) e0) e1) e2) e3).trans (array_w m c).symm)
  · exact (val_main_v4_eq _ _).trans ((congr (congrArg (val_main_v4 (F := Ideal)) e1) e2).trans (array_m1 m c).symm)
  · exact (val_main_v10_eq _ _).trans ((congr (congrArg (val_main_v10 (F := Ideal)) e1) e3).trans (array_m2 m c).symm)

end Cert.AdamSmallClaim

end
-- ==== Proof.Adam.Many.lean ====
/-
  The optimiser's step on one device's shards of two matrices in one call, the input projections of the stick-breaking and
  of the forgetting layer: the six arrays the call writes are the reference's, entry by entry.
-/
module

public import proofs.«01_k».proof.Defs
public import proofs.«01_k».proof.Proof.Gen.AdamMany.Frame
public import proofs.«01_k».proof.Proof.Gen.AdamManyIdeal.Value
public import proofs.«01_k».proof.Proof.Gen.AdamManyRefIdeal.Run
public import proofs.«01_k».proof.Proof.Gen.AdamManyRefIdeal.Read
public import Idealize.ShloMosaic.Lib.Pipeline.ValueKit
public import Idealize.ShloMosaic.Lib.Claim

@[expose] public section

set_option maxRecDepth 16384

noncomputable section

namespace Cert.AdamManyClaim

open Cert.AdamManyIdeal Cert.AdamManyIdeal.Gen
open Idealize.ShloMosaic Idealize.ShloMosaic.TcCoe Idealize.ShloMosaic.Pointwise Idealize.SL.Sem
open Idealize.ShloMosaic.Pipeline (Dat)
open Cert.AdamManyRefIdeal.Read

variable (m : (ℓ : Loc nD τ sig) → Buf (Elt Ideal) ℓ) (c : Dev nD)

/-- The stick-breaking layer's weights. -/
abbrev wb : S1x2048x2048.Idx → EReal := m ((c : Thread nD τ).loc main_arg0)
/-- Their gradient. -/
abbrev gb : S1x2048x2048.Idx → EReal := m ((c : Thread nD τ).loc main_arg1)
/-- Their first moment. -/
abbrev pb : S1x2048x2048.Idx → EReal := m ((c : Thread nD τ).loc main_arg2)
/-- Their second moment. -/
abbrev qb : S1x2048x2048.Idx → EReal := m ((c : Thread nD τ).loc main_arg3)
/-- The forgetting layer's weights. -/
abbrev wc : S1x2056x2048.Idx → EReal := m ((c : Thread nD τ).loc main_arg4)
/-- Their gradient. -/
abbrev gc : S1x2056x2048.Idx → EReal := m ((c : Thread nD τ).loc main_arg5)
/-- Their first moment. -/
abbrev pc : S1x2056x2048.Idx → EReal := m ((c : Thread nD τ).loc main_arg6)
/-- Their second moment. -/
abbrev qc : S1x2056x2048.Idx → EReal := m ((c : Thread nD τ).loc main_arg7)

/-- Every window's block index at every grid point. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, 0, t.val] ∧ win0_5.index t = ![0, 0, t.val]
    ∧ win0_6.index t = ![0, 0, t.val] ∧ win0_7.index t = ![0, 0, t.val] ∧ win0_8.index t = ![0, t.val, 0]
    ∧ win0_9.index t = ![0, t.val, 0] ∧ win0_10.index t = ![0, t.val, 0] ∧ win0_11.index t = ![0, 0, t.val]
    ∧ win0_12.index t = ![0, 0, t.val] ∧ win0_13.index t = ![0, 0, t.val] :=
  (by decide +kernel : ∀ t : Fin grid0.N, _)

/-- The place in the array of row, or column, `y` of the block of a grid point. -/
def row (t : Fin cfg0.N) (y : Fin 128) : Fin 2048 :=
  ⟨t.val * 128 + y.val, by have h : t.val < 16 := t.isLt; have := y.isLt; omega⟩

variable (t : Fin cfg0.N)

/-- The block of window 0. -/
theorem block_wb (y0 : Fin 1) (y1 : Fin 128) (y2 : Fin 2048) : iblk m c 0 t (ix3 y0 y1 y2) = wb m c (ix3 y0 (row t y1) y2) := by
  blk_ext [iblk, V_main_arg0, idx t, row]
/-- The block of window 1. -/
theorem block_gb (y0 : Fin 1) (y1 : Fin 128) (y2 : Fin 2048) : iblk m c 1 t (ix3 y0 y1 y2) = gb m c (ix3 y0 (row t y1) y2) := by
  blk_ext [iblk, V_main_arg1, idx t, row]
/-- The block of window 2. -/
theorem block_pb (y0 : Fin 1) (y1 : Fin 128) (y2 : Fin 2048) : iblk m c 2 t (ix3 y0 y1 y2) = pb m c (ix3 y0 (row t y1) y2) := by
  blk_ext [iblk, V_main_arg2, idx t, row]
/-- The block of window 3. -/
theorem block_qb (y0 : Fin 1) (y1 : Fin 128) (y2 : Fin 2048) : iblk m c 3 t (ix3 y0 y1 y2) = qb m c (ix3 y0 (row t y1) y2) := by
  blk_ext [iblk, V_main_arg3, idx t, row]
/-- The block of window 4. -/
theorem block_wc (y0 : Fin 1) (y1 : Fin 2056) (y2 : Fin 128) : iblk m c 4 t (ix3 y0 y1 y2) = wc m c (ix3 y0 y1 (row t y2)) := by
  blk_ext [iblk, V_main_arg4, idx t, row]
/-- The block of window 5. -/
theorem block_gc (y0 : Fin 1) (y1 : Fin 2056) (y2 : Fin 128) : iblk m c 5 t (ix3 y0 y1 y2) = gc m c (ix3 y0 y1 (row t y2)) := by
  blk_ext [iblk, V_main_arg5, idx t, row]
/-- The block of window 6. -/
theorem block_pc (y0 : Fin 1) (y1 : Fin 2056) (y2 : Fin 128) : iblk m c 6 t (ix3 y0 y1 y2) = pc m c (ix3 y0 y1 (row t y2)) := by
  blk_ext [iblk, V_main_arg6, idx t, row]
/-- The block of window 7. -/
theorem block_qc (y0 : Fin 1) (y1 : Fin 2056) (y2 : Fin 128) : iblk m c 7 t (ix3 y0 y1 y2) = qc m c (ix3 y0 y1 (row t y2)) := by
  blk_ext [iblk, V_main_arg7, idx t, row]

/-- The change of the stick-breaking layer's weights. -/
theorem array_wb : (dats m 0 c).arrAt 8 cfg0.N = val_main_v23 (F := Ideal) (wb m c) (gb m c) (pb m c) (qb m c) := by
  refine (dats m 0 c).arrAt_eq_of_covers 8 _ (by decide +kernel) fun t _ y => ?_
  blk_simp
  rw [after0_8]
  frame_out
  idx_vars y
  have e : ((View.whole main_v0_0).slice (win0_8.rect t)).emb (ix3 y0 y1 y2) = ix3 y0 (row t y1) y2 := by
    blk_ext [idx t, row]
  rw [e]
  pointwise [k0_pay4, k0_pay2, k0_pay3]
  rw [block_wb, block_gb, block_pb, block_qb]
  simp only [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_cst_apply, val_main_cst_0_apply, val_main_cst_1_apply, val_main_cst_2_apply, val_main_cst_3_apply,
    val_main_cst_4_apply, val_main_cst_5_apply, val_main_cst_6_apply, val_main_cst_7_apply]
  rfl

/-- Their new first moment. -/
theorem array_pb : (dats m 0 c).arrAt 9 cfg0.N = val_main_v4 (F := Ideal) (gb m c) (pb m c) := by
  refine (dats m 0 c).arrAt_eq_of_covers 9 _ (by decide +kernel) fun t _ y => ?_
  blk_simp
  rw [after0_9]
  frame_out
  idx_vars y
  have e : ((View.whole main_v0_1).slice (win0_9.rect t)).emb (ix3 y0 y1 y2) = ix3 y0 (row t y1) y2 := by
    blk_ext [idx t, row]
  rw [e]
  pointwise [k0_pay2]
  rw [block_gb, block_pb]
  simp only [val_main_v4_apply, val_main_v3_apply, val_main_v2_apply, val_main_v1_apply, val_main_v0_apply, val_main_cst_apply,
    val_main_cst_0_apply]
  rfl

/-- Their new second moment. -/
theorem array_qb : (dats m 0 c).arrAt 10 cfg0.N = val_main_v10 (F := Ideal) (gb m c) (qb m c) := by
  refine (dats m 0 c).arrAt_eq_of_covers 10 _ (by decide +kernel) fun t _ y => ?_
  blk_simp
  rw [after0_10]
  frame_out
  idx_vars y
  have e : ((View.whole main_v0_2).slice (win0_10.rect t)).emb (ix3 y0 y1 y2) = ix3 y0 (row t y1) y2 := by
    blk_ext [idx t, row]
  rw [e]
  pointwise [k0_pay3]
  rw [block_gb, block_qb]
  simp only [val_main_v10_apply, val_main_v9_apply, val_main_v8_apply, val_main_v7_apply, val_main_v6_apply, val_main_v5_apply,
    val_main_cst_1_apply, val_main_cst_2_apply]
  rfl

/-- The change of the forgetting layer's weights. -/
theorem array_wc : (dats m 0 c).arrAt 11 cfg0.N = val_main_v47 (F := Ideal) (wc m c) (gc m c) (pc m c) (qc m c) := by
  refine (dats m 0 c).arrAt_eq_of_covers 11 _ (by decide +kernel) fun t _ y => ?_
  blk_simp
  rw [after0_11]
  frame_out
  idx_vars y
  have e : ((View.whole main_v0_3).slice (win0_11.rect t)).emb (ix3 y0 y1 y2) = ix3 y0 y1 (row t y2) := by
    blk_ext [idx t, row]
  rw [e]
  pointwise [k0_pay1, k0_pay5, k0_pay6, k0_pay7, k0_pay8]
  rw [block_wc, block_gc, block_pc, block_qc]
  simp only [val_main_v47_apply, val_main_v46_apply, val_main_v45_apply, val_main_v44_apply, val_main_v43_apply, val_main_v42_apply,
    val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, val_main_v28_apply, val_main_v27_apply, val_main_v26_apply, val_main_v25_apply, val_main_v24_apply,
    val_main_cst_8_apply, val_main_cst_9_apply, val_main_cst_10_apply, val_main_cst_11_apply, val_main_cst_12_apply,
    val_main_cst_13_apply, val_main_cst_14_apply, val_main_cst_15_apply, val_main_cst_16_apply]
  rfl

/-- Their new first moment. -/
theorem array_pc : (dats m 0 c).arrAt 12 cfg0.N = val_main_v28 (F := Ideal) (gc m c) (pc m c) := by
  refine (dats m 0 c).arrAt_eq_of_covers 12 _ (by decide +kernel) fun t _ y => ?_
  blk_simp
  rw [after0_12]
  frame_out
  idx_vars y
  have e : ((View.whole main_v0_4).slice (win0_12.rect t)).emb (ix3 y0 y1 y2) = ix3 y0 y1 (row t y2) := by
    blk_ext [idx t, row]
  rw [e]
  pointwise [k0_pay5]
  rw [block_gc, block_pc]
  simp only [val_main_v28_apply, val_main_v27_apply, val_main_v26_apply, val_main_v25_apply, val_main_v24_apply, val_main_cst_8_apply,
    val_main_cst_9_apply]
  rfl

/-- Their new second moment. -/
theorem array_qc : (dats m 0 c).arrAt 13 cfg0.N = val_main_v34 (F := Ideal) (gc m c) (qc m c) := by
  refine (dats m 0 c).arrAt_eq_of_covers 13 _ (by decide +kernel) fun t _ y => ?_
  blk_simp
  rw [after0_13]
  frame_out
  idx_vars y
  have e : ((View.whole main_v0_5).slice (win0_13.rect t)).emb (ix3 y0 y1 y2) = ix3 y0 y1 (row t y2) := by
    blk_ext [idx t, row]
  rw [e]
  pointwise [k0_pay6]
  rw [block_gc, block_qc]
  simp only [val_main_v34_apply, val_main_v33_apply, val_main_v32_apply, val_main_v31_apply, val_main_v30_apply, val_main_v29_apply,
    val_main_cst_10_apply, val_main_cst_11_apply]
  rfl

/-- The program runs, changes no argument and leaves every counter at zero. -/
theorem frame_kernel : Cert.quiescent_AdamMany := fun m g _ => Cert.AdamMany.Gen.frame m g

/-- So does its idealization. -/
theorem frame_ideal : Cert.quiescent_AdamManyIdeal := fun m g _ => Cert.AdamManyIdeal.Gen.frame m g

/-- So does the reference. -/
theorem frame_reference : Cert.quiescent_AdamManyRefIdeal := fun m g _ =>
  (θ_run Cert.AdamManyRefIdeal.defs _ _).mono (fun r h => ⟨fun c => (h c).2.2.2.2.2.2, sem_eq_zero_of_no_sems (by decide) r.2⟩)
    (Cert.AdamManyRefIdeal.Value.run m g)

/-- At every argument the six results are the reference's. -/
theorem value : Cert.algebraic_AdamManyIdeal_AdamManyRefIdeal := fun m g' m' g'' _ hargs => by
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    (θ_run Cert.AdamManyIdeal.defs _ _).mono (fun r h c => h c) (Cert.AdamManyIdeal.Value.run_blocks m g'),
    (θ_run Cert.AdamManyRefIdeal.defs _ _).mono (fun r h c => ?_) (Cert.AdamManyRefIdeal.Value.run m' g'')⟩
  obtain ⟨e0, e1, e2, e3, e4, e5, e6, e7⟩ := hargs c
  obtain ⟨h0, h1, h2, h3, h4, h5, ha⟩ := h c
  refine ⟨h0.trans ?_, h1.trans ?_, h2.trans ?_, h3.trans ?_, h4.trans ?_, h5.trans ?_, ha⟩
  · exact (val_main_v23_eq _ _ _ _).trans
      ((congr (congr (congr (congrArg (val_main_v23 (F := Ideal)) e0) e1) e2) e3).trans (array_wb m c).symm)
  · exact (val_main_v4_eq _ _).trans
      ((congr (congrArg (val_main_v4 (F := Ideal)) e1) e2).trans (array_pb m c).symm)
  · exact (val_main_v10_eq _ _).trans
      ((congr (congrArg (val_main_v10 (F := Ideal)) e1) e3).trans (array_qb m c).symm)
  · exact (val_main_v47_eq _ _ _ _).trans
      ((congr (congr (congr (congrArg (val_main_v47 (F := Ideal)) e4) e5) e6) e7).trans (array_wc m c).symm)
  · exact (val_main_v28_eq _ _).trans
      ((congr (congrArg (val_main_v28 (F := Ideal)) e5) e6).trans (array_pc m c).symm)
  · exact (val_main_v34_eq _ _).trans
      ((congr (congrArg (val_main_v34 (F := Ideal)) e5) e7).trans (array_qc m c).symm)

end Cert.AdamManyClaim

end
-- ==== Proof.LossHead.Claim.lean ====
/-
  The head of the loss: the gradient and the loss it writes are the reference's.
-/
module

public import proofs.«01_k».proof.Defs
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Reals
public import Idealize.ShloMosaic.Lib.Pipeline.ValueKit
public import Idealize.ShloMosaic.Lib.Claim

@[expose] public section

set_option maxRecDepth 16384

noncomputable section

namespace Cert.LossHeadClaim

open Cert.LossHeadIdeal Cert.LossHeadIdeal.Gen
open Idealize.ShloMosaic Idealize.ShloMosaic.TcCoe Idealize.ShloMosaic.Pointwise Idealize.SL.Sem
open Idealize.ShloMosaic.Pipeline (Dat)
open Cert.LossHeadRefIdeal.Read Cert.Reals
open scoped BigOperators

variable (m : (ℓ : Loc nD τ sig) → Buf (Elt Ideal) ℓ) (c : Dev nD)

/-- The last layer's output. -/
abbrev y : S2048x2048.Idx → EReal := m ((c : Thread nD τ).loc main_arg0)
/-- The loss's target. -/
abbrev tgt : S2048x2048.Idx → EReal := m ((c : Thread nD τ).loc main_arg1)

/-- Every window's block index at every grid point. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The array row that row `r` of the block of grid point `t` is. -/
def row (t : Fin cfg0.N) (r : Fin 256) : Fin 2048 :=
  ⟨t.val * 256 + r.val, by have h : t.val < 8 := t.isLt; have := r.isLt; omega⟩

/-- The error at one entry. -/
def err (y tgt : S2048x2048.Idx → EReal) (r k : Fin 2048) : EReal := y (ix2 r k) - tgt (ix2 r k)

/-- The block's errors. -/
theorem err_block (t : Fin cfg0.N) (r : Fin 256) (k : Fin 2048) :
    k0_pay1 (F := Ideal) (iblk m c 0 t) (iblk m c 1 t) (ix2 r k) = err (y m c) (tgt m c) (row t r) k := by
  have e0 : iblk m c 0 t (ix2 r k) = y m c (ix2 (row t r) k) := by blk_ext [iblk, V_main_arg0, idx t, row]
  have e1 : iblk m c 1 t (ix2 r k) = tgt m c (ix2 (row t r) k) := by blk_ext [iblk, V_main_arg1, idx t, row]
  pointwise [k0_pay1]
  rw [e0, e1]
  rfl

/-- The gradient of the block. -/
theorem grad_block (t : Fin cfg0.N) (r : Fin 256) (k : Fin 2048) :
    k0_pay2 (F := Ideal) (iblk m c 0 t) (iblk m c 1 t) (ix2 r k)
      = val_main_v14 (F := Ideal) (y m c) (tgt m c) (ix2 (row t r) k) := by
  have h := err_block m c t r k
  pointwise [k0_pay2]
  rw [h]
  generalize y m c = y
  generalize tgt m c = tgt
  pointwise [val_main_v14, val_main_v13, val_main_v12, val_main_v11, val_main_v10, val_main_v9, val_main_v3, val_main_v2, val_main_v0,
    val_main_cst, val_main_cst_4, val_main_cst_5, val_main_cst_6]
  rw [ofBits_inv_2048, ofBits_half, ofBits_2048, ofBits_two, div_coe _ (by norm_num : (2048 : ℝ) ≠ 0), ← mul_assoc, ← EReal.coe_mul,
    mul_comm]
  norm_num
  rfl

/-- One point's part of the loss. -/
def part (y tgt : S2048x2048.Idx → EReal) (t : Fin cfg0.N) : EReal :=
  (∑ r : Fin 256, ∑ k : Fin 2048, err y tgt (row t r) k * err y tgt (row t r) k) * ((1 / 4096 : ℝ) : EReal)

/-- A point adds its part to every lane. -/
theorem loss_next (t : Fin cfg0.N) (v : Vec Ideal S1x128 .f32) (i : S1x128.Idx) :
    k0_pay4 (F := Ideal) (iblk m c 0 t) (iblk m c 1 t) v i = v i + part (y m c) (tgt m c) t := by
  have h := err_block m c t
  idx_vars i
  pointwise [k0_pay4]
  simp only [h, ofBits_inv_4096]
  rfl

/-- The first point stores its part over the zero before it. -/
theorem loss_first (t : Fin cfg0.N) (i : S1x128.Idx) :
    k0_pay4 (F := Ideal) (iblk m c 0 t) (iblk m c 1 t) (k0_pay3 (F := Ideal)) i = 0 + part (y m c) (tgt m c) t := by
  refine (loss_next m c t _ i).trans (congrArg (· + _) ?_)
  pointwise [k0_pay3]

/-- After the last point the buffer of the loss holds the sum of all the points' parts. -/
theorem after_loss (t : Fin cfg0.N) (ht : t.val + 1 = cfg0.N) (i : S1x128.Idx) :
    (outsAt0 m c t.val t.isLt).2 i = ∑ p, part (y m c) (tgt m c) p := by
  have := Pipeline.eq_sum_fin_of_reset_step_apply_last (fun n h => (outsAt0 m c n h).2) 8 (fun _ => (0 : EReal))
    (fun p (_ : S1x128.Idx) => part (y m c) (tgt m c) p)
    (fun t h0 i => by beta_reduce; rw [outsAt0_A m c t h0]; frame_out; exact loss_first m c t i)
    (fun t h0 i => by beta_reduce; rw [outsAt0_B m c t h0]; frame_out; exact loss_next m c t _ i)
    (le_of_eq N_0) t ht i
  rw [this, zero_add]

/-- The sum over the points and the rows of a block is the sum over all rows. -/
theorem sum_rows (f : Fin 2048 → EReal) : ∑ t : Fin cfg0.N, ∑ r : Fin 256, f (row t r) = ∑ r, f r := by
  rw [← Fintype.sum_prod_type']
  refine Fintype.sum_equiv (finProdFinEquiv (m := 8) (n := 256)) _ _ fun x => ?_
  have : row x.1 x.2 = finProdFinEquiv (m := 8) (n := 256) x := Fin.ext (by
    show x.1.val * 256 + x.2.val = x.2.val + 256 * x.1.val
    omega)
  rw [← this]

/-- The points' parts add up to the reference's loss. -/
theorem loss_eq (i : S1x128.Idx) :
    ∑ t, part (y m c) (tgt m c) t = val_main_v15 (F := Ideal) (y m c) (tgt m c) i := by
  generalize y m c = y
  generalize tgt m c = tgt
  idx_vars i
  pointwise [val_main_v15, val_main_v8, val_main_v7, val_main_v6, val_main_v5, val_main_v4, val_main_v1, val_main_v0, val_main_cst_0,
    val_main_cst_1, val_main_cst_2, val_main_cst_3]
  simp only [ofBits_half, ofBits_2048, Ideal.div_coe (by norm_num : (2048 : ℝ) ≠ 0)]
  unfold part
  rw [← sum_mul_coe _ _ (by norm_num), sum_rows fun r => ∑ k : Fin 2048, err y tgt r k * err y tgt r k, ← sum_mul_coe _ _ (by norm_num),
    mul_comm, mul_comm (_ : EReal) ((1 / 2048 : ℝ) : EReal), ← mul_assoc, ← EReal.coe_mul]
  norm_num
  rfl

/-- The gradient. -/
theorem array_grad : (dats m 0 c).arrAt 2 cfg0.N = val_main_v14 (F := Ideal) (y m c) (tgt m c) := by
  refine (dats m 0 c).arrAt_eq_of_covers 2 _ (by decide +kernel) fun t _ y => ?_
  blk_simp
  rw [after0_2]
  have h : (outsAt0 m c t.val t.isLt).1 = k0_pay2 (F := Ideal) (iblk m c 0 t) (iblk m c 1 t) := by
    by_cases h0 : t.val % 8 = 0
    · rw [outsAt0_A m c t h0]; frame_out
    · rw [outsAt0_B m c t h0]; frame_out
  rw [h]
  idx_vars y
  have e : ((View.whole main_v0_0).slice (win0_2.rect t)).emb (ix2 y0 y1) = ix2 (row t y0) y1 := by
    blk_ext [idx t, row]
  rw [e]
  exact grad_block m c t y0 y1

/-- The loss. -/
theorem array_loss : (dats m 0 c).arrAt 3 cfg0.N = val_main_v15 (F := Ideal) (y m c) (tgt m c) := by
  refine (dats m 0 c).arrAt_eq_of_covers 3 _ (by decide +kernel) fun t hf y => ?_
  have ht : t.val + 1 = cfg0.N := by
    have h1 := (flush0_3 t).mp hf
    have h2 : t.val < 8 := t.isLt
    show t.val + 1 = 8
    omega
  blk_simp
  rw [after0_3, after_loss m c t ht]
  exact loss_eq m c _

/-- The program runs, changes no argument and leaves every counter at zero. -/
theorem frame_kernel : Cert.quiescent_LossHead := fun m g _ => Cert.LossHead.Gen.frame m g

/-- So does its idealization. -/
theorem frame_ideal : Cert.quiescent_LossHeadIdeal := fun m g _ => Cert.LossHeadIdeal.Gen.frame m g

/-- So does the reference. -/
theorem frame_reference : Cert.quiescent_LossHeadRefIdeal := fun m g _ =>
  (θ_run Cert.LossHeadRefIdeal.defs _ _).mono (fun r h => ⟨fun c => (h c).2.2, sem_eq_zero_of_no_sems (by decide) r.2⟩)
    (Cert.LossHeadRefIdeal.Value.run m g)

/-- At every argument the two results are the reference's. -/
theorem value : Cert.algebraic_LossHeadIdeal_LossHeadRefIdeal := fun m g' m' g'' _ hargs => by
  refine ⟨fun c => (dats m 0 c).arrAt 2 cfg0.N, fun c => (dats m 0 c).arrAt 3 cfg0.N,
    (θ_run Cert.LossHeadIdeal.defs _ _).mono (fun r h c => h c) (Cert.LossHeadIdeal.Value.run_blocks m g'),
    (θ_run Cert.LossHeadRefIdeal.defs _ _).mono (fun r h c => ?_) (Cert.LossHeadRefIdeal.Value.run m' g'')⟩
  obtain ⟨e0, e1⟩ := hargs c
  obtain ⟨h0, h1, ha⟩ := h c
  refine ⟨h0.trans ?_, h1.trans ?_, ha⟩
  · exact (val_main_v14_eq _ _).trans ((congr (congrArg (val_main_v14 (F := Ideal)) e0) e1).trans (array_grad m c).symm)
  · exact (val_main_v15_eq _ _).trans ((congr (congrArg (val_main_v15 (F := Ideal)) e0) e1).trans (array_loss m c).symm)

end Cert.LossHeadClaim

end
-- ==== Proof.lean ====
module

public import proofs.«01_k».proof.Defs
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.Pre_outproj_finite
public import proofs.«01_k».proof.Proof.Gen.OutprojIdeal.Value
public import proofs.«01_k».proof.Proof.Gen.OutprojRefIdeal.Run
public import proofs.«01_k».proof.Proof.Gen.OutprojRefIdeal.Read
public import proofs.«01_k».proof.Proof.Outproj.Claim
public import proofs.«01_k».proof.Proof.Gen.AttnB
public import proofs.«01_k».proof.Proof.Gen.AttnBIdeal
public import proofs.«01_k».proof.Proof.Gen.AttnBRefIdeal
public import proofs.«01_k».proof.Proof.Gen.AttnBRefIdeal.Run
public import proofs.«01_k».proof.Proof.Gen.AttnBRefIdeal.Read
public import proofs.«01_k».proof.Proof.Gen.Pre_attnb_finite
public import proofs.«01_k».proof.Proof.AttnB.Claim
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Products.DwOut
public import proofs.«01_k».proof.Proof.Gen.DwInA
public import proofs.«01_k».proof.Proof.Gen.DwInA.Frame
public import proofs.«01_k».proof.Proof.Gen.DwInAIdeal
public import proofs.«01_k».proof.Proof.Gen.DwInAIdeal.Frame
public import proofs.«01_k».proof.Proof.Gen.DwInAIdeal.Value
public import proofs.«01_k».proof.Proof.Gen.DwInARefIdeal
public import proofs.«01_k».proof.Proof.Gen.DwInARefIdeal.Run
public import proofs.«01_k».proof.Proof.Gen.DwInARefIdeal.Read
public import proofs.«01_k».proof.Proof.Products.DwInA
public import proofs.«01_k».proof.Proof.Gen.DwInB
public import proofs.«01_k».proof.Proof.Gen.DwInB.Frame
public import proofs.«01_k».proof.Proof.Gen.DwInBIdeal
public import proofs.«01_k».proof.Proof.Gen.DwInBIdeal.Frame
public import proofs.«01_k».proof.Proof.Gen.DwInBIdeal.Value
public import proofs.«01_k».proof.Proof.Gen.DwInBRefIdeal
public import proofs.«01_k».proof.Proof.Gen.DwInBRefIdeal.Run
public import proofs.«01_k».proof.Proof.Gen.DwInBRefIdeal.Read
public import proofs.«01_k».proof.Proof.Products.DwInB
public import proofs.«01_k».proof.Proof.Gen.DwInC
public import proofs.«01_k».proof.Proof.Gen.DwInC.Frame
public import proofs.«01_k».proof.Proof.Gen.DwInCIdeal
public import proofs.«01_k».proof.Proof.Gen.DwInCIdeal.Frame
public import proofs.«01_k».proof.Proof.Gen.DwInCIdeal.Value
public import proofs.«01_k».proof.Proof.Gen.DwInCRefIdeal
public import proofs.«01_k».proof.Proof.Gen.DwInCRefIdeal.Run
public import proofs.«01_k».proof.Proof.Gen.DwInCRefIdeal.Read
public import proofs.«01_k».proof.Proof.Products.DwInC
public import proofs.«01_k».proof.Proof.Gen.QkvA
public import proofs.«01_k».proof.Proof.Gen.QkvA.Frame
public import proofs.«01_k».proof.Proof.Gen.QkvAIdeal
public import proofs.«01_k».proof.Proof.Gen.QkvAIdeal.Frame
public import proofs.«01_k».proof.Proof.Gen.QkvAIdeal.Value
public import proofs.«01_k».proof.Proof.Gen.QkvARefIdeal
public import proofs.«01_k».proof.Proof.Gen.QkvARefIdeal.Run
public import proofs.«01_k».proof.Proof.Gen.QkvARefIdeal.Read
public import proofs.«01_k».proof.Proof.Products.QkvA
public import proofs.«01_k».proof.Proof.Gen.GateA
public import proofs.«01_k».proof.Proof.Gen.GateA.Frame
public import proofs.«01_k».proof.Proof.Gen.GateAIdeal
public import proofs.«01_k».proof.Proof.Gen.GateAIdeal.Frame
public import proofs.«01_k».proof.Proof.Gen.GateAIdeal.Value
public import proofs.«01_k».proof.Proof.Gen.GateARefIdeal
public import proofs.«01_k».proof.Proof.Gen.GateARefIdeal.Run
public import proofs.«01_k».proof.Proof.Gen.GateARefIdeal.Read
public import proofs.«01_k».proof.Proof.Products.GateA
public import proofs.«01_k».proof.Proof.Gen.QkvB
public import proofs.«01_k».proof.Proof.Gen.QkvB.Frame
public import proofs.«01_k».proof.Proof.Gen.QkvBIdeal
public import proofs.«01_k».proof.Proof.Gen.QkvBIdeal.Frame
public import proofs.«01_k».proof.Proof.Gen.QkvBIdeal.Value
public import proofs.«01_k».proof.Proof.Gen.QkvBRefIdeal
public import proofs.«01_k».proof.Proof.Gen.QkvBRefIdeal.Run
public import proofs.«01_k».proof.Proof.Gen.QkvBRefIdeal.Read
public import proofs.«01_k».proof.Proof.Products.QkvB
public import proofs.«01_k».proof.Proof.Gen.GateB
public import proofs.«01_k».proof.Proof.Gen.GateB.Frame
public import proofs.«01_k».proof.Proof.Gen.GateBIdeal
public import proofs.«01_k».proof.Proof.Gen.GateBIdeal.Frame
public import proofs.«01_k».proof.Proof.Gen.GateBIdeal.Value
public import proofs.«01_k».proof.Proof.Gen.GateBRefIdeal
public import proofs.«01_k».proof.Proof.Gen.GateBRefIdeal.Run
public import proofs.«01_k».proof.Proof.Gen.GateBRefIdeal.Read
public import proofs.«01_k».proof.Proof.Products.GateB
public import proofs.«01_k».proof.Proof.Gen.Gated
public import proofs.«01_k».proof.Proof.Gen.Gated.Frame
public import proofs.«01_k».proof.Proof.Gen.GatedIdeal
public import proofs.«01_k».proof.Proof.Gen.GatedIdeal.Frame
public import proofs.«01_k».proof.Proof.Gen.GatedIdeal.Value
public import proofs.«01_k».proof.Proof.Gen.GatedRefIdeal
public import proofs.«01_k».proof.Proof.Gen.GatedRefIdeal.Run
public import proofs.«01_k».proof.Proof.Gen.GatedRefIdeal.Read
public import proofs.«01_k».proof.Proof.Gated.Claim
public import proofs.«01_k».proof.Proof.Gen.Prenorm
public import proofs.«01_k».proof.Proof.Gen.Prenorm.Frame
public import proofs.«01_k».proof.Proof.Gen.PrenormIdeal
public import proofs.«01_k».proof.Proof.Gen.PrenormIdeal.Frame
public import proofs.«01_k».proof.Proof.Gen.PrenormIdeal.Value
public import proofs.«01_k».proof.Proof.Gen.PrenormRefIdeal
public import proofs.«01_k».proof.Proof.Gen.PrenormRefIdeal.Run
public import proofs.«01_k».proof.Proof.Gen.PrenormRefIdeal.Read
public import proofs.«01_k».proof.Proof.Prenorm.Claim
public import proofs.«01_k».proof.Proof.Gen.AdamInA
public import proofs.«01_k».proof.Proof.Gen.AdamInA.Frame
public import proofs.«01_k».proof.Proof.Gen.AdamInAIdeal
public import proofs.«01_k».proof.Proof.Gen.AdamInAIdeal.Frame
public import proofs.«01_k».proof.Proof.Gen.AdamInAIdeal.Value
public import proofs.«01_k».proof.Proof.Gen.AdamInARefIdeal
public import proofs.«01_k».proof.Proof.Gen.AdamInARefIdeal.Run
public import proofs.«01_k».proof.Proof.Gen.AdamInARefIdeal.Read
public import proofs.«01_k».proof.Proof.Adam.InA
public import proofs.«01_k».proof.Proof.Gen.AdamOutA
public import proofs.«01_k».proof.Proof.Gen.AdamOutA.Frame
public import proofs.«01_k».proof.Proof.Gen.AdamOutAIdeal
public import proofs.«01_k».proof.Proof.Gen.AdamOutAIdeal.Frame
public import proofs.«01_k».proof.Proof.Gen.AdamOutAIdeal.Value
public import proofs.«01_k».proof.Proof.Gen.AdamOutARefIdeal
public import proofs.«01_k».proof.Proof.Gen.AdamOutARefIdeal.Run
public import proofs.«01_k».proof.Proof.Gen.AdamOutARefIdeal.Read
public import proofs.«01_k».proof.Proof.Adam.OutA
public import proofs.«01_k».proof.Proof.Gen.AdamOutB
public import proofs.«01_k».proof.Proof.Gen.AdamOutB.Frame
public import proofs.«01_k».proof.Proof.Gen.AdamOutBIdeal
public import proofs.«01_k».proof.Proof.Gen.AdamOutBIdeal.Frame
public import proofs.«01_k».proof.Proof.Gen.AdamOutBIdeal.Value
public import proofs.«01_k».proof.Proof.Gen.AdamOutBRefIdeal
public import proofs.«01_k».proof.Proof.Gen.AdamOutBRefIdeal.Run
public import proofs.«01_k».proof.Proof.Gen.AdamOutBRefIdeal.Read
public import proofs.«01_k».proof.Proof.Adam.OutB
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Adam.Small
public import proofs.«01_k».proof.Proof.Gen.AdamMany
public import proofs.«01_k».proof.Proof.Gen.AdamMany.Frame
public import proofs.«01_k».proof.Proof.Gen.AdamManyIdeal
public import proofs.«01_k».proof.Proof.Gen.AdamManyIdeal.Frame
public import proofs.«01_k».proof.Proof.Gen.AdamManyIdeal.Value
public import proofs.«01_k».proof.Proof.Gen.AdamManyRefIdeal
public import proofs.«01_k».proof.Proof.Gen.AdamManyRefIdeal.Run
public import proofs.«01_k».proof.Proof.Gen.AdamManyRefIdeal.Read
public import proofs.«01_k».proof.Proof.Adam.Many
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.LossHead.Claim
public import Idealize.ShloMosaic.Adequacy
public import Idealize.ShloMosaic.Init

@[expose] public section

noncomputable section

namespace Cert.Proof

open Idealize.ShloMosaic Idealize.SL.Sem Cert.Outproj

/-- The out-projection's gradient, the attention's gradient, the eight matrix products, the forward out-projection, the
normalisation, the optimiser's steps and the head of the loss: of each the frames, the idealization and the value claim. -/
theorem claim : Cert.Claim := ⟨Cert.Outproj.Gen.facts, Cert.OutprojIdeal.Gen.facts, Cert.OutprojRefIdeal.Gen.facts,
  Cert.AttnB.Gen.facts, Cert.AttnBIdeal.Gen.facts, Cert.AttnBRefIdeal.Gen.facts,
  Cert.DwOut.Gen.facts, Cert.DwOutIdeal.Gen.facts, Cert.DwOutRefIdeal.Gen.facts,
  Cert.DwInA.Gen.facts, Cert.DwInAIdeal.Gen.facts, Cert.DwInARefIdeal.Gen.facts,
  Cert.DwInB.Gen.facts, Cert.DwInBIdeal.Gen.facts, Cert.DwInBRefIdeal.Gen.facts,
  Cert.DwInC.Gen.facts, Cert.DwInCIdeal.Gen.facts, Cert.DwInCRefIdeal.Gen.facts,
  Cert.QkvA.Gen.facts, Cert.QkvAIdeal.Gen.facts, Cert.QkvARefIdeal.Gen.facts,
  Cert.GateA.Gen.facts, Cert.GateAIdeal.Gen.facts, Cert.GateARefIdeal.Gen.facts,
  Cert.QkvB.Gen.facts, Cert.QkvBIdeal.Gen.facts, Cert.QkvBRefIdeal.Gen.facts,
  Cert.GateB.Gen.facts, Cert.GateBIdeal.Gen.facts, Cert.GateBRefIdeal.Gen.facts,
  Cert.Gated.Gen.facts, Cert.GatedIdeal.Gen.facts, Cert.GatedRefIdeal.Gen.facts,
  Cert.Prenorm.Gen.facts, Cert.PrenormIdeal.Gen.facts, Cert.PrenormRefIdeal.Gen.facts,
  Cert.AdamInA.Gen.facts, Cert.AdamInAIdeal.Gen.facts, Cert.AdamInARefIdeal.Gen.facts,
  Cert.AdamOutA.Gen.facts, Cert.AdamOutAIdeal.Gen.facts, Cert.AdamOutARefIdeal.Gen.facts,
  Cert.AdamOutB.Gen.facts, Cert.AdamOutBIdeal.Gen.facts, Cert.AdamOutBRefIdeal.Gen.facts,
  Cert.AdamSmall.Gen.facts, Cert.AdamSmallIdeal.Gen.facts, Cert.AdamSmallRefIdeal.Gen.facts,
  Cert.AdamMany.Gen.facts, Cert.AdamManyIdeal.Gen.facts, Cert.AdamManyRefIdeal.Gen.facts,
  Cert.LossHead.Gen.facts, Cert.LossHeadIdeal.Gen.facts, Cert.LossHeadRefIdeal.Gen.facts,
  Cert.Pre_outproj_finite.Gen.facts, Cert.Pre_attnb_finite.Gen.facts,
  Cert.OutprojClaim.frame_kernel, Cert.OutprojClaim.frame_ideal, fun m g _ => Cert.OutprojClaim.frame_ideal m g trivial,
  Cert.OutprojClaim.frame_reference, fun m g _ => Cert.OutprojClaim.frame_reference m g trivial,
  Cert.AttnBClaim.frame_kernel, Cert.AttnBClaim.frame_ideal, fun m g _ => Cert.AttnBClaim.frame_ideal m g trivial,
  Cert.AttnBClaim.frame_reference, fun m g _ => Cert.AttnBClaim.frame_reference m g trivial,
  Cert.DwOutClaim.frame_kernel, Cert.DwOutClaim.frame_ideal, Cert.DwOutClaim.frame_reference,
  Cert.DwInAClaim.frame_kernel, Cert.DwInAClaim.frame_ideal, Cert.DwInAClaim.frame_reference,
  Cert.DwInBClaim.frame_kernel, Cert.DwInBClaim.frame_ideal, Cert.DwInBClaim.frame_reference,
  Cert.DwInCClaim.frame_kernel, Cert.DwInCClaim.frame_ideal, Cert.DwInCClaim.frame_reference,
  Cert.QkvAClaim.frame_kernel, Cert.QkvAClaim.frame_ideal, Cert.QkvAClaim.frame_reference,
  Cert.GateAClaim.frame_kernel, Cert.GateAClaim.frame_ideal, Cert.GateAClaim.frame_reference,
  Cert.QkvBClaim.frame_kernel, Cert.QkvBClaim.frame_ideal, Cert.QkvBClaim.frame_reference,
  Cert.GateBClaim.frame_kernel, Cert.GateBClaim.frame_ideal, Cert.GateBClaim.frame_reference,
  Cert.GatedClaim.frame_kernel, Cert.GatedClaim.frame_ideal, Cert.GatedClaim.frame_reference,
  Cert.PrenormClaim.frame_kernel, Cert.PrenormClaim.frame_ideal, Cert.PrenormClaim.frame_reference,
  Cert.AdamInAClaim.frame_kernel, Cert.AdamInAClaim.frame_ideal, Cert.AdamInAClaim.frame_reference,
  Cert.AdamOutAClaim.frame_kernel, Cert.AdamOutAClaim.frame_ideal, Cert.AdamOutAClaim.frame_reference,
  Cert.AdamOutBClaim.frame_kernel, Cert.AdamOutBClaim.frame_ideal, Cert.AdamOutBClaim.frame_reference,
  Cert.AdamSmallClaim.frame_kernel, Cert.AdamSmallClaim.frame_ideal, Cert.AdamSmallClaim.frame_reference,
  Cert.AdamManyClaim.frame_kernel, Cert.AdamManyClaim.frame_ideal, Cert.AdamManyClaim.frame_reference,
  Cert.LossHeadClaim.frame_kernel, Cert.LossHeadClaim.frame_ideal, Cert.LossHeadClaim.frame_reference,
  trivial, Cert.OutprojClaim.value, trivial, Cert.AttnBClaim.value,
  trivial, Cert.DwOutClaim.value,
  trivial, Cert.DwInAClaim.value,
  trivial, Cert.DwInBClaim.value,
  trivial, Cert.DwInCClaim.value,
  trivial, Cert.QkvAClaim.value,
  trivial, Cert.GateAClaim.value,
  trivial, Cert.QkvBClaim.value,
  trivial, Cert.GateBClaim.value,
  trivial, Cert.GatedClaim.value,
  trivial, Cert.PrenormClaim.value,
  trivial, Cert.AdamInAClaim.value,
  trivial, Cert.AdamOutAClaim.value,
  trivial, Cert.AdamOutBClaim.value,
  trivial, Cert.AdamSmallClaim.value,
  trivial, Cert.AdamManyClaim.value,
  trivial, Cert.LossHeadClaim.value⟩

end Cert.Proof

end
